-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_arguments [hPre_finite_arguments : Cert.Pre_finite_arguments.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_arguments [hPre_finite_arguments : Cert.Pre_finite_arguments.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_arguments [hKernel2Ideal : Cert.Kernel2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_arguments m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_arguments [hReference2Ideal : Cert.Reference2Ideal.Facts] [hPre_finite_arguments : Cert.Pre_finite_arguments.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_arguments m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17)
      ∧ r.2.mem ((c.tc : Thread Cert.Kernel9.nD Cert.Kernel9.τ).loc Cert.Kernel9.main_arg18) = m ((c.tc : Thread Cert.Kernel9.nD Cert.Kernel9.τ).loc Cert.Kernel9.main_arg18)
      ∧ r.2.mem ((c.tc : Thread Cert.Kernel9.nD Cert.Kernel9.τ).loc Cert.Kernel9.main_arg19) = m ((c.tc : Thread Cert.Kernel9.nD Cert.Kernel9.τ).loc Cert.Kernel9.main_arg19)
      ∧ r.2.mem ((c.tc : Thread Cert.Kernel9.nD Cert.Kernel9.τ).loc Cert.Kernel9.main_arg20) = m ((c.tc : Thread Cert.Kernel9.nD Cert.Kernel9.τ).loc Cert.Kernel9.main_arg20)
      ∧ r.2.mem ((c.tc : Thread Cert.Kernel9.nD Cert.Kernel9.τ).loc Cert.Kernel9.main_arg21) = m ((c.tc : Thread Cert.Kernel9.nD Cert.Kernel9.τ).loc Cert.Kernel9.main_arg21)
      ∧ r.2.mem ((c.tc : Thread Cert.Kernel9.nD Cert.Kernel9.τ).loc Cert.Kernel9.main_arg22) = m ((c.tc : Thread Cert.Kernel9.nD Cert.Kernel9.τ).loc Cert.Kernel9.main_arg22)
      ∧ r.2.mem ((c.tc : Thread Cert.Kernel9.nD Cert.Kernel9.τ).loc Cert.Kernel9.main_arg23) = m ((c.tc : Thread Cert.Kernel9.nD Cert.Kernel9.τ).loc Cert.Kernel9.main_arg23)
      ∧ r.2.mem ((c.tc : Thread Cert.Kernel9.nD Cert.Kernel9.τ).loc Cert.Kernel9.main_arg24) = m ((c.tc : Thread Cert.Kernel9.nD Cert.Kernel9.τ).loc Cert.Kernel9.main_arg24)
      ∧ r.2.mem ((c.tc : Thread Cert.Kernel9.nD Cert.Kernel9.τ).loc Cert.Kernel9.main_arg25) = m ((c.tc : Thread Cert.Kernel9.nD Cert.Kernel9.τ).loc Cert.Kernel9.main_arg25)
      ∧ r.2.mem ((c.tc : Thread Cert.Kernel9.nD Cert.Kernel9.τ).loc Cert.Kernel9.main_arg26) = m ((c.tc : Thread Cert.Kernel9.nD Cert.Kernel9.τ).loc Cert.Kernel9.main_arg26)
      ∧ r.2.mem ((c.tc : Thread Cert.Kernel9.nD Cert.Kernel9.τ).loc Cert.Kernel9.main_arg27) = m ((c.tc : Thread Cert.Kernel9.nD Cert.Kernel9.τ).loc Cert.Kernel9.main_arg27)
      ∧ r.2.mem ((c.tc : Thread Cert.Kernel9.nD Cert.Kernel9.τ).loc Cert.Kernel9.main_arg28) = m ((c.tc : Thread Cert.Kernel9.nD Cert.Kernel9.τ).loc Cert.Kernel9.main_arg28)
      ∧ r.2.mem ((c.tc : Thread Cert.Kernel9.nD Cert.Kernel9.τ).loc Cert.Kernel9.main_arg29) = m ((c.tc : Thread Cert.Kernel9.nD Cert.Kernel9.τ).loc Cert.Kernel9.main_arg29)
      ∧ r.2.mem ((c.tc : Thread Cert.Kernel9.nD Cert.Kernel9.τ).loc Cert.Kernel9.main_arg30) = m ((c.tc : Thread Cert.Kernel9.nD Cert.Kernel9.τ).loc Cert.Kernel9.main_arg30)
      ∧ r.2.mem ((c.tc : Thread Cert.Kernel9.nD Cert.Kernel9.τ).loc Cert.Kernel9.main_arg31) = m ((c.tc : Thread Cert.Kernel9.nD Cert.Kernel9.τ).loc Cert.Kernel9.main_arg31)
      ∧ r.2.mem ((c.tc : Thread Cert.Kernel9.nD Cert.Kernel9.τ).loc Cert.Kernel9.main_arg32) = m ((c.tc : Thread Cert.Kernel9.nD Cert.Kernel9.τ).loc Cert.Kernel9.main_arg32)
      ∧ r.2.mem ((c.tc : Thread Cert.Kernel9.nD Cert.Kernel9.τ).loc Cert.Kernel9.main_arg33) = m ((c.tc : Thread Cert.Kernel9.nD Cert.Kernel9.τ).loc Cert.Kernel9.main_arg33)
      ∧ r.2.mem ((c.tc : Thread Cert.Kernel9.nD Cert.Kernel9.τ).loc Cert.Kernel9.main_arg34) = m ((c.tc : Thread Cert.Kernel9.nD Cert.Kernel9.τ).loc Cert.Kernel9.main_arg34)
      ∧ r.2.mem ((c.tc : Thread Cert.Kernel9.nD Cert.Kernel9.τ).loc Cert.Kernel9.main_arg35) = m ((c.tc : Thread Cert.Kernel9.nD Cert.Kernel9.τ).loc Cert.Kernel9.main_arg35)
      ∧ r.2.mem ((c.tc : Thread Cert.Kernel9.nD Cert.Kernel9.τ).loc Cert.Kernel9.main_arg36) = m ((c.tc : Thread Cert.Kernel9.nD Cert.Kernel9.τ).loc Cert.Kernel9.main_arg36))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
      ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
      ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
      ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
      ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
      ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
      ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
      ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
      ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
      ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
      ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27)
      ∧ r.2.mem ((c.tc : Thread Cert.Kernel9Ideal.nD Cert.Kernel9Ideal.τ).loc Cert.Kernel9Ideal.main_arg28) = m ((c.tc : Thread Cert.Kernel9Ideal.nD Cert.Kernel9Ideal.τ).loc Cert.Kernel9Ideal.main_arg28)
      ∧ r.2.mem ((c.tc : Thread Cert.Kernel9Ideal.nD Cert.Kernel9Ideal.τ).loc Cert.Kernel9Ideal.main_arg29) = m ((c.tc : Thread Cert.Kernel9Ideal.nD Cert.Kernel9Ideal.τ).loc Cert.Kernel9Ideal.main_arg29)
      ∧ r.2.mem ((c.tc : Thread Cert.Kernel9Ideal.nD Cert.Kernel9Ideal.τ).loc Cert.Kernel9Ideal.main_arg30) = m ((c.tc : Thread Cert.Kernel9Ideal.nD Cert.Kernel9Ideal.τ).loc Cert.Kernel9Ideal.main_arg30)
      ∧ r.2.mem ((c.tc : Thread Cert.Kernel9Ideal.nD Cert.Kernel9Ideal.τ).loc Cert.Kernel9Ideal.main_arg31) = m ((c.tc : Thread Cert.Kernel9Ideal.nD Cert.Kernel9Ideal.τ).loc Cert.Kernel9Ideal.main_arg31)
      ∧ r.2.mem ((c.tc : Thread Cert.Kernel9Ideal.nD Cert.Kernel9Ideal.τ).loc Cert.Kernel9Ideal.main_arg32) = m ((c.tc : Thread Cert.Kernel9Ideal.nD Cert.Kernel9Ideal.τ).loc Cert.Kernel9Ideal.main_arg32)
      ∧ r.2.mem ((c.tc : Thread Cert.Kernel9Ideal.nD Cert.Kernel9Ideal.τ).loc Cert.Kernel9Ideal.main_arg33) = m ((c.tc : Thread Cert.Kernel9Ideal.nD Cert.Kernel9Ideal.τ).loc Cert.Kernel9Ideal.main_arg33)
      ∧ r.2.mem ((c.tc : Thread Cert.Kernel9Ideal.nD Cert.Kernel9Ideal.τ).loc Cert.Kernel9Ideal.main_arg34) = m ((c.tc : Thread Cert.Kernel9Ideal.nD Cert.Kernel9Ideal.τ).loc Cert.Kernel9Ideal.main_arg34)
      ∧ r.2.mem ((c.tc : Thread Cert.Kernel9Ideal.nD Cert.Kernel9Ideal.τ).loc Cert.Kernel9Ideal.main_arg35) = m ((c.tc : Thread Cert.Kernel9Ideal.nD Cert.Kernel9Ideal.τ).loc Cert.Kernel9Ideal.main_arg35)
      ∧ r.2.mem ((c.tc : Thread Cert.Kernel9Ideal.nD Cert.Kernel9Ideal.τ).loc Cert.Kernel9Ideal.main_arg36) = m ((c.tc : Thread Cert.Kernel9Ideal.nD Cert.Kernel9Ideal.τ).loc Cert.Kernel9Ideal.main_arg36))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17)
      ∧ r.2.mem ((c.tc : Thread Cert.Reference9Ideal.nD Cert.Reference9Ideal.τ).loc Cert.Reference9Ideal.main_arg18) = m ((c.tc : Thread Cert.Reference9Ideal.nD Cert.Reference9Ideal.τ).loc Cert.Reference9Ideal.main_arg18)
      ∧ r.2.mem ((c.tc : Thread Cert.Reference9Ideal.nD Cert.Reference9Ideal.τ).loc Cert.Reference9Ideal.main_arg19) = m ((c.tc : Thread Cert.Reference9Ideal.nD Cert.Reference9Ideal.τ).loc Cert.Reference9Ideal.main_arg19)
      ∧ r.2.mem ((c.tc : Thread Cert.Reference9Ideal.nD Cert.Reference9Ideal.τ).loc Cert.Reference9Ideal.main_arg20) = m ((c.tc : Thread Cert.Reference9Ideal.nD Cert.Reference9Ideal.τ).loc Cert.Reference9Ideal.main_arg20)
      ∧ r.2.mem ((c.tc : Thread Cert.Reference9Ideal.nD Cert.Reference9Ideal.τ).loc Cert.Reference9Ideal.main_arg21) = m ((c.tc : Thread Cert.Reference9Ideal.nD Cert.Reference9Ideal.τ).loc Cert.Reference9Ideal.main_arg21)
      ∧ r.2.mem ((c.tc : Thread Cert.Reference9Ideal.nD Cert.Reference9Ideal.τ).loc Cert.Reference9Ideal.main_arg22) = m ((c.tc : Thread Cert.Reference9Ideal.nD Cert.Reference9Ideal.τ).loc Cert.Reference9Ideal.main_arg22)
      ∧ r.2.mem ((c.tc : Thread Cert.Reference9Ideal.nD Cert.Reference9Ideal.τ).loc Cert.Reference9Ideal.main_arg23) = m ((c.tc : Thread Cert.Reference9Ideal.nD Cert.Reference9Ideal.τ).loc Cert.Reference9Ideal.main_arg23)
      ∧ r.2.mem ((c.tc : Thread Cert.Reference9Ideal.nD Cert.Reference9Ideal.τ).loc Cert.Reference9Ideal.main_arg24) = m ((c.tc : Thread Cert.Reference9Ideal.nD Cert.Reference9Ideal.τ).loc Cert.Reference9Ideal.main_arg24)
      ∧ r.2.mem ((c.tc : Thread Cert.Reference9Ideal.nD Cert.Reference9Ideal.τ).loc Cert.Reference9Ideal.main_arg25) = m ((c.tc : Thread Cert.Reference9Ideal.nD Cert.Reference9Ideal.τ).loc Cert.Reference9Ideal.main_arg25)
      ∧ r.2.mem ((c.tc : Thread Cert.Reference9Ideal.nD Cert.Reference9Ideal.τ).loc Cert.Reference9Ideal.main_arg26) = m ((c.tc : Thread Cert.Reference9Ideal.nD Cert.Reference9Ideal.τ).loc Cert.Reference9Ideal.main_arg26)
      ∧ r.2.mem ((c.tc : Thread Cert.Reference9Ideal.nD Cert.Reference9Ideal.τ).loc Cert.Reference9Ideal.main_arg27) = m ((c.tc : Thread Cert.Reference9Ideal.nD Cert.Reference9Ideal.τ).loc Cert.Reference9Ideal.main_arg27)
      ∧ r.2.mem ((c.tc : Thread Cert.Reference9Ideal.nD Cert.Reference9Ideal.τ).loc Cert.Reference9Ideal.main_arg28) = m ((c.tc : Thread Cert.Reference9Ideal.nD Cert.Reference9Ideal.τ).loc Cert.Reference9Ideal.main_arg28)
      ∧ r.2.mem ((c.tc : Thread Cert.Reference9Ideal.nD Cert.Reference9Ideal.τ).loc Cert.Reference9Ideal.main_arg29) = m ((c.tc : Thread Cert.Reference9Ideal.nD Cert.Reference9Ideal.τ).loc Cert.Reference9Ideal.main_arg29)
      ∧ r.2.mem ((c.tc : Thread Cert.Reference9Ideal.nD Cert.Reference9Ideal.τ).loc Cert.Reference9Ideal.main_arg30) = m ((c.tc : Thread Cert.Reference9Ideal.nD Cert.Reference9Ideal.τ).loc Cert.Reference9Ideal.main_arg30)
      ∧ r.2.mem ((c.tc : Thread Cert.Reference9Ideal.nD Cert.Reference9Ideal.τ).loc Cert.Reference9Ideal.main_arg31) = m ((c.tc : Thread Cert.Reference9Ideal.nD Cert.Reference9Ideal.τ).loc Cert.Reference9Ideal.main_arg31)
      ∧ r.2.mem ((c.tc : Thread Cert.Reference9Ideal.nD Cert.Reference9Ideal.τ).loc Cert.Reference9Ideal.main_arg32) = m ((c.tc : Thread Cert.Reference9Ideal.nD Cert.Reference9Ideal.τ).loc Cert.Reference9Ideal.main_arg32)
      ∧ r.2.mem ((c.tc : Thread Cert.Reference9Ideal.nD Cert.Reference9Ideal.τ).loc Cert.Reference9Ideal.main_arg33) = m ((c.tc : Thread Cert.Reference9Ideal.nD Cert.Reference9Ideal.τ).loc Cert.Reference9Ideal.main_arg33)
      ∧ r.2.mem ((c.tc : Thread Cert.Reference9Ideal.nD Cert.Reference9Ideal.τ).loc Cert.Reference9Ideal.main_arg34) = m ((c.tc : Thread Cert.Reference9Ideal.nD Cert.Reference9Ideal.τ).loc Cert.Reference9Ideal.main_arg34)
      ∧ r.2.mem ((c.tc : Thread Cert.Reference9Ideal.nD Cert.Reference9Ideal.τ).loc Cert.Reference9Ideal.main_arg35) = m ((c.tc : Thread Cert.Reference9Ideal.nD Cert.Reference9Ideal.τ).loc Cert.Reference9Ideal.main_arg35)
      ∧ r.2.mem ((c.tc : Thread Cert.Reference9Ideal.nD Cert.Reference9Ideal.τ).loc Cert.Reference9Ideal.main_arg36) = m ((c.tc : Thread Cert.Reference9Ideal.nD Cert.Reference9Ideal.τ).loc Cert.Reference9Ideal.main_arg36))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_arguments [hKernel2Ideal : Cert.Kernel2Ideal.Facts] [hReference2Ideal : Cert.Reference2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_arguments m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_2)) (v2 : (c : Dev Cert.Kernel2Ideal.nD) → Buf (Elt Ideal) ((c.tc : Thread Cert.Kernel2Ideal.nD Cert.Kernel2Ideal.τ).loc Cert.Kernel2Ideal.main_v25_1)) (v3 : (c : Dev Cert.Kernel2Ideal.nD) → Buf (Elt Ideal) ((c.tc : Thread Cert.Kernel2Ideal.nD Cert.Kernel2Ideal.τ).loc Cert.Kernel2Ideal.main_v25_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_2) = v1 c
          ∧ r.2.mem ((c.tc : Thread Cert.Kernel2Ideal.nD Cert.Kernel2Ideal.τ).loc Cert.Kernel2Ideal.main_v25_1) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v153) = v0 c
          ∧ r.2.mem ((c.tc : Thread Cert.Reference2Ideal.nD Cert.Reference2Ideal.τ).loc Cert.Reference2Ideal.main_v155) = v1 c
          ∧ r.2.mem ((c.tc : Thread Cert.Reference2Ideal.nD Cert.Reference2Ideal.τ).loc Cert.Reference2Ideal.main_v160) = v2 c
          ∧ r.2.mem ((c.tc : Thread Cert.Reference2Ideal.nD Cert.Reference2Ideal.τ).loc Cert.Reference2Ideal.main_v164) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v9)) (v2 : (c : Dev Cert.Kernel3Ideal.nD) → Buf (Elt Ideal) ((c.tc : Thread Cert.Kernel3Ideal.nD Cert.Kernel3Ideal.τ).loc Cert.Kernel3Ideal.main_v10)) (v3 : (c : Dev Cert.Kernel3Ideal.nD) → Buf (Elt Ideal) ((c.tc : Thread Cert.Kernel3Ideal.nD Cert.Kernel3Ideal.τ).loc Cert.Kernel3Ideal.main_v11)) (v4 : (c : Dev Cert.Kernel3Ideal.nD) → Buf (Elt Ideal) ((c.tc : Thread Cert.Kernel3Ideal.nD Cert.Kernel3Ideal.τ).loc Cert.Kernel3Ideal.main_v12)) (v5 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_v11) = v3 c
          ∧ r.2.mem ((c.tc : Thread Cert.Kernel3Ideal.nD Cert.Kernel3Ideal.τ).loc Cert.Kernel3Ideal.main_v12) = v4 c
          ∧ r.2.mem ((c.tc : Thread Cert.Kernel3Ideal.nD Cert.Kernel3Ideal.τ).loc Cert.Kernel3Ideal.main_v13) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_v10) = v4 c
          ∧ r.2.mem ((c.tc : Thread Cert.Reference3Ideal.nD Cert.Reference3Ideal.τ).loc Cert.Reference3Ideal.main_v4) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v1_0)) (v5 : (c : Dev Cert.Kernel5Ideal.nD) → Buf (Elt Ideal) ((c.tc : Thread Cert.Kernel5Ideal.nD Cert.Kernel5Ideal.τ).loc Cert.Kernel5Ideal.main_v1_1)) (v6 : (c : Dev Cert.Kernel5Ideal.nD) → Buf (Elt Ideal) ((c.tc : Thread Cert.Kernel5Ideal.nD Cert.Kernel5Ideal.τ).loc Cert.Kernel5Ideal.main_v1_2)) (v7 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v1_0) = v4 c
          ∧ r.2.mem ((c.tc : Thread Cert.Kernel5Ideal.nD Cert.Kernel5Ideal.τ).loc Cert.Kernel5Ideal.main_v1_1) = v5 c
          ∧ r.2.mem ((c.tc : Thread Cert.Kernel5Ideal.nD Cert.Kernel5Ideal.τ).loc Cert.Kernel5Ideal.main_v1_2) = v6 c
          ∧ r.2.mem ((c.tc : Thread Cert.Kernel5Ideal.nD Cert.Kernel5Ideal.τ).loc Cert.Kernel5Ideal.main_v1_3) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_arg8) = v4 c
          ∧ r.2.mem ((c.tc : Thread Cert.Reference5Ideal.nD Cert.Reference5Ideal.τ).loc Cert.Reference5Ideal.main_v54) = v5 c
          ∧ r.2.mem ((c.tc : Thread Cert.Reference5Ideal.nD Cert.Reference5Ideal.τ).loc Cert.Reference5Ideal.main_v35) = v6 c
          ∧ r.2.mem ((c.tc : Thread Cert.Reference5Ideal.nD Cert.Reference5Ideal.τ).loc Cert.Reference5Ideal.main_v41) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8)) (v1 : (c : Dev Cert.Kernel6Ideal.nD) → Buf (Elt Ideal) ((c.tc : Thread Cert.Kernel6Ideal.nD Cert.Kernel6Ideal.τ).loc Cert.Kernel6Ideal.main_v9)) (v2 : (c : Dev Cert.Kernel6Ideal.nD) → Buf (Elt Ideal) ((c.tc : Thread Cert.Kernel6Ideal.nD Cert.Kernel6Ideal.τ).loc Cert.Kernel6Ideal.main_v10)) (v3 : (c : Dev Cert.Kernel6Ideal.nD) → Buf (Elt Ideal) ((c.tc : Thread Cert.Kernel6Ideal.nD Cert.Kernel6Ideal.τ).loc Cert.Kernel6Ideal.main_v11)) (v4 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_v9) = v1 c
          ∧ r.2.mem ((c.tc : Thread Cert.Kernel6Ideal.nD Cert.Kernel6Ideal.τ).loc Cert.Kernel6Ideal.main_v10) = v2 c
          ∧ r.2.mem ((c.tc : Thread Cert.Kernel6Ideal.nD Cert.Kernel6Ideal.τ).loc Cert.Kernel6Ideal.main_v11) = v3 c
          ∧ r.2.mem ((c.tc : Thread Cert.Kernel6Ideal.nD Cert.Kernel6Ideal.τ).loc Cert.Kernel6Ideal.main_v12) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v1) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_v9) = v3 c
          ∧ r.2.mem ((c.tc : Thread Cert.Reference6Ideal.nD Cert.Reference6Ideal.τ).loc Cert.Reference6Ideal.main_v10) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v16)) (v1 : (c : Dev Cert.Kernel7Ideal.nD) → Buf (Elt Ideal) ((c.tc : Thread Cert.Kernel7Ideal.nD Cert.Kernel7Ideal.τ).loc Cert.Kernel7Ideal.main_v15)) (v2 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_v15) = v1 c
          ∧ r.2.mem ((c.tc : Thread Cert.Kernel7Ideal.nD Cert.Kernel7Ideal.τ).loc Cert.Kernel7Ideal.main_v14) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v1_0)) (v5 : (c : Dev Cert.Kernel8Ideal.nD) → Buf (Elt Ideal) ((c.tc : Thread Cert.Kernel8Ideal.nD Cert.Kernel8Ideal.τ).loc Cert.Kernel8Ideal.main_v1_1)) (v6 : (c : Dev Cert.Kernel8Ideal.nD) → Buf (Elt Ideal) ((c.tc : Thread Cert.Kernel8Ideal.nD Cert.Kernel8Ideal.τ).loc Cert.Kernel8Ideal.main_v1_2)) (v7 : (c : Dev Cert.Kernel8Ideal.nD) → Buf (Elt Ideal) ((c.tc : Thread Cert.Kernel8Ideal.nD Cert.Kernel8Ideal.τ).loc Cert.Kernel8Ideal.main_v1_3)) (v8 : (c : Dev Cert.Kernel8Ideal.nD) → Buf (Elt Ideal) ((c.tc : Thread Cert.Kernel8Ideal.nD Cert.Kernel8Ideal.τ).loc Cert.Kernel8Ideal.main_v2_0)) (v9 : (c : Dev Cert.Kernel8Ideal.nD) → Buf (Elt Ideal) ((c.tc : Thread Cert.Kernel8Ideal.nD Cert.Kernel8Ideal.τ).loc Cert.Kernel8Ideal.main_v2_1)) (v10 : (c : Dev Cert.Kernel8Ideal.nD) → Buf (Elt Ideal) ((c.tc : Thread Cert.Kernel8Ideal.nD Cert.Kernel8Ideal.τ).loc Cert.Kernel8Ideal.main_v2_2)) (v11 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v1_0) = v4 c
          ∧ r.2.mem ((c.tc : Thread Cert.Kernel8Ideal.nD Cert.Kernel8Ideal.τ).loc Cert.Kernel8Ideal.main_v1_1) = v5 c
          ∧ r.2.mem ((c.tc : Thread Cert.Kernel8Ideal.nD Cert.Kernel8Ideal.τ).loc Cert.Kernel8Ideal.main_v1_2) = v6 c
          ∧ r.2.mem ((c.tc : Thread Cert.Kernel8Ideal.nD Cert.Kernel8Ideal.τ).loc Cert.Kernel8Ideal.main_v1_3) = v7 c
          ∧ r.2.mem ((c.tc : Thread Cert.Kernel8Ideal.nD Cert.Kernel8Ideal.τ).loc Cert.Kernel8Ideal.main_v2_0) = v8 c
          ∧ r.2.mem ((c.tc : Thread Cert.Kernel8Ideal.nD Cert.Kernel8Ideal.τ).loc Cert.Kernel8Ideal.main_v2_1) = v9 c
          ∧ r.2.mem ((c.tc : Thread Cert.Kernel8Ideal.nD Cert.Kernel8Ideal.τ).loc Cert.Kernel8Ideal.main_v2_2) = v10 c
          ∧ r.2.mem ((c.tc : Thread Cert.Kernel8Ideal.nD Cert.Kernel8Ideal.τ).loc Cert.Kernel8Ideal.main_v2_3) = v11 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_v37) = v4 c
          ∧ r.2.mem ((c.tc : Thread Cert.Reference8Ideal.nD Cert.Reference8Ideal.τ).loc Cert.Reference8Ideal.main_v61) = v5 c
          ∧ r.2.mem ((c.tc : Thread Cert.Reference8Ideal.nD Cert.Reference8Ideal.τ).loc Cert.Reference8Ideal.main_v42) = v6 c
          ∧ r.2.mem ((c.tc : Thread Cert.Reference8Ideal.nD Cert.Reference8Ideal.τ).loc Cert.Reference8Ideal.main_v48) = v7 c
          ∧ r.2.mem ((c.tc : Thread Cert.Reference8Ideal.nD Cert.Reference8Ideal.τ).loc Cert.Reference8Ideal.main_v68) = v8 c
          ∧ r.2.mem ((c.tc : Thread Cert.Reference8Ideal.nD Cert.Reference8Ideal.τ).loc Cert.Reference8Ideal.main_v92) = v9 c
          ∧ r.2.mem ((c.tc : Thread Cert.Reference8Ideal.nD Cert.Reference8Ideal.τ).loc Cert.Reference8Ideal.main_v73) = v10 c
          ∧ r.2.mem ((c.tc : Thread Cert.Reference8Ideal.nD Cert.Reference8Ideal.τ).loc Cert.Reference8Ideal.main_v79) = v11 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)
      ∧ m' ((c.tc : Thread Cert.Reference9Ideal.nD Cert.Reference9Ideal.τ).loc Cert.Reference9Ideal.main_arg18) = m ((c.tc : Thread Cert.Kernel9Ideal.nD Cert.Kernel9Ideal.τ).loc Cert.Kernel9Ideal.main_arg18)
      ∧ m' ((c.tc : Thread Cert.Reference9Ideal.nD Cert.Reference9Ideal.τ).loc Cert.Reference9Ideal.main_arg19) = m ((c.tc : Thread Cert.Kernel9Ideal.nD Cert.Kernel9Ideal.τ).loc Cert.Kernel9Ideal.main_arg19)
      ∧ m' ((c.tc : Thread Cert.Reference9Ideal.nD Cert.Reference9Ideal.τ).loc Cert.Reference9Ideal.main_arg20) = m ((c.tc : Thread Cert.Kernel9Ideal.nD Cert.Kernel9Ideal.τ).loc Cert.Kernel9Ideal.main_arg20)
      ∧ m' ((c.tc : Thread Cert.Reference9Ideal.nD Cert.Reference9Ideal.τ).loc Cert.Reference9Ideal.main_arg21) = m ((c.tc : Thread Cert.Kernel9Ideal.nD Cert.Kernel9Ideal.τ).loc Cert.Kernel9Ideal.main_arg21)
      ∧ m' ((c.tc : Thread Cert.Reference9Ideal.nD Cert.Reference9Ideal.τ).loc Cert.Reference9Ideal.main_arg22) = m ((c.tc : Thread Cert.Kernel9Ideal.nD Cert.Kernel9Ideal.τ).loc Cert.Kernel9Ideal.main_arg22)
      ∧ m' ((c.tc : Thread Cert.Reference9Ideal.nD Cert.Reference9Ideal.τ).loc Cert.Reference9Ideal.main_arg23) = m ((c.tc : Thread Cert.Kernel9Ideal.nD Cert.Kernel9Ideal.τ).loc Cert.Kernel9Ideal.main_arg23)
      ∧ m' ((c.tc : Thread Cert.Reference9Ideal.nD Cert.Reference9Ideal.τ).loc Cert.Reference9Ideal.main_arg24) = m ((c.tc : Thread Cert.Kernel9Ideal.nD Cert.Kernel9Ideal.τ).loc Cert.Kernel9Ideal.main_arg24)
      ∧ m' ((c.tc : Thread Cert.Reference9Ideal.nD Cert.Reference9Ideal.τ).loc Cert.Reference9Ideal.main_arg25) = m ((c.tc : Thread Cert.Kernel9Ideal.nD Cert.Kernel9Ideal.τ).loc Cert.Kernel9Ideal.main_arg25)
      ∧ m' ((c.tc : Thread Cert.Reference9Ideal.nD Cert.Reference9Ideal.τ).loc Cert.Reference9Ideal.main_arg26) = m ((c.tc : Thread Cert.Kernel9Ideal.nD Cert.Kernel9Ideal.τ).loc Cert.Kernel9Ideal.main_arg26)
      ∧ m' ((c.tc : Thread Cert.Reference9Ideal.nD Cert.Reference9Ideal.τ).loc Cert.Reference9Ideal.main_arg27) = m ((c.tc : Thread Cert.Kernel9Ideal.nD Cert.Kernel9Ideal.τ).loc Cert.Kernel9Ideal.main_arg27)
      ∧ m' ((c.tc : Thread Cert.Reference9Ideal.nD Cert.Reference9Ideal.τ).loc Cert.Reference9Ideal.main_arg28) = m ((c.tc : Thread Cert.Kernel9Ideal.nD Cert.Kernel9Ideal.τ).loc Cert.Kernel9Ideal.main_arg28)
      ∧ m' ((c.tc : Thread Cert.Reference9Ideal.nD Cert.Reference9Ideal.τ).loc Cert.Reference9Ideal.main_arg29) = m ((c.tc : Thread Cert.Kernel9Ideal.nD Cert.Kernel9Ideal.τ).loc Cert.Kernel9Ideal.main_arg29)
      ∧ m' ((c.tc : Thread Cert.Reference9Ideal.nD Cert.Reference9Ideal.τ).loc Cert.Reference9Ideal.main_arg30) = m ((c.tc : Thread Cert.Kernel9Ideal.nD Cert.Kernel9Ideal.τ).loc Cert.Kernel9Ideal.main_arg30)
      ∧ m' ((c.tc : Thread Cert.Reference9Ideal.nD Cert.Reference9Ideal.τ).loc Cert.Reference9Ideal.main_arg31) = m ((c.tc : Thread Cert.Kernel9Ideal.nD Cert.Kernel9Ideal.τ).loc Cert.Kernel9Ideal.main_arg31)
      ∧ m' ((c.tc : Thread Cert.Reference9Ideal.nD Cert.Reference9Ideal.τ).loc Cert.Reference9Ideal.main_arg32) = m ((c.tc : Thread Cert.Kernel9Ideal.nD Cert.Kernel9Ideal.τ).loc Cert.Kernel9Ideal.main_arg32)
      ∧ m' ((c.tc : Thread Cert.Reference9Ideal.nD Cert.Reference9Ideal.τ).loc Cert.Reference9Ideal.main_arg33) = m ((c.tc : Thread Cert.Kernel9Ideal.nD Cert.Kernel9Ideal.τ).loc Cert.Kernel9Ideal.main_arg33)
      ∧ m' ((c.tc : Thread Cert.Reference9Ideal.nD Cert.Reference9Ideal.τ).loc Cert.Reference9Ideal.main_arg34) = m ((c.tc : Thread Cert.Kernel9Ideal.nD Cert.Kernel9Ideal.τ).loc Cert.Kernel9Ideal.main_arg34)
      ∧ m' ((c.tc : Thread Cert.Reference9Ideal.nD Cert.Reference9Ideal.τ).loc Cert.Reference9Ideal.main_arg35) = m ((c.tc : Thread Cert.Kernel9Ideal.nD Cert.Kernel9Ideal.τ).loc Cert.Kernel9Ideal.main_arg35)
      ∧ m' ((c.tc : Thread Cert.Reference9Ideal.nD Cert.Reference9Ideal.τ).loc Cert.Reference9Ideal.main_arg36) = m ((c.tc : Thread Cert.Kernel9Ideal.nD Cert.Kernel9Ideal.τ).loc Cert.Kernel9Ideal.main_arg36)) →
    ∃ (v0 : (c : Dev Cert.Kernel9Ideal.nD) → Buf (Elt Ideal) ((c.tc : Thread Cert.Kernel9Ideal.nD Cert.Kernel9Ideal.τ).loc Cert.Kernel9Ideal.main_v124)) (v1 : (c : Dev Cert.Kernel9Ideal.nD) → Buf (Elt Ideal) ((c.tc : Thread Cert.Kernel9Ideal.nD Cert.Kernel9Ideal.τ).loc Cert.Kernel9Ideal.main_v47)) (v2 : (c : Dev Cert.Kernel9Ideal.nD) → Buf (Elt Ideal) ((c.tc : Thread Cert.Kernel9Ideal.nD Cert.Kernel9Ideal.τ).loc Cert.Kernel9Ideal.main_v49)) (v3 : (c : Dev Cert.Kernel9Ideal.nD) → Buf (Elt Ideal) ((c.tc : Thread Cert.Kernel9Ideal.nD Cert.Kernel9Ideal.τ).loc Cert.Kernel9Ideal.main_v51)) (v4 : (c : Dev Cert.Kernel9Ideal.nD) → Buf (Elt Ideal) ((c.tc : Thread Cert.Kernel9Ideal.nD Cert.Kernel9Ideal.τ).loc Cert.Kernel9Ideal.main_v53)) (v5 : (c : Dev Cert.Kernel9Ideal.nD) → Buf (Elt Ideal) ((c.tc : Thread Cert.Kernel9Ideal.nD Cert.Kernel9Ideal.τ).loc Cert.Kernel9Ideal.main_v55)) (v6 : (c : Dev Cert.Kernel9Ideal.nD) → Buf (Elt Ideal) ((c.tc : Thread Cert.Kernel9Ideal.nD Cert.Kernel9Ideal.τ).loc Cert.Kernel9Ideal.main_v57)) (v7 : (c : Dev Cert.Kernel9Ideal.nD) → Buf (Elt Ideal) ((c.tc : Thread Cert.Kernel9Ideal.nD Cert.Kernel9Ideal.τ).loc Cert.Kernel9Ideal.main_v59)) (v8 : (c : Dev Cert.Kernel9Ideal.nD) → Buf (Elt Ideal) ((c.tc : Thread Cert.Kernel9Ideal.nD Cert.Kernel9Ideal.τ).loc Cert.Kernel9Ideal.main_v61)) (v9 : (c : Dev Cert.Kernel9Ideal.nD) → Buf (Elt Ideal) ((c.tc : Thread Cert.Kernel9Ideal.nD Cert.Kernel9Ideal.τ).loc Cert.Kernel9Ideal.main_v63)) (v10 : (c : Dev Cert.Kernel9Ideal.nD) → Buf (Elt Ideal) ((c.tc : Thread Cert.Kernel9Ideal.nD Cert.Kernel9Ideal.τ).loc Cert.Kernel9Ideal.main_v66)) (v11 : (c : Dev Cert.Kernel9Ideal.nD) → Buf (Elt Ideal) ((c.tc : Thread Cert.Kernel9Ideal.nD Cert.Kernel9Ideal.τ).loc Cert.Kernel9Ideal.main_v68)) (v12 : (c : Dev Cert.Kernel9Ideal.nD) → Buf (Elt Ideal) ((c.tc : Thread Cert.Kernel9Ideal.nD Cert.Kernel9Ideal.τ).loc Cert.Kernel9Ideal.main_v70)) (v13 : (c : Dev Cert.Kernel9Ideal.nD) → Buf (Elt Ideal) ((c.tc : Thread Cert.Kernel9Ideal.nD Cert.Kernel9Ideal.τ).loc Cert.Kernel9Ideal.main_v72)) (v14 : (c : Dev Cert.Kernel9Ideal.nD) → Buf (Elt Ideal) ((c.tc : Thread Cert.Kernel9Ideal.nD Cert.Kernel9Ideal.τ).loc Cert.Kernel9Ideal.main_v74)) (v15 : (c : Dev Cert.Kernel9Ideal.nD) → Buf (Elt Ideal) ((c.tc : Thread Cert.Kernel9Ideal.nD Cert.Kernel9Ideal.τ).loc Cert.Kernel9Ideal.main_v76)) (v16 : (c : Dev Cert.Kernel9Ideal.nD) → Buf (Elt Ideal) ((c.tc : Thread Cert.Kernel9Ideal.nD Cert.Kernel9Ideal.τ).loc Cert.Kernel9Ideal.main_v78)) (v17 : (c : Dev Cert.Kernel9Ideal.nD) → Buf (Elt Ideal) ((c.tc : Thread Cert.Kernel9Ideal.nD Cert.Kernel9Ideal.τ).loc Cert.Kernel9Ideal.main_v80)) (v18 : (c : Dev Cert.Kernel9Ideal.nD) → Buf (Elt Ideal) ((c.tc : Thread Cert.Kernel9Ideal.nD Cert.Kernel9Ideal.τ).loc Cert.Kernel9Ideal.main_v82)) (v19 : (c : Dev Cert.Kernel9Ideal.nD) → Buf (Elt Ideal) ((c.tc : Thread Cert.Kernel9Ideal.nD Cert.Kernel9Ideal.τ).loc Cert.Kernel9Ideal.main_v85)) (v20 : (c : Dev Cert.Kernel9Ideal.nD) → Buf (Elt Ideal) ((c.tc : Thread Cert.Kernel9Ideal.nD Cert.Kernel9Ideal.τ).loc Cert.Kernel9Ideal.main_v87)) (v21 : (c : Dev Cert.Kernel9Ideal.nD) → Buf (Elt Ideal) ((c.tc : Thread Cert.Kernel9Ideal.nD Cert.Kernel9Ideal.τ).loc Cert.Kernel9Ideal.main_v89)) (v22 : (c : Dev Cert.Kernel9Ideal.nD) → Buf (Elt Ideal) ((c.tc : Thread Cert.Kernel9Ideal.nD Cert.Kernel9Ideal.τ).loc Cert.Kernel9Ideal.main_v91)) (v23 : (c : Dev Cert.Kernel9Ideal.nD) → Buf (Elt Ideal) ((c.tc : Thread Cert.Kernel9Ideal.nD Cert.Kernel9Ideal.τ).loc Cert.Kernel9Ideal.main_v93)) (v24 : (c : Dev Cert.Kernel9Ideal.nD) → Buf (Elt Ideal) ((c.tc : Thread Cert.Kernel9Ideal.nD Cert.Kernel9Ideal.τ).loc Cert.Kernel9Ideal.main_v95)) (v25 : (c : Dev Cert.Kernel9Ideal.nD) → Buf (Elt Ideal) ((c.tc : Thread Cert.Kernel9Ideal.nD Cert.Kernel9Ideal.τ).loc Cert.Kernel9Ideal.main_v97)) (v26 : (c : Dev Cert.Kernel9Ideal.nD) → Buf (Elt Ideal) ((c.tc : Thread Cert.Kernel9Ideal.nD Cert.Kernel9Ideal.τ).loc Cert.Kernel9Ideal.main_v99)) (v27 : (c : Dev Cert.Kernel9Ideal.nD) → Buf (Elt Ideal) ((c.tc : Thread Cert.Kernel9Ideal.nD Cert.Kernel9Ideal.τ).loc Cert.Kernel9Ideal.main_v101)) (v28 : (c : Dev Cert.Kernel9Ideal.nD) → Buf (Elt Ideal) ((c.tc : Thread Cert.Kernel9Ideal.nD Cert.Kernel9Ideal.τ).loc Cert.Kernel9Ideal.main_v104)) (v29 : (c : Dev Cert.Kernel9Ideal.nD) → Buf (Elt Ideal) ((c.tc : Thread Cert.Kernel9Ideal.nD Cert.Kernel9Ideal.τ).loc Cert.Kernel9Ideal.main_v106)) (v30 : (c : Dev Cert.Kernel9Ideal.nD) → Buf (Elt Ideal) ((c.tc : Thread Cert.Kernel9Ideal.nD Cert.Kernel9Ideal.τ).loc Cert.Kernel9Ideal.main_v108)) (v31 : (c : Dev Cert.Kernel9Ideal.nD) → Buf (Elt Ideal) ((c.tc : Thread Cert.Kernel9Ideal.nD Cert.Kernel9Ideal.τ).loc Cert.Kernel9Ideal.main_v110)) (v32 : (c : Dev Cert.Kernel9Ideal.nD) → Buf (Elt Ideal) ((c.tc : Thread Cert.Kernel9Ideal.nD Cert.Kernel9Ideal.τ).loc Cert.Kernel9Ideal.main_v112)) (v33 : (c : Dev Cert.Kernel9Ideal.nD) → Buf (Elt Ideal) ((c.tc : Thread Cert.Kernel9Ideal.nD Cert.Kernel9Ideal.τ).loc Cert.Kernel9Ideal.main_v114)) (v34 : (c : Dev Cert.Kernel9Ideal.nD) → Buf (Elt Ideal) ((c.tc : Thread Cert.Kernel9Ideal.nD Cert.Kernel9Ideal.τ).loc Cert.Kernel9Ideal.main_v116)) (v35 : (c : Dev Cert.Kernel9Ideal.nD) → Buf (Elt Ideal) ((c.tc : Thread Cert.Kernel9Ideal.nD Cert.Kernel9Ideal.τ).loc Cert.Kernel9Ideal.main_v118)) (v36 : (c : Dev Cert.Kernel9Ideal.nD) → Buf (Elt Ideal) ((c.tc : Thread Cert.Kernel9Ideal.nD Cert.Kernel9Ideal.τ).loc Cert.Kernel9Ideal.main_v120)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v124) = v0 c
          ∧ r.2.mem ((c.tc : Thread Cert.Kernel9Ideal.nD Cert.Kernel9Ideal.τ).loc Cert.Kernel9Ideal.main_v47) = v1 c
          ∧ r.2.mem ((c.tc : Thread Cert.Kernel9Ideal.nD Cert.Kernel9Ideal.τ).loc Cert.Kernel9Ideal.main_v49) = v2 c
          ∧ r.2.mem ((c.tc : Thread Cert.Kernel9Ideal.nD Cert.Kernel9Ideal.τ).loc Cert.Kernel9Ideal.main_v51) = v3 c
          ∧ r.2.mem ((c.tc : Thread Cert.Kernel9Ideal.nD Cert.Kernel9Ideal.τ).loc Cert.Kernel9Ideal.main_v53) = v4 c
          ∧ r.2.mem ((c.tc : Thread Cert.Kernel9Ideal.nD Cert.Kernel9Ideal.τ).loc Cert.Kernel9Ideal.main_v55) = v5 c
          ∧ r.2.mem ((c.tc : Thread Cert.Kernel9Ideal.nD Cert.Kernel9Ideal.τ).loc Cert.Kernel9Ideal.main_v57) = v6 c
          ∧ r.2.mem ((c.tc : Thread Cert.Kernel9Ideal.nD Cert.Kernel9Ideal.τ).loc Cert.Kernel9Ideal.main_v59) = v7 c
          ∧ r.2.mem ((c.tc : Thread Cert.Kernel9Ideal.nD Cert.Kernel9Ideal.τ).loc Cert.Kernel9Ideal.main_v61) = v8 c
          ∧ r.2.mem ((c.tc : Thread Cert.Kernel9Ideal.nD Cert.Kernel9Ideal.τ).loc Cert.Kernel9Ideal.main_v63) = v9 c
          ∧ r.2.mem ((c.tc : Thread Cert.Kernel9Ideal.nD Cert.Kernel9Ideal.τ).loc Cert.Kernel9Ideal.main_v66) = v10 c
          ∧ r.2.mem ((c.tc : Thread Cert.Kernel9Ideal.nD Cert.Kernel9Ideal.τ).loc Cert.Kernel9Ideal.main_v68) = v11 c
          ∧ r.2.mem ((c.tc : Thread Cert.Kernel9Ideal.nD Cert.Kernel9Ideal.τ).loc Cert.Kernel9Ideal.main_v70) = v12 c
          ∧ r.2.mem ((c.tc : Thread Cert.Kernel9Ideal.nD Cert.Kernel9Ideal.τ).loc Cert.Kernel9Ideal.main_v72) = v13 c
          ∧ r.2.mem ((c.tc : Thread Cert.Kernel9Ideal.nD Cert.Kernel9Ideal.τ).loc Cert.Kernel9Ideal.main_v74) = v14 c
          ∧ r.2.mem ((c.tc : Thread Cert.Kernel9Ideal.nD Cert.Kernel9Ideal.τ).loc Cert.Kernel9Ideal.main_v76) = v15 c
          ∧ r.2.mem ((c.tc : Thread Cert.Kernel9Ideal.nD Cert.Kernel9Ideal.τ).loc Cert.Kernel9Ideal.main_v78) = v16 c
          ∧ r.2.mem ((c.tc : Thread Cert.Kernel9Ideal.nD Cert.Kernel9Ideal.τ).loc Cert.Kernel9Ideal.main_v80) = v17 c
          ∧ r.2.mem ((c.tc : Thread Cert.Kernel9Ideal.nD Cert.Kernel9Ideal.τ).loc Cert.Kernel9Ideal.main_v82) = v18 c
          ∧ r.2.mem ((c.tc : Thread Cert.Kernel9Ideal.nD Cert.Kernel9Ideal.τ).loc Cert.Kernel9Ideal.main_v85) = v19 c
          ∧ r.2.mem ((c.tc : Thread Cert.Kernel9Ideal.nD Cert.Kernel9Ideal.τ).loc Cert.Kernel9Ideal.main_v87) = v20 c
          ∧ r.2.mem ((c.tc : Thread Cert.Kernel9Ideal.nD Cert.Kernel9Ideal.τ).loc Cert.Kernel9Ideal.main_v89) = v21 c
          ∧ r.2.mem ((c.tc : Thread Cert.Kernel9Ideal.nD Cert.Kernel9Ideal.τ).loc Cert.Kernel9Ideal.main_v91) = v22 c
          ∧ r.2.mem ((c.tc : Thread Cert.Kernel9Ideal.nD Cert.Kernel9Ideal.τ).loc Cert.Kernel9Ideal.main_v93) = v23 c
          ∧ r.2.mem ((c.tc : Thread Cert.Kernel9Ideal.nD Cert.Kernel9Ideal.τ).loc Cert.Kernel9Ideal.main_v95) = v24 c
          ∧ r.2.mem ((c.tc : Thread Cert.Kernel9Ideal.nD Cert.Kernel9Ideal.τ).loc Cert.Kernel9Ideal.main_v97) = v25 c
          ∧ r.2.mem ((c.tc : Thread Cert.Kernel9Ideal.nD Cert.Kernel9Ideal.τ).loc Cert.Kernel9Ideal.main_v99) = v26 c
          ∧ r.2.mem ((c.tc : Thread Cert.Kernel9Ideal.nD Cert.Kernel9Ideal.τ).loc Cert.Kernel9Ideal.main_v101) = v27 c
          ∧ r.2.mem ((c.tc : Thread Cert.Kernel9Ideal.nD Cert.Kernel9Ideal.τ).loc Cert.Kernel9Ideal.main_v104) = v28 c
          ∧ r.2.mem ((c.tc : Thread Cert.Kernel9Ideal.nD Cert.Kernel9Ideal.τ).loc Cert.Kernel9Ideal.main_v106) = v29 c
          ∧ r.2.mem ((c.tc : Thread Cert.Kernel9Ideal.nD Cert.Kernel9Ideal.τ).loc Cert.Kernel9Ideal.main_v108) = v30 c
          ∧ r.2.mem ((c.tc : Thread Cert.Kernel9Ideal.nD Cert.Kernel9Ideal.τ).loc Cert.Kernel9Ideal.main_v110) = v31 c
          ∧ r.2.mem ((c.tc : Thread Cert.Kernel9Ideal.nD Cert.Kernel9Ideal.τ).loc Cert.Kernel9Ideal.main_v112) = v32 c
          ∧ r.2.mem ((c.tc : Thread Cert.Kernel9Ideal.nD Cert.Kernel9Ideal.τ).loc Cert.Kernel9Ideal.main_v114) = v33 c
          ∧ r.2.mem ((c.tc : Thread Cert.Kernel9Ideal.nD Cert.Kernel9Ideal.τ).loc Cert.Kernel9Ideal.main_v116) = v34 c
          ∧ r.2.mem ((c.tc : Thread Cert.Kernel9Ideal.nD Cert.Kernel9Ideal.τ).loc Cert.Kernel9Ideal.main_v118) = v35 c
          ∧ r.2.mem ((c.tc : Thread Cert.Kernel9Ideal.nD Cert.Kernel9Ideal.τ).loc Cert.Kernel9Ideal.main_v120) = v36 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
          ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
          ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
          ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
          ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
          ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
          ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
          ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
          ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
          ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
          ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27)
          ∧ r.2.mem ((c.tc : Thread Cert.Kernel9Ideal.nD Cert.Kernel9Ideal.τ).loc Cert.Kernel9Ideal.main_arg28) = m ((c.tc : Thread Cert.Kernel9Ideal.nD Cert.Kernel9Ideal.τ).loc Cert.Kernel9Ideal.main_arg28)
          ∧ r.2.mem ((c.tc : Thread Cert.Kernel9Ideal.nD Cert.Kernel9Ideal.τ).loc Cert.Kernel9Ideal.main_arg29) = m ((c.tc : Thread Cert.Kernel9Ideal.nD Cert.Kernel9Ideal.τ).loc Cert.Kernel9Ideal.main_arg29)
          ∧ r.2.mem ((c.tc : Thread Cert.Kernel9Ideal.nD Cert.Kernel9Ideal.τ).loc Cert.Kernel9Ideal.main_arg30) = m ((c.tc : Thread Cert.Kernel9Ideal.nD Cert.Kernel9Ideal.τ).loc Cert.Kernel9Ideal.main_arg30)
          ∧ r.2.mem ((c.tc : Thread Cert.Kernel9Ideal.nD Cert.Kernel9Ideal.τ).loc Cert.Kernel9Ideal.main_arg31) = m ((c.tc : Thread Cert.Kernel9Ideal.nD Cert.Kernel9Ideal.τ).loc Cert.Kernel9Ideal.main_arg31)
          ∧ r.2.mem ((c.tc : Thread Cert.Kernel9Ideal.nD Cert.Kernel9Ideal.τ).loc Cert.Kernel9Ideal.main_arg32) = m ((c.tc : Thread Cert.Kernel9Ideal.nD Cert.Kernel9Ideal.τ).loc Cert.Kernel9Ideal.main_arg32)
          ∧ r.2.mem ((c.tc : Thread Cert.Kernel9Ideal.nD Cert.Kernel9Ideal.τ).loc Cert.Kernel9Ideal.main_arg33) = m ((c.tc : Thread Cert.Kernel9Ideal.nD Cert.Kernel9Ideal.τ).loc Cert.Kernel9Ideal.main_arg33)
          ∧ r.2.mem ((c.tc : Thread Cert.Kernel9Ideal.nD Cert.Kernel9Ideal.τ).loc Cert.Kernel9Ideal.main_arg34) = m ((c.tc : Thread Cert.Kernel9Ideal.nD Cert.Kernel9Ideal.τ).loc Cert.Kernel9Ideal.main_arg34)
          ∧ r.2.mem ((c.tc : Thread Cert.Kernel9Ideal.nD Cert.Kernel9Ideal.τ).loc Cert.Kernel9Ideal.main_arg35) = m ((c.tc : Thread Cert.Kernel9Ideal.nD Cert.Kernel9Ideal.τ).loc Cert.Kernel9Ideal.main_arg35)
          ∧ r.2.mem ((c.tc : Thread Cert.Kernel9Ideal.nD Cert.Kernel9Ideal.τ).loc Cert.Kernel9Ideal.main_arg36) = m ((c.tc : Thread Cert.Kernel9Ideal.nD Cert.Kernel9Ideal.τ).loc Cert.Kernel9Ideal.main_arg36))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v227) = v0 c
          ∧ r.2.mem ((c.tc : Thread Cert.Reference9Ideal.nD Cert.Reference9Ideal.τ).loc Cert.Reference9Ideal.main_v0) = v1 c
          ∧ r.2.mem ((c.tc : Thread Cert.Reference9Ideal.nD Cert.Reference9Ideal.τ).loc Cert.Reference9Ideal.main_v25) = v2 c
          ∧ r.2.mem ((c.tc : Thread Cert.Reference9Ideal.nD Cert.Reference9Ideal.τ).loc Cert.Reference9Ideal.main_v50) = v3 c
          ∧ r.2.mem ((c.tc : Thread Cert.Reference9Ideal.nD Cert.Reference9Ideal.τ).loc Cert.Reference9Ideal.main_v75) = v4 c
          ∧ r.2.mem ((c.tc : Thread Cert.Reference9Ideal.nD Cert.Reference9Ideal.τ).loc Cert.Reference9Ideal.main_v100) = v5 c
          ∧ r.2.mem ((c.tc : Thread Cert.Reference9Ideal.nD Cert.Reference9Ideal.τ).loc Cert.Reference9Ideal.main_v125) = v6 c
          ∧ r.2.mem ((c.tc : Thread Cert.Reference9Ideal.nD Cert.Reference9Ideal.τ).loc Cert.Reference9Ideal.main_v150) = v7 c
          ∧ r.2.mem ((c.tc : Thread Cert.Reference9Ideal.nD Cert.Reference9Ideal.τ).loc Cert.Reference9Ideal.main_v175) = v8 c
          ∧ r.2.mem ((c.tc : Thread Cert.Reference9Ideal.nD Cert.Reference9Ideal.τ).loc Cert.Reference9Ideal.main_v200) = v9 c
          ∧ r.2.mem ((c.tc : Thread Cert.Reference9Ideal.nD Cert.Reference9Ideal.τ).loc Cert.Reference9Ideal.main_v24) = v10 c
          ∧ r.2.mem ((c.tc : Thread Cert.Reference9Ideal.nD Cert.Reference9Ideal.τ).loc Cert.Reference9Ideal.main_v49) = v11 c
          ∧ r.2.mem ((c.tc : Thread Cert.Reference9Ideal.nD Cert.Reference9Ideal.τ).loc Cert.Reference9Ideal.main_v74) = v12 c
          ∧ r.2.mem ((c.tc : Thread Cert.Reference9Ideal.nD Cert.Reference9Ideal.τ).loc Cert.Reference9Ideal.main_v99) = v13 c
          ∧ r.2.mem ((c.tc : Thread Cert.Reference9Ideal.nD Cert.Reference9Ideal.τ).loc Cert.Reference9Ideal.main_v124) = v14 c
          ∧ r.2.mem ((c.tc : Thread Cert.Reference9Ideal.nD Cert.Reference9Ideal.τ).loc Cert.Reference9Ideal.main_v149) = v15 c
          ∧ r.2.mem ((c.tc : Thread Cert.Reference9Ideal.nD Cert.Reference9Ideal.τ).loc Cert.Reference9Ideal.main_v174) = v16 c
          ∧ r.2.mem ((c.tc : Thread Cert.Reference9Ideal.nD Cert.Reference9Ideal.τ).loc Cert.Reference9Ideal.main_v199) = v17 c
          ∧ r.2.mem ((c.tc : Thread Cert.Reference9Ideal.nD Cert.Reference9Ideal.τ).loc Cert.Reference9Ideal.main_v224) = v18 c
          ∧ r.2.mem ((c.tc : Thread Cert.Reference9Ideal.nD Cert.Reference9Ideal.τ).loc Cert.Reference9Ideal.main_v5) = v19 c
          ∧ r.2.mem ((c.tc : Thread Cert.Reference9Ideal.nD Cert.Reference9Ideal.τ).loc Cert.Reference9Ideal.main_v30) = v20 c
          ∧ r.2.mem ((c.tc : Thread Cert.Reference9Ideal.nD Cert.Reference9Ideal.τ).loc Cert.Reference9Ideal.main_v55) = v21 c
          ∧ r.2.mem ((c.tc : Thread Cert.Reference9Ideal.nD Cert.Reference9Ideal.τ).loc Cert.Reference9Ideal.main_v80) = v22 c
          ∧ r.2.mem ((c.tc : Thread Cert.Reference9Ideal.nD Cert.Reference9Ideal.τ).loc Cert.Reference9Ideal.main_v105) = v23 c
          ∧ r.2.mem ((c.tc : Thread Cert.Reference9Ideal.nD Cert.Reference9Ideal.τ).loc Cert.Reference9Ideal.main_v130) = v24 c
          ∧ r.2.mem ((c.tc : Thread Cert.Reference9Ideal.nD Cert.Reference9Ideal.τ).loc Cert.Reference9Ideal.main_v155) = v25 c
          ∧ r.2.mem ((c.tc : Thread Cert.Reference9Ideal.nD Cert.Reference9Ideal.τ).loc Cert.Reference9Ideal.main_v180) = v26 c
          ∧ r.2.mem ((c.tc : Thread Cert.Reference9Ideal.nD Cert.Reference9Ideal.τ).loc Cert.Reference9Ideal.main_v205) = v27 c
          ∧ r.2.mem ((c.tc : Thread Cert.Reference9Ideal.nD Cert.Reference9Ideal.τ).loc Cert.Reference9Ideal.main_v11) = v28 c
          ∧ r.2.mem ((c.tc : Thread Cert.Reference9Ideal.nD Cert.Reference9Ideal.τ).loc Cert.Reference9Ideal.main_v36) = v29 c
          ∧ r.2.mem ((c.tc : Thread Cert.Reference9Ideal.nD Cert.Reference9Ideal.τ).loc Cert.Reference9Ideal.main_v61) = v30 c
          ∧ r.2.mem ((c.tc : Thread Cert.Reference9Ideal.nD Cert.Reference9Ideal.τ).loc Cert.Reference9Ideal.main_v86) = v31 c
          ∧ r.2.mem ((c.tc : Thread Cert.Reference9Ideal.nD Cert.Reference9Ideal.τ).loc Cert.Reference9Ideal.main_v111) = v32 c
          ∧ r.2.mem ((c.tc : Thread Cert.Reference9Ideal.nD Cert.Reference9Ideal.τ).loc Cert.Reference9Ideal.main_v136) = v33 c
          ∧ r.2.mem ((c.tc : Thread Cert.Reference9Ideal.nD Cert.Reference9Ideal.τ).loc Cert.Reference9Ideal.main_v161) = v34 c
          ∧ r.2.mem ((c.tc : Thread Cert.Reference9Ideal.nD Cert.Reference9Ideal.τ).loc Cert.Reference9Ideal.main_v186) = v35 c
          ∧ r.2.mem ((c.tc : Thread Cert.Reference9Ideal.nD Cert.Reference9Ideal.τ).loc Cert.Reference9Ideal.main_v211) = v36 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17)
          ∧ r.2.mem ((c.tc : Thread Cert.Reference9Ideal.nD Cert.Reference9Ideal.τ).loc Cert.Reference9Ideal.main_arg18) = m' ((c.tc : Thread Cert.Reference9Ideal.nD Cert.Reference9Ideal.τ).loc Cert.Reference9Ideal.main_arg18)
          ∧ r.2.mem ((c.tc : Thread Cert.Reference9Ideal.nD Cert.Reference9Ideal.τ).loc Cert.Reference9Ideal.main_arg19) = m' ((c.tc : Thread Cert.Reference9Ideal.nD Cert.Reference9Ideal.τ).loc Cert.Reference9Ideal.main_arg19)
          ∧ r.2.mem ((c.tc : Thread Cert.Reference9Ideal.nD Cert.Reference9Ideal.τ).loc Cert.Reference9Ideal.main_arg20) = m' ((c.tc : Thread Cert.Reference9Ideal.nD Cert.Reference9Ideal.τ).loc Cert.Reference9Ideal.main_arg20)
          ∧ r.2.mem ((c.tc : Thread Cert.Reference9Ideal.nD Cert.Reference9Ideal.τ).loc Cert.Reference9Ideal.main_arg21) = m' ((c.tc : Thread Cert.Reference9Ideal.nD Cert.Reference9Ideal.τ).loc Cert.Reference9Ideal.main_arg21)
          ∧ r.2.mem ((c.tc : Thread Cert.Reference9Ideal.nD Cert.Reference9Ideal.τ).loc Cert.Reference9Ideal.main_arg22) = m' ((c.tc : Thread Cert.Reference9Ideal.nD Cert.Reference9Ideal.τ).loc Cert.Reference9Ideal.main_arg22)
          ∧ r.2.mem ((c.tc : Thread Cert.Reference9Ideal.nD Cert.Reference9Ideal.τ).loc Cert.Reference9Ideal.main_arg23) = m' ((c.tc : Thread Cert.Reference9Ideal.nD Cert.Reference9Ideal.τ).loc Cert.Reference9Ideal.main_arg23)
          ∧ r.2.mem ((c.tc : Thread Cert.Reference9Ideal.nD Cert.Reference9Ideal.τ).loc Cert.Reference9Ideal.main_arg24) = m' ((c.tc : Thread Cert.Reference9Ideal.nD Cert.Reference9Ideal.τ).loc Cert.Reference9Ideal.main_arg24)
          ∧ r.2.mem ((c.tc : Thread Cert.Reference9Ideal.nD Cert.Reference9Ideal.τ).loc Cert.Reference9Ideal.main_arg25) = m' ((c.tc : Thread Cert.Reference9Ideal.nD Cert.Reference9Ideal.τ).loc Cert.Reference9Ideal.main_arg25)
          ∧ r.2.mem ((c.tc : Thread Cert.Reference9Ideal.nD Cert.Reference9Ideal.τ).loc Cert.Reference9Ideal.main_arg26) = m' ((c.tc : Thread Cert.Reference9Ideal.nD Cert.Reference9Ideal.τ).loc Cert.Reference9Ideal.main_arg26)
          ∧ r.2.mem ((c.tc : Thread Cert.Reference9Ideal.nD Cert.Reference9Ideal.τ).loc Cert.Reference9Ideal.main_arg27) = m' ((c.tc : Thread Cert.Reference9Ideal.nD Cert.Reference9Ideal.τ).loc Cert.Reference9Ideal.main_arg27)
          ∧ r.2.mem ((c.tc : Thread Cert.Reference9Ideal.nD Cert.Reference9Ideal.τ).loc Cert.Reference9Ideal.main_arg28) = m' ((c.tc : Thread Cert.Reference9Ideal.nD Cert.Reference9Ideal.τ).loc Cert.Reference9Ideal.main_arg28)
          ∧ r.2.mem ((c.tc : Thread Cert.Reference9Ideal.nD Cert.Reference9Ideal.τ).loc Cert.Reference9Ideal.main_arg29) = m' ((c.tc : Thread Cert.Reference9Ideal.nD Cert.Reference9Ideal.τ).loc Cert.Reference9Ideal.main_arg29)
          ∧ r.2.mem ((c.tc : Thread Cert.Reference9Ideal.nD Cert.Reference9Ideal.τ).loc Cert.Reference9Ideal.main_arg30) = m' ((c.tc : Thread Cert.Reference9Ideal.nD Cert.Reference9Ideal.τ).loc Cert.Reference9Ideal.main_arg30)
          ∧ r.2.mem ((c.tc : Thread Cert.Reference9Ideal.nD Cert.Reference9Ideal.τ).loc Cert.Reference9Ideal.main_arg31) = m' ((c.tc : Thread Cert.Reference9Ideal.nD Cert.Reference9Ideal.τ).loc Cert.Reference9Ideal.main_arg31)
          ∧ r.2.mem ((c.tc : Thread Cert.Reference9Ideal.nD Cert.Reference9Ideal.τ).loc Cert.Reference9Ideal.main_arg32) = m' ((c.tc : Thread Cert.Reference9Ideal.nD Cert.Reference9Ideal.τ).loc Cert.Reference9Ideal.main_arg32)
          ∧ r.2.mem ((c.tc : Thread Cert.Reference9Ideal.nD Cert.Reference9Ideal.τ).loc Cert.Reference9Ideal.main_arg33) = m' ((c.tc : Thread Cert.Reference9Ideal.nD Cert.Reference9Ideal.τ).loc Cert.Reference9Ideal.main_arg33)
          ∧ r.2.mem ((c.tc : Thread Cert.Reference9Ideal.nD Cert.Reference9Ideal.τ).loc Cert.Reference9Ideal.main_arg34) = m' ((c.tc : Thread Cert.Reference9Ideal.nD Cert.Reference9Ideal.τ).loc Cert.Reference9Ideal.main_arg34)
          ∧ r.2.mem ((c.tc : Thread Cert.Reference9Ideal.nD Cert.Reference9Ideal.τ).loc Cert.Reference9Ideal.main_arg35) = m' ((c.tc : Thread Cert.Reference9Ideal.nD Cert.Reference9Ideal.τ).loc Cert.Reference9Ideal.main_arg35)
          ∧ r.2.mem ((c.tc : Thread Cert.Reference9Ideal.nD Cert.Reference9Ideal.τ).loc Cert.Reference9Ideal.main_arg36) = m' ((c.tc : Thread Cert.Reference9Ideal.nD Cert.Reference9Ideal.τ).loc Cert.Reference9Ideal.main_arg36))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_arguments : Cert.Pre_finite_arguments.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_arguments (hKernel2Ideal := hKernel2Ideal) (hPre_finite_arguments := hPre_finite_arguments)
    ∧ quiescent_Reference2Ideal (hReference2Ideal := hReference2Ideal)
    ∧ quiescent_Reference2Ideal_pre_finite_arguments (hReference2Ideal := hReference2Ideal) (hPre_finite_arguments := hPre_finite_arguments)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_arguments (hKernel2Ideal := hKernel2Ideal) (hReference2Ideal := hReference2Ideal) (hPre_finite_arguments := hPre_finite_arguments)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_arguments.lean ====
abbrev S4608x1024 : Shape := ⟨2, ![4608, 1024]⟩
abbrev S1024 : Shape := ⟨1, ![1024]⟩
abbrev S2x2x8x1024 : Shape := ⟨4, ![2, 2, 8, 1024]⟩
abbrev S_ : Shape := ⟨0, ![]⟩

class Facts : Prop where
  bcast_S_S4608x1024 : S_.BroadcastsInDim S4608x1024 (![] : Fin 0 → Fin S4608x1024.rank)
  bcast_S_S1024 : S_.BroadcastsInDim S1024 (![] : Fin 0 → Fin S1024.rank)
  bcast_S_S2x2x8x1024 : S_.BroadcastsInDim S2x2x8x1024 (![] : Fin 0 → Fin S2x2x8x1024.rank)

variable [Facts]

def fn_part1 {F : FTy → Type} [FloatOps F] (main_arg6 : FVec F S4608x1024 .f32) (main_arg7 : FVec F S4608x1024 .f32) (main_v2 : IVec S4608x1024 1) (main_v5 : IVec S4608x1024 1) (main_v8 : IVec S1024 1) (main_v11 : IVec S2x2x8x1024 1) (main_v14 : IVec S1024 1) (main_v17 : IVec S2x2x8x1024 1) : IVec S4608x1024 1 × IVec S4608x1024 1 × IVec S1024 1 × IVec S2x2x8x1024 1 × IVec S1024 1 × IVec S2x2x8x1024 1 × IVec S4608x1024 1 × IVec S4608x1024 1 :=
  let main_v18 : FVec F S4608x1024 .f32 := Host.absf main_arg6
  let main_cst_5 : FVec F S_ .f32 := constant S_ .f32 0x7F800000#32
  let main_v19 : FVec F S4608x1024 .f32 := broadcastInDim S4608x1024 ![] bcast_S_S4608x1024 main_cst_5
  let main_v20 : IVec S4608x1024 1 := cmpf .olt main_v18 main_v19
  let main_v21 : FVec F S4608x1024 .f32 := Host.absf main_arg7
  let main_cst_6 : FVec F S_ .f32 := constant S_ .f32 0x7F800000#32
  let main_v22 : FVec F S4608x1024 .f32 := broadcastInDim S4608x1024 ![] bcast_S_S4608x1024 main_cst_6
  let main_v23 : IVec S4608x1024 1 := cmpf .olt main_v21 main_v22
  (main_v2, main_v5, main_v8, main_v11, main_v14, main_v17, main_v20, main_v23)

def fn {F : FTy → Type} [FloatOps F] (main_arg0 : FVec F S4608x1024 .f32) (main_arg1 : FVec F S4608x1024 .f32) (main_arg2 : FVec F S1024 .f32) (main_arg3 : FVec F S2x2x8x1024 .f32) (main_arg4 : FVec F S1024 .f32) (main_arg5 : FVec F S2x2x8x1024 .f32) (main_arg6 : FVec F S4608x1024 .f32) (main_arg7 : FVec F S4608x1024 .f32) : IVec S4608x1024 1 × IVec S4608x1024 1 × IVec S1024 1 × IVec S2x2x8x1024 1 × IVec S1024 1 × IVec S2x2x8x1024 1 × IVec S4608x1024 1 × IVec S4608x1024 1 :=
  let main_v0 : FVec F S4608x1024 .f32 := Host.absf main_arg0
  let main_cst : FVec F S_ .f32 := constant S_ .f32 0x7F800000#32
  let main_v1 : FVec F S4608x1024 .f32 := broadcastInDim S4608x1024 ![] bcast_S_S4608x1024 main_cst
  let main_v2 : IVec S4608x1024 1 := cmpf .olt main_v0 main_v1
  let main_v3 : FVec F S4608x1024 .f32 := Host.absf main_arg1
  let main_cst_0 : FVec F S_ .f32 := constant S_ .f32 0x7F800000#32
  let main_v4 : FVec F S4608x1024 .f32 := broadcastInDim S4608x1024 ![] bcast_S_S4608x1024 main_cst_0
  let main_v5 : IVec S4608x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x2x8x1024 .f32 := Host.absf main_arg3
  let main_cst_2 : FVec F S_ .f32 := constant S_ .f32 0x7F800000#32
  let main_v10 : FVec F S2x2x8x1024 .f32 := broadcastInDim S2x2x8x1024 ![] bcast_S_S2x2x8x1024 main_cst_2
  let main_v11 : IVec S2x2x8x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2x2x8x1024 .f32 := Host.absf main_arg5
  let main_cst_4 : FVec F S_ .f32 := constant S_ .f32 0x7F800000#32
  let main_v16 : FVec F S2x2x8x1024 .f32 := broadcastInDim S2x2x8x1024 ![] bcast_S_S2x2x8x1024 main_cst_4
  let main_v17 : IVec S2x2x8x1024 1 := cmpf .olt main_v15 main_v16
  fn_part1 (F := F) main_arg6 main_arg7 main_v2 main_v5 main_v8 main_v11 main_v14 main_v17
-- ==== Kernel.lean ====
abbrev S4608x1024 : Shape := ⟨2, ![4608, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1024x4608 : Shape := ⟨2, ![1024, 4608]⟩
abbrev S4608x4096 : Shape := ⟨2, ![4608, 4096]⟩
abbrev S4096x4608 : Shape := ⟨2, ![4096, 4608]⟩
abbrev S2304x1024 : Shape := ⟨2, ![2304, 1024]⟩
abbrev S1x1024x512 : Shape := ⟨3, ![1, 1024, 512]⟩
abbrev S2304x512 : Shape := ⟨2, ![2304, 512]⟩
abbrev S512x2304 : Shape := ⟨2, ![512, 2304]⟩
abbrev S1024x512 : Shape := ⟨2, ![1024, 512]⟩
abbrev S1536x4096 : Shape := ⟨2, ![1536, 4096]⟩
abbrev S4096x512 : Shape := ⟨2, ![4096, 512]⟩
abbrev S1536x512 : Shape := ⟨2, ![1536, 512]⟩
abbrev S512x1024 : Shape := ⟨2, ![512, 1024]⟩
abbrev S4608x512 : Shape := ⟨2, ![4608, 512]⟩

abbrev nBuf : Space → Nat
  | .hbm => 20
  | .vmem => 39
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S8x512x1024, .bf16⟩
  | .hbm, ⟨8, _⟩ => ⟨S4096x1024, .bf16⟩
  | .hbm, ⟨9, _⟩ => ⟨S4096x1024, .bf16⟩
  | .hbm, ⟨10, _⟩ => ⟨S4608x1024, .bf16⟩
  | .hbm, ⟨11, _⟩ => ⟨S1024x4608, .bf16⟩
  | .hbm, ⟨12, _⟩ => ⟨S4608x1024, .bf16⟩
  | .hbm, ⟨13, _⟩ => ⟨S4608x4096, .bf16⟩
  | .hbm, ⟨14, _⟩ => ⟨S4096x4608, .bf16⟩
  | .hbm, ⟨15, _⟩ => ⟨S4608x1024, .f32⟩
  | .hbm, ⟨16, _⟩ => ⟨S4608x4096, .bf16⟩
  | .hbm, ⟨17, _⟩ => ⟨S4096x1024, .bf16⟩
  | .hbm, ⟨18, _⟩ => ⟨S8x1024x512, .bf16⟩
  | .hbm, ⟨19, _⟩ => ⟨S4608x1024, .f32⟩
  | .local _ .vmem, ⟨0, _⟩ => ⟨S2304x1024, .bf16⟩
  | .local _ .vmem, ⟨1, _⟩ => ⟨S2304x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2304x512, .bf16⟩
  | .local _ .vmem, ⟨5, _⟩ => ⟨S2304x512, .bf16⟩
  | .local _ .vmem, ⟨6, _⟩ => ⟨S512x2304, .bf16⟩
  | .local _ .vmem, ⟨7, _⟩ => ⟨S512x2304, .bf16⟩
  | .local _ .vmem, ⟨8, _⟩ => ⟨S1536x4096, .bf16⟩
  | .local _ .vmem, ⟨9, _⟩ => ⟨S1536x4096, .bf16⟩
  | .local _ .vmem, ⟨10, _⟩ => ⟨S4096x512, .bf16⟩
  | .local _ .vmem, ⟨11, _⟩ => ⟨S4096x512, .bf16⟩
  | .local _ .vmem, ⟨12, _⟩ => ⟨S1536x512, .f32⟩
  | .local _ .vmem, ⟨13, _⟩ => ⟨S1536x512, .f32⟩
  | .local _ .vmem, ⟨14, _⟩ => ⟨S2304x1024, .bf16⟩
  | .local _ .vmem, ⟨15, _⟩ => ⟨S2304x1024, .bf16⟩
  | .local _ .vmem, ⟨16, _⟩ => ⟨S512x1024, .bf16⟩
  | .local _ .vmem, ⟨17, _⟩ => ⟨S512x1024, .bf16⟩
  | .local _ .vmem, ⟨18, _⟩ => ⟨S2304x512, .bf16⟩
  | .local _ .vmem, ⟨19, _⟩ => ⟨S2304x512, .bf16⟩
  | .local _ .vmem, ⟨20, _⟩ => ⟨S2304x512, .bf16⟩
  | .local _ .vmem, ⟨21, _⟩ => ⟨S2304x512, .bf16⟩
  | .local _ .vmem, ⟨22, _⟩ => ⟨S1024x4608, .bf16⟩
  | .local _ .vmem, ⟨23, _⟩ => ⟨S1024x4608, .bf16⟩
  | .local _ .vmem, ⟨24, _⟩ => ⟨S4608x512, .bf16⟩
  | .local _ .vmem, ⟨25, _⟩ => ⟨S4608x512, .bf16⟩
  | .local _ .vmem, ⟨26, _⟩ => ⟨S1024x512, .bf16⟩
  | .local _ .vmem, ⟨27, _⟩ => ⟨S1024x512, .bf16⟩
  | .local _ .vmem, ⟨28, _⟩ => ⟨S1024x4608, .bf16⟩
  | .local _ .vmem, ⟨29, _⟩ => ⟨S4608x512, .bf16⟩
  | .local _ .vmem, ⟨30, _⟩ => ⟨S4608x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1536x4096, .bf16⟩
  | .local _ .vmem, ⟨34, _⟩ => ⟨S1536x4096, .bf16⟩
  | .local _ .vmem, ⟨35, _⟩ => ⟨S4096x512, .bf16⟩
  | .local _ .vmem, ⟨36, _⟩ => ⟨S4096x512, .bf16⟩
  | .local _ .vmem, ⟨37, _⟩ => ⟨S1536x512, .f32⟩
  | .local _ .vmem, ⟨38, _⟩ => ⟨S1536x512, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![3, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1536x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1536x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2304x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2304x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2304x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4608 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4608x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage4_0 : Fin 1 → Memref sig .tc .vmem S1024x4608 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4608x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![3, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1536x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1536x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ReferenceIdeal.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S_, .f32⟩
  | .hbm, ⟨9, _⟩ => ⟨S4608x4096, .f32⟩
  | .hbm, ⟨10, _⟩ => ⟨S4608x4096, .i1⟩
  | .hbm, ⟨11, _⟩ => ⟨S_, .f32⟩
  | .hbm, ⟨12, _⟩ => ⟨S4608x4096, .f32⟩
  | .hbm, ⟨13, _⟩ => ⟨S4608x4096, .f32⟩
  | .hbm, ⟨14, _⟩ => ⟨S_, .f32⟩
  | .hbm, ⟨15, _⟩ => ⟨S4608x4096, .f32⟩
  | .hbm, ⟨16, _⟩ => ⟨S4608x4096, .f32⟩
  | .hbm, ⟨17, _⟩ => ⟨S4608x1024, .f32⟩
  | .hbm, ⟨18, _⟩ => ⟨S1024x4096, .f32⟩
  | .hbm, ⟨19, _⟩ => ⟨S4096x1024, .f32⟩
  | .hbm, ⟨20, _⟩ => ⟨S4608x4096, .f32⟩
  | .hbm, ⟨21, _⟩ => ⟨S4608x4096, .f32⟩
  | .hbm, ⟨22, _⟩ => ⟨S_, .f32⟩
  | .hbm, ⟨23, _⟩ => ⟨S4608x4096, .f32⟩
  | .hbm, ⟨24, _⟩ => ⟨S4608x4096, .f32⟩
  | .hbm, ⟨25, _⟩ => ⟨S4096x1024, .f32⟩
  | .hbm, ⟨26, _⟩ => ⟨S1024x4096, .f32⟩
  | .hbm, ⟨27, _⟩ => ⟨S4608x1024, .f32⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S4096x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel2.lean ====
abbrev S4608x1024 : Shape := ⟨2, ![4608, 1024]⟩
abbrev S1024 : Shape := ⟨1, ![1024]⟩
abbrev S2x2x8x1024 : Shape := ⟨4, ![2, 2, 8, 1024]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x2048x1024 : Shape := ⟨3, ![2, 2048, 1024]⟩
abbrev S2x2304x1024 : Shape := ⟨3, ![2, 2304, 1024]⟩
abbrev S_ : Shape := ⟨0, ![]⟩
abbrev S4608 : Shape := ⟨1, ![4608]⟩
abbrev S4608x1 : Shape := ⟨2, ![4608, 1]⟩
abbrev S1x1024 : Shape := ⟨2, ![1, 1024]⟩
abbrev S256x1024 : Shape := ⟨2, ![256, 1024]⟩
abbrev S1x1x8x1024 : Shape := ⟨4, ![1, 1, 8, 1024]⟩
abbrev S256 : Shape := ⟨1, ![256]⟩
abbrev S256x1 : Shape := ⟨2, ![256, 1]⟩
abbrev S8x1024 : Shape := ⟨2, ![8, 1024]⟩
abbrev S5x1024 : Shape := ⟨2, ![5, 1024]⟩
abbrev S6x1024 : Shape := ⟨2, ![6, 1024]⟩

abbrev nBuf : Space → Nat
  | .hbm => 40
  | .vmem => 22
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S1024, .f32⟩
  | .hbm, ⟨3, _⟩ => ⟨S2x2x8x1024, .f32⟩
  | .hbm, ⟨4, _⟩ => ⟨S1024, .f32⟩
  | .hbm, ⟨5, _⟩ => ⟨S2x2x8x1024, .f32⟩
  | .hbm, ⟨6, _⟩ => ⟨S4608x1024, .f32⟩
  | .hbm, ⟨7, _⟩ => ⟨S4608x1024, .f32⟩
  | .hbm, ⟨8, _⟩ => ⟨S2x2x1x1024, .f32⟩
  | .hbm, ⟨9, _⟩ => ⟨S2x2x1024, .f32⟩
  | .hbm, ⟨10, _⟩ => ⟨S2x1x1024, .f32⟩
  | .hbm, ⟨11, _⟩ => ⟨S2x256x1024, .f32⟩
  | .hbm, ⟨12, _⟩ => ⟨S2x1x1024, .f32⟩
  | .hbm, ⟨13, _⟩ => ⟨S2x2048x1024, .f32⟩
  | .hbm, ⟨14, _⟩ => ⟨S2x2304x1024, .f32⟩
  | .hbm, ⟨15, _⟩ => ⟨S4608x1024, .f32⟩
  | .hbm, ⟨16, _⟩ => ⟨S4608x1024, .f32⟩
  | .hbm, ⟨17, _⟩ => ⟨S_, .f32⟩
  | .hbm, ⟨18, _⟩ => ⟨S4608, .f32⟩
  | .hbm, ⟨19, _⟩ => ⟨S4608x1, .f32⟩
  | .hbm, ⟨20, _⟩ => ⟨S_, .f32⟩
  | .hbm, ⟨21, _⟩ => ⟨S4608x1, .f32⟩
  | .hbm, ⟨22, _⟩ => ⟨S4608x1, .f32⟩
  | .hbm, ⟨23, _⟩ => ⟨S_, .f32⟩
  | .hbm, ⟨24, _⟩ => ⟨S4608x1, .f32⟩
  | .hbm, ⟨25, _⟩ => ⟨S4608x1, .f32⟩
  | .hbm, ⟨26, _⟩ => ⟨S4608x1, .f32⟩
  | .hbm, ⟨27, _⟩ => ⟨S4608x1024, .f32⟩
  | .hbm, ⟨28, _⟩ => ⟨S4608x1024, .f32⟩
  | .hbm, ⟨29, _⟩ => ⟨S1x1024, .f32⟩
  | .hbm, ⟨30, _⟩ => ⟨S4608x1024, .f32⟩
  | .hbm, ⟨31, _⟩ => ⟨S4608x1024, .f32⟩
  | .hbm, ⟨32, _⟩ => ⟨S4608x1024, .f32⟩
  | .hbm, ⟨33, _⟩ => ⟨S4608x1024, .f32⟩
  | .hbm, ⟨34, _⟩ => ⟨S1x1024, .f32⟩
  | .hbm, ⟨35, _⟩ => ⟨S1x1024, .f32⟩
  | .hbm, ⟨36, _⟩ => ⟨S4608x1024, .f32⟩
  | .hbm, ⟨37, _⟩ => ⟨S2x2x8x1024, .f32⟩
  | .hbm, ⟨38, _⟩ => ⟨S4608x1024, .bf16⟩
  | .hbm, ⟨39, _⟩ => ⟨S2x2x8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1x8x1024, .f32⟩
  | .local _ .vmem, ⟨13, _⟩ => ⟨S1x1x8x1024, .f32⟩
  | .local _ .vmem, ⟨14, _⟩ => ⟨S256x1024, .f32⟩
  | .local _ .vmem, ⟨15, _⟩ => ⟨S256x1024, .f32⟩
  | .local _ .vmem, ⟨16, _⟩ => ⟨S1x1x8x1024, .f32⟩
  | .local _ .vmem, ⟨17, _⟩ => ⟨S1x1x8x1024, .f32⟩
  | .local _ .vmem, ⟨18, _⟩ => ⟨S256x1024, .bf16⟩
  | .local _ .vmem, ⟨19, _⟩ => ⟨S256x1024, .bf16⟩
  | .local _ .vmem, ⟨20, _⟩ => ⟨S1x1x8x1024, .f32⟩
  | .local _ .vmem, ⟨21, _⟩ => ⟨S1x1x8x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c9_i32 : BitVec 32 := 9#32
  let c0_i32 : BitVec 32 := 0#32
  let v49 : BitVec 1 := Scalar.cmpi .eq c9_i32 c0_i32
  let c1_i32 : BitVec 32 := 1#32
  let v50 : BitVec 32 := Scalar.select v49 c1_i32 c9_i32
  let v51 : BitVec 32 := Scalar.remsi arg0 v50
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let c0_i32_22 : BitVec 32 := 0#32
  let v52 : BitVec 1 := Scalar.cmpi .ne v51 c0_i32_22
  let v56 : BitVec 1 := Scalar.andi v55 v52
  let v57 : BitVec 32 := Scalar.addi v51 v50
  let v58 : BitVec 32 := Scalar.select v56 v57 v51
  let c1_i32_25 : BitVec 32 := 1#32
  let v59 : BitVec 1 := Scalar.cmpi .sle v58 c1_i32_25
  let v60 : BitVec 32 := Scalar.extui v59
  let c0_i32_26 : BitVec 32 := 0#32
  let v61 : BitVec 1 := Scalar.cmpi .ne v60 c0_i32_26
  v61

def k0_cond2 (i : grid0.Coords) : BitVec 1 :=
  let arg0 : BitVec 32 := BitVec.ofNat 32 (i 0).val
  let c9_i32 : BitVec 32 := 9#32
  let c0_i32 : BitVec 32 := 0#32
  let v49 : BitVec 1 := Scalar.cmpi .eq c9_i32 c0_i32
  let c1_i32 : BitVec 32 := 1#32
  let v50 : BitVec 32 := Scalar.select v49 c1_i32 c9_i32
  let v51 : BitVec 32 := Scalar.remsi arg0 v50
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let c0_i32_22 : BitVec 32 := 0#32
  let v52 : BitVec 1 := Scalar.cmpi .ne v51 c0_i32_22
  let v56 : BitVec 1 := Scalar.andi v55 v52
  let v57 : BitVec 32 := Scalar.addi v51 v50
  let v58 : BitVec 32 := Scalar.select v56 v57 v51
  let c1_i32_25 : BitVec 32 := 1#32
  let v59 : BitVec 1 := Scalar.cmpi .sle v58 c1_i32_25
  let v_true : BitVec 1 := 1#1
  let v62 : BitVec 1 := Scalar.xori v59 v_true
  let v63 : BitVec 32 := Scalar.extui v62
  let c0_i32_27 : BitVec 32 := 0#32
  let v64 : BitVec 1 := Scalar.cmpi .ne v63 c0_i32_27
  v64

def k0_cond3 (i : grid0.Coords) : BitVec 1 :=
  let arg0 : BitVec 32 := BitVec.ofNat 32 (i 0).val
  let c9_i32_46 : BitVec 32 := 9#32
  let c0_i32_47 : BitVec 32 := 0#32
  let v107 : BitVec 1 := Scalar.cmpi .eq c9_i32_46 c0_i32_47
  let c1_i32_48 : BitVec 32 := 1#32
  let v108 : BitVec 32 := Scalar.select v107 c1_i32_48 c9_i32_46
  let v109 : BitVec 32 := Scalar.remsi arg0 v108
  let c0_i32_50 : BitVec 32 := 0#32
  let v111 : BitVec 1 := Scalar.cmpi .slt v109 c0_i32_50
  let c0_i32_51 : BitVec 32 := 0#32
  let v112 : BitVec 1 := Scalar.cmpi .slt v108 c0_i32_51
  let v113 : BitVec 1 := Scalar.xori v111 v112
  let c0_i32_49 : BitVec 32 := 0#32
  let v110 : BitVec 1 := Scalar.cmpi .ne v109 c0_i32_49
  let v114 : BitVec 1 := Scalar.andi v113 v110
  let v115 : BitVec 32 := Scalar.addi v109 v108
  let v116 : BitVec 32 := Scalar.select v114 v115 v109
  let c1_i32_52 : BitVec 32 := 1#32
  let v117 : BitVec 1 := Scalar.cmpi .sle v116 c1_i32_52
  let v118 : BitVec 32 := Scalar.extui v117
  let c0_i32_53 : BitVec 32 := 0#32
  let v119 : BitVec 1 := Scalar.cmpi .ne v118 c0_i32_53
  v119

def k0_cond4 (i : grid0.Coords) : BitVec 1 :=
  let arg0 : BitVec 32 := BitVec.ofNat 32 (i 0).val
  let c9_i32_46 : BitVec 32 := 9#32
  let c0_i32_47 : BitVec 32 := 0#32
  let v107 : BitVec 1 := Scalar.cmpi .eq c9_i32_46 c0_i32_47
  let c1_i32_48 : BitVec 32 := 1#32
  let v108 : BitVec 32 := Scalar.select v107 c1_i32_48 c9_i32_46
  let v109 : BitVec 32 := Scalar.remsi arg0 v108
  let c0_i32_50 : BitVec 32 := 0#32
  let v111 : BitVec 1 := Scalar.cmpi .slt v109 c0_i32_50
  let c0_i32_51 : BitVec 32 := 0#32
  let v112 : BitVec 1 := Scalar.cmpi .slt v108 c0_i32_51
  let v113 : BitVec 1 := Scalar.xori v111 v112
  let c0_i32_49 : BitVec 32 := 0#32
  let v110 : BitVec 1 := Scalar.cmpi .ne v109 c0_i32_49
  let v114 : BitVec 1 := Scalar.andi v113 v110
  let v115 : BitVec 32 := Scalar.addi v109 v108
  let v116 : BitVec 32 := Scalar.select v114 v115 v109
  let c1_i32_52 : BitVec 32 := 1#32
  let v117 : BitVec 1 := Scalar.cmpi .sle v116 c1_i32_52
  let true_54 : BitVec 1 := 1#1
  let v120 : BitVec 1 := Scalar.xori v117 true_54
  let v121 : BitVec 32 := Scalar.extui v120
  let c0_i32_55 : BitVec 32 := 0#32
  let v122 : BitVec 1 := Scalar.cmpi .ne v121 c0_i32_55
  v122

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4608x1024 : Shape := ⟨2, ![4608, 1024]⟩
abbrev S1024 : Shape := ⟨1, ![1024]⟩
abbrev S2x2x8x1024 : Shape := ⟨4, ![2, 2, 8, 1024]⟩
abbrev S2x2304x1024 : Shape := ⟨3, ![2, 2304, 1024]⟩
abbrev S2x2x1024 : Shape := ⟨3, ![2, 2, 1024]⟩
abbrev S2x2x1x1024 : Shape := ⟨4, ![2, 2, 1, 1024]⟩
abbrev S2x1x1024 : Shape := ⟨3, ![2, 1, 1024]⟩
abbrev S2x256x1024 : Shape := ⟨3, ![2, 256, 1024]⟩
abbrev S2x2048x1024 : Shape := ⟨3, ![2, 2048, 1024]⟩
abbrev S_ : Shape := ⟨0, ![]⟩
abbrev S2x2304 : Shape := ⟨2, ![2, 2304]⟩
abbrev S2x2304x1 : Shape := ⟨3, ![2, 2304, 1]⟩
abbrev S2x1024 : Shape := ⟨2, ![2, 1024]⟩
abbrev S2x2x3x1024 : Shape := ⟨4, ![2, 2, 3, 1024]⟩
abbrev S2x2x2x1024 : Shape := ⟨4, ![2, 2, 2, 1024]⟩

abbrev nBuf : Space → Nat
  | .hbm => 212
  | .vmem => 0
  | .smem => 0
  | _ => 0

abbrev hbmTy0_0 (i : Nat) : BufTy := match i % 128 with
  | 0 => ⟨S4608x1024, .f32⟩
  | 1 => ⟨S4608x1024, .f32⟩
  | 2 => ⟨S1024, .f32⟩
  | 3 => ⟨S2x2x8x1024, .f32⟩
  | 4 => ⟨S1024, .f32⟩
  | 5 => ⟨S2x2x8x1024, .f32⟩
  | 6 => ⟨S4608x1024, .f32⟩
  | 7 => ⟨S4608x1024, .f32⟩
  | 8 => ⟨S2x2304x1024, .f32⟩
  | 9 => ⟨S2x2304x1024, .f32⟩
  | 10 => ⟨S2x2x1024, .f32⟩
  | 11 => ⟨S2x2x1x1024, .f32⟩
  | 12 => ⟨S2x2x1024, .f32⟩
  | 13 => ⟨S2x2x1024, .f32⟩
  | 14 => ⟨S2x2x1x1024, .f32⟩
  | 15 => ⟨S2x2x1024, .f32⟩
  | 16 => ⟨S2x2x1x1024, .f32⟩
  | 17 => ⟨S2x2x1024, .f32⟩
  | 18 => ⟨S2x1x1024, .f32⟩
  | 19 => ⟨S2x256x1024, .f32⟩
  | 20 => ⟨S2x1x1024, .f32⟩
  | 21 => ⟨S2x2048x1024, .f32⟩
  | 22 => ⟨S2x2304x1024, .f32⟩
  | 23 => ⟨S2x1x1024, .f32⟩
  | 24 => ⟨S2x256x1024, .f32⟩
  | 25 => ⟨S2x1x1024, .f32⟩
  | 26 => ⟨S2x2048x1024, .f32⟩
  | 27 => ⟨S2x2304x1024, .f32⟩
  | 28 => ⟨S2x1x1024, .f32⟩
  | 29 => ⟨S2x256x1024, .f32⟩
  | 30 => ⟨S2x1x1024, .f32⟩
  | 31 => ⟨S2x2048x1024, .f32⟩
  | 32 => ⟨S2x2304x1024, .f32⟩
  | 33 => ⟨S2x1x1024, .f32⟩
  | 34 => ⟨S2x256x1024, .f32⟩
  | 35 => ⟨S2x1x1024, .f32⟩
  | 36 => ⟨S2x2048x1024, .f32⟩
  | 37 => ⟨S2x2304x1024, .f32⟩
  | 38 => ⟨S2x1x1024, .f32⟩
  | 39 => ⟨S2x256x1024, .f32⟩
  | 40 => ⟨S2x1x1024, .f32⟩
  | 41 => ⟨S2x2048x1024, .f32⟩
  | 42 => ⟨S2x2304x1024, .f32⟩
  | 43 => ⟨S2x2304x1024, .f32⟩
  | 44 => ⟨S_, .f32⟩
  | 45 => ⟨S2x2304, .f32⟩
  | 46 => ⟨S2x2304x1, .f32⟩
  | 47 => ⟨S_, .f32⟩
  | 48 => ⟨S2x2304x1, .f32⟩
  | 49 => ⟨S2x2304x1, .f32⟩
  | 50 => ⟨S_, .f32⟩
  | 51 => ⟨S2x2304x1, .f32⟩
  | 52 => ⟨S2x2304x1, .f32⟩
  | 53 => ⟨S2x2304x1, .f32⟩
  | 54 => ⟨S2x2304x1, .f32⟩
  | 55 => ⟨S_, .f32⟩
  | 56 => ⟨S2x2304x1, .f32⟩
  | 57 => ⟨S2x2304x1, .f32⟩
  | 58 => ⟨S2x2304x1024, .f32⟩
  | 59 => ⟨S2x2304x1024, .f32⟩
  | 60 => ⟨S2x2304x1024, .f32⟩
  | 61 => ⟨S2x2304x1024, .f32⟩
  | 62 => ⟨S2x2304x1024, .f32⟩
  | 63 => ⟨S2x2304x1024, .f32⟩
  | 64 => ⟨S_, .f32⟩
  | 65 => ⟨S2x2304, .f32⟩
  | 66 => ⟨S2x2304x1, .f32⟩
  | 67 => ⟨S_, .f32⟩
  | 68 => ⟨S2x2304x1, .f32⟩
  | 69 => ⟨S2x2304x1, .f32⟩
  | 70 => ⟨S_, .f32⟩
  | 71 => ⟨S2x2304x1, .f32⟩
  | 72 => ⟨S2x2304x1, .f32⟩
  | 73 => ⟨S2x2304x1, .f32⟩
  | 74 => ⟨S2x2304x1, .f32⟩
  | 75 => ⟨S_, .f32⟩
  | 76 => ⟨S2x2304x1, .f32⟩
  | 77 => ⟨S2x2304x1, .f32⟩
  | 78 => ⟨S2x2304x1024, .f32⟩
  | 79 => ⟨S2x2304x1024, .f32⟩
  | 80 => ⟨S2x2304x1024, .f32⟩
  | 81 => ⟨S_, .f32⟩
  | 82 => ⟨S2x2304x1024, .f32⟩
  | 83 => ⟨S2x2304x1024, .f32⟩
  | 84 => ⟨S2x2304x1024, .f32⟩
  | 85 => ⟨S2x2304x1024, .f32⟩
  | 86 => ⟨S2x2304x1024, .f32⟩
  | 87 => ⟨S2x2304x1024, .f32⟩
  | 88 => ⟨S2x2304x1024, .f32⟩
  | 89 => ⟨S2x2304x1024, .f32⟩
  | 90 => ⟨S2x2304x1024, .f32⟩
  | 91 => ⟨S2x2304x1024, .f32⟩
  | 92 => ⟨S2x2304x1024, .f32⟩
  | 93 => ⟨S_, .f32⟩
  | 94 => ⟨S2x2304, .f32⟩
  | 95 => ⟨S2x2304x1, .f32⟩
  | 96 => ⟨S2x2304x1024, .f32⟩
  | 97 => ⟨S2x2304x1024, .f32⟩
  | 98 => ⟨S2x2304x1024, .f32⟩
  | 99 => ⟨S2x2304x1, .f32⟩
  | 100 => ⟨S_, .f32⟩
  | 101 => ⟨S2x2304x1, .f32⟩
  | 102 => ⟨S2x2304x1, .f32⟩
  | 103 => ⟨S_, .f32⟩
  | 104 => ⟨S2x2304, .f32⟩
  | 105 => ⟨S2x2304x1024, .f32⟩
  | 106 => ⟨S2x2304x1024, .f32⟩
  | 107 => ⟨S2x2304x1024, .f32⟩
  | 108 => ⟨S2x2304x1024, .f32⟩
  | 109 => ⟨S2x2304x1024, .f32⟩
  | 110 => ⟨S2x2304x1024, .f32⟩
  | 111 => ⟨S2x2304x1024, .f32⟩
  | 112 => ⟨S2x2304x1024, .f32⟩
  | 113 => ⟨S2x2304x1024, .f32⟩
  | 114 => ⟨S2x2304x1024, .f32⟩
  | 115 => ⟨S_, .f32⟩
  | 116 => ⟨S2x2304, .f32⟩
  | 117 => ⟨S2x2304x1, .f32⟩
  | 118 => ⟨S2x2304x1024, .f32⟩
  | 119 => ⟨S2x2304x1024, .f32⟩
  | 120 => ⟨S2x2304x1, .f32⟩
  | 121 => ⟨S_, .f32⟩
  | 122 => ⟨S2x2304x1, .f32⟩
  | 123 => ⟨S2x2304x1, .f32⟩
  | 124 => ⟨S_, .f32⟩
  | 125 => ⟨S2x2304, .f32⟩
  | 126 => ⟨S2x2304x1024, .f32⟩
  | 127 => ⟨S2x2304x1024, .f32⟩
  | _ => ⟨S4608x1024, .f32⟩

abbrev hbmTy0_1 (i : Nat) : BufTy := match i % 128 with
  | 0 => ⟨S2x2304x1024, .f32⟩
  | 1 => ⟨S2x2304x1024, .f32⟩
  | 2 => ⟨S2x2304x1024, .f32⟩
  | 3 => ⟨S2x256x1024, .f32⟩
  | 4 => ⟨S2x2048x1024, .f32⟩
  | 5 => ⟨S_, .f32⟩
  | 6 => ⟨S2x1024, .f32⟩
  | 7 => ⟨S2x1x1024, .f32⟩
  | 8 => ⟨S_, .f32⟩
  | 9 => ⟨S2x2x1024, .f32⟩
  | 10 => ⟨S_, .f32⟩
  | 11 => ⟨S2x1024, .f32⟩
  | 12 => ⟨S2x1x1024, .f32⟩
  | 13 => ⟨S_, .f32⟩
  | 14 => ⟨S2x2x1024, .f32⟩
  | 15 => ⟨S2x2x1024, .f32⟩
  | 16 => ⟨S2x256x1024, .f32⟩
  | 17 => ⟨S2x2048x1024, .f32⟩
  | 18 => ⟨S_, .f32⟩
  | 19 => ⟨S2x1024, .f32⟩
  | 20 => ⟨S2x1x1024, .f32⟩
  | 21 => ⟨S_, .f32⟩
  | 22 => ⟨S2x2x1024, .f32⟩
  | 23 => ⟨S_, .f32⟩
  | 24 => ⟨S2x1024, .f32⟩
  | 25 => ⟨S2x1x1024, .f32⟩
  | 26 => ⟨S_, .f32⟩
  | 27 => ⟨S2x2x1024, .f32⟩
  | 28 => ⟨S2x2x1024, .f32⟩
  | 29 => ⟨S2x256x1024, .f32⟩
  | 30 => ⟨S2x2048x1024, .f32⟩
  | 31 => ⟨S_, .f32⟩
  | 32 => ⟨S2x1024, .f32⟩
  | 33 => ⟨S2x1x1024, .f32⟩
  | 34 => ⟨S_, .f32⟩
  | 35 => ⟨S2x2x1024, .f32⟩
  | 36 => ⟨S_, .f32⟩
  | 37 => ⟨S2x1024, .f32⟩
  | 38 => ⟨S2x1x1024, .f32⟩
  | 39 => ⟨S_, .f32⟩
  | 40 => ⟨S2x2x1024, .f32⟩
  | 41 => ⟨S2x2x1024, .f32⟩
  | 42 => ⟨S2x256x1024, .f32⟩
  | 43 => ⟨S2x2048x1024, .f32⟩
  | 44 => ⟨S_, .f32⟩
  | 45 => ⟨S2x1024, .f32⟩
  | 46 => ⟨S2x1x1024, .f32⟩
  | 47 => ⟨S_, .f32⟩
  | 48 => ⟨S2x2x1024, .f32⟩
  | 49 => ⟨S_, .f32⟩
  | 50 => ⟨S2x1024, .f32⟩
  | 51 => ⟨S2x1x1024, .f32⟩
  | 52 => ⟨S_, .f32⟩
  | 53 => ⟨S2x2x1024, .f32⟩
  | 54 => ⟨S2x2x1024, .f32⟩
  | 55 => ⟨S2x256x1024, .f32⟩
  | 56 => ⟨S2x2048x1024, .f32⟩
  | 57 => ⟨S_, .f32⟩
  | 58 => ⟨S2x1024, .f32⟩
  | 59 => ⟨S2x1x1024, .f32⟩
  | 60 => ⟨S_, .f32⟩
  | 61 => ⟨S2x2x1024, .f32⟩
  | 62 => ⟨S_, .f32⟩
  | 63 => ⟨S2x1024, .f32⟩
  | 64 => ⟨S2x1x1024, .f32⟩
  | 65 => ⟨S_, .f32⟩
  | 66 => ⟨S2x2x1024, .f32⟩
  | 67 => ⟨S2x2x1024, .f32⟩
  | 68 => ⟨S4608x1024, .f32⟩
  | 69 => ⟨S4608x1024, .f32⟩
  | 70 => ⟨S4608x1024, .bf16⟩
  | 71 => ⟨S2x2x1x1024, .f32⟩
  | 72 => ⟨S2x2x1x1024, .f32⟩
  | 73 => ⟨S2x2x1x1024, .f32⟩
  | 74 => ⟨S2x2x3x1024, .f32⟩
  | 75 => ⟨S_, .i32⟩
  | 76 => ⟨S_, .f32⟩
  | 77 => ⟨S2x2x8x1024, .f32⟩
  | 78 => ⟨S2x2x1x1024, .f32⟩
  | 79 => ⟨S2x2x1x1024, .f32⟩
  | 80 => ⟨S2x2x2x1024, .f32⟩
  | 81 => ⟨S_, .i32⟩
  | 82 => ⟨S_, .f32⟩
  | 83 => ⟨S2x2x8x1024, .f32⟩
  | _ => ⟨S4608x1024, .f32⟩

abbrev hbmTy (i : Nat) : BufTy := match i / 128 with
  | 0 => hbmTy0_0 i
  | 1 => hbmTy0_1 i
  | _ => ⟨S4608x1024, .f32⟩

abbrev bufTy : (tb : Table) → Fin (tcTables nBuf tb) → BufTy
  | .hbm, ⟨i, _⟩ => hbmTy i
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_12 : Ref sig .tc := ⟨.hbm, 121, rfl⟩
abbrev main_v100 : Ref sig .tc := ⟨.hbm, 122, rfl⟩
abbrev main_v101 : Ref sig .tc := ⟨.hbm, 123, rfl⟩
abbrev main_cst_13 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_cst_15 : Ref sig .tc := ⟨.hbm, 136, rfl⟩
abbrev main_v112 : Ref sig .tc := ⟨.hbm, 137, rfl⟩
abbrev main_cst_16 : Ref sig .tc := ⟨.hbm, 138, rfl⟩
abbrev main_v113 : Ref sig .tc := ⟨.hbm, 139, rfl⟩
abbrev main_v114 : Ref sig .tc := ⟨.hbm, 140, rfl⟩
abbrev main_cst_17 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_18 : Ref sig .tc := ⟨.hbm, 146, rfl⟩
abbrev main_v119 : Ref sig .tc := ⟨.hbm, 147, rfl⟩
abbrev main_v120 : Ref sig .tc := ⟨.hbm, 148, rfl⟩
abbrev main_cst_19 : Ref sig .tc := ⟨.hbm, 149, rfl⟩
abbrev main_v121 : Ref sig .tc := ⟨.hbm, 150, rfl⟩
abbrev main_cst_20 : Ref sig .tc := ⟨.hbm, 151, rfl⟩
abbrev main_v122 : Ref sig .tc := ⟨.hbm, 152, rfl⟩
abbrev main_v123 : Ref sig .tc := ⟨.hbm, 153, rfl⟩
abbrev main_cst_21 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_22 : Ref sig .tc := ⟨.hbm, 159, rfl⟩
abbrev main_v128 : Ref sig .tc := ⟨.hbm, 160, rfl⟩
abbrev main_v129 : Ref sig .tc := ⟨.hbm, 161, rfl⟩
abbrev main_cst_23 : Ref sig .tc := ⟨.hbm, 162, rfl⟩
abbrev main_v130 : Ref sig .tc := ⟨.hbm, 163, rfl⟩
abbrev main_cst_24 : Ref sig .tc := ⟨.hbm, 164, rfl⟩
abbrev main_v131 : Ref sig .tc := ⟨.hbm, 165, rfl⟩
abbrev main_v132 : Ref sig .tc := ⟨.hbm, 166, rfl⟩
abbrev main_cst_25 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_26 : Ref sig .tc := ⟨.hbm, 172, rfl⟩
abbrev main_v137 : Ref sig .tc := ⟨.hbm, 173, rfl⟩
abbrev main_v138 : Ref sig .tc := ⟨.hbm, 174, rfl⟩
abbrev main_cst_27 : Ref sig .tc := ⟨.hbm, 175, rfl⟩
abbrev main_v139 : Ref sig .tc := ⟨.hbm, 176, rfl⟩
abbrev main_cst_28 : Ref sig .tc := ⟨.hbm, 177, rfl⟩
abbrev main_v140 : Ref sig .tc := ⟨.hbm, 178, rfl⟩
abbrev main_v141 : Ref sig .tc := ⟨.hbm, 179, rfl⟩
abbrev main_cst_29 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_30 : Ref sig .tc := ⟨.hbm, 185, rfl⟩
abbrev main_v146 : Ref sig .tc := ⟨.hbm, 186, rfl⟩
abbrev main_v147 : Ref sig .tc := ⟨.hbm, 187, rfl⟩
abbrev main_cst_31 : Ref sig .tc := ⟨.hbm, 188, rfl⟩
abbrev main_v148 : Ref sig .tc := ⟨.hbm, 189, rfl⟩
abbrev main_cst_32 : Ref sig .tc := ⟨.hbm, 190, rfl⟩
abbrev main_v149 : Ref sig .tc := ⟨.hbm, 191, rfl⟩
abbrev main_v150 : Ref sig .tc := ⟨.hbm, 192, rfl⟩
abbrev main_cst_33 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_c : Ref sig .tc := ⟨.hbm, 203, rfl⟩
abbrev main_call0_v0 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_c_34 : Ref sig .tc := ⟨.hbm, 209, rfl⟩
abbrev main_call1_v0 : Ref sig .tc := ⟨.hbm, 210, rfl⟩
abbrev main_v164 : Ref sig .tc := ⟨.hbm, 211, rfl⟩

abbrev nD : Nat := 1
abbrev τ : Topo := Topo.v7x

variable {F : FTy → Type} [FloatOps F]
-- ==== Kernel3.lean ====
abbrev S4608x1024 : Shape := ⟨2, ![4608, 1024]⟩
abbrev S1024x1536 : Shape := ⟨2, ![1024, 1536]⟩
abbrev S4608x1536 : Shape := ⟨2, ![4608, 1536]⟩
abbrev S1024x1024 : Shape := ⟨2, ![1024, 1024]⟩
abbrev S1024x4608 : Shape := ⟨2, ![1024, 4608]⟩
abbrev S2304x1024 : Shape := ⟨2, ![2304, 1024]⟩
abbrev S1024x512 : Shape := ⟨2, ![1024, 512]⟩
abbrev S2304x512 : Shape := ⟨2, ![2304, 512]⟩
abbrev S512x1024 : Shape := ⟨2, ![512, 1024]⟩
abbrev S4608x512 : Shape := ⟨2, ![4608, 512]⟩
abbrev S2304x1536 : Shape := ⟨2, ![2304, 1536]⟩
abbrev S512x1536 : Shape := ⟨2, ![512, 1536]⟩

abbrev nBuf : Space → Nat
  | .hbm => 20
  | .vmem => 34
  | .smem => 0
  | _ => 0

abbrev bufTy : (tb : Table) → Fin (tcTables nBuf tb) → BufTy
  | .hbm, ⟨0, _⟩ => ⟨S4608x1024, .f32⟩
  | .hbm, ⟨1, _⟩ => ⟨S1024x1536, .f32⟩
  | .hbm, ⟨2, _⟩ => ⟨S4608x1536, .f32⟩
  | .hbm, ⟨3, _⟩ => ⟨S4608x1024, .f32⟩
  | .hbm, ⟨4, _⟩ => ⟨S1024x1024, .f32⟩
  | .hbm, ⟨5, _⟩ => ⟨S4608x1024, .f32⟩
  | .hbm, ⟨6, _⟩ => ⟨S1024x1536, .bf16⟩
  | .hbm, ⟨7, _⟩ => ⟨S1024x1024, .bf16⟩
  | .hbm, ⟨8, _⟩ => ⟨S4608x1024, .bf16⟩
  | .hbm, ⟨9, _⟩ => ⟨S1024x4608, .bf16⟩
  | .hbm, ⟨10, _⟩ => ⟨S4608x1024, .bf16⟩
  | .hbm, ⟨11, _⟩ => ⟨S1024x4608, .bf16⟩
  | .hbm, ⟨12, _⟩ => ⟨S4608x1536, .bf16⟩
  | .hbm, ⟨13, _⟩ => ⟨S4608x1024, .bf16⟩
  | .hbm, ⟨14, _⟩ => ⟨S4608x1536, .f32⟩
  | .hbm, ⟨15, _⟩ => ⟨S4608x1024, .f32⟩
  | .hbm, ⟨16, _⟩ => ⟨S4608x1024, .bf16⟩
  | .hbm, ⟨17, _⟩ => ⟨S1024x1024, .bf16⟩
  | .hbm, ⟨18, _⟩ => ⟨S1024x1536, .bf16⟩
  | .hbm, ⟨19, _⟩ => ⟨S4608x1024, .f32⟩
  | .local _ .vmem, ⟨0, _⟩ => ⟨S2304x1024, .bf16⟩
  | .local _ .vmem, ⟨1, _⟩ => ⟨S2304x1024, .bf16⟩
  | .local _ .vmem, ⟨2, _⟩ => ⟨S1024x512, .bf16⟩
  | .local _ .vmem, ⟨3, _⟩ => ⟨S1024x512, .bf16⟩
  | .local _ .vmem, ⟨4, _⟩ => ⟨S2304x512, .f32⟩
  | .local _ .vmem, ⟨5, _⟩ => ⟨S2304x512, .f32⟩
  | .local _ .vmem, ⟨6, _⟩ => ⟨S2304x1024, .bf16⟩
  | .local _ .vmem, ⟨7, _⟩ => ⟨S2304x1024, .bf16⟩
  | .local _ .vmem, ⟨8, _⟩ => ⟨S1024x512, .bf16⟩
  | .local _ .vmem, ⟨9, _⟩ => ⟨S1024x512, .bf16⟩
  | .local _ .vmem, ⟨10, _⟩ => ⟨S2304x512, .f32⟩
  | .local _ .vmem, ⟨11, _⟩ => ⟨S2304x512, .f32⟩
  | .local _ .vmem, ⟨12, _⟩ => ⟨S2304x1024, .bf16⟩
  | .local _ .vmem, ⟨13, _⟩ => ⟨S2304x1024, .bf16⟩
  | .local _ .vmem, ⟨14, _⟩ => ⟨S512x1024, .bf16⟩
  | .local _ .vmem, ⟨15, _⟩ => ⟨S512x1024, .bf16⟩
  | .local _ .vmem, ⟨16, _⟩ => ⟨S2304x512, .bf16⟩
  | .local _ .vmem, ⟨17, _⟩ => ⟨S2304x512, .bf16⟩
  | .local _ .vmem, ⟨18, _⟩ => ⟨S1024x4608, .bf16⟩
  | .local _ .vmem, ⟨19, _⟩ => ⟨S4608x512, .bf16⟩
  | .local _ .vmem, ⟨20, _⟩ => ⟨S4608x512, .bf16⟩
  | .local _ .vmem, ⟨21, _⟩ => ⟨S1024x512, .bf16⟩
  | .local _ .vmem, ⟨22, _⟩ => ⟨S1024x512, .bf16⟩
  | .local _ .vmem, ⟨23, _⟩ => ⟨S1024x4608, .bf16⟩
  | .local _ .vmem, ⟨24, _⟩ => ⟨S4608x512, .bf16⟩
  | .local _ .vmem, ⟨25, _⟩ => ⟨S4608x512, .bf16⟩
  | .local _ .vmem, ⟨26, _⟩ => ⟨S1024x512, .bf16⟩
  | .local _ .vmem, ⟨27, _⟩ => ⟨S1024x512, .bf16⟩
  | .local _ .vmem, ⟨28, _⟩ => ⟨S2304x1536, .bf16⟩
  | .local _ .vmem, ⟨29, _⟩ => ⟨S2304x1536, .bf16⟩
  | .local _ .vmem, ⟨30, _⟩ => ⟨S512x1536, .bf16⟩
  | .local _ .vmem, ⟨31, _⟩ => ⟨S512x1536, .bf16⟩
  | .local _ .vmem, ⟨32, _⟩ => ⟨S2304x512, .f32⟩
  | .local _ .vmem, ⟨33, _⟩ => ⟨S2304x512, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2304x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2304x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2304x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2304x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S1024x4608 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4608x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 3, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S1024x4608 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4608x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2304x1536 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x1536 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2304x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference3Ideal.lean ====
abbrev S4608x1024 : Shape := ⟨2, ![4608, 1024]⟩
abbrev S1024x1536 : Shape := ⟨2, ![1024, 1536]⟩
abbrev S4608x1536 : Shape := ⟨2, ![4608, 1536]⟩
abbrev S1024x1024 : Shape := ⟨2, ![1024, 1024]⟩
abbrev S1536x1024 : Shape := ⟨2, ![1536, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x1536, .f32⟩
  | .hbm, ⟨2, _⟩ => ⟨S4608x1536, .f32⟩
  | .hbm, ⟨3, _⟩ => ⟨S4608x1024, .f32⟩
  | .hbm, ⟨4, _⟩ => ⟨S1024x1024, .f32⟩
  | .hbm, ⟨5, _⟩ => ⟨S4608x1024, .f32⟩
  | .hbm, ⟨6, _⟩ => ⟨S4608x1536, .f32⟩
  | .hbm, ⟨7, _⟩ => ⟨S4608x1024, .f32⟩
  | .hbm, ⟨8, _⟩ => ⟨S1536x1024, .f32⟩
  | .hbm, ⟨9, _⟩ => ⟨S1024x1536, .f32⟩
  | .hbm, ⟨10, _⟩ => ⟨S4608x1024, .f32⟩
  | .hbm, ⟨11, _⟩ => ⟨S1024x1024, .f32⟩
  | .hbm, ⟨12, _⟩ => ⟨S1024x1024, .f32⟩
  | .hbm, ⟨13, _⟩ => ⟨S4608x1024, .f32⟩
  | .hbm, ⟨14, _⟩ => ⟨S4608x1024, .bf16⟩
  | .hbm, ⟨15, _⟩ => ⟨S1024x1024, .bf16⟩
  | .hbm, ⟨16, _⟩ => ⟨S1024x1536, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S4608x1024 : Shape := ⟨2, ![4608, 1024]⟩
abbrev S1024 : Shape := ⟨1, ![1024]⟩
abbrev S2x2x8x1024 : Shape := ⟨4, ![2, 2, 8, 1024]⟩
abbrev S1x1024 : Shape := ⟨2, ![1, 1024]⟩
abbrev S1024x4608 : Shape := ⟨2, ![1024, 4608]⟩
abbrev S256x1024 : Shape := ⟨2, ![256, 1024]⟩
abbrev S1x1x8x1024 : Shape := ⟨4, ![1, 1, 8, 1024]⟩
abbrev S1024x256 : Shape := ⟨2, ![1024, 256]⟩
abbrev S256 : Shape := ⟨1, ![256]⟩
abbrev S256x1 : Shape := ⟨2, ![256, 1]⟩
abbrev S8x1024 : Shape := ⟨2, ![8, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S1024, .f32⟩
  | .hbm, ⟨3, _⟩ => ⟨S2x2x8x1024, .f32⟩
  | .hbm, ⟨4, _⟩ => ⟨S1024, .f32⟩
  | .hbm, ⟨5, _⟩ => ⟨S2x2x8x1024, .f32⟩
  | .hbm, ⟨6, _⟩ => ⟨S1x1024, .f32⟩
  | .hbm, ⟨7, _⟩ => ⟨S1x1024, .f32⟩
  | .hbm, ⟨8, _⟩ => ⟨S4608x1024, .f32⟩
  | .hbm, ⟨9, _⟩ => ⟨S4608x1024, .bf16⟩
  | .hbm, ⟨10, _⟩ => ⟨S1024x4608, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1x8x1024, .f32⟩
  | .local _ .vmem, ⟨6, _⟩ => ⟨S1x1x8x1024, .f32⟩
  | .local _ .vmem, ⟨7, _⟩ => ⟨S1x1024, .f32⟩
  | .local _ .vmem, ⟨8, _⟩ => ⟨S1x1x8x1024, .f32⟩
  | .local _ .vmem, ⟨9, _⟩ => ⟨S1x1x8x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1024x256, .bf16⟩
  | .local _ .vmem, ⟨15, _⟩ => ⟨S1024x256, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4608x1024 : Shape := ⟨2, ![4608, 1024]⟩
abbrev S1024 : Shape := ⟨1, ![1024]⟩
abbrev S2x2x8x1024 : Shape := ⟨4, ![2, 2, 8, 1024]⟩
abbrev S2x2304x1024 : Shape := ⟨3, ![2, 2304, 1024]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x2048x1024 : Shape := ⟨3, ![2, 2048, 1024]⟩
abbrev S_ : Shape := ⟨0, ![]⟩
abbrev S2x2304 : Shape := ⟨2, ![2, 2304]⟩
abbrev S2x2304x1 : Shape := ⟨3, ![2, 2304, 1]⟩
abbrev S1x1x1024 : Shape := ⟨3, ![1, 1, 1024]⟩
abbrev S1024x4608 : Shape := ⟨2, ![1024, 4608]⟩

abbrev nBuf : Space → Nat
  | .hbm => 72
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S1024, .f32⟩
  | .hbm, ⟨3, _⟩ => ⟨S2x2x8x1024, .f32⟩
  | .hbm, ⟨4, _⟩ => ⟨S1024, .f32⟩
  | .hbm, ⟨5, _⟩ => ⟨S2x2x8x1024, .f32⟩
  | .hbm, ⟨6, _⟩ => ⟨S2x2304x1024, .f32⟩
  | .hbm, ⟨7, _⟩ => ⟨S2x2304x1024, .f32⟩
  | .hbm, ⟨8, _⟩ => ⟨S2x2x1x1024, .f32⟩
  | .hbm, ⟨9, _⟩ => ⟨S2x2x1024, .f32⟩
  | .hbm, ⟨10, _⟩ => ⟨S2x1x1024, .f32⟩
  | .hbm, ⟨11, _⟩ => ⟨S2x256x1024, .f32⟩
  | .hbm, ⟨12, _⟩ => ⟨S2x1x1024, .f32⟩
  | .hbm, ⟨13, _⟩ => ⟨S2x2048x1024, .f32⟩
  | .hbm, ⟨14, _⟩ => ⟨S2x2304x1024, .f32⟩
  | .hbm, ⟨15, _⟩ => ⟨S2x2x1x1024, .f32⟩
  | .hbm, ⟨16, _⟩ => ⟨S2x2x1024, .f32⟩
  | .hbm, ⟨17, _⟩ => ⟨S2x1x1024, .f32⟩
  | .hbm, ⟨18, _⟩ => ⟨S2x256x1024, .f32⟩
  | .hbm, ⟨19, _⟩ => ⟨S2x1x1024, .f32⟩
  | .hbm, ⟨20, _⟩ => ⟨S2x2048x1024, .f32⟩
  | .hbm, ⟨21, _⟩ => ⟨S2x2304x1024, .f32⟩
  | .hbm, ⟨22, _⟩ => ⟨S2x2x1x1024, .f32⟩
  | .hbm, ⟨23, _⟩ => ⟨S2x2x1024, .f32⟩
  | .hbm, ⟨24, _⟩ => ⟨S2x1x1024, .f32⟩
  | .hbm, ⟨25, _⟩ => ⟨S2x256x1024, .f32⟩
  | .hbm, ⟨26, _⟩ => ⟨S2x1x1024, .f32⟩
  | .hbm, ⟨27, _⟩ => ⟨S2x2048x1024, .f32⟩
  | .hbm, ⟨28, _⟩ => ⟨S2x2304x1024, .f32⟩
  | .hbm, ⟨29, _⟩ => ⟨S2x2304x1024, .f32⟩
  | .hbm, ⟨30, _⟩ => ⟨S_, .f32⟩
  | .hbm, ⟨31, _⟩ => ⟨S2x2304, .f32⟩
  | .hbm, ⟨32, _⟩ => ⟨S2x2304x1, .f32⟩
  | .hbm, ⟨33, _⟩ => ⟨S_, .f32⟩
  | .hbm, ⟨34, _⟩ => ⟨S2x2304x1, .f32⟩
  | .hbm, ⟨35, _⟩ => ⟨S2x2304x1, .f32⟩
  | .hbm, ⟨36, _⟩ => ⟨S_, .f32⟩
  | .hbm, ⟨37, _⟩ => ⟨S2x2304x1, .f32⟩
  | .hbm, ⟨38, _⟩ => ⟨S2x2304x1, .f32⟩
  | .hbm, ⟨39, _⟩ => ⟨S2x2304x1, .f32⟩
  | .hbm, ⟨40, _⟩ => ⟨S2x2304x1024, .f32⟩
  | .hbm, ⟨41, _⟩ => ⟨S2x2304x1024, .f32⟩
  | .hbm, ⟨42, _⟩ => ⟨S1x1x1024, .f32⟩
  | .hbm, ⟨43, _⟩ => ⟨S2x2304x1024, .f32⟩
  | .hbm, ⟨44, _⟩ => ⟨S2x2304x1024, .f32⟩
  | .hbm, ⟨45, _⟩ => ⟨S2x2304x1024, .f32⟩
  | .hbm, ⟨46, _⟩ => ⟨S2x2304x1024, .f32⟩
  | .hbm, ⟨47, _⟩ => ⟨S2x2304x1024, .f32⟩
  | .hbm, ⟨48, _⟩ => ⟨S_, .f32⟩
  | .hbm, ⟨49, _⟩ => ⟨S2x2304, .f32⟩
  | .hbm, ⟨50, _⟩ => ⟨S2x2304x1, .f32⟩
  | .hbm, ⟨51, _⟩ => ⟨S_, .f32⟩
  | .hbm, ⟨52, _⟩ => ⟨S2x2304x1, .f32⟩
  | .hbm, ⟨53, _⟩ => ⟨S2x2304x1, .f32⟩
  | .hbm, ⟨54, _⟩ => ⟨S_, .f32⟩
  | .hbm, ⟨55, _⟩ => ⟨S2x2304x1, .f32⟩
  | .hbm, ⟨56, _⟩ => ⟨S2x2304x1, .f32⟩
  | .hbm, ⟨57, _⟩ => ⟨S2x2304x1, .f32⟩
  | .hbm, ⟨58, _⟩ => ⟨S2x2304x1024, .f32⟩
  | .hbm, ⟨59, _⟩ => ⟨S2x2304x1024, .f32⟩
  | .hbm, ⟨60, _⟩ => ⟨S1x1x1024, .f32⟩
  | .hbm, ⟨61, _⟩ => ⟨S2x2304x1024, .f32⟩
  | .hbm, ⟨62, _⟩ => ⟨S2x2304x1024, .f32⟩
  | .hbm, ⟨63, _⟩ => ⟨S_, .f32⟩
  | .hbm, ⟨64, _⟩ => ⟨S2x2304x1024, .f32⟩
  | .hbm, ⟨65, _⟩ => ⟨S2x2304x1024, .f32⟩
  | .hbm, ⟨66, _⟩ => ⟨S2x2304x1024, .f32⟩
  | .hbm, ⟨67, _⟩ => ⟨S2x2304x1024, .f32⟩
  | .hbm, ⟨68, _⟩ => ⟨S4608x1024, .f32⟩
  | .hbm, ⟨69, _⟩ => ⟨S4608x1024, .bf16⟩
  | .hbm, ⟨70, _⟩ => ⟨S4608x1024, .f32⟩
  | .hbm, ⟨71, _⟩ => ⟨S1024x4608, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel5.lean ====
abbrev S2x1024x512 : Shape := ⟨3, ![2, 1024, 512]⟩
abbrev S8x1024x512 : Shape := ⟨3, ![8, 1024, 512]⟩
abbrev S2x1024x768 : Shape := ⟨3, ![2, 1024, 768]⟩
abbrev S1x256x512 : Shape := ⟨3, ![1, 256, 512]⟩
abbrev S8x256x512 : Shape := ⟨3, ![8, 256, 512]⟩
abbrev S256x512 : Shape := ⟨2, ![256, 512]⟩
abbrev S1x256x768 : Shape := ⟨3, ![1, 256, 768]⟩
abbrev S256x768 : Shape := ⟨2, ![256, 768]⟩

abbrev nBuf : Space → Nat
  | .hbm => 17
  | .vmem => 34
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S8x1024x512, .bf16⟩
  | .hbm, ⟨4, _⟩ => ⟨S8x1024x512, .bf16⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x768, .f32⟩
  | .hbm, ⟨14, _⟩ => ⟨S2x1024x768, .f32⟩
  | .hbm, ⟨15, _⟩ => ⟨S2x1024x768, .f32⟩
  | .hbm, ⟨16, _⟩ => ⟨S2x1024x768, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | .local _ .vmem, ⟨22, _⟩ => ⟨S1x256x768, .f32⟩
  | .local _ .vmem, ⟨23, _⟩ => ⟨S1x256x768, .f32⟩
  | .local _ .vmem, ⟨24, _⟩ => ⟨S1x256x768, .f32⟩
  | .local _ .vmem, ⟨25, _⟩ => ⟨S1x256x768, .f32⟩
  | .local _ .vmem, ⟨26, _⟩ => ⟨S1x256x768, .f32⟩
  | .local _ .vmem, ⟨27, _⟩ => ⟨S1x256x768, .f32⟩
  | .local _ .vmem, ⟨28, _⟩ => ⟨S1x256x768, .f32⟩
  | .local _ .vmem, ⟨29, _⟩ => ⟨S1x256x768, .f32⟩
  | .local _ .vmem, ⟨30, _⟩ => ⟨S1x256x768, .f32⟩
  | .local _ .vmem, ⟨31, _⟩ => ⟨S1x256x768, .f32⟩
  | .local _ .vmem, ⟨32, _⟩ => ⟨S1x256x768, .f32⟩
  | .local _ .vmem, ⟨33, _⟩ => ⟨S1x256x768, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Reference5Ideal.lean ====
abbrev S2x1024x512 : Shape := ⟨3, ![2, 1024, 512]⟩
abbrev S8x1024x512 : Shape := ⟨3, ![8, 1024, 512]⟩
abbrev S2x1024x768 : Shape := ⟨3, ![2, 1024, 768]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 84
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S8x1024x512, .bf16⟩
  | .hbm, ⟨4, _⟩ => ⟨S8x1024x512, .bf16⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S8x1024x512, .f32⟩
  | .hbm, ⟨10, _⟩ => ⟨S_, .f32⟩
  | .hbm, ⟨11, _⟩ => ⟨S1024x512, .f32⟩
  | .hbm, ⟨12, _⟩ => ⟨S8x1024x512, .f32⟩
  | .hbm, ⟨13, _⟩ => ⟨S_, .f32⟩
  | .hbm, ⟨14, _⟩ => ⟨S1024x512, .f32⟩
  | .hbm, ⟨15, _⟩ => ⟨S1x1024x512, .f32⟩
  | .hbm, ⟨16, _⟩ => ⟨S1x1024x512, .f32⟩
  | .hbm, ⟨17, _⟩ => ⟨S2x1024x512, .f32⟩
  | .hbm, ⟨18, _⟩ => ⟨S_, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S2x1024x512, .f32⟩
  | .hbm, ⟨33, _⟩ => ⟨S_, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | .hbm, ⟨47, _⟩ => ⟨S2x1024x512, .f32⟩
  | .hbm, ⟨48, _⟩ => ⟨S_, .f32⟩
  | .hbm, ⟨49, _⟩ => ⟨S2x1024x512, .f32⟩
  | .hbm, ⟨50, _⟩ => ⟨S2x1024x512, .f32⟩
  | .hbm, ⟨51, _⟩ => ⟨S_, .f32⟩
  | .hbm, ⟨52, _⟩ => ⟨S2x1024x768, .f32⟩
  | .hbm, ⟨53, _⟩ => ⟨S2x1024x768, .f32⟩
  | .hbm, ⟨54, _⟩ => ⟨S_, .f32⟩
  | .hbm, ⟨55, _⟩ => ⟨S2x1024x768, .f32⟩
  | .hbm, ⟨56, _⟩ => ⟨S2x1024x768, .f32⟩
  | .hbm, ⟨57, _⟩ => ⟨S2x1024x768, .f32⟩
  | .hbm, ⟨58, _⟩ => ⟨S_, .f32⟩
  | .hbm, ⟨59, _⟩ => ⟨S2x1024x768, .f32⟩
  | .hbm, ⟨60, _⟩ => ⟨S2x1024x768, .f32⟩
  | .hbm, ⟨61, _⟩ => ⟨S2x1024x768, .f32⟩
  | .hbm, ⟨62, _⟩ => ⟨S_, .f32⟩
  | .hbm, ⟨63, _⟩ => ⟨S2x1024x768, .f32⟩
  | .hbm, ⟨64, _⟩ => ⟨S2x1024x768, .f32⟩
  | .hbm, ⟨65, _⟩ => ⟨S2x1024x768, .f32⟩
  | .hbm, ⟨66, _⟩ => ⟨S_, .f32⟩
  | .hbm, ⟨67, _⟩ => ⟨S2x1024x768, .f32⟩
  | .hbm, ⟨68, _⟩ => ⟨S2x1024x768, .f32⟩
  | .hbm, ⟨69, _⟩ => ⟨S_, .f32⟩
  | .hbm, ⟨70, _⟩ => ⟨S2x1024x768, .f32⟩
  | .hbm, ⟨71, _⟩ => ⟨S2x1024x768, .f32⟩
  | .hbm, ⟨72, _⟩ => ⟨S2x1024x768, .f32⟩
  | .hbm, ⟨73, _⟩ => ⟨S_, .f32⟩
  | .hbm, ⟨74, _⟩ => ⟨S2x1024x768, .f32⟩
  | .hbm, ⟨75, _⟩ => ⟨S2x1024x768, .f32⟩
  | .hbm, ⟨76, _⟩ => ⟨S2x1024x768, .f32⟩
  | .hbm, ⟨77, _⟩ => ⟨S_, .f32⟩
  | .hbm, ⟨78, _⟩ => ⟨S2x1024x768, .f32⟩
  | .hbm, ⟨79, _⟩ => ⟨S2x1024x768, .f32⟩
  | .hbm, ⟨80, _⟩ => ⟨S2x1024x768, .f32⟩
  | .hbm, ⟨81, _⟩ => ⟨S_, .f32⟩
  | .hbm, ⟨82, _⟩ => ⟨S2x1024x768, .f32⟩
  | .hbm, ⟨83, _⟩ => ⟨S2x1024x768, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_17 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_18 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel6.lean ====
abbrev S4608x1024 : Shape := ⟨2, ![4608, 1024]⟩
abbrev S1024x1536 : Shape := ⟨2, ![1024, 1536]⟩
abbrev S4608x1536 : Shape := ⟨2, ![4608, 1536]⟩
abbrev S1024x1024 : Shape := ⟨2, ![1024, 1024]⟩
abbrev S1024x4608 : Shape := ⟨2, ![1024, 4608]⟩
abbrev S2304x1024 : Shape := ⟨2, ![2304, 1024]⟩
abbrev S1024x512 : Shape := ⟨2, ![1024, 512]⟩
abbrev S2304x512 : Shape := ⟨2, ![2304, 512]⟩
abbrev S512x1024 : Shape := ⟨2, ![512, 1024]⟩
abbrev S4608x512 : Shape := ⟨2, ![4608, 512]⟩

abbrev nBuf : Space → Nat
  | .hbm => 19
  | .vmem => 28
  | .smem => 0
  | _ => 0

abbrev bufTy : (tb : Table) → Fin (tcTables nBuf tb) → BufTy
  | .hbm, ⟨0, _⟩ => ⟨S4608x1024, .f32⟩
  | .hbm, ⟨1, _⟩ => ⟨S1024x1536, .f32⟩
  | .hbm, ⟨2, _⟩ => ⟨S4608x1536, .f32⟩
  | .hbm, ⟨3, _⟩ => ⟨S4608x1024, .f32⟩
  | .hbm, ⟨4, _⟩ => ⟨S1024x1024, .f32⟩
  | .hbm, ⟨5, _⟩ => ⟨S4608x1024, .f32⟩
  | .hbm, ⟨6, _⟩ => ⟨S1024x1536, .bf16⟩
  | .hbm, ⟨7, _⟩ => ⟨S1024x1024, .bf16⟩
  | .hbm, ⟨8, _⟩ => ⟨S4608x1024, .bf16⟩
  | .hbm, ⟨9, _⟩ => ⟨S1024x4608, .bf16⟩
  | .hbm, ⟨10, _⟩ => ⟨S4608x1024, .bf16⟩
  | .hbm, ⟨11, _⟩ => ⟨S1024x4608, .bf16⟩
  | .hbm, ⟨12, _⟩ => ⟨S4608x1536, .bf16⟩
  | .hbm, ⟨13, _⟩ => ⟨S4608x1024, .bf16⟩
  | .hbm, ⟨14, _⟩ => ⟨S4608x1536, .f32⟩
  | .hbm, ⟨15, _⟩ => ⟨S4608x1024, .f32⟩
  | .hbm, ⟨16, _⟩ => ⟨S4608x1024, .bf16⟩
  | .hbm, ⟨17, _⟩ => ⟨S1024x1024, .bf16⟩
  | .hbm, ⟨18, _⟩ => ⟨S1024x1536, .bf16⟩
  | .local _ .vmem, ⟨0, _⟩ => ⟨S2304x1024, .bf16⟩
  | .local _ .vmem, ⟨1, _⟩ => ⟨S2304x1024, .bf16⟩
  | .local _ .vmem, ⟨2, _⟩ => ⟨S1024x512, .bf16⟩
  | .local _ .vmem, ⟨3, _⟩ => ⟨S1024x512, .bf16⟩
  | .local _ .vmem, ⟨4, _⟩ => ⟨S2304x512, .f32⟩
  | .local _ .vmem, ⟨5, _⟩ => ⟨S2304x512, .f32⟩
  | .local _ .vmem, ⟨6, _⟩ => ⟨S2304x1024, .bf16⟩
  | .local _ .vmem, ⟨7, _⟩ => ⟨S2304x1024, .bf16⟩
  | .local _ .vmem, ⟨8, _⟩ => ⟨S1024x512, .bf16⟩
  | .local _ .vmem, ⟨9, _⟩ => ⟨S1024x512, .bf16⟩
  | .local _ .vmem, ⟨10, _⟩ => ⟨S2304x512, .f32⟩
  | .local _ .vmem, ⟨11, _⟩ => ⟨S2304x512, .f32⟩
  | .local _ .vmem, ⟨12, _⟩ => ⟨S2304x1024, .bf16⟩
  | .local _ .vmem, ⟨13, _⟩ => ⟨S2304x1024, .bf16⟩
  | .local _ .vmem, ⟨14, _⟩ => ⟨S512x1024, .bf16⟩
  | .local _ .vmem, ⟨15, _⟩ => ⟨S512x1024, .bf16⟩
  | .local _ .vmem, ⟨16, _⟩ => ⟨S2304x512, .bf16⟩
  | .local _ .vmem, ⟨17, _⟩ => ⟨S2304x512, .bf16⟩
  | .local _ .vmem, ⟨18, _⟩ => ⟨S1024x4608, .bf16⟩
  | .local _ .vmem, ⟨19, _⟩ => ⟨S4608x512, .bf16⟩
  | .local _ .vmem, ⟨20, _⟩ => ⟨S4608x512, .bf16⟩
  | .local _ .vmem, ⟨21, _⟩ => ⟨S1024x512, .bf16⟩
  | .local _ .vmem, ⟨22, _⟩ => ⟨S1024x512, .bf16⟩
  | .local _ .vmem, ⟨23, _⟩ => ⟨S1024x4608, .bf16⟩
  | .local _ .vmem, ⟨24, _⟩ => ⟨S4608x512, .bf16⟩
  | .local _ .vmem, ⟨25, _⟩ => ⟨S4608x512, .bf16⟩
  | .local _ .vmem, ⟨26, _⟩ => ⟨S1024x512, .bf16⟩
  | .local _ .vmem, ⟨27, _⟩ => ⟨S1024x512, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2304x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2304x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2304x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2304x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S1024x4608 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4608x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 3, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S1024x4608 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4608x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference6Ideal.lean ====
abbrev S4608x1024 : Shape := ⟨2, ![4608, 1024]⟩
abbrev S1024x1536 : Shape := ⟨2, ![1024, 1536]⟩
abbrev S4608x1536 : Shape := ⟨2, ![4608, 1536]⟩
abbrev S1024x1024 : Shape := ⟨2, ![1024, 1024]⟩
abbrev S1536x1024 : Shape := ⟨2, ![1536, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x1536, .f32⟩
  | .hbm, ⟨2, _⟩ => ⟨S4608x1536, .f32⟩
  | .hbm, ⟨3, _⟩ => ⟨S4608x1024, .f32⟩
  | .hbm, ⟨4, _⟩ => ⟨S1024x1024, .f32⟩
  | .hbm, ⟨5, _⟩ => ⟨S4608x1024, .f32⟩
  | .hbm, ⟨6, _⟩ => ⟨S4608x1536, .f32⟩
  | .hbm, ⟨7, _⟩ => ⟨S4608x1024, .f32⟩
  | .hbm, ⟨8, _⟩ => ⟨S1536x1024, .f32⟩
  | .hbm, ⟨9, _⟩ => ⟨S1024x1536, .f32⟩
  | .hbm, ⟨10, _⟩ => ⟨S4608x1024, .f32⟩
  | .hbm, ⟨11, _⟩ => ⟨S1024x1024, .f32⟩
  | .hbm, ⟨12, _⟩ => ⟨S1024x1024, .f32⟩
  | .hbm, ⟨13, _⟩ => ⟨S4608x1024, .f32⟩
  | .hbm, ⟨14, _⟩ => ⟨S4608x1024, .bf16⟩
  | .hbm, ⟨15, _⟩ => ⟨S1024x1024, .bf16⟩
  | .hbm, ⟨16, _⟩ => ⟨S1024x1536, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel7.lean ====
abbrev S4608x1024 : Shape := ⟨2, ![4608, 1024]⟩
abbrev S1024x4096 : Shape := ⟨2, ![1024, 4096]⟩
abbrev S4096x1024 : Shape := ⟨2, ![4096, 1024]⟩
abbrev S1024x8x512 : Shape := ⟨3, ![1024, 8, 512]⟩
abbrev S8x512x1024 : Shape := ⟨3, ![8, 512, 1024]⟩
abbrev S1024x4608 : Shape := ⟨2, ![1024, 4608]⟩
abbrev S4608x4096 : Shape := ⟨2, ![4608, 4096]⟩
abbrev S_ : Shape := ⟨0, ![]⟩
abbrev S4096x4608 : Shape := ⟨2, ![4096, 4608]⟩
abbrev S2304x1024 : Shape := ⟨2, ![2304, 1024]⟩
abbrev S512x1024 : Shape := ⟨2, ![512, 1024]⟩
abbrev S2304x512 : Shape := ⟨2, ![2304, 512]⟩
abbrev S4608x512 : Shape := ⟨2, ![4608, 512]⟩
abbrev S1024x512 : Shape := ⟨2, ![1024, 512]⟩
abbrev S8x1024x512 : Shape := ⟨3, ![8, 1024, 512]⟩
abbrev S1x1024x512 : Shape := ⟨3, ![1, 1024, 512]⟩
abbrev S1536x4096 : Shape := ⟨2, ![1536, 4096]⟩
abbrev S4096x512 : Shape := ⟨2, ![4096, 512]⟩
abbrev S1536x512 : Shape := ⟨2, ![1536, 512]⟩

abbrev nBuf : Space → Nat
  | .hbm => 23
  | .vmem => 25
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S1024x4096, .bf16⟩
  | .hbm, ⟨5, _⟩ => ⟨S1024x8x512, .bf16⟩
  | .hbm, ⟨6, _⟩ => ⟨S8x512x1024, .bf16⟩
  | .hbm, ⟨7, _⟩ => ⟨S4096x1024, .bf16⟩
  | .hbm, ⟨8, _⟩ => ⟨S4096x1024, .bf16⟩
  | .hbm, ⟨9, _⟩ => ⟨S4608x1024, .bf16⟩
  | .hbm, ⟨10, _⟩ => ⟨S1024x4608, .bf16⟩
  | .hbm, ⟨11, _⟩ => ⟨S4608x1024, .bf16⟩
  | .hbm, ⟨12, _⟩ => ⟨S4608x4096, .f32⟩
  | .hbm, ⟨13, _⟩ => ⟨S_, .f32⟩
  | .hbm, ⟨14, _⟩ => ⟨S4608x4096, .f32⟩
  | .hbm, ⟨15, _⟩ => ⟨S4608x4096, .f32⟩
  | .hbm, ⟨16, _⟩ => ⟨S4608x4096, .f32⟩
  | .hbm, ⟨17, _⟩ => ⟨S4608x4096, .bf16⟩
  | .hbm, ⟨18, _⟩ => ⟨S4096x4608, .bf16⟩
  | .hbm, ⟨19, _⟩ => ⟨S4608x4096, .bf16⟩
  | .hbm, ⟨20, _⟩ => ⟨S4096x1024, .bf16⟩
  | .hbm, ⟨21, _⟩ => ⟨S8x1024x512, .bf16⟩
  | .hbm, ⟨22, _⟩ => ⟨S4608x1024, .f32⟩
  | .local _ .vmem, ⟨0, _⟩ => ⟨S2304x1024, .bf16⟩
  | .local _ .vmem, ⟨1, _⟩ => ⟨S2304x1024, .bf16⟩
  | .local _ .vmem, ⟨2, _⟩ => ⟨S512x1024, .bf16⟩
  | .local _ .vmem, ⟨3, _⟩ => ⟨S512x1024, .bf16⟩
  | .local _ .vmem, ⟨4, _⟩ => ⟨S2304x512, .bf16⟩
  | .local _ .vmem, ⟨5, _⟩ => ⟨S2304x512, .bf16⟩
  | .local _ .vmem, ⟨6, _⟩ => ⟨S2304x512, .bf16⟩
  | .local _ .vmem, ⟨7, _⟩ => ⟨S2304x512, .bf16⟩
  | .local _ .vmem, ⟨8, _⟩ => ⟨S1024x4608, .bf16⟩
  | .local _ .vmem, ⟨9, _⟩ => ⟨S1024x4608, .bf16⟩
  | .local _ .vmem, ⟨10, _⟩ => ⟨S4608x512, .bf16⟩
  | .local _ .vmem, ⟨11, _⟩ => ⟨S4608x512, .bf16⟩
  | .local _ .vmem, ⟨12, _⟩ => ⟨S1024x512, .bf16⟩
  | .local _ .vmem, ⟨13, _⟩ => ⟨S1024x512, .bf16⟩
  | .local _ .vmem, ⟨14, _⟩ => ⟨S1024x4608, .bf16⟩
  | .local _ .vmem, ⟨15, _⟩ => ⟨S4608x512, .bf16⟩
  | .local _ .vmem, ⟨16, _⟩ => ⟨S4608x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1536x4096, .bf16⟩
  | .local _ .vmem, ⟨20, _⟩ => ⟨S1536x4096, .bf16⟩
  | .local _ .vmem, ⟨21, _⟩ => ⟨S4096x512, .bf16⟩
  | .local _ .vmem, ⟨22, _⟩ => ⟨S4096x512, .bf16⟩
  | .local _ .vmem, ⟨23, _⟩ => ⟨S1536x512, .f32⟩
  | .local _ .vmem, ⟨24, _⟩ => ⟨S1536x512, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4608 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4608x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage2_0 : Fin 1 → Memref sig .tc .vmem S1024x4608 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4608x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![3, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1536x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1536x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference7Ideal.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S_, .f32⟩
  | .hbm, ⟨9, _⟩ => ⟨S4608x4096, .f32⟩
  | .hbm, ⟨10, _⟩ => ⟨S4608x4096, .i1⟩
  | .hbm, ⟨11, _⟩ => ⟨S_, .f32⟩
  | .hbm, ⟨12, _⟩ => ⟨S4608x4096, .f32⟩
  | .hbm, ⟨13, _⟩ => ⟨S4608x4096, .f32⟩
  | .hbm, ⟨14, _⟩ => ⟨S_, .f32⟩
  | .hbm, ⟨15, _⟩ => ⟨S4608x4096, .f32⟩
  | .hbm, ⟨16, _⟩ => ⟨S4608x4096, .f32⟩
  | .hbm, ⟨17, _⟩ => ⟨S4608x1024, .f32⟩
  | .hbm, ⟨18, _⟩ => ⟨S1024x4096, .f32⟩
  | .hbm, ⟨19, _⟩ => ⟨S4096x1024, .f32⟩
  | .hbm, ⟨20, _⟩ => ⟨S4608x4096, .f32⟩
  | .hbm, ⟨21, _⟩ => ⟨S4608x4096, .f32⟩
  | .hbm, ⟨22, _⟩ => ⟨S_, .f32⟩
  | .hbm, ⟨23, _⟩ => ⟨S4608x4096, .f32⟩
  | .hbm, ⟨24, _⟩ => ⟨S4608x4096, .f32⟩
  | .hbm, ⟨25, _⟩ => ⟨S4096x1024, .f32⟩
  | .hbm, ⟨26, _⟩ => ⟨S1024x4096, .f32⟩
  | .hbm, ⟨27, _⟩ => ⟨S4608x1024, .f32⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S4096x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel8.lean ====
abbrev S2x1024x192 : Shape := ⟨3, ![2, 1024, 192]⟩
abbrev S8x1024x192 : Shape := ⟨3, ![8, 1024, 192]⟩
abbrev S2x128x1024 : Shape := ⟨3, ![2, 128, 1024]⟩
abbrev S8x128x1024 : Shape := ⟨3, ![8, 128, 1024]⟩
abbrev S2x512x1024 : Shape := ⟨3, ![2, 512, 1024]⟩
abbrev S8x512x1024 : Shape := ⟨3, ![8, 512, 1024]⟩
abbrev S1x256x192 : Shape := ⟨3, ![1, 256, 192]⟩
abbrev S8x256x192 : Shape := ⟨3, ![8, 256, 192]⟩
abbrev S256x192 : Shape := ⟨2, ![256, 192]⟩
abbrev S1x128x1024 : Shape := ⟨3, ![1, 128, 1024]⟩
abbrev S128x1024 : Shape := ⟨2, ![128, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 27
  | .vmem => 54
  | .smem => 0
  | _ => 0

abbrev bufTy : (tb : Table) → Fin (tcTables nBuf tb) → BufTy
  | .hbm, ⟨0, _⟩ => ⟨S2x1024x192, .f32⟩
  | .hbm, ⟨1, _⟩ => ⟨S2x1024x192, .f32⟩
  | .hbm, ⟨2, _⟩ => ⟨S2x1024x192, .f32⟩
  | .hbm, ⟨3, _⟩ => ⟨S8x1024x192, .bf16⟩
  | .hbm, ⟨4, _⟩ => ⟨S8x1024x192, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .bf16⟩
  | .hbm, ⟨9, _⟩ => ⟨S8x128x1024, .bf16⟩
  | .hbm, ⟨10, _⟩ => ⟨S2x512x1024, .f32⟩
  | .hbm, ⟨11, _⟩ => ⟨S2x512x1024, .f32⟩
  | .hbm, ⟨12, _⟩ => ⟨S2x512x1024, .f32⟩
  | .hbm, ⟨13, _⟩ => ⟨S8x512x1024, .bf16⟩
  | .hbm, ⟨14, _⟩ => ⟨S8x512x1024, .bf16⟩
  | .hbm, ⟨15, _⟩ => ⟨S2x1024x192, .f32⟩
  | .hbm, ⟨16, _⟩ => ⟨S2x1024x192, .f32⟩
  | .hbm, ⟨17, _⟩ => ⟨S2x1024x192, .f32⟩
  | .hbm, ⟨18, _⟩ => ⟨S2x1024x192, .f32⟩
  | .hbm, ⟨19, _⟩ => ⟨S2x128x1024, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S2x512x1024, .f32⟩
  | .local _ .vmem, ⟨0, _⟩ => ⟨S1x256x192, .f32⟩
  | .local _ .vmem, ⟨1, _⟩ => ⟨S1x256x192, .f32⟩
  | .local _ .vmem, ⟨2, _⟩ => ⟨S1x256x192, .f32⟩
  | .local _ .vmem, ⟨3, _⟩ => ⟨S1x256x192, .f32⟩
  | .local _ .vmem, ⟨4, _⟩ => ⟨S1x256x192, .f32⟩
  | .local _ .vmem, ⟨5, _⟩ => ⟨S1x256x192, .f32⟩
  | .local _ .vmem, ⟨6, _⟩ => ⟨S8x256x192, .bf16⟩
  | .local _ .vmem, ⟨7, _⟩ => ⟨S8x256x192, .bf16⟩
  | .local _ .vmem, ⟨8, _⟩ => ⟨S8x256x192, .bf16⟩
  | .local _ .vmem, ⟨9, _⟩ => ⟨S8x256x192, .bf16⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | .local _ .vmem, ⟨16, _⟩ => ⟨S1x256x192, .f32⟩
  | .local _ .vmem, ⟨17, _⟩ => ⟨S1x256x192, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S8x128x1024, .bf16⟩
  | .local _ .vmem, ⟨25, _⟩ => ⟨S8x128x1024, .bf16⟩
  | .local _ .vmem, ⟨26, _⟩ => ⟨S8x128x1024, .bf16⟩
  | .local _ .vmem, ⟨27, _⟩ => ⟨S8x128x1024, .bf16⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | .local _ .vmem, ⟨32, _⟩ => ⟨S1x128x1024, .f32⟩
  | .local _ .vmem, ⟨33, _⟩ => ⟨S1x128x1024, .f32⟩
  | .local _ .vmem, ⟨34, _⟩ => ⟨S1x128x1024, .f32⟩
  | .local _ .vmem, ⟨35, _⟩ => ⟨S1x128x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | .local _ .vmem, ⟨42, _⟩ => ⟨S8x256x1024, .bf16⟩
  | .local _ .vmem, ⟨43, _⟩ => ⟨S8x256x1024, .bf16⟩
  | .local _ .vmem, ⟨44, _⟩ => ⟨S8x256x1024, .bf16⟩
  | .local _ .vmem, ⟨45, _⟩ => ⟨S8x256x1024, .bf16⟩
  | .local _ .vmem, ⟨46, _⟩ => ⟨S1x256x1024, .f32⟩
  | .local _ .vmem, ⟨47, _⟩ => ⟨S1x256x1024, .f32⟩
  | .local _ .vmem, ⟨48, _⟩ => ⟨S1x256x1024, .f32⟩
  | .local _ .vmem, ⟨49, _⟩ => ⟨S1x256x1024, .f32⟩
  | .local _ .vmem, ⟨50, _⟩ => ⟨S1x256x1024, .f32⟩
  | .local _ .vmem, ⟨51, _⟩ => ⟨S1x256x1024, .f32⟩
  | .local _ .vmem, ⟨52, _⟩ => ⟨S1x256x1024, .f32⟩
  | .local _ .vmem, ⟨53, _⟩ => ⟨S1x256x1024, .f32⟩
  | _, _ => ⟨S2x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v1_3 : Ref sig .tc := ⟨.hbm, 22, rfl⟩
abbrev main_v2_0 : Ref sig .tc := ⟨.hbm, 23, rfl⟩
abbrev main_v2_1 : Ref sig .tc := ⟨.hbm, 24, rfl⟩
abbrev main_v2_2 : Ref sig .tc := ⟨.hbm, 25, rfl⟩
abbrev main_v2_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 1], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 2], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc2_transform_4 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== Reference8Ideal.lean ====
abbrev S2x1024x192 : Shape := ⟨3, ![2, 1024, 192]⟩
abbrev S8x1024x192 : Shape := ⟨3, ![8, 1024, 192]⟩
abbrev S2x128x1024 : Shape := ⟨3, ![2, 128, 1024]⟩
abbrev S8x128x1024 : Shape := ⟨3, ![8, 128, 1024]⟩
abbrev S2x512x1024 : Shape := ⟨3, ![2, 512, 1024]⟩
abbrev S8x512x1024 : Shape := ⟨3, ![8, 512, 1024]⟩
abbrev S_ : Shape := ⟨0, ![]⟩
abbrev S1024x192 : Shape := ⟨2, ![1024, 192]⟩
abbrev S1x1024x192 : Shape := ⟨3, ![1, 1024, 192]⟩
abbrev S128x1024 : Shape := ⟨2, ![128, 1024]⟩
abbrev S1x128x1024 : Shape := ⟨3, ![1, 128, 1024]⟩
abbrev S512x1024 : Shape := ⟨2, ![512, 1024]⟩
abbrev S1x512x1024 : Shape := ⟨3, ![1, 512, 1024]⟩

abbrev nBuf : Space → Nat
  | .hbm => 141
  | .vmem => 0
  | .smem => 0
  | _ => 0

abbrev hbmTy0_0 (i : Nat) : BufTy := match i % 128 with
  | 0 => ⟨S2x1024x192, .f32⟩
  | 1 => ⟨S2x1024x192, .f32⟩
  | 2 => ⟨S2x1024x192, .f32⟩
  | 3 => ⟨S8x1024x192, .bf16⟩
  | 4 => ⟨S8x1024x192, .bf16⟩
  | 5 => ⟨S2x128x1024, .f32⟩
  | 6 => ⟨S2x128x1024, .f32⟩
  | 7 => ⟨S2x128x1024, .f32⟩
  | 8 => ⟨S8x128x1024, .bf16⟩
  | 9 => ⟨S8x128x1024, .bf16⟩
  | 10 => ⟨S2x512x1024, .f32⟩
  | 11 => ⟨S2x512x1024, .f32⟩
  | 12 => ⟨S2x512x1024, .f32⟩
  | 13 => ⟨S8x512x1024, .bf16⟩
  | 14 => ⟨S8x512x1024, .bf16⟩
  | 15 => ⟨S8x1024x192, .f32⟩
  | 16 => ⟨S_, .f32⟩
  | 17 => ⟨S1024x192, .f32⟩
  | 18 => ⟨S8x1024x192, .f32⟩
  | 19 => ⟨S_, .f32⟩
  | 20 => ⟨S1024x192, .f32⟩
  | 21 => ⟨S1x1024x192, .f32⟩
  | 22 => ⟨S1x1024x192, .f32⟩
  | 23 => ⟨S2x1024x192, .f32⟩
  | 24 => ⟨S_, .f32⟩
  | 25 => ⟨S2x1024x192, .f32⟩
  | 26 => ⟨S2x1024x192, .f32⟩
  | 27 => ⟨S_, .f32⟩
  | 28 => ⟨S2x1024x192, .f32⟩
  | 29 => ⟨S2x1024x192, .f32⟩
  | 30 => ⟨S2x1024x192, .f32⟩
  | 31 => ⟨S_, .f32⟩
  | 32 => ⟨S2x1024x192, .f32⟩
  | 33 => ⟨S2x1024x192, .f32⟩
  | 34 => ⟨S2x1024x192, .f32⟩
  | 35 => ⟨S_, .f32⟩
  | 36 => ⟨S2x1024x192, .f32⟩
  | 37 => ⟨S2x1024x192, .f32⟩
  | 38 => ⟨S2x1024x192, .f32⟩
  | 39 => ⟨S_, .f32⟩
  | 40 => ⟨S2x1024x192, .f32⟩
  | 41 => ⟨S2x1024x192, .f32⟩
  | 42 => ⟨S_, .f32⟩
  | 43 => ⟨S2x1024x192, .f32⟩
  | 44 => ⟨S2x1024x192, .f32⟩
  | 45 => ⟨S2x1024x192, .f32⟩
  | 46 => ⟨S_, .f32⟩
  | 47 => ⟨S2x1024x192, .f32⟩
  | 48 => ⟨S2x1024x192, .f32⟩
  | 49 => ⟨S2x1024x192, .f32⟩
  | 50 => ⟨S_, .f32⟩
  | 51 => ⟨S2x1024x192, .f32⟩
  | 52 => ⟨S2x1024x192, .f32⟩
  | 53 => ⟨S2x1024x192, .f32⟩
  | 54 => ⟨S_, .f32⟩
  | 55 => ⟨S2x1024x192, .f32⟩
  | 56 => ⟨S2x1024x192, .f32⟩
  | 57 => ⟨S8x128x1024, .f32⟩
  | 58 => ⟨S_, .f32⟩
  | 59 => ⟨S128x1024, .f32⟩
  | 60 => ⟨S8x128x1024, .f32⟩
  | 61 => ⟨S_, .f32⟩
  | 62 => ⟨S128x1024, .f32⟩
  | 63 => ⟨S1x128x1024, .f32⟩
  | 64 => ⟨S1x128x1024, .f32⟩
  | 65 => ⟨S2x128x1024, .f32⟩
  | 66 => ⟨S_, .f32⟩
  | 67 => ⟨S2x128x1024, .f32⟩
  | 68 => ⟨S2x128x1024, .f32⟩
  | 69 => ⟨S_, .f32⟩
  | 70 => ⟨S2x128x1024, .f32⟩
  | 71 => ⟨S2x128x1024, .f32⟩
  | 72 => ⟨S2x128x1024, .f32⟩
  | 73 => ⟨S_, .f32⟩
  | 74 => ⟨S2x128x1024, .f32⟩
  | 75 => ⟨S2x128x1024, .f32⟩
  | 76 => ⟨S2x128x1024, .f32⟩
  | 77 => ⟨S_, .f32⟩
  | 78 => ⟨S2x128x1024, .f32⟩
  | 79 => ⟨S2x128x1024, .f32⟩
  | 80 => ⟨S2x128x1024, .f32⟩
  | 81 => ⟨S_, .f32⟩
  | 82 => ⟨S2x128x1024, .f32⟩
  | 83 => ⟨S2x128x1024, .f32⟩
  | 84 => ⟨S_, .f32⟩
  | 85 => ⟨S2x128x1024, .f32⟩
  | 86 => ⟨S2x128x1024, .f32⟩
  | 87 => ⟨S2x128x1024, .f32⟩
  | 88 => ⟨S_, .f32⟩
  | 89 => ⟨S2x128x1024, .f32⟩
  | 90 => ⟨S2x128x1024, .f32⟩
  | 91 => ⟨S2x128x1024, .f32⟩
  | 92 => ⟨S_, .f32⟩
  | 93 => ⟨S2x128x1024, .f32⟩
  | 94 => ⟨S2x128x1024, .f32⟩
  | 95 => ⟨S2x128x1024, .f32⟩
  | 96 => ⟨S_, .f32⟩
  | 97 => ⟨S2x128x1024, .f32⟩
  | 98 => ⟨S2x128x1024, .f32⟩
  | 99 => ⟨S8x512x1024, .f32⟩
  | 100 => ⟨S_, .f32⟩
  | 101 => ⟨S512x1024, .f32⟩
  | 102 => ⟨S8x512x1024, .f32⟩
  | 103 => ⟨S_, .f32⟩
  | 104 => ⟨S512x1024, .f32⟩
  | 105 => ⟨S1x512x1024, .f32⟩
  | 106 => ⟨S1x512x1024, .f32⟩
  | 107 => ⟨S2x512x1024, .f32⟩
  | 108 => ⟨S_, .f32⟩
  | 109 => ⟨S2x512x1024, .f32⟩
  | 110 => ⟨S2x512x1024, .f32⟩
  | 111 => ⟨S_, .f32⟩
  | 112 => ⟨S2x512x1024, .f32⟩
  | 113 => ⟨S2x512x1024, .f32⟩
  | 114 => ⟨S2x512x1024, .f32⟩
  | 115 => ⟨S_, .f32⟩
  | 116 => ⟨S2x512x1024, .f32⟩
  | 117 => ⟨S2x512x1024, .f32⟩
  | 118 => ⟨S2x512x1024, .f32⟩
  | 119 => ⟨S_, .f32⟩
  | 120 => ⟨S2x512x1024, .f32⟩
  | 121 => ⟨S2x512x1024, .f32⟩
  | 122 => ⟨S2x512x1024, .f32⟩
  | 123 => ⟨S_, .f32⟩
  | 124 => ⟨S2x512x1024, .f32⟩
  | 125 => ⟨S2x512x1024, .f32⟩
  | 126 => ⟨S_, .f32⟩
  | 127 => ⟨S2x512x1024, .f32⟩
  | _ => ⟨S2x1024x192, .f32⟩

abbrev hbmTy0_1 (i : Nat) : BufTy := match i % 128 with
  | 0 => ⟨S2x512x1024, .f32⟩
  | 1 => ⟨S2x512x1024, .f32⟩
  | 2 => ⟨S_, .f32⟩
  | 3 => ⟨S2x512x1024, .f32⟩
  | 4 => ⟨S2x512x1024, .f32⟩
  | 5 => ⟨S2x512x1024, .f32⟩
  | 6 => ⟨S_, .f32⟩
  | 7 => ⟨S2x512x1024, .f32⟩
  | 8 => ⟨S2x512x1024, .f32⟩
  | 9 => ⟨S2x512x1024, .f32⟩
  | 10 => ⟨S_, .f32⟩
  | 11 => ⟨S2x512x1024, .f32⟩
  | 12 => ⟨S2x512x1024, .f32⟩
  | _ => ⟨S2x1024x192, .f32⟩

abbrev hbmTy (i : Nat) : BufTy := match i / 128 with
  | 0 => hbmTy0_0 i
  | 1 => hbmTy0_1 i
  | _ => ⟨S2x1024x192, .f32⟩

abbrev bufTy : (tb : Table) → Fin (tcTables nBuf tb) → BufTy
  | .hbm, ⟨i, _⟩ => hbmTy i
  | _, _ => ⟨S2x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_10 : Ref sig .tc := ⟨.hbm, 58, rfl⟩
abbrev main_v32 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_v39 : Ref sig .tc := ⟨.hbm, 68, rfl⟩
abbrev main_cst_13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_14 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_15 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_16 : Ref sig .tc := ⟨.hbm, 81, rfl⟩
abbrev main_v49 : Ref sig .tc := ⟨.hbm, 82, rfl⟩
abbrev main_v50 : Ref sig .tc := ⟨.hbm, 83, rfl⟩
abbrev main_cst_17 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_18 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_19 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_20 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_21 : Ref sig .tc := ⟨.hbm, 100, rfl⟩
abbrev main_v63 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_23 : Ref sig .tc := ⟨.hbm, 108, rfl⟩
abbrev main_v69 : Ref sig .tc := ⟨.hbm, 109, rfl⟩
abbrev main_v70 : Ref sig .tc := ⟨.hbm, 110, rfl⟩
abbrev main_cst_24 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_25 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_26 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_27 : Ref sig .tc := ⟨.hbm, 123, rfl⟩
abbrev main_v80 : Ref sig .tc := ⟨.hbm, 124, rfl⟩
abbrev main_v81 : Ref sig .tc := ⟨.hbm, 125, rfl⟩
abbrev main_cst_28 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_29 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_30 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_31 : Ref sig .tc := ⟨.hbm, 138, rfl⟩
abbrev main_v91 : Ref sig .tc := ⟨.hbm, 139, rfl⟩
abbrev main_v92 : Ref sig .tc := ⟨.hbm, 140, rfl⟩

abbrev nD : Nat := 1
abbrev τ : Topo := Topo.v7x

variable {F : FTy → Type} [FloatOps F]
-- ==== Kernel9.lean ====
abbrev S1024 : Shape := ⟨1, ![1024]⟩
abbrev S2x6144 : Shape := ⟨2, ![2, 6144]⟩
abbrev S2x1024 : Shape := ⟨2, ![2, 1024]⟩
abbrev S2x64 : Shape := ⟨2, ![2, 64]⟩
abbrev S2x8 : Shape := ⟨2, ![2, 8]⟩
abbrev S8x1024 : Shape := ⟨2, ![8, 1024]⟩
abbrev S8x2x6144 : Shape := ⟨3, ![8, 2, 6144]⟩
abbrev S8x2x1024 : Shape := ⟨3, ![8, 2, 1024]⟩
abbrev S8x2x64 : Shape := ⟨3, ![8, 2, 64]⟩
abbrev S8x2x8 : Shape := ⟨3, ![8, 2, 8]⟩
abbrev S8x1 : Shape := ⟨2, ![8, 1]⟩
abbrev S_ : Shape := ⟨0, ![]⟩
abbrev S1 : Shape := ⟨1, ![1]⟩
abbrev S8x12288 : Shape := ⟨2, ![8, 12288]⟩
abbrev S8x2048 : Shape := ⟨2, ![8, 2048]⟩
abbrev S8x128 : Shape := ⟨2, ![8, 128]⟩
abbrev S8x16 : Shape := ⟨2, ![8, 16]⟩
abbrev S8x21777 : Shape := ⟨2, ![8, 21777]⟩
abbrev S8x22528 : Shape := ⟨2, ![8, 22528]⟩
abbrev S8x176x128 : Shape := ⟨3, ![8, 176, 128]⟩
abbrev S12288 : Shape := ⟨1, ![12288]⟩
abbrev S2048 : Shape := ⟨1, ![2048]⟩
abbrev S128 : Shape := ⟨1, ![128]⟩
abbrev S16 : Shape := ⟨1, ![16]⟩
abbrev S21777 : Shape := ⟨1, ![21777]⟩
abbrev S22528 : Shape := ⟨1, ![22528]⟩
abbrev S176x128 : Shape := ⟨2, ![176, 128]⟩
abbrev S1x176x128 : Shape := ⟨3, ![1, 176, 128]⟩

abbrev nBuf : Space → Nat
  | .hbm => 176
  | .vmem => 8
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x1024, .f32⟩
  | 4 => ⟨S2x1024, .f32⟩
  | 5 => ⟨S2x1024, .f32⟩
  | 6 => ⟨S2x64, .f32⟩
  | 7 => ⟨S2x64, .f32⟩
  | 8 => ⟨S2x8, .f32⟩
  | 9 => ⟨S1024, .f32⟩
  | 10 => ⟨S2x6144, .f32⟩
  | 11 => ⟨S2x1024, .f32⟩
  | 12 => ⟨S2x1024, .f32⟩
  | 13 => ⟨S2x1024, .f32⟩
  | 14 => ⟨S2x1024, .f32⟩
  | 15 => ⟨S2x64, .f32⟩
  | 16 => ⟨S2x64, .f32⟩
  | 17 => ⟨S2x8, .f32⟩
  | 18 => ⟨S1024, .f32⟩
  | 19 => ⟨S2x6144, .f32⟩
  | 20 => ⟨S2x1024, .f32⟩
  | 21 => ⟨S2x1024, .f32⟩
  | 22 => ⟨S2x1024, .f32⟩
  | 23 => ⟨S2x1024, .f32⟩
  | 24 => ⟨S2x64, .f32⟩
  | 25 => ⟨S2x64, .f32⟩
  | 26 => ⟨S2x8, .f32⟩
  | 27 => ⟨S8x1024, .f32⟩
  | 28 => ⟨S8x2x6144, .f32⟩
  | 29 => ⟨S8x2x1024, .f32⟩
  | 30 => ⟨S8x2x1024, .f32⟩
  | 31 => ⟨S8x2x1024, .f32⟩
  | 32 => ⟨S8x2x1024, .f32⟩
  | 33 => ⟨S8x2x64, .f32⟩
  | 34 => ⟨S8x2x64, .f32⟩
  | 35 => ⟨S8x2x8, .f32⟩
  | 36 => ⟨S8x1, .f32⟩
  | 37 => ⟨S_, .f32⟩
  | 38 => ⟨S1, .f32⟩
  | 39 => ⟨S8x12288, .f32⟩
  | 40 => ⟨S8x2048, .f32⟩
  | 41 => ⟨S8x2048, .f32⟩
  | 42 => ⟨S8x2048, .f32⟩
  | 43 => ⟨S8x2048, .f32⟩
  | 44 => ⟨S8x128, .f32⟩
  | 45 => ⟨S8x128, .f32⟩
  | 46 => ⟨S8x16, .f32⟩
  | 47 => ⟨S8x21777, .f32⟩
  | 48 => ⟨S_, .i32⟩
  | 49 => ⟨S_, .f32⟩
  | 50 => ⟨S8x22528, .f32⟩
  | 51 => ⟨S8x176x128, .f32⟩
  | 52 => ⟨S12288, .f32⟩
  | 53 => ⟨S2048, .f32⟩
  | 54 => ⟨S2048, .f32⟩
  | 55 => ⟨S2048, .f32⟩
  | 56 => ⟨S2048, .f32⟩
  | 57 => ⟨S128, .f32⟩
  | 58 => ⟨S128, .f32⟩
  | 59 => ⟨S16, .f32⟩
  | 60 => ⟨S21777, .f32⟩
  | 61 => ⟨S_, .i32⟩
  | 62 => ⟨S_, .f32⟩
  | 63 => ⟨S22528, .f32⟩
  | 64 => ⟨S176x128, .f32⟩
  | 65 => ⟨S12288, .f32⟩
  | 66 => ⟨S2048, .f32⟩
  | 67 => ⟨S2048, .f32⟩
  | 68 => ⟨S2048, .f32⟩
  | 69 => ⟨S2048, .f32⟩
  | 70 => ⟨S128, .f32⟩
  | 71 => ⟨S128, .f32⟩
  | 72 => ⟨S16, .f32⟩
  | 73 => ⟨S21777, .f32⟩
  | 74 => ⟨S_, .i32⟩
  | 75 => ⟨S_, .f32⟩
  | 76 => ⟨S22528, .f32⟩
  | 77 => ⟨S176x128, .f32⟩
  | 78 => ⟨S12288, .f32⟩
  | 79 => ⟨S2048, .f32⟩
  | 80 => ⟨S2048, .f32⟩
  | 81 => ⟨S2048, .f32⟩
  | 82 => ⟨S2048, .f32⟩
  | 83 => ⟨S128, .f32⟩
  | 84 => ⟨S128, .f32⟩
  | 85 => ⟨S16, .f32⟩
  | 86 => ⟨S21777, .f32⟩
  | 87 => ⟨S_, .i32⟩
  | 88 => ⟨S_, .f32⟩
  | 89 => ⟨S22528, .f32⟩
  | 90 => ⟨S176x128, .f32⟩
  | 91 => ⟨S176x128, .f32⟩
  | 92 => ⟨S176x128, .f32⟩
  | 93 => ⟨S176x128, .f32⟩
  | 94 => ⟨S176x128, .f32⟩
  | 95 => ⟨S22528, .f32⟩
  | 96 => ⟨S1024, .f32⟩
  | 97 => ⟨S12288, .f32⟩
  | 98 => ⟨S2x6144, .f32⟩
  | 99 => ⟨S2048, .f32⟩
  | 100 => ⟨S2x1024, .f32⟩
  | 101 => ⟨S2048, .f32⟩
  | 102 => ⟨S2x1024, .f32⟩
  | 103 => ⟨S2048, .f32⟩
  | 104 => ⟨S2x1024, .f32⟩
  | 105 => ⟨S2048, .f32⟩
  | 106 => ⟨S2x1024, .f32⟩
  | 107 => ⟨S128, .f32⟩
  | 108 => ⟨S2x64, .f32⟩
  | 109 => ⟨S128, .f32⟩
  | 110 => ⟨S2x64, .f32⟩
  | 111 => ⟨S16, .f32⟩
  | 112 => ⟨S2x8, .f32⟩
  | 113 => ⟨S1, .f32⟩
  | 114 => ⟨S22528, .f32⟩
  | 115 => ⟨S1024, .f32⟩
  | 116 => ⟨S12288, .f32⟩
  | 117 => ⟨S2x6144, .f32⟩
  | 118 => ⟨S2048, .f32⟩
  | 119 => ⟨S2x1024, .f32⟩
  | 120 => ⟨S2048, .f32⟩
  | 121 => ⟨S2x1024, .f32⟩
  | 122 => ⟨S2048, .f32⟩
  | 123 => ⟨S2x1024, .f32⟩
  | 124 => ⟨S2048, .f32⟩
  | 125 => ⟨S2x1024, .f32⟩
  | 126 => ⟨S128, .f32⟩
  | 127 => ⟨S2x64, .f32⟩
  | _ => ⟨S1024, .f32⟩

abbrev hbmTy0_1 (i : Nat) : BufTy := match i % 128 with
  | 0 => ⟨S128, .f32⟩
  | 1 => ⟨S2x64, .f32⟩
  | 2 => ⟨S16, .f32⟩
  | 3 => ⟨S2x8, .f32⟩
  | 4 => ⟨S1, .f32⟩
  | 5 => ⟨S22528, .f32⟩
  | 6 => ⟨S1024, .f32⟩
  | 7 => ⟨S12288, .f32⟩
  | 8 => ⟨S2x6144, .f32⟩
  | 9 => ⟨S2048, .f32⟩
  | 10 => ⟨S2x1024, .f32⟩
  | 11 => ⟨S2048, .f32⟩
  | 12 => ⟨S2x1024, .f32⟩
  | 13 => ⟨S2048, .f32⟩
  | 14 => ⟨S2x1024, .f32⟩
  | 15 => ⟨S2048, .f32⟩
  | 16 => ⟨S2x1024, .f32⟩
  | 17 => ⟨S128, .f32⟩
  | 18 => ⟨S2x64, .f32⟩
  | 19 => ⟨S128, .f32⟩
  | 20 => ⟨S2x64, .f32⟩
  | 21 => ⟨S16, .f32⟩
  | 22 => ⟨S2x8, .f32⟩
  | 23 => ⟨S1, .f32⟩
  | 24 => ⟨S22528, .f32⟩
  | 25 => ⟨S1024, .f32⟩
  | 26 => ⟨S12288, .f32⟩
  | 27 => ⟨S2x6144, .f32⟩
  | 28 => ⟨S2048, .f32⟩
  | 29 => ⟨S2x1024, .f32⟩
  | 30 => ⟨S2048, .f32⟩
  | 31 => ⟨S2x1024, .f32⟩
  | 32 => ⟨S2048, .f32⟩
  | 33 => ⟨S2x1024, .f32⟩
  | 34 => ⟨S2048, .f32⟩
  | 35 => ⟨S2x1024, .f32⟩
  | 36 => ⟨S128, .f32⟩
  | 37 => ⟨S2x64, .f32⟩
  | 38 => ⟨S128, .f32⟩
  | 39 => ⟨S2x64, .f32⟩
  | 40 => ⟨S16, .f32⟩
  | 41 => ⟨S2x8, .f32⟩
  | 42 => ⟨S1, .f32⟩
  | 43 => ⟨S_, .f32⟩
  | 44 => ⟨S_, .f32⟩
  | 45 => ⟨S_, .f32⟩
  | 46 => ⟨S_, .f32⟩
  | 47 => ⟨S_, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S8x176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | .local _ .vmem, ⟨7, _⟩ => ⟨S176x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c : Ref sig .tc := ⟨.hbm, 48, rfl⟩
abbrev main_call0_v0 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_0 : Ref sig .tc := ⟨.hbm, 61, rfl⟩
abbrev main_call1_v0 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_1 : Ref sig .tc := ⟨.hbm, 74, rfl⟩
abbrev main_call2_v0 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_2 : Ref sig .tc := ⟨.hbm, 87, rfl⟩
abbrev main_call3_v0 : Ref sig .tc := ⟨.hbm, 88, rfl⟩
abbrev main_v43 : Ref sig .tc := ⟨.hbm, 89, rfl⟩
abbrev main_v44 : Ref sig .tc := ⟨.hbm, 90, rfl⟩
abbrev main_v45_0 : Ref sig .tc := ⟨.hbm, 91, rfl⟩
abbrev main_v45_1 : Ref sig .tc := ⟨.hbm, 92, rfl⟩
abbrev main_v45_2 : Ref sig .tc := ⟨.hbm, 93, rfl⟩
abbrev main_v45_3 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_3 : Ref sig .tc := ⟨.hbm, 172, rfl⟩
abbrev main_v123 : Ref sig .tc := ⟨.hbm, 173, rfl⟩
abbrev main_cst_4 : Ref sig .tc := ⟨.hbm, 174, rfl⟩
abbrev main_v124 : Ref sig .tc := ⟨.hbm, 175, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference9Ideal.lean ====
abbrev S1024 : Shape := ⟨1, ![1024]⟩
abbrev S2x6144 : Shape := ⟨2, ![2, 6144]⟩
abbrev S2x1024 : Shape := ⟨2, ![2, 1024]⟩
abbrev S2x64 : Shape := ⟨2, ![2, 64]⟩
abbrev S2x8 : Shape := ⟨2, ![2, 8]⟩
abbrev S8x1024 : Shape := ⟨2, ![8, 1024]⟩
abbrev S8x2x6144 : Shape := ⟨3, ![8, 2, 6144]⟩
abbrev S8x2x1024 : Shape := ⟨3, ![8, 2, 1024]⟩
abbrev S8x2x64 : Shape := ⟨3, ![8, 2, 64]⟩
abbrev S8x2x8 : Shape := ⟨3, ![8, 2, 8]⟩
abbrev S8x1 : Shape := ⟨2, ![8, 1]⟩
abbrev S_ : Shape := ⟨0, ![]⟩

abbrev nBuf : Space → Nat
  | .hbm => 358
  | .vmem => 0
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x1024, .f32⟩
  | 4 => ⟨S2x1024, .f32⟩
  | 5 => ⟨S2x1024, .f32⟩
  | 6 => ⟨S2x64, .f32⟩
  | 7 => ⟨S2x64, .f32⟩
  | 8 => ⟨S2x8, .f32⟩
  | 9 => ⟨S1024, .f32⟩
  | 10 => ⟨S2x6144, .f32⟩
  | 11 => ⟨S2x1024, .f32⟩
  | 12 => ⟨S2x1024, .f32⟩
  | 13 => ⟨S2x1024, .f32⟩
  | 14 => ⟨S2x1024, .f32⟩
  | 15 => ⟨S2x64, .f32⟩
  | 16 => ⟨S2x64, .f32⟩
  | 17 => ⟨S2x8, .f32⟩
  | 18 => ⟨S1024, .f32⟩
  | 19 => ⟨S2x6144, .f32⟩
  | 20 => ⟨S2x1024, .f32⟩
  | 21 => ⟨S2x1024, .f32⟩
  | 22 => ⟨S2x1024, .f32⟩
  | 23 => ⟨S2x1024, .f32⟩
  | 24 => ⟨S2x64, .f32⟩
  | 25 => ⟨S2x64, .f32⟩
  | 26 => ⟨S2x8, .f32⟩
  | 27 => ⟨S8x1024, .f32⟩
  | 28 => ⟨S8x2x6144, .f32⟩
  | 29 => ⟨S8x2x1024, .f32⟩
  | 30 => ⟨S8x2x1024, .f32⟩
  | 31 => ⟨S8x2x1024, .f32⟩
  | 32 => ⟨S8x2x1024, .f32⟩
  | 33 => ⟨S8x2x64, .f32⟩
  | 34 => ⟨S8x2x64, .f32⟩
  | 35 => ⟨S8x2x8, .f32⟩
  | 36 => ⟨S8x1, .f32⟩
  | 37 => ⟨S_, .f32⟩
  | 38 => ⟨S1024, .f32⟩
  | 39 => ⟨S_, .f32⟩
  | 40 => ⟨S1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S_, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S_, .f32⟩
  | 73 => ⟨S2x6144, .f32⟩
  | 74 => ⟨S_, .f32⟩
  | 75 => ⟨S2x6144, .f32⟩
  | 76 => ⟨S2x6144, .f32⟩
  | 77 => ⟨S_, .f32⟩
  | 78 => ⟨S2x6144, .f32⟩
  | 79 => ⟨S2x6144, .f32⟩
  | 80 => ⟨S2x6144, .f32⟩
  | 81 => ⟨S_, .f32⟩
  | 82 => ⟨S2x6144, .f32⟩
  | 83 => ⟨S2x6144, .f32⟩
  | 84 => ⟨S2x6144, .f32⟩
  | 85 => ⟨S_, .f32⟩
  | 86 => ⟨S2x6144, .f32⟩
  | 87 => ⟨S2x6144, .f32⟩
  | 88 => ⟨S2x6144, .f32⟩
  | 89 => ⟨S_, .f32⟩
  | 90 => ⟨S2x6144, .f32⟩
  | 91 => ⟨S2x6144, .f32⟩
  | 92 => ⟨S_, .f32⟩
  | 93 => ⟨S2x6144, .f32⟩
  | 94 => ⟨S2x6144, .f32⟩
  | 95 => ⟨S2x6144, .f32⟩
  | 96 => ⟨S_, .f32⟩
  | 97 => ⟨S2x6144, .f32⟩
  | 98 => ⟨S2x6144, .f32⟩
  | 99 => ⟨S2x6144, .f32⟩
  | 100 => ⟨S_, .f32⟩
  | 101 => ⟨S2x6144, .f32⟩
  | 102 => ⟨S2x6144, .f32⟩
  | 103 => ⟨S2x6144, .f32⟩
  | 104 => ⟨S_, .f32⟩
  | 105 => ⟨S2x6144, .f32⟩
  | 106 => ⟨S2x6144, .f32⟩
  | 107 => ⟨S_, .f32⟩
  | 108 => ⟨S2x1024, .f32⟩
  | 109 => ⟨S_, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S2x1024, .f32⟩
  | 116 => ⟨S_, .f32⟩
  | 117 => ⟨S2x1024, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S_, .f32⟩
  | _ => ⟨S1024, .f32⟩

abbrev hbmTy0_1 (i : Nat) : BufTy := match i % 128 with
  | 0 => ⟨S2x1024, .f32⟩
  | 1 => ⟨S2x1024, .f32⟩
  | 2 => ⟨S2x1024, .f32⟩
  | 3 => ⟨S_, .f32⟩
  | 4 => ⟨S2x1024, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S2x1024, .f32⟩
  | 11 => ⟨S_, .f32⟩
  | 12 => ⟨S2x1024, .f32⟩
  | 13 => ⟨S2x1024, .f32⟩
  | 14 => ⟨S_, .f32⟩
  | 15 => ⟨S2x1024, .f32⟩
  | 16 => ⟨S_, .f32⟩
  | 17 => ⟨S2x1024, .f32⟩
  | 18 => ⟨S2x1024, .f32⟩
  | 19 => ⟨S_, .f32⟩
  | 20 => ⟨S2x1024, .f32⟩
  | 21 => ⟨S2x1024, .f32⟩
  | 22 => ⟨S2x1024, .f32⟩
  | 23 => ⟨S_, .f32⟩
  | 24 => ⟨S2x1024, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S_, .f32⟩
  | 50 => ⟨S2x1024, .f32⟩
  | 51 => ⟨S_, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S2x1024, .f32⟩
  | 77 => ⟨S_, .f32⟩
  | 78 => ⟨S2x1024, .f32⟩
  | 79 => ⟨S2x1024, .f32⟩
  | 80 => ⟨S2x1024, .f32⟩
  | 81 => ⟨S_, .f32⟩
  | 82 => ⟨S2x1024, .f32⟩
  | 83 => ⟨S2x1024, .f32⟩
  | 84 => ⟨S_, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S2x1024, .f32⟩
  | 116 => ⟨S_, .f32⟩
  | 117 => ⟨S2x1024, .f32⟩
  | 118 => ⟨S2x1024, .f32⟩
  | 119 => ⟨S_, .f32⟩
  | 120 => ⟨S2x64, .f32⟩
  | 121 => ⟨S_, .f32⟩
  | 122 => ⟨S2x64, .f32⟩
  | 123 => ⟨S2x64, .f32⟩
  | 124 => ⟨S_, .f32⟩
  | 125 => ⟨S2x64, .f32⟩
  | 126 => ⟨S2x64, .f32⟩
  | 127 => ⟨S2x64, .f32⟩
  | _ => ⟨S1024, .f32⟩

abbrev hbmTy0_2 (i : Nat) : BufTy := match i % 128 with
  | 0 => ⟨S_, .f32⟩
  | 1 => ⟨S2x64, .f32⟩
  | 2 => ⟨S2x64, .f32⟩
  | 3 => ⟨S2x64, .f32⟩
  | 4 => ⟨S_, .f32⟩
  | 5 => ⟨S2x64, .f32⟩
  | 6 => ⟨S2x64, .f32⟩
  | 7 => ⟨S2x64, .f32⟩
  | 8 => ⟨S_, .f32⟩
  | 9 => ⟨S2x64, .f32⟩
  | 10 => ⟨S2x64, .f32⟩
  | 11 => ⟨S_, .f32⟩
  | 12 => ⟨S2x64, .f32⟩
  | 13 => ⟨S2x64, .f32⟩
  | 14 => ⟨S2x64, .f32⟩
  | 15 => ⟨S_, .f32⟩
  | 16 => ⟨S2x64, .f32⟩
  | 17 => ⟨S2x64, .f32⟩
  | 18 => ⟨S2x64, .f32⟩
  | 19 => ⟨S_, .f32⟩
  | 20 => ⟨S2x64, .f32⟩
  | 21 => ⟨S2x64, .f32⟩
  | 22 => ⟨S2x64, .f32⟩
  | 23 => ⟨S_, .f32⟩
  | 24 => ⟨S2x64, .f32⟩
  | 25 => ⟨S2x64, .f32⟩
  | 26 => ⟨S_, .f32⟩
  | 27 => ⟨S2x64, .f32⟩
  | 28 => ⟨S_, .f32⟩
  | 29 => ⟨S2x64, .f32⟩
  | 30 => ⟨S2x64, .f32⟩
  | 31 => ⟨S_, .f32⟩
  | 32 => ⟨S2x64, .f32⟩
  | 33 => ⟨S2x64, .f32⟩
  | 34 => ⟨S2x64, .f32⟩
  | 35 => ⟨S_, .f32⟩
  | 36 => ⟨S2x64, .f32⟩
  | 37 => ⟨S2x64, .f32⟩
  | 38 => ⟨S2x64, .f32⟩
  | 39 => ⟨S_, .f32⟩
  | 40 => ⟨S2x64, .f32⟩
  | 41 => ⟨S2x64, .f32⟩
  | 42 => ⟨S2x64, .f32⟩
  | 43 => ⟨S_, .f32⟩
  | 44 => ⟨S2x64, .f32⟩
  | 45 => ⟨S2x64, .f32⟩
  | 46 => ⟨S_, .f32⟩
  | 47 => ⟨S2x64, .f32⟩
  | 48 => ⟨S2x64, .f32⟩
  | 49 => ⟨S2x64, .f32⟩
  | 50 => ⟨S_, .f32⟩
  | 51 => ⟨S2x64, .f32⟩
  | 52 => ⟨S2x64, .f32⟩
  | 53 => ⟨S2x64, .f32⟩
  | 54 => ⟨S_, .f32⟩
  | 55 => ⟨S2x64, .f32⟩
  | 56 => ⟨S2x64, .f32⟩
  | 57 => ⟨S2x64, .f32⟩
  | 58 => ⟨S_, .f32⟩
  | 59 => ⟨S2x64, .f32⟩
  | 60 => ⟨S2x64, .f32⟩
  | 61 => ⟨S_, .f32⟩
  | 62 => ⟨S2x8, .f32⟩
  | 63 => ⟨S_, .f32⟩
  | 64 => ⟨S2x8, .f32⟩
  | 65 => ⟨S2x8, .f32⟩
  | 66 => ⟨S_, .f32⟩
  | 67 => ⟨S2x8, .f32⟩
  | 68 => ⟨S2x8, .f32⟩
  | 69 => ⟨S2x8, .f32⟩
  | 70 => ⟨S_, .f32⟩
  | 71 => ⟨S2x8, .f32⟩
  | 72 => ⟨S2x8, .f32⟩
  | 73 => ⟨S2x8, .f32⟩
  | 74 => ⟨S_, .f32⟩
  | 75 => ⟨S2x8, .f32⟩
  | 76 => ⟨S2x8, .f32⟩
  | 77 => ⟨S2x8, .f32⟩
  | 78 => ⟨S_, .f32⟩
  | 79 => ⟨S2x8, .f32⟩
  | 80 => ⟨S2x8, .f32⟩
  | 81 => ⟨S_, .f32⟩
  | 82 => ⟨S2x8, .f32⟩
  | 83 => ⟨S2x8, .f32⟩
  | 84 => ⟨S2x8, .f32⟩
  | 85 => ⟨S_, .f32⟩
  | 86 => ⟨S2x8, .f32⟩
  | 87 => ⟨S2x8, .f32⟩
  | 88 => ⟨S2x8, .f32⟩
  | 89 => ⟨S_, .f32⟩
  | 90 => ⟨S2x8, .f32⟩
  | 91 => ⟨S2x8, .f32⟩
  | 92 => ⟨S2x8, .f32⟩
  | 93 => ⟨S_, .f32⟩
  | 94 => ⟨S2x8, .f32⟩
  | 95 => ⟨S2x8, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_cst_0 : Ref sig .tc := ⟨.hbm, 39, rfl⟩
abbrev main_v1 : Ref sig .tc := ⟨.hbm, 40, rfl⟩
abbrev main_v2 : Ref sig .tc := ⟨.hbm, 41, rfl⟩
abbrev main_cst_1 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst_2 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst_3 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_4 : Ref sig .tc := ⟨.hbm, 54, rfl⟩
abbrev main_v12 : Ref sig .tc := ⟨.hbm, 55, rfl⟩
abbrev main_v13 : Ref sig .tc := ⟨.hbm, 56, rfl⟩
abbrev main_cst_5 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_6 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_7 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_8 : Ref sig .tc := ⟨.hbm, 69, rfl⟩
abbrev main_v23 : Ref sig .tc := ⟨.hbm, 70, rfl⟩
abbrev main_v24 : Ref sig .tc := ⟨.hbm, 71, rfl⟩
abbrev main_cst_9 : Ref sig .tc := ⟨.hbm, 72, rfl⟩
abbrev main_v25 : Ref sig .tc := ⟨.hbm, 73, rfl⟩
abbrev main_cst_10 : Ref sig .tc := ⟨.hbm, 74, rfl⟩
abbrev main_v26 : Ref sig .tc := ⟨.hbm, 75, rfl⟩
abbrev main_v27 : Ref sig .tc := ⟨.hbm, 76, rfl⟩
abbrev main_cst_11 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_12 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_13 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_14 : Ref sig .tc := ⟨.hbm, 89, rfl⟩
abbrev main_v37 : Ref sig .tc := ⟨.hbm, 90, rfl⟩
abbrev main_v38 : Ref sig .tc := ⟨.hbm, 91, rfl⟩
abbrev main_cst_15 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_cst_16 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_17 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_18 : Ref sig .tc := ⟨.hbm, 104, rfl⟩
abbrev main_v48 : Ref sig .tc := ⟨.hbm, 105, rfl⟩
abbrev main_v49 : Ref sig .tc := ⟨.hbm, 106, rfl⟩
abbrev main_cst_19 : Ref sig .tc := ⟨.hbm, 107, rfl⟩
abbrev main_v50 : Ref sig .tc := ⟨.hbm, 108, rfl⟩
abbrev main_cst_20 : Ref sig .tc := ⟨.hbm, 109, rfl⟩
abbrev main_v51 : Ref sig .tc := ⟨.hbm, 110, rfl⟩
abbrev main_v52 : Ref sig .tc := ⟨.hbm, 111, rfl⟩
abbrev main_cst_21 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_22 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_23 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_24 : Ref sig .tc := ⟨.hbm, 124, rfl⟩
abbrev main_v62 : Ref sig .tc := ⟨.hbm, 125, rfl⟩
abbrev main_v63 : Ref sig .tc := ⟨.hbm, 126, rfl⟩
abbrev main_cst_25 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_26 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_27 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_28 : Ref sig .tc := ⟨.hbm, 139, rfl⟩
abbrev main_v73 : Ref sig .tc := ⟨.hbm, 140, rfl⟩
abbrev main_v74 : Ref sig .tc := ⟨.hbm, 141, rfl⟩
abbrev main_cst_29 : Ref sig .tc := ⟨.hbm, 142, rfl⟩
abbrev main_v75 : Ref sig .tc := ⟨.hbm, 143, rfl⟩
abbrev main_cst_30 : Ref sig .tc := ⟨.hbm, 144, rfl⟩
abbrev main_v76 : Ref sig .tc := ⟨.hbm, 145, rfl⟩
abbrev main_v77 : Ref sig .tc := ⟨.hbm, 146, rfl⟩
abbrev main_cst_31 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_32 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_33 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_cst_34 : Ref sig .tc := ⟨.hbm, 159, rfl⟩
abbrev main_v87 : Ref sig .tc := ⟨.hbm, 160, rfl⟩
abbrev main_v88 : Ref sig .tc := ⟨.hbm, 161, rfl⟩
abbrev main_cst_35 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_36 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_37 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_cst_38 : Ref sig .tc := ⟨.hbm, 174, rfl⟩
abbrev main_v98 : Ref sig .tc := ⟨.hbm, 175, rfl⟩
abbrev main_v99 : Ref sig .tc := ⟨.hbm, 176, rfl⟩
abbrev main_cst_39 : Ref sig .tc := ⟨.hbm, 177, rfl⟩
abbrev main_v100 : Ref sig .tc := ⟨.hbm, 178, rfl⟩
abbrev main_cst_40 : Ref sig .tc := ⟨.hbm, 179, rfl⟩
abbrev main_v101 : Ref sig .tc := ⟨.hbm, 180, rfl⟩
abbrev main_v102 : Ref sig .tc := ⟨.hbm, 181, rfl⟩
abbrev main_cst_41 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_cst_42 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_cst_43 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_44 : Ref sig .tc := ⟨.hbm, 194, rfl⟩
abbrev main_v112 : Ref sig .tc := ⟨.hbm, 195, rfl⟩
abbrev main_v113 : Ref sig .tc := ⟨.hbm, 196, rfl⟩
abbrev main_cst_45 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_46 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_cst_47 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_cst_48 : Ref sig .tc := ⟨.hbm, 209, rfl⟩
abbrev main_v123 : Ref sig .tc := ⟨.hbm, 210, rfl⟩
abbrev main_v124 : Ref sig .tc := ⟨.hbm, 211, rfl⟩
abbrev main_cst_49 : Ref sig .tc := ⟨.hbm, 212, rfl⟩
abbrev main_v125 : Ref sig .tc := ⟨.hbm, 213, rfl⟩
abbrev main_cst_50 : Ref sig .tc := ⟨.hbm, 214, rfl⟩
abbrev main_v126 : Ref sig .tc := ⟨.hbm, 215, rfl⟩
abbrev main_v127 : Ref sig .tc := ⟨.hbm, 216, rfl⟩
abbrev main_cst_51 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_52 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_cst_53 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_cst_54 : Ref sig .tc := ⟨.hbm, 229, rfl⟩
abbrev main_v137 : Ref sig .tc := ⟨.hbm, 230, rfl⟩
abbrev main_v138 : Ref sig .tc := ⟨.hbm, 231, rfl⟩
abbrev main_cst_55 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_56 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_cst_57 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_58 : Ref sig .tc := ⟨.hbm, 244, rfl⟩
abbrev main_v148 : Ref sig .tc := ⟨.hbm, 245, rfl⟩
abbrev main_v149 : Ref sig .tc := ⟨.hbm, 246, rfl⟩
abbrev main_cst_59 : Ref sig .tc := ⟨.hbm, 247, rfl⟩
abbrev main_v150 : Ref sig .tc := ⟨.hbm, 248, rfl⟩
abbrev main_cst_60 : Ref sig .tc := ⟨.hbm, 249, rfl⟩
abbrev main_v151 : Ref sig .tc := ⟨.hbm, 250, rfl⟩
abbrev main_v152 : Ref sig .tc := ⟨.hbm, 251, rfl⟩
abbrev main_cst_61 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_cst_62 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_cst_63 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_cst_64 : Ref sig .tc := ⟨.hbm, 264, rfl⟩
abbrev main_v162 : Ref sig .tc := ⟨.hbm, 265, rfl⟩
abbrev main_v163 : Ref sig .tc := ⟨.hbm, 266, rfl⟩
abbrev main_cst_65 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_cst_66 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_cst_67 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_cst_68 : Ref sig .tc := ⟨.hbm, 279, rfl⟩
abbrev main_v173 : Ref sig .tc := ⟨.hbm, 280, rfl⟩
abbrev main_v174 : Ref sig .tc := ⟨.hbm, 281, rfl⟩
abbrev main_cst_69 : Ref sig .tc := ⟨.hbm, 282, rfl⟩
abbrev main_v175 : Ref sig .tc := ⟨.hbm, 283, rfl⟩
abbrev main_cst_70 : Ref sig .tc := ⟨.hbm, 284, rfl⟩
abbrev main_v176 : Ref sig .tc := ⟨.hbm, 285, rfl⟩
abbrev main_v177 : Ref sig .tc := ⟨.hbm, 286, rfl⟩
abbrev main_cst_71 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_cst_72 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_cst_73 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_cst_74 : Ref sig .tc := ⟨.hbm, 299, rfl⟩
abbrev main_v187 : Ref sig .tc := ⟨.hbm, 300, rfl⟩
abbrev main_v188 : Ref sig .tc := ⟨.hbm, 301, rfl⟩
abbrev main_cst_75 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_cst_76 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_cst_77 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_cst_78 : Ref sig .tc := ⟨.hbm, 314, rfl⟩
abbrev main_v198 : Ref sig .tc := ⟨.hbm, 315, rfl⟩
abbrev main_v199 : Ref sig .tc := ⟨.hbm, 316, rfl⟩
abbrev main_cst_79 : Ref sig .tc := ⟨.hbm, 317, rfl⟩
abbrev main_v200 : Ref sig .tc := ⟨.hbm, 318, rfl⟩
abbrev main_cst_80 : Ref sig .tc := ⟨.hbm, 319, rfl⟩
abbrev main_v201 : Ref sig .tc := ⟨.hbm, 320, rfl⟩
abbrev main_v202 : Ref sig .tc := ⟨.hbm, 321, rfl⟩
abbrev main_cst_81 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_cst_82 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_cst_83 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_cst_84 : Ref sig .tc := ⟨.hbm, 334, rfl⟩
abbrev main_v212 : Ref sig .tc := ⟨.hbm, 335, rfl⟩
abbrev main_v213 : Ref sig .tc := ⟨.hbm, 336, rfl⟩
abbrev main_cst_85 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_cst_86 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_cst_87 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_cst_88 : Ref sig .tc := ⟨.hbm, 349, rfl⟩
abbrev main_v223 : Ref sig .tc := ⟨.hbm, 350, rfl⟩
abbrev main_v224 : Ref sig .tc := ⟨.hbm, 351, rfl⟩
abbrev main_cst_89 : Ref sig .tc := ⟨.hbm, 352, rfl⟩
abbrev main_v225 : Ref sig .tc := ⟨.hbm, 353, rfl⟩
abbrev main_cst_90 : Ref sig .tc := ⟨.hbm, 354, rfl⟩
abbrev main_v226 : Ref sig .tc := ⟨.hbm, 355, rfl⟩
abbrev main_cst_91 : Ref sig .tc := ⟨.hbm, 356, rfl⟩
abbrev main_v227 : Ref sig .tc := ⟨.hbm, 357, rfl⟩

abbrev nD : Nat := 1
abbrev τ : Topo := Topo.v7x

variable {F : FTy → Type} [FloatOps F]
-- ==== Kernel10.lean ====
abbrev S64x1024 : Shape := ⟨2, ![64, 1024]⟩
abbrev S2x1024x768 : Shape := ⟨3, ![2, 1024, 768]⟩
abbrev S2x768 : Shape := ⟨2, ![2, 768]⟩
abbrev S2x1x768 : Shape := ⟨3, ![2, 1, 768]⟩
abbrev S2x64x768 : Shape := ⟨3, ![2, 64, 768]⟩
abbrev S1x1024x768 : Shape := ⟨3, ![1, 1024, 768]⟩
abbrev S1x1x768 : Shape := ⟨3, ![1, 1, 768]⟩
abbrev S1x64x768 : Shape := ⟨3, ![1, 64, 768]⟩
abbrev S1024x768 : Shape := ⟨2, ![1024, 768]⟩
abbrev S64x768 : Shape := ⟨2, ![64, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S2x1024x768, .f32⟩
  | .hbm, ⟨2, _⟩ => ⟨S2x768, .f32⟩
  | .hbm, ⟨3, _⟩ => ⟨S2x1x768, .f32⟩
  | .hbm, ⟨4, _⟩ => ⟨S2x64x768, .f32⟩
  | .local _ .vmem, ⟨0, _⟩ => ⟨S64x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x64x768, .f32⟩
  | .local _ .vmem, ⟨6, _⟩ => ⟨S1x64x768, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S64x1024 : Shape := ⟨2, ![64, 1024]⟩
abbrev S2x1024x768 : Shape := ⟨3, ![2, 1024, 768]⟩
abbrev S2x768 : Shape := ⟨2, ![2, 768]⟩
abbrev S_ : Shape := ⟨0, ![]⟩
abbrev S64x2x768 : Shape := ⟨3, ![64, 2, 768]⟩
abbrev S2x1x768 : Shape := ⟨3, ![2, 1, 768]⟩
abbrev S2x64x768 : Shape := ⟨3, ![2, 64, 768]⟩

abbrev nBuf : Space → Nat
  | .hbm => 17
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S2x1024x768, .f32⟩
  | .hbm, ⟨2, _⟩ => ⟨S2x768, .f32⟩
  | .hbm, ⟨3, _⟩ => ⟨S64x1024, .f32⟩
  | .hbm, ⟨4, _⟩ => ⟨S64x1024, .f32⟩
  | .hbm, ⟨5, _⟩ => ⟨S_, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x1024, .f32⟩
  | .hbm, ⟨12, _⟩ => ⟨S64x2x768, .f32⟩
  | .hbm, ⟨13, _⟩ => ⟨S2x1x768, .f32⟩
  | .hbm, ⟨14, _⟩ => ⟨S2x64x768, .f32⟩
  | .hbm, ⟨15, _⟩ => ⟨S2x64x768, .f32⟩
  | .hbm, ⟨16, _⟩ => ⟨S2x64x768, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S64x1024 : Shape := ⟨2, ![64, 1024]⟩
abbrev S2x1024x768 : Shape := ⟨3, ![2, 1024, 768]⟩
abbrev S2x64x768 : Shape := ⟨3, ![2, 64, 768]⟩
abbrev S1x1024 : Shape := ⟨2, ![1, 1024]⟩
abbrev S8x1024 : Shape := ⟨2, ![8, 1024]⟩
abbrev S1x64x768 : Shape := ⟨3, ![1, 64, 768]⟩
abbrev S1x1024x768 : Shape := ⟨3, ![1, 1024, 768]⟩
abbrev S64x768 : Shape := ⟨2, ![64, 768]⟩
abbrev S1024x768 : Shape := ⟨2, ![1024, 768]⟩
abbrev S1024 : Shape := ⟨1, ![1024]⟩
abbrev S7x1024 : Shape := ⟨2, ![7, 1024]⟩

abbrev nBuf : Space → Nat
  | .hbm => 6
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S2x1024x768, .f32⟩
  | .hbm, ⟨2, _⟩ => ⟨S2x64x768, .f32⟩
  | .hbm, ⟨3, _⟩ => ⟨S1x1024, .f32⟩
  | .hbm, ⟨4, _⟩ => ⟨S2x1024x768, .f32⟩
  | .hbm, ⟨5, _⟩ => ⟨S8x1024, .f32⟩
  | .local _ .vmem, ⟨0, _⟩ => ⟨S64x1024, .f32⟩
  | .local _ .vmem, ⟨1, _⟩ => ⟨S1x1024, .f32⟩
  | .local _ .vmem, ⟨2, _⟩ => ⟨S1x64x768, .f32⟩
  | .local _ .vmem, ⟨3, _⟩ => ⟨S1x64x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S8x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32_21 : BitVec 32 := 0#32
  let v50 : BitVec 1 := Scalar.cmpi .eq arg0 c0_i32_21
  let v51 : BitVec 32 := Scalar.extui v50
  let c0_i32_22 : BitVec 32 := 0#32
  let v52 : BitVec 1 := Scalar.cmpi .ne v51 c0_i32_22
  v52

def k0_cond2 (i : grid0.Coords) : BitVec 1 :=
  let arg0 : BitVec 32 := BitVec.ofNat 32 (i 0).val
  let c0_i32_23 : BitVec 32 := 0#32
  let v53 : BitVec 1 := Scalar.cmpi .ne arg0 c0_i32_23
  let v54 : BitVec 32 := Scalar.extui v53
  let c0_i32_24 : BitVec 32 := 0#32
  let v55 : BitVec 1 := Scalar.cmpi .ne v54 c0_i32_24
  v55

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S64x1024 : Shape := ⟨2, ![64, 1024]⟩
abbrev S2x1024x768 : Shape := ⟨3, ![2, 1024, 768]⟩
abbrev S2x64x768 : Shape := ⟨3, ![2, 64, 768]⟩
abbrev S_ : Shape := ⟨0, ![]⟩
abbrev S64x2x768 : Shape := ⟨3, ![64, 2, 768]⟩
abbrev S2x768x1024 : Shape := ⟨3, ![2, 768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S2x1024x768, .f32⟩
  | .hbm, ⟨2, _⟩ => ⟨S2x64x768, .f32⟩
  | .hbm, ⟨3, _⟩ => ⟨S64x1024, .f32⟩
  | .hbm, ⟨4, _⟩ => ⟨S64x1024, .f32⟩
  | .hbm, ⟨5, _⟩ => ⟨S_, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x1024, .f32⟩
  | .hbm, ⟨12, _⟩ => ⟨S64x2x768, .f32⟩
  | .hbm, ⟨13, _⟩ => ⟨S2x64x768, .f32⟩
  | .hbm, ⟨14, _⟩ => ⟨S64x2x768, .f32⟩
  | .hbm, ⟨15, _⟩ => ⟨S2x768x1024, .f32⟩
  | .hbm, ⟨16, _⟩ => ⟨S2x1024x768, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Mlp0.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The first product of the MLP, `x · w`, with `w` stored as eight column slots. -/
def pre (x : FVec Ideal S4608x1024 .bf16) (w : FVec Ideal S8x1024x512 .bf16) : FVec Ideal S4608x4096 .f32 := fun i =>
  ∑ k : Fin 1024, (x (ix2 (⟨(i 0).val, (i 0).isLt⟩ : Fin 4608) k) : EReal) * w (ix3 (⟨(i 1).val / 512, by have h := (i 1).isLt; change (i 1).val < 4096 at h; omega⟩ : Fin 8) k (⟨(i 1).val % 512, by omega⟩ : Fin 512))

/-- The activation: the square of the positive part. -/
def act (x : FVec Ideal S4608x1024 .bf16) (w : FVec Ideal S8x1024x512 .bf16) : FVec Ideal S4608x4096 .bf16 := fun i =>
  (max (pre x w i) 0 : EReal) * max (pre x w i) 0

/-- Its transpose, the kernel's second result. -/
def actT (x : FVec Ideal S4608x1024 .bf16) (w : FVec Ideal S8x1024x512 .bf16) : FVec Ideal S4096x4608 .bf16 := fun i =>
  act x w (ix2 (⟨(i 1).val, (i 1).isLt⟩ : Fin 4608) (⟨(i 0).val, (i 0).isLt⟩ : Fin 4096))

/-- A product over the 4096 hidden columns: the MLP's second product, and the gradient of its input. -/
def deep (a : FVec Ideal S4608x4096 .bf16) (w : FVec Ideal S4096x1024 .bf16) : FVec Ideal S4608x1024 .f32 := fun i =>
  ∑ k : Fin 4096, (a (ix2 (⟨(i 0).val, (i 0).isLt⟩ : Fin 4608) k) : EReal) * w (ix2 k (⟨(i 1).val, (i 1).isLt⟩ : Fin 1024))

/-- The gradient at the hidden columns, from the saved activation: `dy · wᵀ` times twice the activation's root. -/
def hid (dy : FVec Ideal S4608x1024 .bf16) (w : FVec Ideal S4096x1024 .bf16) (a : FVec Ideal S4608x4096 .bf16) : FVec Ideal S4608x4096 .bf16 := fun i =>
  (∑ k : Fin 1024, (dy (ix2 (⟨(i 0).val, (i 0).isLt⟩ : Fin 4608) k) : EReal) * w (ix2 (⟨(i 1).val, (i 1).isLt⟩ : Fin 4096) k)) * (FloatOps.ofBits (F := Ideal) .f32 0x40000000#32 * FloatOps.sqrt (F := Ideal) (φ := .bf16) (a i))

/-- The gradient of the second weight: the transposed activation times `dy`, over the rows. -/
def gdown (at' : FVec Ideal S4096x4608 .bf16) (dy : FVec Ideal S4608x1024 .bf16) : FVec Ideal S4096x1024 .bf16 := fun i =>
  ∑ k : Fin 4608, (at' (ix2 (⟨(i 0).val, (i 0).isLt⟩ : Fin 4096) k) : EReal) * dy (ix2 k (⟨(i 1).val, (i 1).isLt⟩ : Fin 1024))

/-- The gradient of the first weight, as eight column slots: the transposed input times the hidden gradient. -/
def gup (xt : FVec Ideal S1024x4608 .bf16) (da : FVec Ideal S4608x4096 .bf16) : FVec Ideal S8x1024x512 .bf16 := fun i =>
  ∑ k : Fin 4608, (xt (ix2 (⟨(i 1).val, (i 1).isLt⟩ : Fin 1024) k) : EReal) * da (ix2 k (⟨(i 0).val * 512 + (i 2).val, by have h := (i 0).isLt; have h' := (i 2).isLt; change (i 0).val < 8 at h; change (i 2).val < 512 at h'; omega⟩ : Fin 4096))

theorem idx0 : ∀ t : Fin cfg0.N, win0_0.index t = ![t.val / 8, 0] ∧ win0_1.index t = ![t.val % 8, 0, 0] ∧ win0_2.index t = ![t.val / 8, t.val % 8] ∧ win0_3.index t = ![t.val % 8, t.val / 8] :=
  (by decide +kernel : ∀ t : Fin grid0.N, _)

theorem point0_2 (c : Dev nD) (t : Fin cfg0.N) (y) : k0_pay1 (iblk0 V c 0 t) (iblk0 V c 1 t) y
    = act (V c main_v6) (V c main_v2) (((cfg0.win 2).blk t).view.emb y) := by
  pointwise [k0_pay1, act, pre]
  blk_point [iblk0, idx0 t]

theorem final0_2 (c : Dev nD) : (dat0 V c).arrAt 2 cfg0.N = act (V c main_v6) (V c main_v2) := by
  refine (dat0 V c).arrAt_eq_of_covers 2 _ (by decide +kernel) fun t _ y => ?_
  blk_simp
  rw [after0_2]; frame_out
  exact point0_2 V c t y

theorem point0_3 (c : Dev nD) (t : Fin cfg0.N) (y) : k0_pay2 (iblk0 V c 0 t) (iblk0 V c 1 t) y
    = actT (V c main_v6) (V c main_v2) (((cfg0.win 3).blk t).view.emb y) := by
  pointwise [k0_pay2, k0_pay1, actT, act, pre]
  blk_point [iblk0, idx0 t]

theorem final0_3 (c : Dev nD) : (dat0 V c).arrAt 3 cfg0.N = actT (V c main_v6) (V c main_v2) := by
  refine (dat0 V c).arrAt_eq_of_covers 3 _ (by decide +kernel) fun t _ y => ?_
  blk_simp
  rw [after0_3]; frame_out
  exact point0_3 V c t y

theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)

theorem point1_2 (c : Dev nD) (t : Fin cfg1.N) (y) : k1_pay1 (iblk1 V c 0 t) (iblk1 V c 1 t) y
    = deep (V c main_v9_0) (V c main_v5) (((cfg1.win 2).blk t).view.emb y) := by
  pointwise [k1_pay1, deep]
  blk_point [iblk1, idx1 t]

theorem final1_2 (c : Dev nD) : (dat1 V c).arrAt 2 cfg1.N = deep (V c main_v9_0) (V c main_v5) := by
  refine (dat1 V c).arrAt_eq_of_covers 2 _ (by decide +kernel) fun t _ y => ?_
  blk_simp
  rw [after1_2]; frame_out
  exact point1_2 V c t y

theorem idx2 : ∀ t : Fin cfg2.N, win2_0.index t = ![t.val / 8, 0] ∧ win2_1.index t = ![t.val % 8, 0] ∧ win2_2.index t = ![t.val / 8, t.val % 8] ∧ win2_3.index t = ![t.val / 8, t.val % 8] :=
  (by decide +kernel : ∀ t : Fin grid2.N, _)

theorem point2_3 (c : Dev nD) (t : Fin cfg2.N) (y) : k2_pay1 (iblk2 V c 0 t) (iblk2 V c 1 t) (iblk2 V c 2 t) y
    = hid (V c main_v8) (V c main_v5) (V c main_v9_0) (((cfg2.win 3).blk t).view.emb y) := by
  pointwise [k2_pay1, hid]
  blk_point [iblk2, idx2 t]

theorem final2_3 (c : Dev nD) : (dat2 V c).arrAt 3 cfg2.N = hid (V c main_v8) (V c main_v5) (V c main_v9_0) := by
  refine (dat2 V c).arrAt_eq_of_covers 3 _ (by decide +kernel) fun t _ y => ?_
  blk_simp
  rw [after2_3]; frame_out
  exact point2_3 V c t y

theorem idx3 : ∀ t : Fin cfg3.N, win3_0.index t = ![t.val / 2, 0] ∧ win3_1.index t = ![0, t.val % 2] ∧ win3_2.index t = ![t.val / 2, t.val % 2] :=
  (by decide +kernel : ∀ t : Fin grid3.N, _)

theorem point3_2 (c : Dev nD) (t : Fin cfg3.N) (y) : k3_pay1 (iblk3 V c 0 t) (iblk3 V c 1 t) y
    = gdown (V c main_v9_1) (V c main_v8) (((cfg3.win 2).blk t).view.emb y) := by
  pointwise [k3_pay1, gdown]
  blk_point [iblk3, idx3 t]

theorem final3_2 (c : Dev nD) : (dat3 V c).arrAt 2 cfg3.N = gdown (V c main_v9_1) (V c main_v8) := by
  refine (dat3 V c).arrAt_eq_of_covers 2 _ (by decide +kernel) fun t _ y => ?_
  blk_simp
  rw [after3_2]; frame_out
  exact point3_2 V c t y

theorem idx4 : ∀ t : Fin cfg4.N, win4_0.index t = ![0, 0] ∧ win4_1.index t = ![0, t.val] ∧ win4_2.index t = ![t.val, 0, 0] :=
  (by decide +kernel : ∀ t : Fin grid4.N, _)

theorem point4_2 (c : Dev nD) (t : Fin cfg4.N) (y) : k4_pay1 (iblk4 V c 0 t) (iblk4 V c 1 t) y
    = gup (V c main_v7) (V c main_v11) (((cfg4.win 2).blk t).view.emb y) := by
  pointwise [k4_pay1, gup]
  blk_point [iblk4, idx4 t]

theorem final4_2 (c : Dev nD) : (dat4 V c).arrAt 2 cfg4.N = gup (V c main_v7) (V c main_v11) := by
  refine (dat4 V c).arrAt_eq_of_covers 2 _ (by decide +kernel) fun t _ y => ?_
  blk_simp
  rw [after4_2]; frame_out
  exact point4_2 V c t y

theorem idx5 : ∀ t : Fin cfg5.N, win5_0.index t = ![t.val / 2, 0] ∧ win5_1.index t = ![0, t.val % 2] ∧ win5_2.index t = ![t.val / 2, t.val % 2] :=
  (by decide +kernel : ∀ t : Fin grid5.N, _)

theorem point5_2 (c : Dev nD) (t : Fin cfg5.N) (y) : k5_pay1 (iblk5 V c 0 t) (iblk5 V c 1 t) y
    = deep (V c main_v11) (V c main_v4) (((cfg5.win 2).blk t).view.emb y) := by
  pointwise [k5_pay1, deep]
  blk_point [iblk5, idx5 t]

theorem final5_2 (c : Dev nD) : (dat5 V c).arrAt 2 cfg5.N = deep (V c main_v11) (V c main_v4) := by
  refine (dat5 V c).arrAt_eq_of_covers 2 _ (by decide +kernel) fun t _ y => ?_
  blk_simp
  rw [after5_2]; frame_out
  exact point5_2 V c t y

end Cert.KernelIdeal.Value

end
-- ==== Proof.Mlp1.lean ====
module

public import proofs.«01_k».proof.Proof.Mlp0
public import proofs.«01_k».proof.Proof.Gen.ReferenceIdeal.Read

@[expose] public section

set_option maxRecDepth 16384

noncomputable section

open Idealize.ShloMosaic Idealize.ShloMosaic.TcCoe Idealize.SL.Sem

namespace Cert.KernelIdeal.Value

open Cert.KernelIdeal Cert.KernelIdeal.Gen

/-- The root of a squared positive part is the positive part, and the product with it vanishes off the positive half line. -/
theorem root_sq (s : EReal) : Ideal.sqrt (max s 0 * max s 0) = max s 0 := by
  rcases le_total s 0 with h | h
  · rw [max_eq_right h, mul_zero]
    rw [← EReal.coe_zero, Ideal.sqrt_coe, if_neg (lt_irrefl _), Real.sqrt_zero]
  · rw [max_eq_left h]
    induction s with
    | bot => exact absurd h (by simp)
    | top => rw [EReal.top_mul_top, Ideal.sqrt_top]
    | coe r =>
      have h' : (0 : ℝ) ≤ r := by exact_mod_cast h
      rw [← EReal.coe_mul, Ideal.sqrt_coe, if_neg (not_lt.mpr (mul_nonneg h' h')), Real.sqrt_mul_self h']

theorem gate_eq (d two s : EReal) : d * (two * Ideal.sqrt (max s 0 * max s 0)) = if 0 < s then d * (two * max s 0) else 0 := by
  rw [root_sq]
  split_ifs with h
  · rfl
  · rw [max_eq_right (not_lt.mp h), mul_zero, mul_zero]

variable (X : FVec Ideal S4608x1024 .f32) (U : FVec Ideal S1024x4096 .f32) (W : FVec Ideal S4096x1024 .f32)
  (Y : FVec Ideal S4608x1024 .f32)

/-- The host's column slots of the first weight, and their transposes. -/
abbrev slots (U : FVec Ideal S1024x4096 .f32) : FVec Ideal S8x1024x512 .bf16 :=
  transpose S8x1024x512 [1, 0, 2] (shapeCast S1024x8x512 (truncf .bf16 U bitsLt_bf16_f32) shapeCasts_S1024x4096_S1024x8x512) transposes_S1024x8x512_S8x1024x512_1_0_2
abbrev slotsT (U : FVec Ideal S1024x4096 .f32) : FVec Ideal S4096x1024 .bf16 :=
  shapeCast S4096x1024 (transpose S8x512x1024 [0, 2, 1] (slots U) transposes_S8x1024x512_S8x512x1024_0_2_1) shapeCasts_S8x512x1024_S4096x1024
abbrev xin (X : FVec Ideal S4608x1024 .f32) : FVec Ideal S4608x1024 .bf16 := truncf .bf16 X bitsLt_bf16_f32
abbrev win (W : FVec Ideal S4096x1024 .f32) : FVec Ideal S4096x1024 .bf16 := truncf .bf16 W bitsLt_bf16_f32
abbrev xinT (X : FVec Ideal S4608x1024 .f32) : FVec Ideal S1024x4608 .bf16 := transpose S1024x4608 [1, 0] (xin X) transposes_S4608x1024_S1024x4608_1_0

theorem pre_eq (i) : pre (xin X) (slots U) i = Cert.ReferenceIdeal.Read.val_main_v0 (F := Ideal) X U i := by
  pointwise [pre, Cert.ReferenceIdeal.Read.val_main_v0]

open Cert.ReferenceIdeal.Read in
theorem act_eq : (act (xin X) (slots U) : FVec Ideal S4608x4096 .bf16) = (val_main_v5 (F := Ideal) X U : FVec Ideal S4608x4096 .f32) := by
  funext i
  rw [val_main_v5_apply, val_main_v1_apply, val_main_call0_v0_apply, val_main_call0_cst_apply]
  unfold act
  rw [pre_eq]
  simp

open Cert.ReferenceIdeal.Read in
theorem y_eq : deep (act (xin X) (slots U)) (win W) = val_main_v8 (F := Ideal) X U W := by
  rw [act_eq]
  funext i
  rw [val_main_v8_apply]
  generalize val_main_v5 (F := Ideal) X U = A
  pointwise [deep]
  blk_point

open Cert.ReferenceIdeal.Read in
theorem hid_eq : hid (xin Y) (win W) (act (xin X) (slots U)) = val_main_v14 (F := Ideal) X U W Y := by
  funext i
  rw [val_main_v14_apply, val_main_v3_apply, val_main_v2_apply, val_main_v12_apply, val_main_v7_apply, val_main_v6_apply,
    val_main_v13_apply, val_main_v1_apply, val_main_call0_v0_apply, val_main_call0_cst_apply, val_main_cst_apply, val_main_cst_1_apply, val_main_cst_2_apply, val_main_v11_apply]
  unfold hid act
  rw [pre_eq]
  generalize val_main_v0 (F := Ideal) X U i = s
  have e : (∑ k : Fin 1024, (xin Y (ix2 (⟨(i 0).val, (i 0).isLt⟩ : Fin 4608) k) : EReal) * win W (ix2 (⟨(i 1).val, (i 1).isLt⟩ : Fin 4096) k))
      = ∑ k, (Y (lidx_main_v11 i k) : EReal) * W (ridx_main_v11 i k) := by
    pointwise []
    blk_point
  rw [e]
  generalize (∑ k, (Y (lidx_main_v11 i k) : EReal) * W (ridx_main_v11 i k)) = d
  refine (gate_eq d _ s).trans ?_
  have z : (FloatOps.ofBits (F := Ideal) .f32 0x00000000#32 : EReal) = 0 := Ideal.ofBits_zero_f32
  rw [z]
  have c : FloatOps.cmpf (F := Ideal) (φ := .f32) .ogt s (0 : EReal) = Ideal.cmp .ogt s 0 := rfl
  rw [c]
  simp only [Scalar.select, Ideal.cmp]
  by_cases h : 0 < s <;> simp [h]

open Cert.ReferenceIdeal.Read in
theorem dv_eq : deep (val_main_v14 (F := Ideal) X U W Y) (slotsT U) = val_main_v17 (F := Ideal) X U W Y := by
  funext i
  rw [val_main_v17_apply]
  generalize val_main_v14 (F := Ideal) X U W Y = A
  pointwise [deep]
  blk_point

open Cert.ReferenceIdeal.Read in
theorem gup_eq : gup (xinT X) (val_main_v14 (F := Ideal) X U W Y) = val_main_v20 (F := Ideal) X U W Y := by
  funext i
  rw [val_main_v20_apply, val_main_v19_apply, val_main_v18_apply, val_main_v16_apply]
  rw [val_main_v15_apply]
  generalize val_main_v14 (F := Ideal) X U W Y = A
  unfold gup
  refine (Finset.sum_congr rfl fun k _ => mul_comm _ _).trans ?_
  pointwise []
  blk_point

open Cert.ReferenceIdeal.Read in
theorem gdown_eq : gdown (actT (xin X) (slots U)) (xin Y) = val_main_v21 (F := Ideal) X U Y := by
  funext i
  rw [val_main_v21_apply, val_main_v10_apply]
  rw [val_main_v9_apply]
  unfold gdown actT
  rw [act_eq]
  generalize val_main_v5 (F := Ideal) X U = A
  refine (Finset.sum_congr rfl fun k _ => mul_comm _ _).trans ?_
  pointwise []
  blk_point

end Cert.KernelIdeal.Value

end
-- ==== Proof.Mlp2.lean ====
/- The run of the six calls with the contents of every result: the host's casts and transposes at the first call's entry,
   each call's result carried to the end of the program, and the launch that ends at those contents. -/
module

public import proofs.«01_k».proof.Proof.Mlp1
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Value

open Cert.KernelIdeal Cert.KernelIdeal.Gen

variable (m : (ℓ : Loc nD τ sig) → Buf (Elt Ideal) ℓ) (ρ : Dev nD → PrngReg)

/-- The four arguments as launched on a device. -/
abbrev a0 (c : Dev nD) : FVec Ideal S4608x1024 .f32 := m ((c.tc : Thread nD τ).loc main_arg0)
abbrev a1 (c : Dev nD) : FVec Ideal S1024x4096 .f32 := m ((c.tc : Thread nD τ).loc main_arg1)
abbrev a2 (c : Dev nD) : FVec Ideal S4096x1024 .f32 := m ((c.tc : Thread nD τ).loc main_arg2)
abbrev a3 (c : Dev nD) : FVec Ideal S4608x1024 .f32 := m ((c.tc : Thread nD τ).loc main_arg3)

/-! ## What the host leaves for the calls -/

theorem e2 (c : Dev nD) : W1 m ρ c main_v2 = slots (a1 m c) := by
  show StableHlo.after hostOps0 _ _ = _
  after_results
  rfl
theorem e4 (c : Dev nD) : W1 m ρ c main_v4 = slotsT (a1 m c) := by
  show StableHlo.after hostOps0 _ _ = _
  after_results
  rfl
theorem e5 (c : Dev nD) : W1 m ρ c main_v5 = win (a2 m c) := by
  show StableHlo.after hostOps0 _ _ = _
  after_results
theorem e6 (c : Dev nD) : W1 m ρ c main_v6 = xin (a0 m c) := by
  show StableHlo.after hostOps0 _ _ = _
  after_results
theorem e7 (c : Dev nD) : W1 m ρ c main_v7 = xinT (a0 m c) := by
  show StableHlo.after hostOps0 _ _ = _
  after_results
theorem e8 (c : Dev nD) : W1 m ρ c main_v8 = xin (a3 m c) := by
  show StableHlo.after hostOps0 _ _ = _
  after_results

/-! ## Each call's result at the end of the program -/

/-- The squared activations and their transpose, as the first call leaves them. -/
theorem w2_a (c : Dev nD) : W2 m ρ c main_v9_0 = act (xin (a0 m c)) (slots (a1 m c)) :=
  (W2_arr m ρ c 2).trans ((final0_2 (V1 m ρ) c).trans (by rw [show V1 m ρ c main_v6 = _ from e6 m ρ c, show V1 m ρ c main_v2 = _ from e2 m ρ c]))
theorem w2_t (c : Dev nD) : W2 m ρ c main_v9_1 = actT (xin (a0 m c)) (slots (a1 m c)) :=
  (W2_arr m ρ c 3).trans ((final0_3 (V1 m ρ) c).trans (by rw [show V1 m ρ c main_v6 = _ from e6 m ρ c, show V1 m ρ c main_v2 = _ from e2 m ρ c]))
theorem w2_4 (c : Dev nD) : W2 m ρ c main_v4 = slotsT (a1 m c) := (W2_of m ρ c main_v4 (by decide)).trans (e4 m ρ c)
theorem w2_5 (c : Dev nD) : W2 m ρ c main_v5 = win (a2 m c) := (W2_of m ρ c main_v5 (by decide)).trans (e5 m ρ c)
theorem w2_7 (c : Dev nD) : W2 m ρ c main_v7 = xinT (a0 m c) := (W2_of m ρ c main_v7 (by decide)).trans (e7 m ρ c)
theorem w2_8 (c : Dev nD) : W2 m ρ c main_v8 = xin (a3 m c) := (W2_of m ρ c main_v8 (by decide)).trans (e8 m ρ c)

/-- The layer's output, as the second call leaves it. -/
theorem w3_y (c : Dev nD) : W3 m ρ c main_v10 = deep (act (xin (a0 m c)) (slots (a1 m c))) (win (a2 m c)) :=
  (W3_arr m ρ c 2).trans ((final1_2 (V2 m ρ) c).trans (by rw [show V2 m ρ c main_v9_0 = _ from w2_a m ρ c, show V2 m ρ c main_v5 = _ from w2_5 m ρ c]))
theorem w3_a (c : Dev nD) : W3 m ρ c main_v9_0 = act (xin (a0 m c)) (slots (a1 m c)) :=
   (W3_of m ρ c main_v9_0 (by decide)).trans (w2_a m ρ c)
theorem w3_t (c : Dev nD) : W3 m ρ c main_v9_1 = actT (xin (a0 m c)) (slots (a1 m c)) :=
   (W3_of m ρ c main_v9_1 (by decide)).trans (w2_t m ρ c)
theorem w3_4 (c : Dev nD) : W3 m ρ c main_v4 = slotsT (a1 m c) :=
   (W3_of m ρ c main_v4 (by decide)).trans (w2_4 m ρ c)
theorem w3_5 (c : Dev nD) : W3 m ρ c main_v5 = win (a2 m c) :=
   (W3_of m ρ c main_v5 (by decide)).trans (w2_5 m ρ c)
theorem w3_7 (c : Dev nD) : W3 m ρ c main_v7 = xinT (a0 m c) :=
   (W3_of m ρ c main_v7 (by decide)).trans (w2_7 m ρ c)
theorem w3_8 (c : Dev nD) : W3 m ρ c main_v8 = xin (a3 m c) :=
   (W3_of m ρ c main_v8 (by decide)).trans (w2_8 m ρ c)

/-- The gradient at the hidden values, as the third call leaves it. -/
theorem w4_d (c : Dev nD) : W4 m ρ c main_v11 = hid (xin (a3 m c)) (win (a2 m c)) (act (xin (a0 m c)) (slots (a1 m c))) :=
  (W4_arr m ρ c 3).trans ((final2_3 (V3 m ρ) c).trans (by
    rw [show V3 m ρ c main_v8 = _ from w3_8 m ρ c, show V3 m ρ c main_v5 = _ from w3_5 m ρ c, show V3 m ρ c main_v9_0 = _ from w3_a m ρ c]))
theorem w4_y (c : Dev nD) : W4 m ρ c main_v10 = deep (act (xin (a0 m c)) (slots (a1 m c))) (win (a2 m c)) :=
   (W4_of m ρ c main_v10 (by decide)).trans (w3_y m ρ c)
theorem w4_t (c : Dev nD) : W4 m ρ c main_v9_1 = actT (xin (a0 m c)) (slots (a1 m c)) :=
   (W4_of m ρ c main_v9_1 (by decide)).trans (w3_t m ρ c)
theorem w4_4 (c : Dev nD) : W4 m ρ c main_v4 = slotsT (a1 m c) :=
   (W4_of m ρ c main_v4 (by decide)).trans (w3_4 m ρ c)
theorem w4_7 (c : Dev nD) : W4 m ρ c main_v7 = xinT (a0 m c) :=
   (W4_of m ρ c main_v7 (by decide)).trans (w3_7 m ρ c)
theorem w4_8 (c : Dev nD) : W4 m ρ c main_v8 = xin (a3 m c) :=
   (W4_of m ρ c main_v8 (by decide)).trans (w3_8 m ρ c)

/-- The second weight's gradient, as the fourth call leaves it. -/
theorem w5_g (c : Dev nD) : W5 m ρ c main_v12 = gdown (actT (xin (a0 m c)) (slots (a1 m c))) (xin (a3 m c)) :=
  (W5_arr m ρ c 2).trans ((final3_2 (V4 m ρ) c).trans (by rw [show V4 m ρ c main_v9_1 = _ from w4_t m ρ c, show V4 m ρ c main_v8 = _ from w4_8 m ρ c]))
theorem w5_y (c : Dev nD) : W5 m ρ c main_v10 = deep (act (xin (a0 m c)) (slots (a1 m c))) (win (a2 m c)) :=
   (W5_of m ρ c main_v10 (by decide)).trans (w4_y m ρ c)
theorem w5_d (c : Dev nD) : W5 m ρ c main_v11 = hid (xin (a3 m c)) (win (a2 m c)) (act (xin (a0 m c)) (slots (a1 m c))) :=
   (W5_of m ρ c main_v11 (by decide)).trans (w4_d m ρ c)
theorem w5_4 (c : Dev nD) : W5 m ρ c main_v4 = slotsT (a1 m c) :=
   (W5_of m ρ c main_v4 (by decide)).trans (w4_4 m ρ c)
theorem w5_7 (c : Dev nD) : W5 m ρ c main_v7 = xinT (a0 m c) :=
   (W5_of m ρ c main_v7 (by decide)).trans (w4_7 m ρ c)

/-- The first weight's gradient, as the fifth call leaves it. -/
theorem w6_g (c : Dev nD) : W6 m ρ c main_v13 = gup (xinT (a0 m c)) (hid (xin (a3 m c)) (win (a2 m c)) (act (xin (a0 m c)) (slots (a1 m c)))) :=
  (W6_arr m ρ c 2).trans ((final4_2 (V5 m ρ) c).trans (by rw [show V5 m ρ c main_v7 = _ from w5_7 m ρ c, show V5 m ρ c main_v11 = _ from w5_d m ρ c]))
theorem w6_y (c : Dev nD) : W6 m ρ c main_v10 = deep (act (xin (a0 m c)) (slots (a1 m c))) (win (a2 m c)) :=
   (W6_of m ρ c main_v10 (by decide)).trans (w5_y m ρ c)
theorem w6_d (c : Dev nD) : W6 m ρ c main_v11 = hid (xin (a3 m c)) (win (a2 m c)) (act (xin (a0 m c)) (slots (a1 m c))) :=
   (W6_of m ρ c main_v11 (by decide)).trans (w5_d m ρ c)
theorem w6_4 (c : Dev nD) : W6 m ρ c main_v4 = slotsT (a1 m c) :=
   (W6_of m ρ c main_v4 (by decide)).trans (w5_4 m ρ c)
theorem w6_g' (c : Dev nD) : W6 m ρ c main_v12 = gdown (actT (xin (a0 m c)) (slots (a1 m c))) (xin (a3 m c)) :=
   (W6_of m ρ c main_v12 (by decide)).trans (w5_g m ρ c)

/-! ## The results, as the reference's terms -/

open Cert.ReferenceIdeal.Read in
theorem w7_y (c : Dev nD) : W7 m ρ c main_v10 = val_main_v8 (F := Ideal) (a0 m c) (a1 m c) (a2 m c) :=
  ((W7_of m ρ c main_v10 (by decide)).trans (w6_y m ρ c)).trans (y_eq _ _ _)
open Cert.ReferenceIdeal.Read in
theorem w7_x (c : Dev nD) : W7 m ρ c main_v14 = val_main_v17 (F := Ideal) (a0 m c) (a1 m c) (a2 m c) (a3 m c) :=
  (W7_arr m ρ c 2).trans ((final5_2 (V6 m ρ) c).trans (by
    rw [show V6 m ρ c main_v11 = _ from w6_d m ρ c, show V6 m ρ c main_v4 = _ from w6_4 m ρ c, hid_eq]
    exact dv_eq _ _ _ _))
open Cert.ReferenceIdeal.Read in
theorem w7_u (c : Dev nD) : W7 m ρ c main_v13 = val_main_v20 (F := Ideal) (a0 m c) (a1 m c) (a2 m c) (a3 m c) :=
  ((W7_of m ρ c main_v13 (by decide)).trans (w6_g m ρ c)).trans (by rw [hid_eq]; exact gup_eq _ _ _ _)
open Cert.ReferenceIdeal.Read in
theorem w7_d (c : Dev nD) : W7 m ρ c main_v12 = val_main_v21 (F := Ideal) (a0 m c) (a1 m c) (a3 m c) :=
  ((W7_of m ρ c main_v12 (by decide)).trans (w6_g' m ρ c)).trans (gdown_eq _ _ _)

/-! ## The launch -/

local notation "𝕄" => MT nD τ sig Unit (Elt Ideal) ℕ (UR sig nD τ) ℕ

set_option backward.isDefEq.respectTransparency.types false in
/-- Every fair execution of the six calls ends with the contents named above, for every buffer of the program. -/
theorem run : θ_run defs (onTc (τ := τ) (main (F := Ideal))) ⟨m, fun _ => 0, ρ⟩ (fun r => ∀ c : Dev nD,
      r.2.mem ((c.tc : Thread nD τ).loc main_v10) = Cert.ReferenceIdeal.Read.val_main_v8 (F := Ideal) (a0 m c) (a1 m c) (a2 m c)
      ∧ r.2.mem ((c.tc : Thread nD τ).loc main_v14) = Cert.ReferenceIdeal.Read.val_main_v17 (F := Ideal) (a0 m c) (a1 m c) (a2 m c) (a3 m c)
      ∧ r.2.mem ((c.tc : Thread nD τ).loc main_v13) = Cert.ReferenceIdeal.Read.val_main_v20 (F := Ideal) (a0 m c) (a1 m c) (a2 m c) (a3 m c)
      ∧ r.2.mem ((c.tc : Thread nD τ).loc main_v12) = Cert.ReferenceIdeal.Read.val_main_v21 (F := Ideal) (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v10 (by decide))).trans (w7_y m ρ c),
       (h c _ (mem_uc main_v14 (by decide))).trans (w7_x m ρ c),
       (h c _ (mem_uc main_v13 (by decide))).trans (w7_u m ρ c),
       (h c _ (mem_uc main_v12 (by decide))).trans (w7_d m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Value

end
-- ==== Proof.NormRuns.lean ====
/- What the two runs of the body of `Kernel2Ideal` share: the conditions of its branches over the points, where its outputs are idle or fresh, its staging memrefs. -/
module

public import proofs.«01_k».proof.Proof.Gen.Kernel2Ideal.Frame
public import proofs.«01_k».proof.Proof.Gen.Kernel2Ideal.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 or 1 (mod 9) — decided over the grid. -/
theorem hcond0_0 : ∀ t : Fin cfg0.N, cond0_0 (grid0.coords t) ↔ (t.val % 9 = 0 ∨ t.val % 9 = 1) :=
  (by decide +kernel : ∀ t : Fin grid0.N, cond0_0 (grid0.coords t) ↔ (t.val % 9 = 0 ∨ t.val % 9 = 1))

/-- The condition of the body's `scf.if` 1 (`k0_h2`), from the grid coordinates (the skeleton's scalar
    chain substituted). -/
abbrev cond0_1 (i : grid0.Coords) : Prop := k0_cond2 i = 1#1
/-- It holds at the points ≢ 0 or 1 (mod 9) — decided over the grid. -/
theorem hcond0_1 : ∀ t : Fin cfg0.N, cond0_1 (grid0.coords t) ↔ ¬(t.val % 9 = 0 ∨ t.val % 9 = 1) :=
  (by decide +kernel : ∀ t : Fin grid0.N, cond0_1 (grid0.coords t) ↔ ¬(t.val % 9 = 0 ∨ t.val % 9 = 1))

/-- The condition of the body's `scf.if` 2 (`k0_h3`), from the grid coordinates (the skeleton's scalar
    chain substituted). -/
abbrev cond0_2 (i : grid0.Coords) : Prop := k0_cond3 i = 1#1
/-- It holds at the points ≡ 0 or 1 (mod 9) — decided over the grid. -/
theorem hcond0_2 : ∀ t : Fin cfg0.N, cond0_2 (grid0.coords t) ↔ (t.val % 9 = 0 ∨ t.val % 9 = 1) :=
  (by decide +kernel : ∀ t : Fin grid0.N, cond0_2 (grid0.coords t) ↔ (t.val % 9 = 0 ∨ t.val % 9 = 1))

/-- The condition of the body's `scf.if` 3 (`k0_h4`), from the grid coordinates (the skeleton's scalar
    chain substituted). -/
abbrev cond0_3 (i : grid0.Coords) : Prop := k0_cond4 i = 1#1
/-- It holds at the points ≢ 0 or 1 (mod 9) — decided over the grid. -/
theorem hcond0_3 : ∀ t : Fin cfg0.N, cond0_3 (grid0.coords t) ↔ ¬(t.val % 9 = 0 ∨ t.val % 9 = 1) :=
  (by decide +kernel : ∀ t : Fin grid0.N, cond0_3 (grid0.coords t) ↔ ¬(t.val % 9 = 0 ∨ t.val % 9 = 1))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 10 is never idle (an output stored at every point, under no condition). -/
theorem liveAt0_10 : ∀ t : Fin cfg0.N, cfg0.idle 10 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x20301 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → cond0_2 (grid0.coords t) → ¬cond0_3 (grid0.coords t) → cfg0.idle 9 (grid0.coords t) = false :=
  fun t h0 h1 h2 h3 => (by decide +kernel : ∀ t : Fin cfg0.N, conds0_A (grid0.coords t) → cfg0.idle 9 (grid0.coords t) = false) t ⟨h0, h1, h2, h3⟩
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → cond0_3 (grid0.coords t) → cfg0.idle 9 (grid0.coords t) = false :=
  fun t h0 h1 h2 h3 => (by decide +kernel : ∀ t : Fin cfg0.N, conds0_B (grid0.coords t) → cfg0.idle 9 (grid0.coords t) = false) t ⟨h0, h1, h2, h3⟩
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_B (grid0.coords t) → cfg0.fresh 9 t.val = false) t ⟨h0, h1, h2, h3⟩
/-- Whether output 11's buffer is FRESH at each position `1 ‥ N` — holds nothing the body stored since the region's entry or the
    last write-back (written back at the point before, or idle there and fresh before it) —, as a bitmask the classifier
    computed, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x20301 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → ¬cond0_1 (grid0.coords t) → cond0_2 (grid0.coords t) → ¬cond0_3 (grid0.coords t) → cfg0.idle 11 (grid0.coords t) = false :=
  fun t h0 h1 h2 h3 => (by decide +kernel : ∀ t : Fin cfg0.N, conds0_A (grid0.coords t) → cfg0.idle 11 (grid0.coords t) = false) t ⟨h0, h1, h2, h3⟩
/-- At the points of case B the printed configuration (`Cfg.idle`) calls output 11 live: the case stores into it. -/
theorem liveAt0_11_B : ∀ t : Fin cfg0.N, ¬cond0_0 (grid0.coords t) → cond0_1 (grid0.coords t) → ¬cond0_2 (grid0.coords t) → cond0_3 (grid0.coords t) → cfg0.idle 11 (grid0.coords t) = false :=
  fun t h0 h1 h2 h3 => (by decide +kernel : ∀ t : Fin cfg0.N, conds0_B (grid0.coords t) → cfg0.idle 11 (grid0.coords t) = false) t ⟨h0, h1, h2, h3⟩
/-- At the points of case B, which keeps output 11's prior contents (reads it before covering, or covers it in part), the
    window's buffer is not FRESH: something was stored into it since the region's entry or its last write-back, idle points
    between or not (Lib/Pipeline/TableIdle.lean `Cfg.fresh`, by the table `freshTab0_11`). -/
theorem notFresh0_11_B : ∀ t : Fin cfg0.N, ¬cond0_0 (grid0.coords t) → cond0_1 (grid0.coords t) → ¬cond0_2 (grid0.coords t) → cond0_3 (grid0.coords t) → cfg0.fresh 11 t.val = false :=
  fun t h0 h1 h2 h3 => (by intro t; rw [fresh0_11_eq t]; revert t; decide +kernel : ∀ t : Fin cfg0.N, conds0_B (grid0.coords t) → cfg0.fresh 11 t.val = false) t ⟨h0, h1, h2, h3⟩

/-! ## The kernel body on any staging memrefs: a subtype the run finds -/

/-- One staging buffer of output window 8, through which its contents are stated (`View.read_writes_of_cover`: the
    choice does not matter). -/
abbrev VO0_8 : View sig .tc .vmem S256x1024 .f32 := (Memref.whole cc0_stg8_0 : Memref sig .tc .vmem S256x1024 .f32).view
/-- One staging buffer of output window 9, through which its contents are stated (`View.read_writes_of_cover`: the
    choice does not matter). -/
abbrev VO0_9 : View sig .tc .vmem S1x1x8x1024 .f32 := (Memref.whole cc0_stg9_0 : Memref sig .tc .vmem S1x1x8x1024 .f32).view
/-- One staging buffer of output window 10, through which its contents are stated (`View.read_writes_of_cover`: the
    choice does not matter). -/
abbrev VO0_10 : View sig .tc .vmem S256x1024 .bf16 := (Memref.whole cc0_stg10_0 : Memref sig .tc .vmem S256x1024 .bf16).view
/-- One staging buffer of output window 11, through which its contents are stated (`View.read_writes_of_cover`: the
    choice does not matter). -/
abbrev VO0_11 : View sig .tc .vmem S1x1x8x1024 .f32 := (Memref.whole cc0_stg11_0 : Memref sig .tc .vmem S1x1x8x1024 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x8x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x8x1024 .f32 := win0_11.stage (cfg0.slots t 11)
abbrev hs0_11 (t : Fin cfg0.N) : (ms0_11 t).IsWhole := hstage0_11 ((cfg0.slots t 11).cast nbuf0_11)

end Cert.Kernel2Ideal.Gen

end
-- ==== Proof.NormA.lean ====
/- The body of `Kernel2Ideal` run in case A of its branches. -/
module

public import proofs.«01_k».proof.Proof.NormRuns

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 taken, `scf.if` 3 not taken: points 0, 1, 9, 10), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) :
    Σ' (L8 : List (View.Piece (Elt F) S256x1024 .f32)), Σ' (L9 : List (View.Piece (Elt F) S1x1x8x1024 .f32)), Σ' (L10 : List (View.Piece (Elt F) S256x1024 .bf16)), { L11 : List (View.Piece (Elt F) S1x1x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_mlp_mod_mix_gate_bwd1 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_mlp_mod_mix_gate_bwd1_eq_skeleton]; unfold cc0_mlp_mod_mix_gate_bwd1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact H11

end Cert.Kernel2Ideal.Gen

end
-- ==== Proof.NormB.lean ====
/- The body of `Kernel2Ideal` run in case B of its branches. -/
module

public import proofs.«01_k».proof.Proof.NormRuns

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 taken: points 2, 3, … 17: 14 of 18), WITH the
    proof that on whole staging memrefs — the inputs' at their contents, the outputs it reads before covering (9, 11) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) :
    Σ' (L8 : List (View.Piece (Elt F) S256x1024 .f32)), Σ' (L9 : List (View.Piece (Elt F) S1x1x8x1024 .f32)), Σ' (L10 : List (View.Piece (Elt F) S256x1024 .bf16)), { L11 : List (View.Piece (Elt F) S1x1x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ (∃ d, owns (c : Thread nD τ) arg11 fullShare d) ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_mlp_mod_mix_gate_bwd1 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_mlp_mod_mix_gate_bwd1_eq_skeleton]; unfold cc0_mlp_mod_mix_gate_bwd1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg12.eq_unread hf11
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact H11

end Cert.Kernel2Ideal.Gen

end
-- ==== Proof.NormFrame.lean ====
/- What the outputs of `Kernel2Ideal` hold point by point, the proof data of its pipeline, its run and its frame. -/
module

public import proofs.«01_k».proof.Proof.NormA
public import proofs.«01_k».proof.Proof.NormB
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S256x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).1 S256x1024.size (by sl_kernel_rfl) y

/-- What case A leaves in output 8's staging buffer: its pieces read back over junk. -/
def out0_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) : Vec F S256x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).1)

/-- Case A's pieces for output 9 tile its block (1 store of `S1x1x8x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (y : S1x1x8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.1 S1x1x8x1024.size (by sl_kernel_rfl) y

/-- What case A leaves in output 9's staging buffer: its pieces read back over junk. -/
def out0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) : Vec F S1x1x8x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.1)

/-- Case A's pieces for output 10 tile its block (1 store of `S256x1024`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.2.1 S256x1024.size (by sl_kernel_rfl) y

/-- What case A leaves in output 10's staging buffer: its pieces read back over junk. -/
def out0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) : Vec F S256x1024 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.2.1)

/-- Case A's pieces for output 11 tile its block (1 store of `S1x1x8x1024`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (y : S1x1x8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.2.2.1 S1x1x8x1024.size (by sl_kernel_rfl) y

/-- What case A leaves in output 11's staging buffer: its pieces read back over junk. -/
def out0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : cond0_0 i) (hc1 : ¬cond0_1 i) (hc2 : cond0_2 i) (hc3 : ¬cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) : Vec F S1x1x8x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7).2.2.2.1)

/-- Case B's pieces for output 8 tile its block (1 store of `S256x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).1 S256x1024.size (by sl_kernel_rfl) y

/-- What case B leaves in output 8's staging buffer: its pieces read back over junk. -/
def out0_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) : Vec F S256x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).1)

/-- Case B's pieces for output 9 tile its block (1 store of `S1x1x8x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) (y : S1x1x8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.1 S1x1x8x1024.size (by sl_kernel_rfl) y

/-- What case B leaves in output 9's staging buffer: its pieces read back over junk. -/
def out0_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) : Vec F S1x1x8x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.1)

/-- Case B's pieces for output 10 tile its block (1 store of `S256x1024`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.2.1 S256x1024.size (by sl_kernel_rfl) y

/-- What case B leaves in output 10's staging buffer: its pieces read back over junk. -/
def out0_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) : Vec F S256x1024 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.2.1)

/-- Case B's pieces for output 11 tile its block (1 store of `S1x1x8x1024`, checked by the kernel's evaluation: Lib/Ring.lean `Piece.tiledL`, linear in the pieces, through a loop's `@[irreducible]` trip theorem too), so they cover it. -/
theorem cover0_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) (y : S1x1x8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.2.2.1 S1x1x8x1024.size (by sl_kernel_rfl) y

/-- What case B leaves in output 11's staging buffer: its pieces read back over junk. -/
def out0_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x8x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1x8x1024 .f32) (harg8 : arg8.IsWhole) (arg9 : Memref sig .tc .vmem S256x1024 .f32) (harg9 : arg9.IsWhole) (arg10 : Memref sig .tc .vmem S1x1x8x1024 .f32) (harg10 : arg10.IsWhole) (arg11 : Memref sig .tc .vmem S256x1024 .bf16) (harg11 : arg11.IsWhole) (arg12 : Memref sig .tc .vmem S1x1x8x1024 .f32) (harg12 : arg12.IsWhole) (hc0 : ¬cond0_0 i) (hc1 : cond0_1 i) (hc2 : ¬cond0_2 i) (hc3 : cond0_3 i)
    (x0 : Vec F S256x1024 .f32) (x1 : Vec F S1x1024 .f32) (x2 : Vec F S1x1x8x1024 .f32) (x3 : Vec F S256x1024 .f32) (x4 : Vec F S256x1024 .f32) (x5 : Vec F S256x1024 .f32) (x6 : Vec F S1x1024 .f32) (x7 : Vec F S1x1x8x1024 .f32) (xo9 : Vec F S1x1x8x1024 .f32) (xo11 : Vec F S1x1x8x1024 .f32) : Vec F S1x1x8x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 xo9 xo11).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .f32 × Vec F S1x1x8x1024 .f32 × Vec F S256x1024 .bf16 × Vec F S1x1x8x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (by (try dsimp only); omega)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : ((n + 1) % 9 = 0 ∨ (n + 1) % 9 = 1) then
      if h1 : ¬((n + 1) % 9 = 0 ∨ (n + 1) % 9 = 1) then
        False.elim (by have hN : n + 1 < 18 := lt_of_lt_of_eq hn (show cfg0.N = 18 from N_0); omega)
      else
        if h2 : ((n + 1) % 9 = 0 ∨ (n + 1) % 9 = 1) then
          if h3 : ¬((n + 1) % 9 = 0 ∨ (n + 1) % 9 = 1) then
            False.elim (by have hN : n + 1 < 18 := lt_of_lt_of_eq hn (show cfg0.N = 18 from N_0); omega)
          else
            (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
        else
          False.elim (by have hN : n + 1 < 18 := lt_of_lt_of_eq hn (show cfg0.N = 18 from N_0); omega)
    else
      if h1 : ¬((n + 1) % 9 = 0 ∨ (n + 1) % 9 = 1) then
        if h2 : ((n + 1) % 9 = 0 ∨ (n + 1) % 9 = 1) then
          False.elim (by have hN : n + 1 < 18 := lt_of_lt_of_eq hn (show cfg0.N = 18 from N_0); omega)
        else
          if h3 : ¬((n + 1) % 9 = 0 ∨ (n + 1) % 9 = 1) then
            (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2.2)
          else
            False.elim (by have hN : n + 1 < 18 := lt_of_lt_of_eq hn (show cfg0.N = 18 from N_0); omega)
      else
        False.elim (by have hN : n + 1 < 18 := lt_of_lt_of_eq hn (show cfg0.N = 18 from N_0); omega)

/-- `outsAt0` at a point of case A: that case's contents. -/
theorem outsAt0_A (c : Dev nD) (t : Fin cfg0.N) (h0 : (t.val % 9 = 0 ∨ t.val % 9 = 1)) (h1 : ¬¬(t.val % 9 = 0 ∨ t.val % 9 = 1)) (h2 : (t.val % 9 = 0 ∨ t.val % 9 = 1)) (h3 : ¬¬(t.val % 9 = 0 ∨ t.val % 9 = 1)) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans ((dif_pos h2).trans ((dif_neg h3).trans rfl)))

/-- `outsAt0` at a point of case B: that case's contents, over what the point before left. -/
theorem outsAt0_B (c : Dev nD) (t : Fin cfg0.N) (h0 : ¬(t.val % 9 = 0 ∨ t.val % 9 = 1)) (h1 : ¬(t.val % 9 = 0 ∨ t.val % 9 = 1)) (h2 : ¬(t.val % 9 = 0 ∨ t.val % 9 = 1)) (h3 : ¬(t.val % 9 = 0 ∨ t.val % 9 = 1)) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact by omega)
  | succ n => exact (dif_neg h0).trans ((dif_pos h1).trans ((dif_neg h2).trans ((dif_pos h3).trans rfl)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 18 := lt_of_lt_of_eq t.isLt (show cfg0.N = 18 from N_0)
  rw [after0_9, after0_9]
  by_cases h0 : (t.val % 9 = 0 ∨ t.val % 9 = 1)
  · by_cases h1 : ¬(t.val % 9 = 0 ∨ t.val % 9 = 1)
    · exfalso; omega
    · by_cases h2 : (t.val % 9 = 0 ∨ t.val % 9 = 1)
      · by_cases h3 : ¬(t.val % 9 = 0 ∨ t.val % 9 = 1)
        · exfalso; omega
        · rw [liveAt0_9_A t ((hcond0_0 t).mpr h0) (fun h => h1 ((hcond0_1 t).mp h)) ((hcond0_2 t).mpr h2) (fun h => h3 ((hcond0_3 t).mp h))] at hi
          exact absurd hi Bool.false_ne_true
      · exfalso; omega
  · by_cases h1 : ¬(t.val % 9 = 0 ∨ t.val % 9 = 1)
    · by_cases h2 : (t.val % 9 = 0 ∨ t.val % 9 = 1)
      · exfalso; omega
      · by_cases h3 : ¬(t.val % 9 = 0 ∨ t.val % 9 = 1)
        · rw [liveAt0_9_B t (fun h => h0 ((hcond0_0 t).mp h)) ((hcond0_1 t).mpr h1) (fun h => h2 ((hcond0_2 t).mp h)) ((hcond0_3 t).mpr h3)] at hi
          exact absurd hi Bool.false_ne_true
        · exfalso; omega
    · exfalso; omega

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 18 := lt_of_lt_of_eq t.isLt (show cfg0.N = 18 from N_0)
  rw [after0_11, after0_11]
  by_cases h0 : (t.val % 9 = 0 ∨ t.val % 9 = 1)
  · by_cases h1 : ¬(t.val % 9 = 0 ∨ t.val % 9 = 1)
    · exfalso; omega
    · by_cases h2 : (t.val % 9 = 0 ∨ t.val % 9 = 1)
      · by_cases h3 : ¬(t.val % 9 = 0 ∨ t.val % 9 = 1)
        · exfalso; omega
        · rw [liveAt0_11_A t ((hcond0_0 t).mpr h0) (fun h => h1 ((hcond0_1 t).mp h)) ((hcond0_2 t).mpr h2) (fun h => h3 ((hcond0_3 t).mp h))] at hi
          exact absurd hi Bool.false_ne_true
      · exfalso; omega
  · by_cases h1 : ¬(t.val % 9 = 0 ∨ t.val % 9 = 1)
    · by_cases h2 : (t.val % 9 = 0 ∨ t.val % 9 = 1)
      · exfalso; omega
      · by_cases h3 : ¬(t.val % 9 = 0 ∨ t.val % 9 = 1)
        · rw [liveAt0_11_B t (fun h => h0 ((hcond0_0 t).mp h)) ((hcond0_1 t).mpr h1) (fun h => h2 ((hcond0_2 t).mp h)) ((hcond0_3 t).mpr h3)] at hi
          exact absurd hi Bool.false_ne_true
        · exfalso; omega
    · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬(t.val % 9 = 0 ∨ t.val % 9 = 1)) (h1 : ¬(t.val % 9 = 0 ∨ t.val % 9 = 1)) (h2 : ¬(t.val % 9 = 0 ∨ t.val % 9 = 1)) (h3 : ¬(t.val % 9 = 0 ∨ t.val % 9 = 1)) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) ((hcond0_1 t).mpr h1) (fun h => h2 ((hcond0_2 t).mp h)) ((hcond0_3 t).mpr h3)]; exact Bool.false_ne_true)]
  dsimp only [dats]
/-- At a point of case B output 11's current staging buffer holds what the point before left: the buffer is not fresh
    there (`notFresh0_11_B`: stored into since the region's entry or the last write-back, carried through the points that
    leave it idle by `hcarry0_11`; Lib/Pipeline/TableIdle.lean `Dat.before_out_traj`). -/
theorem before0_11_B (c : Dev nD) (t : Fin cfg0.N) (h0 : ¬(t.val % 9 = 0 ∨ t.val % 9 = 1)) (h1 : ¬(t.val % 9 = 0 ∨ t.val % 9 = 1)) (h2 : ¬(t.val % 9 = 0 ∨ t.val % 9 = 1)) (h3 : ¬(t.val % 9 = 0 ∨ t.val % 9 = 1)) (d) :
    (dats m 0 c).before 11 t d = (outsAt0 m c (t.val - 1) (Nat.lt_of_le_of_lt (Nat.sub_le _ _) t.isLt)).2.2.2 := by
  rw [Dat.before_out_traj _ 11 rfl (fun _ _ => rfl) (hcarry0_11 m c) t.val t rfl d,
    if_neg (by rw [notFresh0_11_B t (fun h => h0 ((hcond0_0 t).mp h)) ((hcond0_1 t).mpr h1) (fun h => h2 ((hcond0_2 t).mp h)) ((hcond0_3 t).mpr h3)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 18 := lt_of_lt_of_eq t.isLt (show cfg0.N = 18 from N_0)
  by_cases h0 : (t.val % 9 = 0 ∨ t.val % 9 = 1)
  · by_cases h1 : ¬(t.val % 9 = 0 ∨ t.val % 9 = 1)
    · exfalso; omega
    · by_cases h2 : (t.val % 9 = 0 ∨ t.val % 9 = 1)
      · by_cases h3 : ¬(t.val % 9 = 0 ∨ t.val % 9 = 1)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h)) ((hcond0_2 t).mpr h2) (fun h => h3 ((hcond0_3 t).mp h))], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h)) ((hcond0_2 t).mpr h2) (fun h => h3 ((hcond0_3 t).mp h))], after0_11]
          rw [outsAt0_A m c t h0 h1 h2 h3]
          unfold out0_A_8 out0_A_9 out0_A_10 out0_A_11; (try dsimp only)
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          iintro ⟨H0, H1, H2, H3, H4, H5, H6, H7, ⟨%e8, H8⟩, ⟨%e9, H9⟩, ⟨%e10, H10⟩, ⟨%e11, H11⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _)
      · exfalso; omega
  · by_cases h1 : ¬(t.val % 9 = 0 ∨ t.val % 9 = 1)
    · by_cases h2 : (t.val % 9 = 0 ∨ t.val % 9 = 1)
      · exfalso; omega
      · by_cases h3 : ¬(t.val % 9 = 0 ∨ t.val % 9 = 1)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h)) ((hcond0_3 t).mpr h3)], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h)) ((hcond0_3 t).mpr h3)], after0_11]
          rw [outsAt0_B m c t h0 h1 h2 h3]
          simp only [before0_9_B m c t h0 h1 h2 h3, before0_11_B m c t h0 h1 h2 h3]
          unfold out0_B_8 out0_B_9 out0_B_10 out0_B_11; (try dsimp only)
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [H10]; · iexists _; iexact H10
          isplitl [H11]; · iexact H11
          iintro ⟨H0, H1, H2, H3, H4, H5, H6, H7, ⟨%e8, H8⟩, ⟨%e9, H9⟩, ⟨%e10, H10⟩, ⟨%e11, H11⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _)
        · exfalso; omega
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel2Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel2Ideal.Gen

end
-- ==== Proof.NormT.lean ====
module

public import proofs.«01_k».proof.Proof.NormFrame
public import proofs.«01_k».proof.Proof.Gen.Kernel2.Frame
public import proofs.«01_k».proof.Proof.Gen.Kernel2.Skeleton
public import proofs.«01_k».proof.Proof.Gen.Reference2Ideal.Run
public import proofs.«01_k».proof.Proof.Gen.Reference2Ideal.Read
public import proofs.«01_k».proof.Defs

@[expose] public section

set_option maxRecDepth 16384

/-! The second kernel and its idealization are one text, so one run gives both frames. -/

namespace Cert.Kernel2.Same

open Idealize.ShloMosaic Idealize.SL.Sem

/-- The same body. -/
theorem body : Cert.Kernel2.defs₀ (F := Bits) = Cert.Kernel2Ideal.defs₀ (F := Bits) := by
  unfold Cert.Kernel2.defs₀ Cert.Kernel2Ideal.defs₀
  refine congrArg Defs.onTc (funext fun l => funext fun a => ?_)
  revert a
  match l with
  | 0 => intro a; rfl

/-- The same table of definitions. -/
theorem table : Cert.Kernel2.defs (F := Bits) = Cert.Kernel2Ideal.defs (F := Bits) :=
  congrArg (Pipeline.defs (Cert.Kernel2Ideal.pcfgs (F := Bits))) body

set_option maxHeartbeats 4000000 in
/-- The same program. -/
theorem program : Cert.Kernel2.main (F := Bits) = Cert.Kernel2Ideal.main (F := Bits) := rfl

/-- The kernel's frame, from the idealization's run at the kernel's own floats. -/
theorem frame : Cert.quiescent_Kernel2 := fun m g _ => by
  have h := Cert.Kernel2Ideal.Gen.frame (F := Bits) m g
  rw [← table, ← program] at h
  exact h

end Cert.Kernel2.Same

end
-- ==== Proof.NormV.lean ====
module

public import proofs.«01_k».proof.Proof.NormFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-! ## What the call computes, row by row -/

section spec
variable (H Z DU DHI : FVec Ideal S4608x1024 .f32) (GQ GP : FVec Ideal S1x1024 .f32) (MS MG : FVec Ideal S2x2x8x1024 .f32)

/-- The sample a row belongs to, and its stream: 256 context rows, then 2048 latent rows. -/
def smp (r : Fin 4608) : Fin 2 := ⟨r.val / 2304, by omega⟩
def str (r : Fin 4608) : Fin 2 := ⟨min (r.val % 2304 / 256) 1, by omega⟩

/-- The reciprocal root mean square of a row. -/
def rms (X : FVec Ideal S4608x1024 .f32) (r : Fin 4608) : EReal :=
  Ideal.rsqrt (Ideal.div (∑ k : Fin 1024, (X (ix2 r k) : EReal) * X (ix2 r k)) (Ideal.ofBits .f32 0x44800000#32) + Ideal.ofBits .f32 0x358637BD#32)

/-- A row divided by its root mean square. -/
def unit (X : FVec Ideal S4608x1024 .f32) (r : Fin 4608) (j : Fin 1024) : EReal := (X (ix2 r j) : EReal) * rms X r

/-- The gradient through the division by the root mean square, from the gradient `c` at the divided row. -/
def back (X : FVec Ideal S4608x1024 .f32) (c : Fin 4608 → Fin 1024 → EReal) (r : Fin 4608) (j : Fin 1024) : EReal :=
  rms X r * (c r j - unit X r j * Ideal.div (∑ k : Fin 1024, c r k * unit X r k) (Ideal.ofBits .f32 0x44800000#32))

/-- The gradient at the normalised stream, before its gain. -/
def dy (r : Fin 4608) (j : Fin 1024) : EReal := (DU (ix2 r j) : EReal) * (1 + MS (ix4 (smp r) (str r) (4 : Fin 8) j))

/-- The gradient of the stream after the gated sum. -/
def dmid (r : Fin 4608) (j : Fin 1024) : EReal :=
  (DHI (ix2 r j) : EReal) + back H (fun r j => dy DU MS r j * GQ (ix2 (0 : Fin 1) j)) r j

/-- The gradient at the normalised branch, before its gain. -/
def dgt (r : Fin 4608) (j : Fin 1024) : EReal := dmid H DU DHI GQ MS r j * MG (ix4 (smp r) (str r) (2 : Fin 8) j)

/-- The gradient of the branch. -/
def dbr (r : Fin 4608) (j : Fin 1024) : EReal := back Z (fun r j => dgt H DU DHI GQ MS MG r j * GP (ix2 (0 : Fin 1) j)) r j

/-- What a row adds to the gradients of the shift, the scale and the gain of its stream. -/
def vecs (v : ℕ) (r : Fin 4608) (j : Fin 1024) : EReal :=
  if v < 1 then DU (ix2 r j) else if v < 2 then (DU (ix2 r j) : EReal) * (unit H r j * GQ (ix2 (0 : Fin 1) j))
    else if v < 3 then dy DU MS r j * unit H r j else 0

/-- What a row adds to the gradients of the gate and the branch's gain of its stream. -/
def gates (v : ℕ) (r : Fin 4608) (j : Fin 1024) : EReal :=
  if v < 1 then dmid H DU DHI GQ MS r j * (unit Z r j * GP (ix2 (0 : Fin 1) j))
    else if v < 2 then dgt H DU DHI GQ MS MG r j * unit Z r j else 0
end spec

variable (m : (ℓ : Loc nD τ sig) → Buf (Elt Ideal) ℓ) (ρ : Dev nD → PrngReg)

theorem idx0 : ∀ t : Fin cfg0.N, win0_0.index t = ![t.val, 0] ∧ win0_1.index t = ![0, 0] ∧ win0_2.index t = ![t.val / 9, min (t.val % 9) 1, 0, 0]
    ∧ win0_3.index t = ![t.val, 0] ∧ win0_4.index t = ![t.val, 0] ∧ win0_5.index t = ![t.val, 0] ∧ win0_6.index t = ![0, 0]
    ∧ win0_7.index t = ![t.val / 9, min (t.val % 9) 1, 0, 0] ∧ win0_8.index t = ![t.val, 0] ∧ win0_9.index t = ![t.val / 9, min (t.val % 9) 1, 0, 0]
    ∧ win0_10.index t = ![t.val, 0] ∧ win0_11.index t = ![t.val / 9, min (t.val % 9) 1, 0, 0] :=
  (by decide +kernel : ∀ t : Fin grid0.N, _)

theorem nN : cfg0.N = 18 := N_0

/-- The row `p` of the block at a point. -/
abbrev row (t : Fin cfg0.N) (p : Fin 256) : Fin 4608 := ⟨t.val * 256 + p.val, by have := t.isLt; have := nN; omega⟩

theorem at8 (c : Dev nD) (t : Fin cfg0.N) (p : Fin 256) (q : Fin 1024) :
    k0_pay8 (iblk m c 0 t) (iblk m c 1 t) (iblk m c 2 t) (iblk m c 3 t) (iblk m c 4 t) (ix2 p q)
      = dmid (V m c (Pipeline.arrRef spec0 0)) (V m c (Pipeline.arrRef spec0 3)) (V m c (Pipeline.arrRef spec0 4)) (V m c (Pipeline.arrRef spec0 1)) (V m c (Pipeline.arrRef spec0 2)) (row t p) q := by
  pointwise [k0_pay8, k0_pay7, k0_pay6, k0_pay5, k0_pay4, k0_pay3, dmid, back, unit, rms, dy, smp, str]
  blk_point [iblk, idx0 t]

theorem unit5 (c : Dev nD) (t : Fin cfg0.N) (p : Fin 256) (q : Fin 1024) :
    k0_pay5 (iblk m c 0 t) (ix2 p q) = unit (V m c (Pipeline.arrRef spec0 0)) (row t p) q := by
  pointwise [k0_pay5, k0_pay4, k0_pay3, unit, rms]
  blk_point [iblk, idx0 t]

theorem gain6 (c : Dev nD) (t : Fin cfg0.N) (q : Fin 1024) :
    k0_pay6 (iblk m c 1 t) (ix2 (0 : Fin 1) q) = (V m c (Pipeline.arrRef spec0 1) : FVec Ideal S1x1024 .f32) (ix2 (0 : Fin 1) q) := by
  pointwise [k0_pay6]
  blk_point [iblk, idx0 t]

theorem dy7 (c : Dev nD) (t : Fin cfg0.N) (p : Fin 256) (q : Fin 1024) :
    k0_pay7 (iblk m c 2 t) (iblk m c 3 t) (ix2 p q) = dy (V m c (Pipeline.arrRef spec0 3)) (V m c (Pipeline.arrRef spec0 2)) (row t p) q := by
  pointwise [k0_pay7, dy, smp, str]
  blk_point [iblk, idx0 t]

theorem du3 (c : Dev nD) (t : Fin cfg0.N) (p : Fin 256) (q : Fin 1024) :
    (iblk m c 3 t : FVec Ideal S256x1024 .f32) (ix2 p q) = (V m c (Pipeline.arrRef spec0 3) : FVec Ideal S4608x1024 .f32) (ix2 (row t p) q) := by
  blk_point [iblk, idx0 t]

theorem rms12 (c : Dev nD) (t : Fin cfg0.N) (p : Fin 256) :
    k0_pay12 (iblk m c 5 t) (ix2 p (0 : Fin 1)) = rms (V m c (Pipeline.arrRef spec0 5)) (row t p) := by
  pointwise [k0_pay12, rms]
  blk_point [iblk, idx0 t]

theorem unit13 (c : Dev nD) (t : Fin cfg0.N) (p : Fin 256) (q : Fin 1024) :
    k0_pay13 (iblk m c 5 t) (ix2 p q) = unit (V m c (Pipeline.arrRef spec0 5)) (row t p) q := by
  pointwise [k0_pay13, k0_pay12, unit, rms]
  blk_point [iblk, idx0 t]

theorem gain6' (c : Dev nD) (t : Fin cfg0.N) (q : Fin 1024) :
    (iblk m c 6 t : FVec Ideal S1x1024 .f32) (ix2 (0 : Fin 1) q) = (V m c (Pipeline.arrRef spec0 6) : FVec Ideal S1x1024 .f32) (ix2 (0 : Fin 1) q) := by
  blk_point [iblk, idx0 t]

theorem gate7 (c : Dev nD) (t : Fin cfg0.N) (p : Fin 256) (q : Fin 1024) :
    (iblk m c 7 t : FVec Ideal S1x1x8x1024 .f32) (ix4 (0 : Fin 1) (0 : Fin 1) (2 : Fin 8) q) = (V m c (Pipeline.arrRef spec0 7) : FVec Ideal S2x2x8x1024 .f32) (ix4 (smp (row t p)) (str (row t p)) (2 : Fin 8) q) := by
  unfold smp str
  blk_point [iblk, idx0 t]

/-! ## The payloads over variables -/

section pay
variable (x0 x3 y1 y2 : FVec Ideal S256x1024 .f32) (g : FVec Ideal S1x1024 .f32) (u : FVec Ideal S256x1 .f32) (w : FVec Ideal S1x1x8x1024 .f32)

theorem pay9 (v : Fin 8) (q : Fin 1024) : k0_pay9 y1 g x3 y2 (ix2 v q)
    = ∑ p : Fin 256, (if v.val < 1 then (x3 (ix2 p q) : EReal) else if v.val < 2 then (x3 (ix2 p q) : EReal) * (y1 (ix2 p q) * g (ix2 (0 : Fin 1) q)) else if v.val < 3 then (y2 (ix2 p q) : EReal) * y1 (ix2 p q) else 0) := by
  pointwise [k0_pay9]
  fin_vals v with hv
  all_goals simp only [hv, Nat.reduceSub, Nat.reduceLT, ↓reduceDIte, ↓reduceIte, Finset.sum_const_zero]

theorem pay15 (p : Fin 256) (q : Fin 1024) : k0_pay15 x0 w (ix2 p q) = (x0 (ix2 p q) : EReal) * w (ix4 (0 : Fin 1) (0 : Fin 1) (2 : Fin 8) q) := by
  pointwise [k0_pay15]

theorem pay17 (v : Fin 8) (q : Fin 1024) : k0_pay17 x0 y1 g w (ix2 v q)
    = ∑ p : Fin 256, (if v.val < 1 then (x0 (ix2 p q) : EReal) * (y1 (ix2 p q) * g (ix2 (0 : Fin 1) q)) else if v.val < 2 then (x0 (ix2 p q) : EReal) * w (ix4 (0 : Fin 1) (0 : Fin 1) (2 : Fin 8) q) * y1 (ix2 p q) else 0) := by
  pointwise [k0_pay17, k0_pay15, k0_pay14]
  fin_vals v with hv
  all_goals simp only [hv, Nat.reduceSub, Nat.reduceLT, ↓reduceDIte, ↓reduceIte, Finset.sum_const_zero]

theorem pay16 (p : Fin 256) (q : Fin 1024) : k0_pay16 x0 u y1 g w (ix2 p q)
    = (u (ix2 p (0 : Fin 1)) : EReal) * ((x0 (ix2 p q) : EReal) * w (ix4 (0 : Fin 1) (0 : Fin 1) (2 : Fin 8) q) * g (ix2 (0 : Fin 1) q)
      - y1 (ix2 p q) * Ideal.div (∑ k : Fin 1024, (x0 (ix2 p k) : EReal) * w (ix4 (0 : Fin 1) (0 : Fin 1) (2 : Fin 8) k) * g (ix2 (0 : Fin 1) k) * y1 (ix2 p k)) (Ideal.ofBits .f32 0x44800000#32)) := by
  pointwise [k0_pay16, k0_pay15, k0_pay14]

theorem pay1 (z : FVec Ideal S8x1024 .f32) (v : Fin 8) (q : Fin 1024) : k0_pay1 z (ix4 (0 : Fin 1) (0 : Fin 1) v q) = z (ix2 v q) := by
  pointwise [k0_pay1]
theorem pay2 (z : FVec Ideal S8x1024 .f32) (w : FVec Ideal S1x1x8x1024 .f32) (v : Fin 8) (q : Fin 1024) :
    k0_pay2 z w (ix4 (0 : Fin 1) (0 : Fin 1) v q) = (w (ix4 (0 : Fin 1) (0 : Fin 1) v q) : EReal) + z (ix2 v q) := by
  pointwise [k0_pay2]
theorem pay10 (v : Fin 8) (q : Fin 1024) : k0_pay10 y1 g x3 y2 (ix4 (0 : Fin 1) (0 : Fin 1) v q) = k0_pay9 y1 g x3 y2 (ix2 v q) := by
  unfold k0_pay10
  generalize k0_pay9 y1 g x3 y2 = z
  pointwise []
theorem pay11 (w : FVec Ideal S1x1x8x1024 .f32) (v : Fin 8) (q : Fin 1024) : k0_pay11 y1 g x3 y2 w (ix4 (0 : Fin 1) (0 : Fin 1) v q)
    = (w (ix4 (0 : Fin 1) (0 : Fin 1) v q) : EReal) + k0_pay9 y1 g x3 y2 (ix2 v q) := by
  unfold k0_pay11
  generalize k0_pay9 y1 g x3 y2 = z
  pointwise []
end pay

end Cert.Kernel2Ideal.Value

end
-- ==== Proof.NormW.lean ====
module

public import proofs.«01_k».proof.Proof.NormV
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-- The sum of the rows of one stream of one sample. -/
def grp (f : Fin 4608 → EReal) (b s : Fin 2) : EReal :=
  if s.val < 1 then ∑ p : Fin 256, f ⟨b.val * 2304 + p.val, by omega⟩ else ∑ p : Fin 2048, f ⟨b.val * 2304 + 256 + p.val, by omega⟩

/-- A running sum that starts afresh at the first two points of each nine: at the last of the nine it is the sum of the eight before. -/
theorem runs (o : (n : ℕ) → n < 18 → EReal) (τ : Fin 18 → EReal)
    (hA : ∀ t : Fin 18, t.val % 9 = 0 ∨ t.val % 9 = 1 → o t.val t.isLt = τ t)
    (hB : ∀ t : Fin 18, ¬(t.val % 9 = 0 ∨ t.val % 9 = 1) → o t.val t.isLt = o (t.val - 1) (by omega) + τ t)
    (b : Fin 2) (n : ℕ) (hn : n < 8) : o (b.val * 9 + 1 + n) (by omega) = ∑ k : Fin (n + 1), τ ⟨b.val * 9 + 1 + k.val, by omega⟩ := by
  induction n with
  | zero =>
    rw [Fin.sum_univ_one]
    exact hA ⟨b.val * 9 + 1, by omega⟩ (Or.inr (by dsimp only; omega))
  | succ n ih =>
    rw [Fin.sum_univ_castSucc]
    refine (hB ⟨b.val * 9 + 1 + (n + 1), by omega⟩ (by dsimp only; omega)).trans ?_
    exact congrArg (· + _) (ih (by omega))

variable (m : (ℓ : Loc nD τ sig) → Buf (Elt Ideal) ℓ) (ρ : Dev nD → PrngReg)

section
variable (c : Dev nD)
local notation "aH" => (V m c (Pipeline.arrRef spec0 0))
local notation "aQ" => (V m c (Pipeline.arrRef spec0 1))
local notation "aS" => (V m c (Pipeline.arrRef spec0 2))
local notation "aU" => (V m c (Pipeline.arrRef spec0 3))
local notation "aD" => (V m c (Pipeline.arrRef spec0 4))
local notation "aZ" => (V m c (Pipeline.arrRef spec0 5))
local notation "aP" => (V m c (Pipeline.arrRef spec0 6))
local notation "aG" => (V m c (Pipeline.arrRef spec0 7))

theorem tvec (t : Fin cfg0.N) (v : Fin 8) (q : Fin 1024) :
    k0_pay9 (k0_pay5 (iblk m c 0 t)) (k0_pay6 (iblk m c 1 t)) (iblk m c 3 t) (k0_pay7 (iblk m c 2 t) (iblk m c 3 t)) (ix2 v q)
      = ∑ p : Fin 256, vecs aH aU aQ aS v.val (row t p) q := by
  rw [pay9]
  refine Finset.sum_congr rfl fun p _ => ?_
  unfold vecs
  rw [unit5, gain6, dy7, du3]

theorem tgate (t : Fin cfg0.N) (v : Fin 8) (q : Fin 1024) :
    k0_pay17 (k0_pay8 (iblk m c 0 t) (iblk m c 1 t) (iblk m c 2 t) (iblk m c 3 t) (iblk m c 4 t)) (k0_pay13 (iblk m c 5 t)) (iblk m c 6 t) (iblk m c 7 t) (ix2 v q)
      = ∑ p : Fin 256, gates aH aZ aU aD aQ aP aS aG v.val (row t p) q := by
  have h8 := at8 m c t
  have h13 := unit13 m c t
  have h6 := gain6' m c t
  have h7 := gate7 m c t
  generalize k0_pay8 (iblk m c 0 t) (iblk m c 1 t) (iblk m c 2 t) (iblk m c 3 t) (iblk m c 4 t) = x0 at h8 ⊢
  generalize k0_pay13 (iblk m c 5 t) = x13 at h13 ⊢
  generalize (iblk m c 6 t : FVec Ideal S1x1024 .f32) = x6 at h6 ⊢
  generalize (iblk m c 7 t : FVec Ideal S1x1x8x1024 .f32) = x7 at h7 ⊢
  rw [pay17]
  refine Finset.sum_congr rfl fun p _ => ?_
  unfold gates dgt
  rw [h8, h13, h6, h7]

theorem o8 (t : Fin cfg0.N) (p : Fin 256) (q : Fin 1024) :
    (outsAt0 m c t.val t.isLt).1 (ix2 p q) = dmid aH aU aD aQ aS (row t p) q := by
  by_cases hA : t.val % 9 = 0 ∨ t.val % 9 = 1
  · rw [outsAt0_A m c t hA (not_not_intro hA) hA (not_not_intro hA)]
    frame_out
    exact at8 m c t p q
  · rw [outsAt0_B m c t hA hA hA hA]
    frame_out
    exact at8 m c t p q

theorem o10 (t : Fin cfg0.N) (p : Fin 256) (q : Fin 1024) :
    (outsAt0 m c t.val t.isLt).2.2.1 (ix2 p q) = dbr aH aZ aU aD aQ aP aS aG (row t p) q := by
  have e : k0_pay16 (k0_pay8 (iblk m c 0 t) (iblk m c 1 t) (iblk m c 2 t) (iblk m c 3 t) (iblk m c 4 t)) (k0_pay12 (iblk m c 5 t)) (k0_pay13 (iblk m c 5 t)) (iblk m c 6 t) (iblk m c 7 t) (ix2 p q)
      = dbr aH aZ aU aD aQ aP aS aG (row t p) q := by
    have h8 := at8 m c t
    have h12 := rms12 m c t
    have h13 := unit13 m c t
    have h6 := gain6' m c t
    have h7 := gate7 m c t
    generalize k0_pay8 (iblk m c 0 t) (iblk m c 1 t) (iblk m c 2 t) (iblk m c 3 t) (iblk m c 4 t) = x0 at h8 ⊢
    generalize k0_pay12 (iblk m c 5 t) = x12 at h12 ⊢
    generalize k0_pay13 (iblk m c 5 t) = x13 at h13 ⊢
    generalize (iblk m c 6 t : FVec Ideal S1x1024 .f32) = x6 at h6 ⊢
    generalize (iblk m c 7 t : FVec Ideal S1x1x8x1024 .f32) = x7 at h7 ⊢
    rw [pay16]
    unfold dbr back dgt
    simp only [h12, h8, h13, h6, h7 p]
  by_cases hA : t.val % 9 = 0 ∨ t.val % 9 = 1
  · rw [outsAt0_A m c t hA (not_not_intro hA) hA (not_not_intro hA)]
    frame_out
    exact e
  · rw [outsAt0_B m c t hA hA hA hA]
    frame_out
    exact e

theorem o9A (t : Fin cfg0.N) (hA : t.val % 9 = 0 ∨ t.val % 9 = 1) (v : Fin 8) (q : Fin 1024) :
    (outsAt0 m c t.val t.isLt).2.1 (ix4 (0 : Fin 1) (0 : Fin 1) v q) = ∑ p : Fin 256, vecs aH aU aQ aS v.val (row t p) q := by
  rw [outsAt0_A m c t hA (not_not_intro hA) hA (not_not_intro hA)]
  frame_out
  exact (pay10 ..).trans (tvec m c t v q)
theorem o9B (t : Fin cfg0.N) (hA : ¬(t.val % 9 = 0 ∨ t.val % 9 = 1)) (v : Fin 8) (q : Fin 1024) :
    ((outsAt0 m c t.val t.isLt).2.1 (ix4 (0 : Fin 1) (0 : Fin 1) v q) : EReal)
      = ((outsAt0 m c (t.val - 1) (Nat.lt_of_le_of_lt (Nat.sub_le _ _) t.isLt)).2.1 (ix4 (0 : Fin 1) (0 : Fin 1) v q) : EReal) + ∑ p : Fin 256, vecs aH aU aQ aS v.val (row t p) q := by
  rw [outsAt0_B m c t hA hA hA hA]
  frame_out
  exact (pay11 ..).trans (congrArg (_ + ·) (tvec m c t v q))
theorem o11A (t : Fin cfg0.N) (hA : t.val % 9 = 0 ∨ t.val % 9 = 1) (v : Fin 8) (q : Fin 1024) :
    (outsAt0 m c t.val t.isLt).2.2.2 (ix4 (0 : Fin 1) (0 : Fin 1) v q) = ∑ p : Fin 256, gates aH aZ aU aD aQ aP aS aG v.val (row t p) q := by
  rw [outsAt0_A m c t hA (not_not_intro hA) hA (not_not_intro hA)]
  frame_out
  exact (pay1 ..).trans (tgate m c t v q)
theorem o11B (t : Fin cfg0.N) (hA : ¬(t.val % 9 = 0 ∨ t.val % 9 = 1)) (v : Fin 8) (q : Fin 1024) :
    ((outsAt0 m c t.val t.isLt).2.2.2 (ix4 (0 : Fin 1) (0 : Fin 1) v q) : EReal)
      = ((outsAt0 m c (t.val - 1) (Nat.lt_of_le_of_lt (Nat.sub_le _ _) t.isLt)).2.2.2 (ix4 (0 : Fin 1) (0 : Fin 1) v q) : EReal) + ∑ p : Fin 256, gates aH aZ aU aD aQ aP aS aG v.val (row t p) q := by
  rw [outsAt0_B m c t hA hA hA hA]
  frame_out
  exact (pay2 ..).trans (congrArg (_ + ·) (tgate m c t v q))

/-- The running sum at the points where it is written back. -/
theorem flushed (f : Fin 4608 → EReal) (o : (n : ℕ) → n < 18 → EReal)
    (hA : ∀ t : Fin 18, t.val % 9 = 0 ∨ t.val % 9 = 1 → o t.val t.isLt = ∑ p : Fin 256, f (row t p))
    (hB : ∀ t : Fin 18, ¬(t.val % 9 = 0 ∨ t.val % 9 = 1) → o t.val t.isLt = o (t.val - 1) (by omega) + ∑ p : Fin 256, f (row t p))
    (t : Fin 18) (ht : t.val % 9 = 0 ∨ t.val % 9 = 8) (b s : Fin 2) (hb : b.val = t.val / 9) (hs : s.val = min (t.val % 9) 1) :
    o t.val t.isLt = grp f b s := by
  unfold grp
  rcases ht with h | h
  · rw [if_pos (by omega), hA t (Or.inl h)]
    refine Finset.sum_congr rfl fun p _ => congrArg f (Fin.ext ?_)
    dsimp only
    omega
  · rw [if_neg (by omega)]
    have e := runs o (fun t => ∑ p : Fin 256, f (row t p)) hA hB b 7 (by omega)
    have e' : o t.val t.isLt = o (b.val * 9 + 1 + 7) (by omega) := by
      have : t.val = b.val * 9 + 1 + 7 := by omega
      simp only [this]
    rw [e', e]
    refine Eq.trans ?_ (Fin.sum_univ_tiles 8 256 rfl fun p : Fin 2048 => f ⟨b.val * 2304 + 256 + p.val, by omega⟩).symm
    refine Finset.sum_congr rfl fun k _ => Finset.sum_congr rfl fun p _ => congrArg f (Fin.ext ?_)
    dsimp only
    omega

theorem flush9 : ∀ t : Fin cfg0.N, (cfg0.win 9).flush t = true → t.val % 9 = 0 ∨ t.val % 9 = 8 := (by decide +kernel : ∀ t : Fin grid0.N, _)
theorem flush11 : ∀ t : Fin cfg0.N, (cfg0.win 11).flush t = true → t.val % 9 = 0 ∨ t.val % 9 = 8 := (by decide +kernel : ∀ t : Fin grid0.N, _)

theorem emb8 (f : Fin 4608 → Fin 1024 → EReal) (h : ∀ (t : Fin cfg0.N) (p : Fin 256) (q : Fin 1024), (outsAt0 m c t.val t.isLt).1 (ix2 p q) = f (row t p) q) :
    (dats m 0 c).arrAt 8 cfg0.N = fun i => f (i 0) (i 1) := by
  refine (dats m 0 c).arrAt_eq_of_covers 8 _ (by decide +kernel) fun t _ y => ?_
  blk_simp
  rw [after0_8]
  idx_vars y
  refine (h t _ _).trans (congrArg₂ f (Fin.ext ?_) (Fin.ext ?_))
  · blk_simp [idx0 t]
  · blk_simp [idx0 t]

theorem emb10 (f : Fin 4608 → Fin 1024 → EReal) (h : ∀ (t : Fin cfg0.N) (p : Fin 256) (q : Fin 1024), (outsAt0 m c t.val t.isLt).2.2.1 (ix2 p q) = f (row t p) q) :
    (dats m 0 c).arrAt 10 cfg0.N = fun i => f (i 0) (i 1) := by
  refine (dats m 0 c).arrAt_eq_of_covers 10 _ (by decide +kernel) fun t _ y => ?_
  blk_simp
  rw [after0_10]
  idx_vars y
  refine (h t _ _).trans (congrArg₂ f (Fin.ext ?_) (Fin.ext ?_))
  · blk_simp [idx0 t]
  · blk_simp [idx0 t]

theorem emb9 (f : ℕ → Fin 4608 → Fin 1024 → EReal)
    (hA : ∀ t : Fin cfg0.N, t.val % 9 = 0 ∨ t.val % 9 = 1 → ∀ (v : Fin 8) (q : Fin 1024), (outsAt0 m c t.val t.isLt).2.1 (ix4 (0 : Fin 1) (0 : Fin 1) v q) = ∑ p : Fin 256, f v.val (row t p) q)
    (hB : ∀ t : Fin cfg0.N, ¬(t.val % 9 = 0 ∨ t.val % 9 = 1) → ∀ (v : Fin 8) (q : Fin 1024), ((outsAt0 m c t.val t.isLt).2.1 (ix4 (0 : Fin 1) (0 : Fin 1) v q) : EReal)
      = ((outsAt0 m c (t.val - 1) (Nat.lt_of_le_of_lt (Nat.sub_le _ _) t.isLt)).2.1 (ix4 (0 : Fin 1) (0 : Fin 1) v q) : EReal) + ∑ p : Fin 256, f v.val (row t p) q) :
    (dats m 0 c).arrAt 9 cfg0.N = fun i => grp (fun r => f (i 2).val r (i 3)) (i 0) (i 1) := by
  refine (dats m 0 c).arrAt_eq_of_covers 9 _ (by decide +kernel) fun t hf y => ?_
  have ht := flush9 t hf
  blk_simp
  rw [after0_9]
  idx_vars y
  obtain rfl : y0 = 0 := Subsingleton.elim _ _
  obtain rfl : y1 = 0 := Subsingleton.elim _ _
  refine (flushed (fun r => f y2.val r y3) (fun n h => (outsAt0 m c n h).2.1 (ix4 (0 : Fin 1) (0 : Fin 1) y2 y3)) (fun t h => hA t h y2 y3) (fun t h => hB t h y2 y3) t ht
    ⟨t.val / 9, by have h : t.val < 18 := lt_of_lt_of_eq t.isLt N_0; omega⟩ ⟨min (t.val % 9) 1, by omega⟩ rfl rfl).trans ?_
  refine congr (congr (congrArg grp (funext fun r => ?_)) (Fin.ext ?_)) (Fin.ext ?_)
  · refine congr (congrFun (congrArg f ?_) r) (Fin.ext ?_)
    · blk_simp [idx0 t]
    · blk_simp [idx0 t]
  · blk_simp [idx0 t]
    rfl
  · blk_simp [idx0 t]
    rfl

theorem emb11 (f : ℕ → Fin 4608 → Fin 1024 → EReal)
    (hA : ∀ t : Fin cfg0.N, t.val % 9 = 0 ∨ t.val % 9 = 1 → ∀ (v : Fin 8) (q : Fin 1024), (outsAt0 m c t.val t.isLt).2.2.2 (ix4 (0 : Fin 1) (0 : Fin 1) v q) = ∑ p : Fin 256, f v.val (row t p) q)
    (hB : ∀ t : Fin cfg0.N, ¬(t.val % 9 = 0 ∨ t.val % 9 = 1) → ∀ (v : Fin 8) (q : Fin 1024), ((outsAt0 m c t.val t.isLt).2.2.2 (ix4 (0 : Fin 1) (0 : Fin 1) v q) : EReal)
      = ((outsAt0 m c (t.val - 1) (Nat.lt_of_le_of_lt (Nat.sub_le _ _) t.isLt)).2.2.2 (ix4 (0 : Fin 1) (0 : Fin 1) v q) : EReal) + ∑ p : Fin 256, f v.val (row t p) q) :
    (dats m 0 c).arrAt 11 cfg0.N = fun i => grp (fun r => f (i 2).val r (i 3)) (i 0) (i 1) := by
  refine (dats m 0 c).arrAt_eq_of_covers 11 _ (by decide +kernel) fun t hf y => ?_
  have ht := flush11 t hf
  blk_simp
  rw [after0_11]
  idx_vars y
  obtain rfl : y0 = 0 := Subsingleton.elim _ _
  obtain rfl : y1 = 0 := Subsingleton.elim _ _
  refine (flushed (fun r => f y2.val r y3) (fun n h => (outsAt0 m c n h).2.2.2 (ix4 (0 : Fin 1) (0 : Fin 1) y2 y3)) (fun t h => hA t h y2 y3) (fun t h => hB t h y2 y3) t ht
    ⟨t.val / 9, by have h : t.val < 18 := lt_of_lt_of_eq t.isLt N_0; omega⟩ ⟨min (t.val % 9) 1, by omega⟩ rfl rfl).trans ?_
  refine congr (congr (congrArg grp (funext fun r => ?_)) (Fin.ext ?_)) (Fin.ext ?_)
  · refine congr (congrFun (congrArg f ?_) r) (Fin.ext ?_)
    · blk_simp [idx0 t]
    · blk_simp [idx0 t]
  · blk_simp [idx0 t]
    rfl
  · blk_simp [idx0 t]
    rfl

theorem final8 : (dats m 0 c).arrAt 8 cfg0.N = fun i => dmid aH aU aD aQ aS (i 0) (i 1) := emb8 m c _ (o8 m c)
theorem final10 : (dats m 0 c).arrAt 10 cfg0.N = fun i => dbr aH aZ aU aD aQ aP aS aG (i 0) (i 1) := emb10 m c _ (o10 m c)
theorem final9 : (dats m 0 c).arrAt 9 cfg0.N = fun i => grp (fun r => vecs aH aU aQ aS (i 2).val r (i 3)) (i 0) (i 1) :=
  emb9 m c (vecs aH aU aQ aS) (o9A m c) (o9B m c)
theorem final11 : (dats m 0 c).arrAt 11 cfg0.N = fun i => grp (fun r => gates aH aZ aU aD aQ aP aS aG (i 2).val r (i 3)) (i 0) (i 1) :=
  emb11 m c (gates aH aZ aU aD aQ aP aS aG) (o11A m c) (o11B m c)
end
end Cert.Kernel2Ideal.Value

end
-- ==== Proof.NormE.lean ====
module

public import Idealize.ShloMosaic.Lib.Pipeline.ValueKit

@[expose] public section

set_option maxRecDepth 16384

noncomputable section

open Idealize.ShloMosaic

/-! # The gradient through a row's division by its root mean square, over the extended reals at finite rows -/

namespace Cert.Rows

/-- An extended real that is a real number. -/
def Fin' (x : EReal) : Prop := ∃ a : ℝ, x = (a : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩
theorem Fin'.add {x y : EReal} (hx : Fin' x) (hy : Fin' y) : Fin' (x + y) := by
  obtain ⟨a, rfl⟩ := hx
  obtain ⟨b, rfl⟩ := hy
  exact ⟨a + b, (EReal.coe_add a b).symm⟩
theorem Fin'.sub {x y : EReal} (hx : Fin' x) (hy : Fin' y) : Fin' (x - y) := by
  obtain ⟨a, rfl⟩ := hx
  obtain ⟨b, rfl⟩ := hy
  exact ⟨a - b, (EReal.coe_sub a b).symm⟩
theorem Fin'.one : Fin' 1 := ⟨1, rfl⟩

theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

theorem Fin'.sum {n : ℕ} {f : Fin n → EReal} (h : ∀ k, Fin' (f k)) : Fin' (∑ k, f k) := by
  choose a ha using h
  exact ⟨∑ k, a k, by rw [← coe_sum]; exact Finset.sum_congr rfl fun k _ => ha k⟩

theorem bits_n : Ideal.ofBits .f32 0x44800000#32 = ((1024 : ℝ) : EReal) := by
  simp [Ideal.ofBits, Ideal.ieee, -EReal.coe_mul, -EReal.coe_neg]
  norm_num
theorem bits_half : Ideal.ofBits .f32 0xBF000000#32 = ((-(1 / 2) : ℝ) : EReal) := by
  simp [Ideal.ofBits, Ideal.ieee, -EReal.coe_mul, -EReal.coe_neg]
  norm_num
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- The mean square of a row, with the constant under the root. -/
abbrev msq (x : Fin 1024 → EReal) : EReal := Ideal.div (∑ k, x k * x k) (Ideal.ofBits .f32 0x44800000#32) + Ideal.ofBits .f32 0x358637BD#32

theorem div_n (a : ℝ) : Ideal.div (a : EReal) ((1024 : ℝ) : EReal) = ((a / 1024 : ℝ) : EReal) := by
  rw [Ideal.div_coe (by norm_num), ← EReal.coe_mul, mul_one_div]

theorem rsqrt_msq {x : Fin 1024 → EReal} (hx : ∀ k, Fin' (x k)) :
    ∃ v r : ℝ, 0 < v ∧ r * r * v = 1 ∧ msq x = (v : EReal) ∧ Ideal.rsqrt (msq x) = (r : EReal) := by
  choose a ha using hx
  obtain ⟨e, he, hb⟩ := bits_eps
  have hv : msq x = (((∑ k, a k * a k) / 1024 + e : ℝ) : EReal) := by
    unfold msq
    rw [bits_n, hb, Finset.sum_congr rfl fun k _ => show x k * x k = ((a k * a k : ℝ) : EReal) by rw [ha k, EReal.coe_mul], coe_sum, div_n, EReal.coe_add]
  have hp : 0 < (∑ k, a k * a k) / 1024 + e := by
    have : 0 ≤ ∑ k, a k * a k := Finset.sum_nonneg fun k _ => mul_self_nonneg (a k)
    positivity
  refine ⟨_, (Real.sqrt ((∑ k, a k * a k) / 1024 + e))⁻¹, hp, ?_, hv, ?_⟩
  · have h := Real.mul_self_sqrt hp.le
    have hn : Real.sqrt ((∑ k, a k * a k) / 1024 + e) ≠ 0 := (Real.sqrt_pos.mpr hp).ne'
    generalize (∑ k, a k * a k) / 1024 + e = v at h hn ⊢
    rw [← mul_inv, h]
    exact inv_mul_cancel₀ fun h' => hn (by rw [h', Real.sqrt_zero])
  · rw [hv, Ideal.rsqrt_coe, if_neg (not_lt.mpr hp.le), if_neg hp.ne']

theorem Fin'.rms {x : Fin 1024 → EReal} (hx : ∀ k, Fin' (x k)) : Fin' (Ideal.rsqrt (msq x)) := by
  obtain ⟨v, r, -, -, -, h⟩ := rsqrt_msq hx
  exact ⟨r, h⟩

theorem Fin'.mean {x : EReal} (hx : Fin' x) : Fin' (Ideal.div x (Ideal.ofBits .f32 0x44800000#32)) := by
  obtain ⟨a, rfl⟩ := hx
  rw [bits_n, div_n]
  exact ⟨_, rfl⟩

/-- The two ways of writing it agree. -/
theorem back_eq {x c : Fin 1024 → EReal} (hx : ∀ k, Fin' (x k)) (hc : ∀ k, Fin' (c k)) (j : Fin 1024) (s : EReal)
    (hs : s = Ideal.div ((∑ k, x k * c k) * (Ideal.ofBits .f32 0xBF000000#32 * Ideal.div (Ideal.rsqrt (msq x)) (msq x))) (Ideal.ofBits .f32 0x44800000#32)) :
    Ideal.rsqrt (msq x) * (c j - x j * Ideal.rsqrt (msq x) * Ideal.div (∑ k, c k * (x k * Ideal.rsqrt (msq x))) (Ideal.ofBits .f32 0x44800000#32))
      = c j * Ideal.rsqrt (msq x) + x j * s + s * x j := by
  obtain ⟨v, r, hv, hr, h1, h2⟩ := rsqrt_msq hx
  choose a ha using hx
  choose b hb using hc
  rw [h2, h1, bits_half, bits_n] at hs
  rw [Ideal.div_coe hv.ne', ← EReal.coe_mul, ← EReal.coe_mul, Finset.sum_congr rfl fun k _ => show x k * c k = ((a k * b k : ℝ) : EReal) by rw [ha k, hb k, EReal.coe_mul],
    coe_sum, ← EReal.coe_mul, div_n] at hs
  rw [h2, bits_n, Finset.sum_congr rfl fun k _ => show c k * (x k * r) = ((b k * (a k * r) : ℝ) : EReal) by rw [ha k, hb k, EReal.coe_mul, EReal.coe_mul],
    coe_sum, div_n, hs, ha j, hb j, ← EReal.coe_mul, ← EReal.coe_mul, ← EReal.coe_sub, ← EReal.coe_mul, ← EReal.coe_mul, ← EReal.coe_mul, ← EReal.coe_mul,
    ← EReal.coe_add, ← EReal.coe_add]
  refine congrArg Real.toEReal ?_
  have e1 : ∑ k, b k * (a k * r) = r * ∑ k, a k * b k := by
    rw [Finset.mul_sum]
    exact Finset.sum_congr rfl fun k _ => by ring
  rw [e1]
  generalize ∑ k, a k * b k = S
  have hi : 1 / v = r * r := by field_simp; linarith
  rw [hi]
  ring

end Cert.Rows

end
-- ==== Proof.NormR.lean ====
module

public import proofs.«01_k».proof.Proof.NormV
public import proofs.«01_k».proof.Proof.NormE
public import proofs.«01_k».proof.Proof.Gen.Reference2Ideal.Read

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read
open Cert.Kernel2Ideal.Value (smp str rms unit back dy dmid dgt dbr vecs gates)

/-! ## The reference, row by row -/

/-- Row `p` of sample `b`. -/
abbrev rw2 (b : Fin 2) (p : Fin 2304) : Fin 4608 := ⟨b.val * 2304 + p.val, by omega⟩

theorem smp_rw2 (b : Fin 2) (p : Fin 2304) : smp (rw2 b p) = b := Fin.ext (by dsimp only [smp, rw2]; omega)
theorem str_rw2 (b : Fin 2) (p : Fin 2304) : str (rw2 b p) = ⟨min (p.val / 256) 1, by omega⟩ := Fin.ext (by dsimp only [str, rw2]; omega)

/-- A gain as a matrix of one row. -/
def gain (x : FVec Ideal S1024 .f32) : FVec Ideal Cert.Kernel2Ideal.S1x1024 .f32 := fun i => x (ix1 (⟨(i 1).val, (i 1).isLt⟩ : Fin 1024))

variable (x0 x1 x6 x7 : FVec Ideal S4608x1024 .f32) (x2 x4 : FVec Ideal S1024 .f32) (x3 x5 : FVec Ideal S2x2x8x1024 .f32)

/-- The stream after the gated sum. -/
def mid : FVec Ideal S4608x1024 .f32 := fun i =>
  (x0 i : EReal) + x3 (ix4 (smp ⟨(i 0).val, (i 0).isLt⟩) (str ⟨(i 0).val, (i 0).isLt⟩) (2 : Fin 8) (⟨(i 1).val, (i 1).isLt⟩ : Fin 1024))
    * (unit x1 ⟨(i 0).val, (i 0).isLt⟩ ⟨(i 1).val, (i 1).isLt⟩ * x2 (ix1 (⟨(i 1).val, (i 1).isLt⟩ : Fin 1024)))

variable (b : Fin 2) (p : Fin 2304) (j : Fin 1024)

theorem r1 : val_main_v1 (F := Ideal) x1 (ix3 b p j) = x1 (ix2 (rw2 b p) j) := by
  pointwise [val_main_v1]
theorem r14 : val_main_v14 (F := Ideal) x2 (ix3 b p j) = x2 (ix1 j) := by
  pointwise [val_main_v14, val_main_v13, val_main_v12, val_main_v11, val_main_v10, val_main_v2]
  split_ifs <;> rfl
theorem r24 : val_main_v24 (F := Ideal) x4 (ix3 b p j) = x4 (ix1 j) := by
  pointwise [val_main_v24, val_main_v23, val_main_v22, val_main_v21, val_main_v20, val_main_v5]
  split_ifs <;> rfl
/-- A choice between the two streams is a read at the row's stream. -/
theorem pick (x : FVec Ideal S2x2x8x1024 .f32) (v : Fin 8) : (if h : p.val < 256 then x (ix4 b (0 : Fin 2) v j) else x (ix4 b (1 : Fin 2) v j)) = x (ix4 (smp (rw2 b p)) (str (rw2 b p)) v j) := by
  rw [smp_rw2, str_rw2]
  by_cases h : p.val < 256
  · rw [dif_pos h]
    exact congrArg (fun s => x (ix4 b s v j)) (Fin.ext (by show 0 = min (p.val / 256) 1; omega))
  · rw [dif_neg h]
    exact congrArg (fun s => x (ix4 b s v j)) (Fin.ext (by show 1 = min (p.val / 256) 1; omega))
theorem r19 : val_main_v19 (F := Ideal) x3 (ix3 b p j) = x3 (ix4 (smp (rw2 b p)) (str (rw2 b p)) (2 : Fin 8) j) := by
  rw [← pick b p j x3 2]
  pointwise [val_main_v19, val_main_v18, val_main_v17, val_main_v16, val_main_v15, val_main_v4, val_main_v3]
theorem r34 : val_main_v34 (F := Ideal) x5 (ix3 b p j) = x5 (ix4 (smp (rw2 b p)) (str (rw2 b p)) (4 : Fin 8) j) := by
  rw [← pick b p j x5 4]
  pointwise [val_main_v34, val_main_v33, val_main_v32, val_main_v31, val_main_v30, val_main_v9, val_main_v8]
theorem r41 : val_main_v41 (F := Ideal) x1 (ix3 b p (0 : Fin 1)) = Cert.Rows.msq fun k => x1 (ix2 (rw2 b p) k) := by
  pointwise [val_main_v41, val_main_v40, val_main_v39, val_main_v38, val_main_v37, val_main_v36, val_main_v35, val_main_v1, val_main_cst, val_main_cst_0, val_main_cst_1, Cert.Rows.msq]
theorem r42 : val_main_v42 (F := Ideal) x1 (ix3 b p (0 : Fin 1)) = rms x1 (rw2 b p) := congrArg Ideal.rsqrt (r41 x1 b p)
theorem r47 : val_main_v47 (F := Ideal) x1 (ix3 b p j) = unit x1 (rw2 b p) j := by
  have h1 := r1 x1
  have h2 := r42 x1
  unfold val_main_v47 val_main_v46
  generalize val_main_v42 (F := Ideal) x1 = A at h2 ⊢
  generalize val_main_v1 (F := Ideal) x1 = B at h1 ⊢
  pointwise [unit]
  rw [h1, h2]
theorem r48 : (val_main_v48 (F := Ideal) x1 x2 (ix3 b p j) : EReal) = unit x1 (rw2 b p) j * x2 (ix1 j) :=
  congrArg₂ (fun a b : EReal => a * b) (r47 x1 b p j) (r14 x2 b p j)
theorem r50 : (val_main_v50 (F := Ideal) x0 x1 x2 x3 (ix3 b p j) : EReal) = mid x0 x1 x2 x3 (ix2 (rw2 b p) j) :=
  congrArg₂ (fun a b : EReal => a + b) (r1 x0 b p j) (congrArg₂ (fun a b : EReal => a * b) (r19 x3 b p j) (r48 x1 x2 b p j))
theorem r57 : val_main_v57 (F := Ideal) x0 x1 x2 x3 (ix3 b p (0 : Fin 1)) = Cert.Rows.msq fun k => mid x0 x1 x2 x3 (ix2 (rw2 b p) k) := by
  have h := r50 x0 x1 x2 x3
  generalize mid x0 x1 x2 x3 = M at h ⊢
  unfold val_main_v57 val_main_v55 val_main_v53 val_main_v52 val_main_v51
  generalize val_main_v50 (F := Ideal) x0 x1 x2 x3 = A at h ⊢
  pointwise [val_main_v56, val_main_v54, val_main_cst_3, val_main_cst_4, val_main_cst_5, Cert.Rows.msq]
  simp only [h]
theorem r58 : val_main_v58 (F := Ideal) x0 x1 x2 x3 (ix3 b p (0 : Fin 1)) = rms (mid x0 x1 x2 x3) (rw2 b p) := congrArg Ideal.rsqrt (r57 x0 x1 x2 x3 b p)
theorem r63 : val_main_v63 (F := Ideal) x0 x1 x2 x3 (ix3 b p j) = unit (mid x0 x1 x2 x3) (rw2 b p) j := by
  have h1 := r50 x0 x1 x2 x3
  have h2 := r58 x0 x1 x2 x3
  unfold val_main_v63 val_main_v62
  generalize val_main_v58 (F := Ideal) x0 x1 x2 x3 = A at h2 ⊢
  generalize val_main_v50 (F := Ideal) x0 x1 x2 x3 = B at h1 ⊢
  pointwise [unit]
  rw [h1, h2]
theorem r66 : (val_main_v66 (F := Ideal) x5 (ix3 b p j) : EReal) = 1 + x5 (ix4 (smp (rw2 b p)) (str (rw2 b p)) (4 : Fin 8) j) := by
  have h := r34 x5
  unfold val_main_v66
  generalize val_main_v34 (F := Ideal) x5 = A at h ⊢
  pointwise [val_main_v65, val_main_cst_7]
  rw [h]
theorem r72 : val_main_v72 (F := Ideal) x5 x6 (ix3 b p j) = dy x6 x5 (rw2 b p) j :=
  congrArg₂ (fun a b : EReal => a * b) (r1 x6 b p j) (r66 x5 b p j)
/-- The gradient at the divided row. -/
abbrev cx (r : Fin 4608) (j : Fin 1024) : EReal := dy x6 x5 r j * gain x4 (ix2 (0 : Fin 1) j)
theorem r74 : val_main_v74 (F := Ideal) x4 x5 x6 (ix3 b p j) = cx x6 x4 x5 (rw2 b p) j :=
  congrArg₂ (fun a b : EReal => a * b) (r72 x6 x5 b p j) (r24 x4 b p j)
theorem r85 : val_main_v85 (F := Ideal) x0 x1 x2 x3 x4 x5 x6 (ix3 b p j) = Ideal.div ((∑ k : Fin 1024, (mid x0 x1 x2 x3 (ix2 (rw2 b p) k) : EReal) * cx x6 x4 x5 (rw2 b p) k)
      * (Ideal.ofBits .f32 0xBF000000#32 * Ideal.div (Ideal.rsqrt (Cert.Rows.msq fun k => mid x0 x1 x2 x3 (ix2 (rw2 b p) k))) (Cert.Rows.msq fun k => mid x0 x1 x2 x3 (ix2 (rw2 b p) k)))) (Ideal.ofBits .f32 0x44800000#32) := by
  have h50 := r50 x0 x1 x2 x3
  have h57 := r57 x0 x1 x2 x3
  have h74 := r74 x6 x4 x5
  generalize mid x0 x1 x2 x3 = M at h50 h57 ⊢
  unfold val_main_v85 val_main_v84 val_main_v83 val_main_v81 val_main_v77 val_main_v76 val_main_v75 val_main_v61 val_main_v59 val_main_v58
  generalize val_main_v50 (F := Ideal) x0 x1 x2 x3 = A at h50 ⊢
  generalize val_main_v57 (F := Ideal) x0 x1 x2 x3 = B at h57 ⊢
  generalize val_main_v74 (F := Ideal) x4 x5 x6 = C at h74 ⊢
  pointwise [val_main_v82, val_main_v60, val_main_cst_6, val_main_cst_8, val_main_cst_9, val_main_cst_10]
  simp only [h50, h57, h74, Fin.sum_univ_one]

theorem r79 : (val_main_v79 (F := Ideal) x0 x1 x2 x3 x4 x5 x6 (ix3 b p j) : EReal) = cx x6 x4 x5 (rw2 b p) j * rms (mid x0 x1 x2 x3) (rw2 b p) := by
  have h1 := r74 x6 x4 x5
  have h2 := r58 x0 x1 x2 x3
  unfold val_main_v79 val_main_v78
  generalize val_main_v58 (F := Ideal) x0 x1 x2 x3 = A at h2 ⊢
  generalize val_main_v74 (F := Ideal) x4 x5 x6 = B at h1 ⊢
  pointwise []
  rw [h1, h2]

open Cert.Rows (Fin')

/-- The gradient of the stream before the gated sum, where the rows are real numbers. -/
theorem r89 (hM : ∀ i, Fin' (mid x0 x1 x2 x3 i)) (hc : ∀ r j, Fin' (cx x6 x4 x5 r j)) :
    val_main_v89 (F := Ideal) x0 x1 x2 x3 x4 x5 x6 x7 (ix3 b p j) = dmid (mid x0 x1 x2 x3) x6 x7 (gain x4) x5 (rw2 b p) j := by
  have e : (val_main_v89 (F := Ideal) x0 x1 x2 x3 x4 x5 x6 x7 (ix3 b p j) : EReal)
      = ((x7 (ix2 (rw2 b p) j) + cx x6 x4 x5 (rw2 b p) j * rms (mid x0 x1 x2 x3) (rw2 b p)) + mid x0 x1 x2 x3 (ix2 (rw2 b p) j) * _) + _ * mid x0 x1 x2 x3 (ix2 (rw2 b p) j) :=
    congrArg₂ (fun a b : EReal => a + b) (congrArg₂ (fun a b : EReal => a + b) (congrArg₂ (fun a b : EReal => a + b) (r1 x7 b p j) (r79 x0 x1 x6 x2 x4 x3 x5 b p j))
      (congrArg₂ (fun a b : EReal => a * b) (r50 x0 x1 x2 x3 b p j) (r85 x0 x1 x6 x2 x4 x3 x5 b p j)))
      (congrArg₂ (fun a b : EReal => a * b) (r85 x0 x1 x6 x2 x4 x3 x5 b p j) (r50 x0 x1 x2 x3 b p j))
  rw [e, add_assoc, add_assoc]
  refine congrArg (fun s : EReal => (x7 (ix2 (rw2 b p) j) : EReal) + s) ((add_assoc _ _ _).symm.trans ?_)
  exact (Cert.Rows.back_eq (x := fun k => mid x0 x1 x2 x3 (ix2 (rw2 b p) k)) (c := cx x6 x4 x5 (rw2 b p)) (fun k => hM _) (fun k => hc _ _) j _ rfl).symm

section branch
variable (D : Fin 4608 → Fin 1024 → EReal) (hD : ∀ (b : Fin 2) (p : Fin 2304) (j : Fin 1024), val_main_v89 (F := Ideal) x0 x1 x2 x3 x4 x5 x6 x7 (ix3 b p j) = D (rw2 b p) j)
include hD

theorem r90 : (val_main_v90 (F := Ideal) x0 x1 x2 x3 x4 x5 x6 x7 (ix3 b p j) : EReal) = D (rw2 b p) j * x3 (ix4 (smp (rw2 b p)) (str (rw2 b p)) (2 : Fin 8) j) :=
  (congrArg₂ (fun a b : EReal => a * b) (r19 x3 b p j) (hD b p j)).trans (mul_comm _ _)
theorem r91 : (val_main_v91 (F := Ideal) x0 x1 x2 x3 x4 x5 x6 x7 (ix3 b p j) : EReal) = D (rw2 b p) j * (unit x1 (rw2 b p) j * x2 (ix1 j)) :=
  congrArg₂ (fun a b : EReal => a * b) (hD b p j) (r48 x1 x2 b p j)
theorem r92 : (val_main_v92 (F := Ideal) x0 x1 x2 x3 x4 x5 x6 x7 (ix3 b p j) : EReal) = D (rw2 b p) j * x3 (ix4 (smp (rw2 b p)) (str (rw2 b p)) (2 : Fin 8) j) * unit x1 (rw2 b p) j :=
  (congrArg₂ (fun a b : EReal => a * b) (r47 x1 b p j) (r90 x0 x1 x6 x7 x2 x4 x3 x5 b p j D hD)).trans (mul_comm _ _)
theorem r93 : (val_main_v93 (F := Ideal) x0 x1 x2 x3 x4 x5 x6 x7 (ix3 b p j) : EReal) = D (rw2 b p) j * x3 (ix4 (smp (rw2 b p)) (str (rw2 b p)) (2 : Fin 8) j) * x2 (ix1 j) :=
  congrArg₂ (fun a b : EReal => a * b) (r90 x0 x1 x6 x7 x2 x4 x3 x5 b p j D hD) (r14 x2 b p j)

theorem r103 : val_main_v103 (F := Ideal) x0 x1 x2 x3 x4 x5 x6 x7 (ix3 b p j) = Ideal.div ((∑ k : Fin 1024, (x1 (ix2 (rw2 b p) k) : EReal) * (D (rw2 b p) k * x3 (ix4 (smp (rw2 b p)) (str (rw2 b p)) (2 : Fin 8) k) * x2 (ix1 k)))
      * (Ideal.ofBits .f32 0xBF000000#32 * Ideal.div (Ideal.rsqrt (Cert.Rows.msq fun k => x1 (ix2 (rw2 b p) k))) (Cert.Rows.msq fun k => x1 (ix2 (rw2 b p) k)))) (Ideal.ofBits .f32 0x44800000#32) := by
  have h1 := r1 x1
  have h41 := r41 x1
  have h93 := fun b p j => r93 x0 x1 x6 x7 x2 x4 x3 x5 b p j D hD
  unfold val_main_v103 val_main_v102 val_main_v101 val_main_v99 val_main_v96 val_main_v95 val_main_v94 val_main_v45 val_main_v43 val_main_v42
  generalize val_main_v1 (F := Ideal) x1 = A at h1 ⊢
  generalize val_main_v41 (F := Ideal) x1 = B at h41 ⊢
  generalize val_main_v93 (F := Ideal) x0 x1 x2 x3 x4 x5 x6 x7 = C at h93 ⊢
  pointwise [val_main_v100, val_main_v44, val_main_cst_2, val_main_cst_11, val_main_cst_12, val_main_cst_13]
  simp only [h1, h41, h93, Fin.sum_univ_one]

theorem r98 : (val_main_v98 (F := Ideal) x0 x1 x2 x3 x4 x5 x6 x7 (ix3 b p j) : EReal) = (D (rw2 b p) j * x3 (ix4 (smp (rw2 b p)) (str (rw2 b p)) (2 : Fin 8) j) * x2 (ix1 j)) * rms x1 (rw2 b p) := by
  have h1 := fun b p j => r93 x0 x1 x6 x7 x2 x4 x3 x5 b p j D hD
  have h2 := r42 x1
  unfold val_main_v98 val_main_v97
  generalize val_main_v42 (F := Ideal) x1 = A at h2 ⊢
  generalize val_main_v93 (F := Ideal) x0 x1 x2 x3 x4 x5 x6 x7 = B at h1 ⊢
  pointwise []
  rw [h1, h2]

/-- The gradient of the branch, where the rows are real numbers. -/
theorem r107 (hz : ∀ i, Fin' (x1 i)) (hd : ∀ r j, Fin' (D r j * x3 (ix4 (smp r) (str r) (2 : Fin 8) j) * x2 (ix1 j))) :
    val_main_v107 (F := Ideal) x0 x1 x2 x3 x4 x5 x6 x7 (ix3 b p j) = back x1 (fun r j => D r j * x3 (ix4 (smp r) (str r) (2 : Fin 8) j) * x2 (ix1 j)) (rw2 b p) j := by
  have e : (val_main_v107 (F := Ideal) x0 x1 x2 x3 x4 x5 x6 x7 (ix3 b p j) : EReal)
      = (_ * rms x1 (rw2 b p) + x1 (ix2 (rw2 b p) j) * _) + _ * x1 (ix2 (rw2 b p) j) :=
    congrArg₂ (fun a b : EReal => a + b) (congrArg₂ (fun a b : EReal => a + b) (r98 x0 x1 x6 x7 x2 x4 x3 x5 b p j D hD)
      (congrArg₂ (fun a b : EReal => a * b) (r1 x1 b p j) (r103 x0 x1 x6 x7 x2 x4 x3 x5 b p j D hD)))
      (congrArg₂ (fun a b : EReal => a * b) (r103 x0 x1 x6 x7 x2 x4 x3 x5 b p j D hD) (r1 x1 b p j))
  rw [e]
  exact (Cert.Rows.back_eq (x := fun k => x1 (ix2 (rw2 b p) k)) (c := fun k => D (rw2 b p) k * x3 (ix4 (smp (rw2 b p)) (str (rw2 b p)) (2 : Fin 8) k) * x2 (ix1 k)) (fun k => hz _) (fun k => hd _ _) j _ rfl).symm
end branch

/-! ## The sums of the rows of a stream -/

/-- The sums of a stream's rows, as the reference takes them. -/
def gsum (A : FVec Ideal S2x2304x1024 .f32) : FVec Ideal S2x2x1024 .f32 :=
  addf (pad S2x2x1024 ![0, 1, 0] ![0, 0, 0] ![0, 0, 0] (broadcastInDim S2x1x1024 ![0, 2] bcast_S2x1024_S2x1x1024_0_2
      (Host.reduceAdd (extractStridedSlice S2x2048x1024 ![0, 256, 0] A slices_S2x2304x1024_S2x2048x1024_0_256_0) (constant (F := Ideal) S_ .f32 0x00000000#32) reducesTo_S2x2048x1024_S2x1024_d1 h_S_))
      (constant (F := Ideal) S_ .f32 0x00000000#32) pads_S2x1x1024_S2x2x1024_000_100_000 h_S_)
    (pad S2x2x1024 ![0, 0, 0] ![0, 1, 0] ![0, 0, 0] (broadcastInDim S2x1x1024 ![0, 2] bcast_S2x1024_S2x1x1024_0_2
      (Host.reduceAdd (extractStridedSlice S2x256x1024 ![0, 0, 0] A slices_S2x2304x1024_S2x256x1024_0_0_0) (constant (F := Ideal) S_ .f32 0x00000000#32) reducesTo_S2x256x1024_S2x1024_d1 h_S_))
      (constant (F := Ideal) S_ .f32 0x00000000#32) pads_S2x1x1024_S2x2x1024_000_010_000 h_S_)

theorem gsum_apply (A : FVec Ideal S2x2304x1024 .f32) (b s : Fin 2) (j : Fin 1024) : gsum A (ix3 b s j)
    = if s.val < 1 then ∑ p : Fin 256, (A (ix3 b (⟨p.val, by omega⟩ : Fin 2304) j) : EReal) else ∑ p : Fin 2048, (A (ix3 b (⟨256 + p.val, by omega⟩ : Fin 2304) j) : EReal) := by
  pointwise [gsum]
  by_cases hs : s.val < 1
  · rw [dif_neg (by omega), dif_pos hs, if_pos hs, zero_add]
  · rw [dif_pos (by omega), dif_neg hs, if_neg hs, add_zero]

end Cert.Reference2Ideal.Rows

end
-- ==== Proof.NormS.lean ====
module

public import proofs.«01_k».proof.Proof.NormW
public import proofs.«01_k».proof.Proof.NormR
public import proofs.«01_k».proof.Proof.Gen.Pre_finite_arguments
public import proofs.«01_k».proof.Defs

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read
open Cert.Kernel2Ideal.Value (smp str rms unit back dy dmid dgt dbr vecs gates grp)

/-! ## The reference's four results, row by row -/

theorem gsum_grp (A : FVec Ideal S2x2304x1024 .f32) (f : Fin 4608 → EReal) (b s : Fin 2) (j : Fin 1024)
    (h : ∀ p, A (ix3 b p j) = f (rw2 b p)) : gsum A (ix3 b s j) = grp f b s := by
  rw [gsum_apply, grp]
  split_ifs with hs
  · exact Finset.sum_congr rfl fun p _ => (h _).trans (congrArg f (Fin.ext rfl))
  · exact Finset.sum_congr rfl fun p _ => (h _).trans (congrArg f (Fin.ext (by show b.val * 2304 + (256 + p.val) = b.val * 2304 + 256 + p.val; omega)))

theorem grp_zero (b s : Fin 2) : grp (fun _ => 0) b s = 0 := by
  unfold grp
  split_ifs <;> exact Finset.sum_const_zero

variable (x0 x1 x6 x7 : FVec Ideal S4608x1024 .f32) (x2 x4 : FVec Ideal S1024 .f32) (x3 x5 : FVec Ideal S2x2x8x1024 .f32)
variable (b : Fin 2) (s : Fin 2) (v : Fin 8) (p : Fin 2304) (j : Fin 1024)

theorem r71 : (val_main_v71 (F := Ideal) x0 x1 x2 x3 x4 x6 (ix3 b p j) : EReal) = x6 (ix2 (rw2 b p) j) * (unit (mid x0 x1 x2 x3) (rw2 b p) j * gain x4 (ix2 (0 : Fin 1) j)) :=
  (congrArg₂ (fun a b : EReal => a * b) (congrArg₂ (fun a b : EReal => a * b) (r63 x0 x1 x2 x3 b p j) (r24 x4 b p j)) (r1 x6 b p j)).trans (mul_comm _ _)
theorem r73 : (val_main_v73 (F := Ideal) x0 x1 x2 x3 x5 x6 (ix3 b p j) : EReal) = dy x6 x5 (rw2 b p) j * unit (mid x0 x1 x2 x3) (rw2 b p) j :=
  (congrArg₂ (fun a b : EReal => a * b) (r63 x0 x1 x2 x3 b p j) (r72 x6 x5 b p j)).trans (mul_comm _ _)

theorem sitofp_zero : (FloatOps.sitofp (F := Ideal) .f32 (0#32 : BitVec 32) : EReal) = 0 := by
  show (((0#32 : BitVec 32).toInt : ℝ) : EReal) = 0
  simp

theorem at160 : (val_main_v160 (F := Ideal) x0 x1 x2 x3 x4 x5 x6 (ix4 b s v j) : EReal) = if v.val < 1 then gsum (val_main_v1 (F := Ideal) x6) (ix3 b s j)
    else if v.val < 2 then gsum (val_main_v71 (F := Ideal) x0 x1 x2 x3 x4 x6) (ix3 b s j)
    else if v.val < 3 then gsum (val_main_v73 (F := Ideal) x0 x1 x2 x3 x5 x6) (ix3 b s j) else 0 := by
  unfold val_main_v160 val_main_v159 val_main_v158 val_main_v157 val_main_v156
  rw [show val_main_v125 (F := Ideal) x6 = gsum (val_main_v1 (F := Ideal) x6) from rfl,
    show val_main_v116 (F := Ideal) x0 x1 x2 x3 x4 x6 = gsum (val_main_v71 (F := Ideal) x0 x1 x2 x3 x4 x6) from rfl,
    show val_main_v134 (F := Ideal) x0 x1 x2 x3 x5 x6 = gsum (val_main_v73 (F := Ideal) x0 x1 x2 x3 x5 x6) from rfl]
  generalize gsum (val_main_v1 (F := Ideal) x6) = A
  generalize gsum (val_main_v71 (F := Ideal) x0 x1 x2 x3 x4 x6) = B
  generalize gsum (val_main_v73 (F := Ideal) x0 x1 x2 x3 x5 x6) = C
  pointwise [val_main_call0_v0, val_main_c]
  rw [sitofp_zero]
  split_ifs <;> first | rfl | omega

theorem at164 : (val_main_v164 (F := Ideal) x0 x1 x2 x3 x4 x5 x6 x7 (ix4 b s v j) : EReal) = if v.val < 1 then gsum (val_main_v91 (F := Ideal) x0 x1 x2 x3 x4 x5 x6 x7) (ix3 b s j)
    else if v.val < 2 then gsum (val_main_v92 (F := Ideal) x0 x1 x2 x3 x4 x5 x6 x7) (ix3 b s j) else 0 := by
  unfold val_main_v164 val_main_v163 val_main_v162 val_main_v161
  rw [show val_main_v143 (F := Ideal) x0 x1 x2 x3 x4 x5 x6 x7 = gsum (val_main_v91 (F := Ideal) x0 x1 x2 x3 x4 x5 x6 x7) from rfl,
    show val_main_v152 (F := Ideal) x0 x1 x2 x3 x4 x5 x6 x7 = gsum (val_main_v92 (F := Ideal) x0 x1 x2 x3 x4 x5 x6 x7) from rfl]
  generalize gsum (val_main_v91 (F := Ideal) x0 x1 x2 x3 x4 x5 x6 x7) = A
  generalize gsum (val_main_v92 (F := Ideal) x0 x1 x2 x3 x4 x5 x6 x7) = B
  pointwise [val_main_call1_v0, val_main_c_34]
  rw [sitofp_zero]
  split_ifs <;> first | rfl | omega

/-! ## The four results where the arguments are real numbers -/

/-- Every row is a row of its sample. -/
theorem rw2_of (r : Fin 4608) : rw2 ⟨r.val / 2304, by omega⟩ ⟨r.val % 2304, by omega⟩ = r := Fin.ext (by show r.val / 2304 * 2304 + r.val % 2304 = r.val; omega)

section results
open Cert.Rows (Fin')
variable {x0 x1 x6 x7 x2 x4 x3 x5}

theorem fin_unit {X : FVec Ideal S4608x1024 .f32} (h : ∀ i, Fin' (X i)) (r : Fin 4608) (j : Fin 1024) : Fin' (unit X r j) :=
  (h _).mul (Fin'.rms fun k => h _)
theorem fin_back {X : FVec Ideal S4608x1024 .f32} (h : ∀ i, Fin' (X i)) {c : Fin 4608 → Fin 1024 → EReal} (hc : ∀ r j, Fin' (c r j)) (r : Fin 4608) (j : Fin 1024) :
    Fin' (back X c r j) :=
  (Fin'.rms (x := fun k => X (ix2 r k)) fun k => h _).mul ((hc r j).sub ((fin_unit h r j).mul (Fin'.mean (Fin'.sum fun k => (hc r k).mul (fin_unit h r k)))))

variable (h0 : ∀ i, Fin' (x0 i)) (h1 : ∀ i, Fin' (x1 i)) (h2 : ∀ i, Fin' (x2 i)) (h3 : ∀ i, Fin' (x3 i)) (h4 : ∀ i, Fin' (x4 i))
  (h5 : ∀ i, Fin' (x5 i)) (h6 : ∀ i, Fin' (x6 i)) (h7 : ∀ i, Fin' (x7 i))
include h0 h1 h2 h3

theorem fin_mid (i : S4608x1024.Idx) : Fin' (mid x0 x1 x2 x3 i) := (h0 i).add ((h3 _).mul ((fin_unit h1 _ _).mul (h2 _)))
include h4 h5 h6
omit h0 h1 h2 h3 in
theorem fin_cx (r : Fin 4608) (j : Fin 1024) : Fin' (cx x6 x4 x5 r j) := ((h6 _).mul (Fin'.one.add (h5 _))).mul (h4 _)
include h7

theorem fin_dmid (r : Fin 4608) (j : Fin 1024) : Fin' (dmid (mid x0 x1 x2 x3) x6 x7 (gain x4) x5 r j) :=
  (h7 _).add (fin_back (fin_mid h0 h1 h2 h3) (fin_cx h4 h5 h6) r j)

theorem f89 (b : Fin 2) (p : Fin 2304) (j : Fin 1024) : val_main_v89 (F := Ideal) x0 x1 x2 x3 x4 x5 x6 x7 (ix3 b p j) = dmid (mid x0 x1 x2 x3) x6 x7 (gain x4) x5 (rw2 b p) j :=
  r89 (hM := fin_mid h0 h1 h2 h3) (hc := fin_cx h4 h5 h6) ..

theorem res153 : val_main_v153 (F := Ideal) x0 x1 x2 x3 x4 x5 x6 x7 = fun i => dmid (mid x0 x1 x2 x3) x6 x7 (gain x4) x5 (i 0) (i 1) := by
  funext i
  idx_vars i
  have h := f89 h0 h1 h2 h3 h4 h5 h6 h7
  unfold val_main_v153
  generalize val_main_v89 (F := Ideal) x0 x1 x2 x3 x4 x5 x6 x7 = A at h ⊢
  pointwise []
  rw [h, rw2_of]

theorem res155 : val_main_v155 (F := Ideal) x0 x1 x2 x3 x4 x5 x6 x7 = fun i => dbr (mid x0 x1 x2 x3) x1 x6 x7 (gain x4) (gain x2) x5 x3 (i 0) (i 1) := by
  funext i
  idx_vars i
  have h := fun b p j => r107 (D := dmid (mid x0 x1 x2 x3) x6 x7 (gain x4) x5) (hD := f89 h0 h1 h2 h3 h4 h5 h6 h7) (hz := h1)
    (hd := fun r j => ((fin_dmid h0 h1 h2 h3 h4 h5 h6 h7 r j).mul (h3 _)).mul (h2 _)) (b := b) (p := p) (j := j) ..
  unfold val_main_v155 val_main_v154
  generalize val_main_v107 (F := Ideal) x0 x1 x2 x3 x4 x5 x6 x7 = A at h ⊢
  pointwise []
  rw [h, rw2_of]
  rfl

omit h0 h1 h2 h3 h4 h5 h6 h7 in
theorem res160 : val_main_v160 (F := Ideal) x0 x1 x2 x3 x4 x5 x6 = fun i => grp (fun r => vecs (mid x0 x1 x2 x3) x6 (gain x4) x5 (i 2).val r (i 3)) (i 0) (i 1) := by
  funext i
  idx_vars i
  rw [at160]
  show _ = grp (fun r => vecs (mid x0 x1 x2 x3) x6 (gain x4) x5 i2.val r i3) i0 i1
  unfold vecs
  split_ifs
  · exact gsum_grp _ _ _ _ _ fun p => r1 x6 _ _ _
  · exact gsum_grp _ _ _ _ _ fun p => r71 ..
  · exact gsum_grp _ _ _ _ _ fun p => r73 ..
  · exact (grp_zero _ _).symm

theorem res164 : val_main_v164 (F := Ideal) x0 x1 x2 x3 x4 x5 x6 x7 = fun i => grp (fun r => gates (mid x0 x1 x2 x3) x1 x6 x7 (gain x4) (gain x2) x5 x3 (i 2).val r (i 3)) (i 0) (i 1) := by
  have hD := f89 h0 h1 h2 h3 h4 h5 h6 h7
  funext i
  idx_vars i
  rw [at164]
  show _ = grp (fun r => gates (mid x0 x1 x2 x3) x1 x6 x7 (gain x4) (gain x2) x5 x3 i2.val r i3) i0 i1
  unfold gates
  split_ifs
  · exact gsum_grp _ _ _ _ _ fun p => r91 (D := dmid (mid x0 x1 x2 x3) x6 x7 (gain x4) x5) (hD := hD) ..
  · exact gsum_grp _ _ _ _ _ fun p => r92 (D := dmid (mid x0 x1 x2 x3) x6 x7 (gain x4) x5) (hD := hD) ..
  · exact (grp_zero _ _).symm
end results

end Cert.Reference2Ideal.Rows

namespace Cert.Kernel2Ideal.Value
open Cert.Kernel2Ideal Cert.Kernel2Ideal.Gen
open Cert.Reference2Ideal.Rows (mid gain)

variable (m : (ℓ : Loc nD τ sig) → Buf (Elt Ideal) ℓ) (ρ : Dev nD → PrngReg) (c : Dev nD)

theorem in1 : (V m c (Pipeline.arrRef spec0 1) : FVec Ideal S1x1024 .f32) = gain (m ((c.tc : Thread nD τ).loc main_arg4)) := by
  funext i
  idx_vars i
  show StableHlo.after hostOps0 _ _ _ = _
  after_results
  pointwise [gain]
theorem in6 : (V m c (Pipeline.arrRef spec0 6) : FVec Ideal S1x1024 .f32) = gain (m ((c.tc : Thread nD τ).loc main_arg2)) := by
  funext i
  idx_vars i
  show StableHlo.after hostOps0 _ _ _ = _
  after_results
  pointwise [gain]
theorem choose (x : FVec Ideal S2x2x8x1024 .f32) (r : Fin 4608) (v : Fin 8) (j : Fin 1024) :
    (if h : r.val % 2304 < 256 then x (ix4 (⟨r.val / 2304, by omega⟩ : Fin 2) (0 : Fin 2) v j) else x (ix4 (⟨r.val / 2304, by omega⟩ : Fin 2) (1 : Fin 2) v j)) = x (ix4 (smp r) (str r) v j) := by
  by_cases h : r.val % 2304 < 256
  · rw [dif_pos h]
    exact congrArg (fun s => x (ix4 (smp r) s v j)) (Fin.ext (by show 0 = min (r.val % 2304 / 256) 1; omega))
  · rw [dif_neg h]
    exact congrArg (fun s => x (ix4 (smp r) s v j)) (Fin.ext (by show 1 = min (r.val % 2304 / 256) 1; omega))
theorem in0 : (V m c (Pipeline.arrRef spec0 0) : FVec Ideal S4608x1024 .f32) = mid (m ((c.tc : Thread nD τ).loc main_arg0)) (m ((c.tc : Thread nD τ).loc main_arg1)) (m ((c.tc : Thread nD τ).loc main_arg2)) (m ((c.tc : Thread nD τ).loc main_arg3)) := by
  funext i
  idx_vars i
  show StableHlo.after hostOps0 _ _ _ = _
  after_results
  pointwise [mid]
  rw [choose]
  rfl

/-! ## The precondition, read -/

open Cert.Rows (Fin')

theorem finite_of {x : EReal} (h : Ideal.cmp .olt (max x (-x)) (Ideal.ofBits .f32 0x7F800000#32) = 1#1) : Fin' x := by
  rw [show Ideal.ofBits .f32 0x7F800000#32 = ⊤ by simp [Ideal.ofBits, Ideal.ieee]] at h
  have h' : max x (-x) < ⊤ := by
    by_contra hn
    simp [Ideal.cmp, hn] at h
  induction x with
  | bot => simp at h'
  | top => simp at h'
  | coe a => exact ⟨a, rfl⟩

/-- Every argument of the call is a real number. -/
def Reals : Prop := (∀ i, Fin' ((m ((c.tc : Thread nD τ).loc main_arg0) : FVec Ideal S4608x1024 .f32) i)) ∧ (∀ i, Fin' ((m ((c.tc : Thread nD τ).loc main_arg1) : FVec Ideal S4608x1024 .f32) i))
  ∧ (∀ i, Fin' ((m ((c.tc : Thread nD τ).loc main_arg2) : FVec Ideal S1024 .f32) i)) ∧ (∀ i, Fin' ((m ((c.tc : Thread nD τ).loc main_arg3) : FVec Ideal S2x2x8x1024 .f32) i))
  ∧ (∀ i, Fin' ((m ((c.tc : Thread nD τ).loc main_arg4) : FVec Ideal S1024 .f32) i)) ∧ (∀ i, Fin' ((m ((c.tc : Thread nD τ).loc main_arg5) : FVec Ideal S2x2x8x1024 .f32) i))
  ∧ (∀ i, Fin' ((m ((c.tc : Thread nD τ).loc main_arg6) : FVec Ideal S4608x1024 .f32) i)) ∧ (∀ i, Fin' ((m ((c.tc : Thread nD τ).loc main_arg7) : FVec Ideal S4608x1024 .f32) i))

theorem reals (h : Cert.Pre_Kernel2Ideal_finite_arguments m) : Reals m c := by
  obtain ⟨e0, e1, e2, e3, e4, e5, e6, e7⟩ := h c
  exact ⟨fun i => finite_of (congrFun e0 i), fun i => finite_of (congrFun e1 i), fun i => finite_of (congrFun e2 i), fun i => finite_of (congrFun e3 i),
    fun i => finite_of (congrFun e4 i), fun i => finite_of (congrFun e5 i), fun i => finite_of (congrFun e6 i), fun i => finite_of (congrFun e7 i)⟩

/-! ## The run -/

open Cert.Reference2Ideal.Rows (res153 res155 res160 res164)

theorem in2 : V m c (Pipeline.arrRef spec0 2) = m ((c.tc : Thread nD τ).loc main_arg5) := V_main_arg5 m c
theorem in3 : V m c (Pipeline.arrRef spec0 3) = m ((c.tc : Thread nD τ).loc main_arg6) := V_main_arg6 m c
theorem in4 : V m c (Pipeline.arrRef spec0 4) = m ((c.tc : Thread nD τ).loc main_arg7) := V_main_arg7 m c
theorem in5 : V m c (Pipeline.arrRef spec0 5) = m ((c.tc : Thread nD τ).loc main_arg1) := V_main_arg1 m c
theorem in7 : V m c (Pipeline.arrRef spec0 7) = m ((c.tc : Thread nD τ).loc main_arg3) := V_main_arg3 m c

theorem last8 (h : Reals m c) : (dats m 0 c).arrAt 8 cfg0.N = Cert.Reference2Ideal.Read.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have f := final8 m c
  rw [in0, in1, in2, in3, in4] at f
  obtain ⟨h0, h1, h2, h3, h4, h5, h6, h7⟩ := h
  exact f.trans (res153 h0 h1 h2 h3 h4 h5 h6 h7).symm

theorem last9 : (dats m 0 c).arrAt 9 cfg0.N = Cert.Reference2Ideal.Read.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have f := final9 m c
  rw [in0, in1, in2, in3] at f
  exact f.trans (res160).symm

theorem last10 (h : Reals m c) : (dats m 0 c).arrAt 10 cfg0.N = Cert.Reference2Ideal.Read.val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have f := final10 m c
  rw [in0, in1, in6, in2, in3, in4, in5, in7] at f
  obtain ⟨h0, h1, h2, h3, h4, h5, h6, h7⟩ := h
  exact f.trans (res155 h0 h1 h2 h3 h4 h5 h6 h7).symm

theorem last11 (h : Reals m c) : (dats m 0 c).arrAt 11 cfg0.N = Cert.Reference2Ideal.Read.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have f := final11 m c
  rw [in0, in1, in6, in2, in3, in4, in5, in7] at f
  obtain ⟨h0, h1, h2, h3, h4, h5, h6, h7⟩ := h
  exact f.trans (res164 h0 h1 h2 h3 h4 h5 h6 h7).symm

/-- From real arguments every fair execution of the call ends with the reference's four results, its arguments unchanged. -/
theorem run (h : ∀ c, Reals m c) : θ_run defs (onTc (τ := τ) (main (F := Ideal))) ⟨m, fun _ => 0, ρ⟩ (fun r => ∀ c : Dev nD,
      r.2.mem ((c.tc : Thread nD τ).loc main_v25_0) = Cert.Reference2Ideal.Read.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v25_2) = Cert.Reference2Ideal.Read.val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v25_1) = Cert.Reference2Ideal.Read.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v25_3) = Cert.Reference2Ideal.Read.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r hr c => ?_) (θ_run_and (run_main m ρ) (unchanged m ρ))
  exact ⟨((hr.1 c).1 8).trans (last8 m c (h c)), ((hr.1 c).1 10).trans (last10 m c (h c)), ((hr.1 c).1 9).trans (last9 m c), ((hr.1 c).1 11).trans (last11 m c (h c)), hr.2 c⟩

end Cert.Kernel2Ideal.Value

end
-- ==== Proof.Proj0.lean ====
/- The six projection products of a layer: what each call leaves in its result, over the array. -/
module

public import proofs.«01_k».proof.Proof.Gen.Kernel3Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (V : (c : Dev nD) → (b : Ref sig .tc) → Buf (Elt Ideal) ((c : Thread nD τ).loc b))

/-- The in-projection, `u · w`. -/
def proj (a : FVec Ideal S4608x1024 .bf16) (b : FVec Ideal S1024x1536 .bf16) : FVec Ideal S4608x1536 .f32 := fun i =>
  ∑ k : Fin 1024, (a (ix2 (⟨(i 0).val, (i 0).isLt⟩ : Fin 4608) k) : EReal) * b (ix2 k (⟨(i 1).val, (i 1).isLt⟩ : Fin 1536))

/-- The out-projection, `o · w`. -/
def mix (a : FVec Ideal S4608x1024 .bf16) (b : FVec Ideal S1024x1024 .bf16) : FVec Ideal S4608x1024 .f32 := fun i =>
  ∑ k : Fin 1024, (a (ix2 (⟨(i 0).val, (i 0).isLt⟩ : Fin 4608) k) : EReal) * b (ix2 k (⟨(i 1).val, (i 1).isLt⟩ : Fin 1024))

/-- The gradient of the out-projection's input, `dmix · wᵀ`. -/
def ghead (a : FVec Ideal S4608x1024 .bf16) (b : FVec Ideal S1024x1024 .bf16) : FVec Ideal S4608x1024 .bf16 := fun i =>
  ∑ k : Fin 1024, (a (ix2 (⟨(i 0).val, (i 0).isLt⟩ : Fin 4608) k) : EReal) * b (ix2 (⟨(i 1).val, (i 1).isLt⟩ : Fin 1024) k)

/-- The gradient of the out-projection's weight: the transposed input times `dmix`, over the rows. -/
def gout (a : FVec Ideal S1024x4608 .bf16) (b : FVec Ideal S4608x1024 .bf16) : FVec Ideal S1024x1024 .bf16 := fun i =>
  ∑ k : Fin 4608, (a (ix2 (⟨(i 0).val, (i 0).isLt⟩ : Fin 1024) k) : EReal) * b (ix2 k (⟨(i 1).val, (i 1).isLt⟩ : Fin 1024))

/-- The gradient of the in-projection's weight: the transposed input times `dproj`, over the rows. -/
def gin (a : FVec Ideal S1024x4608 .bf16) (b : FVec Ideal S4608x1536 .bf16) : FVec Ideal S1024x1536 .bf16 := fun i =>
  ∑ k : Fin 4608, (a (ix2 (⟨(i 0).val, (i 0).isLt⟩ : Fin 1024) k) : EReal) * b (ix2 k (⟨(i 1).val, (i 1).isLt⟩ : Fin 1536))

/-- The gradient of the in-projection's input, `dproj · wᵀ`. -/
def gu (a : FVec Ideal S4608x1536 .bf16) (b : FVec Ideal S1024x1536 .bf16) : FVec Ideal S4608x1024 .f32 := fun i =>
  ∑ k : Fin 1536, (a (ix2 (⟨(i 0).val, (i 0).isLt⟩ : Fin 4608) k) : EReal) * b (ix2 (⟨(i 1).val, (i 1).isLt⟩ : Fin 1024) k)

theorem idx0 : ∀ t : Fin cfg0.N, win0_0.index t = ![t.val / 3, 0] ∧ win0_1.index t = ![0, t.val % 3] ∧ win0_2.index t = ![t.val / 3, t.val % 3] :=
  (by decide +kernel : ∀ t : Fin grid0.N, _)

theorem point0 (c : Dev nD) (t : Fin cfg0.N) (y) : k0_pay1 (iblk0 V c 0 t) (iblk0 V c 1 t) y
    = proj (V c main_v2) (V c main_v0) (((cfg0.win 2).blk t).view.emb y) := by
  pointwise [k0_pay1, proj]
  blk_point [iblk0, idx0 t]

theorem final0 (c : Dev nD) : (dat0 V c).arrAt 2 cfg0.N = proj (V c main_v2) (V c main_v0) := by
  refine (dat0 V c).arrAt_eq_of_covers 2 _ (by decide +kernel) fun t _ y => ?_
  blk_simp
  rw [after0_2]; frame_out
  exact point0 V c t y

theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)

theorem point1 (c : Dev nD) (t : Fin cfg1.N) (y) : k1_pay1 (iblk1 V c 0 t) (iblk1 V c 1 t) y
    = mix (V c main_v4) (V c main_v1) (((cfg1.win 2).blk t).view.emb y) := by
  pointwise [k1_pay1, mix]
  blk_point [iblk1, idx1 t]

theorem final1 (c : Dev nD) : (dat1 V c).arrAt 2 cfg1.N = mix (V c main_v4) (V c main_v1) := by
  refine (dat1 V c).arrAt_eq_of_covers 2 _ (by decide +kernel) fun t _ y => ?_
  blk_simp
  rw [after1_2]; frame_out
  exact point1 V c t y

theorem idx2 : ∀ t : Fin cfg2.N, win2_0.index t = ![t.val / 2, 0] ∧ win2_1.index t = ![t.val % 2, 0] ∧ win2_2.index t = ![t.val / 2, t.val % 2] :=
  (by decide +kernel : ∀ t : Fin grid2.N, _)

theorem point2 (c : Dev nD) (t : Fin cfg2.N) (y) : k2_pay1 (iblk2 V c 0 t) (iblk2 V c 1 t) y
    = ghead (V c main_v7) (V c main_v1) (((cfg2.win 2).blk t).view.emb y) := by
  pointwise [k2_pay1, ghead]
  blk_point [iblk2, idx2 t]

theorem final2 (c : Dev nD) : (dat2 V c).arrAt 2 cfg2.N = ghead (V c main_v7) (V c main_v1) := by
  refine (dat2 V c).arrAt_eq_of_covers 2 _ (by decide +kernel) fun t _ y => ?_
  blk_simp
  rw [after2_2]; frame_out
  exact point2 V c t y

theorem idx3 : ∀ t : Fin cfg3.N, win3_0.index t = ![0, 0] ∧ win3_1.index t = ![0, t.val] ∧ win3_2.index t = ![0, t.val] :=
  (by decide +kernel : ∀ t : Fin grid3.N, _)

theorem point3 (c : Dev nD) (t : Fin cfg3.N) (y) : k3_pay1 (iblk3 V c 0 t) (iblk3 V c 1 t) y
    = gout (V c main_v5) (V c main_v7) (((cfg3.win 2).blk t).view.emb y) := by
  pointwise [k3_pay1, gout]
  blk_point [iblk3, idx3 t]

theorem final3 (c : Dev nD) : (dat3 V c).arrAt 2 cfg3.N = gout (V c main_v5) (V c main_v7) := by
  refine (dat3 V c).arrAt_eq_of_covers 2 _ (by decide +kernel) fun t _ y => ?_
  blk_simp
  rw [after3_2]; frame_out
  exact point3 V c t y

theorem idx4 : ∀ t : Fin cfg4.N, win4_0.index t = ![0, 0] ∧ win4_1.index t = ![0, t.val] ∧ win4_2.index t = ![0, t.val] :=
  (by decide +kernel : ∀ t : Fin grid4.N, _)

theorem point4 (c : Dev nD) (t : Fin cfg4.N) (y) : k4_pay1 (iblk4 V c 0 t) (iblk4 V c 1 t) y
    = gin (V c main_v3) (V c main_v6) (((cfg4.win 2).blk t).view.emb y) := by
  pointwise [k4_pay1, gin]
  blk_point [iblk4, idx4 t]

theorem final4 (c : Dev nD) : (dat4 V c).arrAt 2 cfg4.N = gin (V c main_v3) (V c main_v6) := by
  refine (dat4 V c).arrAt_eq_of_covers 2 _ (by decide +kernel) fun t _ y => ?_
  blk_simp
  rw [after4_2]; frame_out
  exact point4 V c t y

theorem idx5 : ∀ t : Fin cfg5.N, win5_0.index t = ![t.val / 2, 0] ∧ win5_1.index t = ![t.val % 2, 0] ∧ win5_2.index t = ![t.val / 2, t.val % 2] :=
  (by decide +kernel : ∀ t : Fin grid5.N, _)

theorem point5 (c : Dev nD) (t : Fin cfg5.N) (y) : k5_pay1 (iblk5 V c 0 t) (iblk5 V c 1 t) y
    = gu (V c main_v6) (V c main_v0) (((cfg5.win 2).blk t).view.emb y) := by
  pointwise [k5_pay1, gu]
  blk_point [iblk5, idx5 t]

theorem final5 (c : Dev nD) : (dat5 V c).arrAt 2 cfg5.N = gu (V c main_v6) (V c main_v0) := by
  refine (dat5 V c).arrAt_eq_of_covers 2 _ (by decide +kernel) fun t _ y => ?_
  blk_simp
  rw [after5_2]; frame_out
  exact point5 V c t y

end Cert.Kernel3Ideal.Value

end
-- ==== Proof.Proj1.lean ====
/- The six results as the reference's terms, and the launch that ends at them. -/
module

public import proofs.«01_k».proof.Proof.Proj0
public import proofs.«01_k».proof.Proof.Gen.Reference3Ideal.Read
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel3Ideal.Value

open Cert.Kernel3Ideal Cert.Kernel3Ideal.Gen

variable (x0 : FVec Ideal S4608x1024 .f32) (x1 : FVec Ideal S1024x1536 .f32) (x2 : FVec Ideal S4608x1536 .f32) (x3 : FVec Ideal S4608x1024 .f32) (x4 : FVec Ideal S1024x1024 .f32) (x5 : FVec Ideal S4608x1024 .f32)

/-! ## Each product of the host's casts is the reference's -/

open Cert.Reference3Ideal.Read in
theorem proj_eq : proj (truncf .bf16 x0 bitsLt_bf16_f32) (truncf .bf16 x1 bitsLt_bf16_f32) = val_main_v0 (F := Ideal) x0 x1 := by
  funext i
  rw [val_main_v0_apply]
  unfold proj
  pointwise []
  blk_point

open Cert.Reference3Ideal.Read in
theorem mix_eq : mix (truncf .bf16 x3 bitsLt_bf16_f32) (truncf .bf16 x4 bitsLt_bf16_f32) = val_main_v1 (F := Ideal) x3 x4 := by
  funext i
  rw [val_main_v1_apply]
  unfold mix
  pointwise []
  blk_point

open Cert.Reference3Ideal.Read in
theorem ghead_eq : ghead (truncf .bf16 x5 bitsLt_bf16_f32) (truncf .bf16 x4 bitsLt_bf16_f32) = val_main_v8 (F := Ideal) x4 x5 := by
  funext i
  rw [val_main_v8_apply, val_main_v7_apply]
  unfold ghead
  pointwise []
  blk_point

open Cert.Reference3Ideal.Read in
theorem gout_eq : gout (transpose S1024x4608 [1, 0] (truncf .bf16 x3 bitsLt_bf16_f32) transposes_S4608x1024_S1024x4608_1_0) (truncf .bf16 x5 bitsLt_bf16_f32) = val_main_v9 (F := Ideal) x3 x5 := by
  funext i
  rw [val_main_v9_apply, val_main_v6_apply, val_main_v5_apply]
  unfold gout
  refine (Finset.sum_congr rfl fun k _ => mul_comm _ _).trans ?_
  pointwise []
  blk_point

open Cert.Reference3Ideal.Read in
theorem gin_eq : gin (transpose S1024x4608 [1, 0] (truncf .bf16 x0 bitsLt_bf16_f32) transposes_S4608x1024_S1024x4608_1_0) (truncf .bf16 x2 bitsLt_bf16_f32) = val_main_v10 (F := Ideal) x0 x2 := by
  funext i
  rw [val_main_v10_apply, val_main_v3_apply, val_main_v2_apply]
  unfold gin
  refine (Finset.sum_congr rfl fun k _ => mul_comm _ _).trans ?_
  pointwise []
  blk_point

open Cert.Reference3Ideal.Read in
theorem gu_eq : gu (truncf .bf16 x2 bitsLt_bf16_f32) (truncf .bf16 x1 bitsLt_bf16_f32) = val_main_v4 (F := Ideal) x1 x2 := by
  funext i
  rw [val_main_v4_apply]
  unfold gu
  pointwise []
  blk_point

variable (m : (ℓ : Loc nD τ sig) → Buf (Elt Ideal) ℓ) (ρ : Dev nD → PrngReg)

/-- The six arguments as launched on a device. -/
abbrev a0 (c : Dev nD) : FVec Ideal S4608x1024 .f32 := m ((c.tc : Thread nD τ).loc main_arg0)
abbrev a1 (c : Dev nD) : FVec Ideal S1024x1536 .f32 := m ((c.tc : Thread nD τ).loc main_arg1)
abbrev a2 (c : Dev nD) : FVec Ideal S4608x1536 .f32 := m ((c.tc : Thread nD τ).loc main_arg2)
abbrev a3 (c : Dev nD) : FVec Ideal S4608x1024 .f32 := m ((c.tc : Thread nD τ).loc main_arg3)
abbrev a4 (c : Dev nD) : FVec Ideal S1024x1024 .f32 := m ((c.tc : Thread nD τ).loc main_arg4)
abbrev a5 (c : Dev nD) : FVec Ideal S4608x1024 .f32 := m ((c.tc : Thread nD τ).loc main_arg5)

/-! ## What the host leaves for the calls, and what each call leaves, at every later state -/

theorem w1_v0 (c : Dev nD) : W1 m ρ c main_v0 = truncf .bf16 (a1 m c) bitsLt_bf16_f32 := by
  show StableHlo.after hostOps0 _ _ = _
  after_results
theorem w2_v0 (c : Dev nD) : W2 m ρ c main_v0 = truncf .bf16 (a1 m c) bitsLt_bf16_f32 := (W2_of m ρ c main_v0 (by decide)).trans (w1_v0 m ρ c)
theorem w3_v0 (c : Dev nD) : W3 m ρ c main_v0 = truncf .bf16 (a1 m c) bitsLt_bf16_f32 := (W3_of m ρ c main_v0 (by decide)).trans (w2_v0 m ρ c)
theorem w4_v0 (c : Dev nD) : W4 m ρ c main_v0 = truncf .bf16 (a1 m c) bitsLt_bf16_f32 := (W4_of m ρ c main_v0 (by decide)).trans (w3_v0 m ρ c)
theorem w5_v0 (c : Dev nD) : W5 m ρ c main_v0 = truncf .bf16 (a1 m c) bitsLt_bf16_f32 := (W5_of m ρ c main_v0 (by decide)).trans (w4_v0 m ρ c)
theorem w6_v0 (c : Dev nD) : W6 m ρ c main_v0 = truncf .bf16 (a1 m c) bitsLt_bf16_f32 := (W6_of m ρ c main_v0 (by decide)).trans (w5_v0 m ρ c)
theorem w1_v1 (c : Dev nD) : W1 m ρ c main_v1 = truncf .bf16 (a4 m c) bitsLt_bf16_f32 := by
  show StableHlo.after hostOps0 _ _ = _
  after_results
theorem w2_v1 (c : Dev nD) : W2 m ρ c main_v1 = truncf .bf16 (a4 m c) bitsLt_bf16_f32 := (W2_of m ρ c main_v1 (by decide)).trans (w1_v1 m ρ c)
theorem w3_v1 (c : Dev nD) : W3 m ρ c main_v1 = truncf .bf16 (a4 m c) bitsLt_bf16_f32 := (W3_of m ρ c main_v1 (by decide)).trans (w2_v1 m ρ c)
theorem w1_v2 (c : Dev nD) : W1 m ρ c main_v2 = truncf .bf16 (a0 m c) bitsLt_bf16_f32 := by
  show StableHlo.after hostOps0 _ _ = _
  after_results
theorem w1_v3 (c : Dev nD) : W1 m ρ c main_v3 = transpose S1024x4608 [1, 0] (truncf .bf16 (a0 m c) bitsLt_bf16_f32) transposes_S4608x1024_S1024x4608_1_0 := by
  show StableHlo.after hostOps0 _ _ = _
  after_results
theorem w2_v3 (c : Dev nD) : W2 m ρ c main_v3 = transpose S1024x4608 [1, 0] (truncf .bf16 (a0 m c) bitsLt_bf16_f32) transposes_S4608x1024_S1024x4608_1_0 := (W2_of m ρ c main_v3 (by decide)).trans (w1_v3 m ρ c)
theorem w3_v3 (c : Dev nD) : W3 m ρ c main_v3 = transpose S1024x4608 [1, 0] (truncf .bf16 (a0 m c) bitsLt_bf16_f32) transposes_S4608x1024_S1024x4608_1_0 := (W3_of m ρ c main_v3 (by decide)).trans (w2_v3 m ρ c)
theorem w4_v3 (c : Dev nD) : W4 m ρ c main_v3 = transpose S1024x4608 [1, 0] (truncf .bf16 (a0 m c) bitsLt_bf16_f32) transposes_S4608x1024_S1024x4608_1_0 := (W4_of m ρ c main_v3 (by decide)).trans (w3_v3 m ρ c)
theorem w5_v3 (c : Dev nD) : W5 m ρ c main_v3 = transpose S1024x4608 [1, 0] (truncf .bf16 (a0 m c) bitsLt_bf16_f32) transposes_S4608x1024_S1024x4608_1_0 := (W5_of m ρ c main_v3 (by decide)).trans (w4_v3 m ρ c)
theorem w1_v4 (c : Dev nD) : W1 m ρ c main_v4 = truncf .bf16 (a3 m c) bitsLt_bf16_f32 := by
  show StableHlo.after hostOps0 _ _ = _
  after_results
theorem w2_v4 (c : Dev nD) : W2 m ρ c main_v4 = truncf .bf16 (a3 m c) bitsLt_bf16_f32 := (W2_of m ρ c main_v4 (by decide)).trans (w1_v4 m ρ c)
theorem w1_v5 (c : Dev nD) : W1 m ρ c main_v5 = transpose S1024x4608 [1, 0] (truncf .bf16 (a3 m c) bitsLt_bf16_f32) transposes_S4608x1024_S1024x4608_1_0 := by
  show StableHlo.after hostOps0 _ _ = _
  after_results
theorem w2_v5 (c : Dev nD) : W2 m ρ c main_v5 = transpose S1024x4608 [1, 0] (truncf .bf16 (a3 m c) bitsLt_bf16_f32) transposes_S4608x1024_S1024x4608_1_0 := (W2_of m ρ c main_v5 (by decide)).trans (w1_v5 m ρ c)
theorem w3_v5 (c : Dev nD) : W3 m ρ c main_v5 = transpose S1024x4608 [1, 0] (truncf .bf16 (a3 m c) bitsLt_bf16_f32) transposes_S4608x1024_S1024x4608_1_0 := (W3_of m ρ c main_v5 (by decide)).trans (w2_v5 m ρ c)
theorem w4_v5 (c : Dev nD) : W4 m ρ c main_v5 = transpose S1024x4608 [1, 0] (truncf .bf16 (a3 m c) bitsLt_bf16_f32) transposes_S4608x1024_S1024x4608_1_0 := (W4_of m ρ c main_v5 (by decide)).trans (w3_v5 m ρ c)
theorem w1_v6 (c : Dev nD) : W1 m ρ c main_v6 = truncf .bf16 (a2 m c) bitsLt_bf16_f32 := by
  show StableHlo.after hostOps0 _ _ = _
  after_results
theorem w2_v6 (c : Dev nD) : W2 m ρ c main_v6 = truncf .bf16 (a2 m c) bitsLt_bf16_f32 := (W2_of m ρ c main_v6 (by decide)).trans (w1_v6 m ρ c)
theorem w3_v6 (c : Dev nD) : W3 m ρ c main_v6 = truncf .bf16 (a2 m c) bitsLt_bf16_f32 := (W3_of m ρ c main_v6 (by decide)).trans (w2_v6 m ρ c)
theorem w4_v6 (c : Dev nD) : W4 m ρ c main_v6 = truncf .bf16 (a2 m c) bitsLt_bf16_f32 := (W4_of m ρ c main_v6 (by decide)).trans (w3_v6 m ρ c)
theorem w5_v6 (c : Dev nD) : W5 m ρ c main_v6 = truncf .bf16 (a2 m c) bitsLt_bf16_f32 := (W5_of m ρ c main_v6 (by decide)).trans (w4_v6 m ρ c)
theorem w6_v6 (c : Dev nD) : W6 m ρ c main_v6 = truncf .bf16 (a2 m c) bitsLt_bf16_f32 := (W6_of m ρ c main_v6 (by decide)).trans (w5_v6 m ρ c)
theorem w1_v7 (c : Dev nD) : W1 m ρ c main_v7 = truncf .bf16 (a5 m c) bitsLt_bf16_f32 := by
  show StableHlo.after hostOps0 _ _ = _
  after_results
theorem w2_v7 (c : Dev nD) : W2 m ρ c main_v7 = truncf .bf16 (a5 m c) bitsLt_bf16_f32 := (W2_of m ρ c main_v7 (by decide)).trans (w1_v7 m ρ c)
theorem w3_v7 (c : Dev nD) : W3 m ρ c main_v7 = truncf .bf16 (a5 m c) bitsLt_bf16_f32 := (W3_of m ρ c main_v7 (by decide)).trans (w2_v7 m ρ c)
theorem w4_v7 (c : Dev nD) : W4 m ρ c main_v7 = truncf .bf16 (a5 m c) bitsLt_bf16_f32 := (W4_of m ρ c main_v7 (by decide)).trans (w3_v7 m ρ c)

open Cert.Reference3Ideal.Read

theorem w2_v8 (c : Dev nD) : W2 m ρ c main_v8 = val_main_v0 (F := Ideal) (a0 m c) (a1 m c) :=
  (W2_arr m ρ c 2).trans ((final0 (V1 m ρ) c).trans (by
    rw [show V1 m ρ c main_v2 = _ from w1_v2 m ρ c, show V1 m ρ c main_v0 = _ from w1_v0 m ρ c]
    exact proj_eq _ _))
theorem w3_v8 (c : Dev nD) : W3 m ρ c main_v8 = val_main_v0 (F := Ideal) (a0 m c) (a1 m c) := (W3_of m ρ c main_v8 (by decide)).trans (w2_v8 m ρ c)
theorem w4_v8 (c : Dev nD) : W4 m ρ c main_v8 = val_main_v0 (F := Ideal) (a0 m c) (a1 m c) := (W4_of m ρ c main_v8 (by decide)).trans (w3_v8 m ρ c)
theorem w5_v8 (c : Dev nD) : W5 m ρ c main_v8 = val_main_v0 (F := Ideal) (a0 m c) (a1 m c) := (W5_of m ρ c main_v8 (by decide)).trans (w4_v8 m ρ c)
theorem w6_v8 (c : Dev nD) : W6 m ρ c main_v8 = val_main_v0 (F := Ideal) (a0 m c) (a1 m c) := (W6_of m ρ c main_v8 (by decide)).trans (w5_v8 m ρ c)
theorem w7_v8 (c : Dev nD) : W7 m ρ c main_v8 = val_main_v0 (F := Ideal) (a0 m c) (a1 m c) := (W7_of m ρ c main_v8 (by decide)).trans (w6_v8 m ρ c)

theorem w3_v9 (c : Dev nD) : W3 m ρ c main_v9 = val_main_v1 (F := Ideal) (a3 m c) (a4 m c) :=
  (W3_arr m ρ c 2).trans ((final1 (V2 m ρ) c).trans (by
    rw [show V2 m ρ c main_v4 = _ from w2_v4 m ρ c, show V2 m ρ c main_v1 = _ from w2_v1 m ρ c]
    exact mix_eq _ _))
theorem w4_v9 (c : Dev nD) : W4 m ρ c main_v9 = val_main_v1 (F := Ideal) (a3 m c) (a4 m c) := (W4_of m ρ c main_v9 (by decide)).trans (w3_v9 m ρ c)
theorem w5_v9 (c : Dev nD) : W5 m ρ c main_v9 = val_main_v1 (F := Ideal) (a3 m c) (a4 m c) := (W5_of m ρ c main_v9 (by decide)).trans (w4_v9 m ρ c)
theorem w6_v9 (c : Dev nD) : W6 m ρ c main_v9 = val_main_v1 (F := Ideal) (a3 m c) (a4 m c) := (W6_of m ρ c main_v9 (by decide)).trans (w5_v9 m ρ c)
theorem w7_v9 (c : Dev nD) : W7 m ρ c main_v9 = val_main_v1 (F := Ideal) (a3 m c) (a4 m c) := (W7_of m ρ c main_v9 (by decide)).trans (w6_v9 m ρ c)

theorem w4_v10 (c : Dev nD) : W4 m ρ c main_v10 = val_main_v8 (F := Ideal) (a4 m c) (a5 m c) :=
  (W4_arr m ρ c 2).trans ((final2 (V3 m ρ) c).trans (by
    rw [show V3 m ρ c main_v7 = _ from w3_v7 m ρ c, show V3 m ρ c main_v1 = _ from w3_v1 m ρ c]
    exact ghead_eq _ _))
theorem w5_v10 (c : Dev nD) : W5 m ρ c main_v10 = val_main_v8 (F := Ideal) (a4 m c) (a5 m c) := (W5_of m ρ c main_v10 (by decide)).trans (w4_v10 m ρ c)
theorem w6_v10 (c : Dev nD) : W6 m ρ c main_v10 = val_main_v8 (F := Ideal) (a4 m c) (a5 m c) := (W6_of m ρ c main_v10 (by decide)).trans (w5_v10 m ρ c)
theorem w7_v10 (c : Dev nD) : W7 m ρ c main_v10 = val_main_v8 (F := Ideal) (a4 m c) (a5 m c) := (W7_of m ρ c main_v10 (by decide)).trans (w6_v10 m ρ c)

theorem w5_v11 (c : Dev nD) : W5 m ρ c main_v11 = val_main_v9 (F := Ideal) (a3 m c) (a5 m c) :=
  (W5_arr m ρ c 2).trans ((final3 (V4 m ρ) c).trans (by
    rw [show V4 m ρ c main_v5 = _ from w4_v5 m ρ c, show V4 m ρ c main_v7 = _ from w4_v7 m ρ c]
    exact gout_eq _ _))
theorem w6_v11 (c : Dev nD) : W6 m ρ c main_v11 = val_main_v9 (F := Ideal) (a3 m c) (a5 m c) := (W6_of m ρ c main_v11 (by decide)).trans (w5_v11 m ρ c)
theorem w7_v11 (c : Dev nD) : W7 m ρ c main_v11 = val_main_v9 (F := Ideal) (a3 m c) (a5 m c) := (W7_of m ρ c main_v11 (by decide)).trans (w6_v11 m ρ c)

theorem w6_v12 (c : Dev nD) : W6 m ρ c main_v12 = val_main_v10 (F := Ideal) (a0 m c) (a2 m c) :=
  (W6_arr m ρ c 2).trans ((final4 (V5 m ρ) c).trans (by
    rw [show V5 m ρ c main_v3 = _ from w5_v3 m ρ c, show V5 m ρ c main_v6 = _ from w5_v6 m ρ c]
    exact gin_eq _ _))
theorem w7_v12 (c : Dev nD) : W7 m ρ c main_v12 = val_main_v10 (F := Ideal) (a0 m c) (a2 m c) := (W7_of m ρ c main_v12 (by decide)).trans (w6_v12 m ρ c)

theorem w7_v13 (c : Dev nD) : W7 m ρ c main_v13 = val_main_v4 (F := Ideal) (a1 m c) (a2 m c) :=
  (W7_arr m ρ c 2).trans ((final5 (V6 m ρ) c).trans (by
    rw [show V6 m ρ c main_v6 = _ from w6_v6 m ρ c, show V6 m ρ c main_v0 = _ from w6_v0 m ρ c]
    exact gu_eq _ _))

/-! ## The launch -/

local notation "𝕄" => MT nD τ sig Unit (Elt Ideal) ℕ (UR sig nD τ) ℕ

set_option backward.isDefEq.respectTransparency.types false in
/-- Every fair execution of the six calls ends with the contents named above, for every buffer of the program. -/
theorem run : θ_run defs (onTc (τ := τ) (main (F := Ideal))) ⟨m, fun _ => 0, ρ⟩ (fun r => ∀ c : Dev nD,
      r.2.mem ((c.tc : Thread nD τ).loc main_v8) = val_main_v0 (F := Ideal) (a0 m c) (a1 m c)
      ∧ r.2.mem ((c.tc : Thread nD τ).loc main_v9) = val_main_v1 (F := Ideal) (a3 m c) (a4 m c)
      ∧ r.2.mem ((c.tc : Thread nD τ).loc main_v10) = val_main_v8 (F := Ideal) (a4 m c) (a5 m c)
      ∧ r.2.mem ((c.tc : Thread nD τ).loc main_v11) = val_main_v9 (F := Ideal) (a3 m c) (a5 m c)
      ∧ r.2.mem ((c.tc : Thread nD τ).loc main_v12) = val_main_v10 (F := Ideal) (a0 m c) (a2 m c)
      ∧ r.2.mem ((c.tc : Thread nD τ).loc main_v13) = val_main_v4 (F := Ideal) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v8 (by decide))).trans (w7_v8 m ρ c),
       (h c _ (mem_uc main_v9 (by decide))).trans (w7_v9 m ρ c),
       (h c _ (mem_uc main_v10 (by decide))).trans (w7_v10 m ρ c),
       (h c _ (mem_uc main_v11 (by decide))).trans (w7_v11 m ρ c),
       (h c _ (mem_uc main_v12 (by decide))).trans (w7_v12 m ρ c),
       (h c _ (mem_uc main_v13 (by decide))).trans (w7_v13 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Kernel3Ideal.Value

end
-- ==== Proof.Fwd.lean ====
/- The gated sum and the modulated normalisation that follows it: what the call computes, row by row, and the reference. -/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

/-! ## What the call computes, row by row -/

section spec
variable (H Z : FVec Ideal S4608x1024 .f32) (GP GQ : FVec Ideal S1024 .f32) (MG MS : FVec Ideal S2x2x8x1024 .f32)

/-- The sample a row belongs to, and its stream: 256 context rows, then 2048 latent rows. -/
def smp (r : Fin 4608) : Fin 2 := ⟨r.val / 2304, by omega⟩
def str (r : Fin 4608) : Fin 2 := ⟨min (r.val % 2304 / 256) 1, by omega⟩

/-- A row divided by its root mean square. -/
def unit (x : Fin 1024 → EReal) (j : Fin 1024) : EReal :=
  x j * Ideal.rsqrt (Ideal.div (∑ k : Fin 1024, x k * x k) (Ideal.ofBits .f32 0x44800000#32) + Ideal.ofBits .f32 0x358637BD#32)

/-- The stream after the gated sum. -/
def mid (r : Fin 4608) (j : Fin 1024) : EReal :=
  (H (ix2 r j) : EReal) + MG (ix4 (smp r) (str r) (2 : Fin 8) j) * (unit (fun k => Z (ix2 r k)) j * GP (ix1 j))

/-- The modulated normalisation of the stream after the gated sum. -/
def modu (r : Fin 4608) (j : Fin 1024) : EReal :=
  unit (mid H Z GP MG r) j * GQ (ix1 j) * (1 + MS (ix4 (smp r) (str r) (4 : Fin 8) j)) + MS (ix4 (smp r) (str r) (3 : Fin 8) j)
end spec

/-! ## The payloads over variables -/

section pay
variable (z h a : FVec Ideal S256x1024 .f32) (g : FVec Ideal S1x1024 .f32) (w : FVec Ideal S1x1x8x1024 .f32) (e : FVec Ideal S8x1024 .f32)
  (p : Fin 256) (q : Fin 1024)

theorem pay3 : (k0_pay3 (F := Ideal) z h w g (ix2 p q) : EReal)
    = h (ix2 p q) + w (ix4 (0 : Fin 1) (0 : Fin 1) (2 : Fin 8) q) * (unit (fun k => z (ix2 p k)) q * g (ix2 (0 : Fin 1) q)) := by
  pointwise [k0_pay3, unit]
theorem pay4 : (k0_pay4 (F := Ideal) z h w g (ix2 p q) : EReal) = unit (fun k => k0_pay3 (F := Ideal) z h w g (ix2 p k)) q := by
  unfold k0_pay4
  generalize k0_pay3 (F := Ideal) z h w g = A
  pointwise [unit]
theorem pay5 (v : Fin 8) : k0_pay5 w (ix2 v q) = w (ix4 (0 : Fin 1) (0 : Fin 1) v q) := by
  pointwise [k0_pay5]
theorem pay1 : (k0_pay1 (F := Ideal) a e g (ix2 p q) : EReal) = a (ix2 p q) * g (ix2 (0 : Fin 1) q) * (1 + e (ix2 (4 : Fin 8) q)) + e (ix2 (3 : Fin 8) q) := by
  pointwise [k0_pay1]
end pay

variable (m : (ℓ : Loc nD τ sig) → Buf (Elt Ideal) ℓ) (ρ : Dev nD → PrngReg) (c : Dev nD)

theorem idx0 : ∀ t : Fin cfg0.N, win0_0.index t = ![t.val, 0] ∧ win0_1.index t = ![t.val, 0] ∧ win0_2.index t = ![0, 0]
    ∧ win0_3.index t = ![t.val / 9, min (t.val % 9) 1, 0, 0] ∧ win0_4.index t = ![0, 0] ∧ win0_5.index t = ![t.val / 9, min (t.val % 9) 1, 0, 0]
    ∧ win0_6.index t = ![t.val, 0] ∧ win0_7.index t = ![t.val, 0] ∧ win0_8.index t = ![0, t.val] :=
  (by decide +kernel : ∀ t : Fin grid0.N, _)

theorem nN : cfg0.N = 18 := N_0

/-- The row `p` of the block at a point. -/
abbrev row (t : Fin cfg0.N) (p : Fin 256) : Fin 4608 := ⟨t.val * 256 + p.val, by have := t.isLt; have := nN; omega⟩

abbrev a0 : FVec Ideal S4608x1024 .f32 := m ((c.tc : Thread nD τ).loc main_arg0)
abbrev a1 : FVec Ideal S4608x1024 .f32 := m ((c.tc : Thread nD τ).loc main_arg1)
abbrev a2 : FVec Ideal S1024 .f32 := m ((c.tc : Thread nD τ).loc main_arg2)
abbrev a3 : FVec Ideal S2x2x8x1024 .f32 := m ((c.tc : Thread nD τ).loc main_arg3)
abbrev a4 : FVec Ideal S1024 .f32 := m ((c.tc : Thread nD τ).loc main_arg4)
abbrev a5 : FVec Ideal S2x2x8x1024 .f32 := m ((c.tc : Thread nD τ).loc main_arg5)

theorem in0 : V m c (Pipeline.arrRef spec0 0) = m ((c.tc : Thread nD τ).loc main_arg0) := V_main_arg0 m c
theorem in1 : V m c (Pipeline.arrRef spec0 1) = m ((c.tc : Thread nD τ).loc main_arg1) := V_main_arg1 m c
theorem in3 : V m c (Pipeline.arrRef spec0 3) = m ((c.tc : Thread nD τ).loc main_arg3) := V_main_arg3 m c
theorem in5 : V m c (Pipeline.arrRef spec0 5) = m ((c.tc : Thread nD τ).loc main_arg5) := V_main_arg5 m c
theorem in2 (q : Fin 1024) : (V m c (Pipeline.arrRef spec0 2) : FVec Ideal S1x1024 .f32) (ix2 (0 : Fin 1) q) = (a2 m c) (ix1 q) := by
  show StableHlo.after hostOps0 _ _ _ = _
  after_results
  pointwise []
theorem in4 (q : Fin 1024) : (V m c (Pipeline.arrRef spec0 4) : FVec Ideal S1x1024 .f32) (ix2 (0 : Fin 1) q) = (a4 m c) (ix1 q) := by
  show StableHlo.after hostOps0 _ _ _ = _
  after_results
  pointwise []

theorem b0 (t : Fin cfg0.N) (p : Fin 256) (q : Fin 1024) : (iblk m c 0 t : FVec Ideal S256x1024 .f32) (ix2 p q) = (a0 m c) (ix2 (row t p) q) := by
  refine Eq.trans ?_ (congrFun (in0 m c) _)
  blk_point [iblk, idx0 t]
theorem b1 (t : Fin cfg0.N) (p : Fin 256) (q : Fin 1024) : (iblk m c 1 t : FVec Ideal S256x1024 .f32) (ix2 p q) = (a1 m c) (ix2 (row t p) q) := by
  refine Eq.trans ?_ (congrFun (in1 m c) _)
  blk_point [iblk, idx0 t]
theorem b2 (t : Fin cfg0.N) (q : Fin 1024) : (iblk m c 2 t : FVec Ideal S1x1024 .f32) (ix2 (0 : Fin 1) q) = (a2 m c) (ix1 q) := by
  rw [← in2 m c]
  blk_point [iblk, idx0 t]
theorem b4 (t : Fin cfg0.N) (q : Fin 1024) : (iblk m c 4 t : FVec Ideal S1x1024 .f32) (ix2 (0 : Fin 1) q) = (a4 m c) (ix1 q) := by
  rw [← in4 m c]
  blk_point [iblk, idx0 t]
theorem b3 (t : Fin cfg0.N) (p : Fin 256) (v : Fin 8) (q : Fin 1024) : (iblk m c 3 t : FVec Ideal S1x1x8x1024 .f32) (ix4 (0 : Fin 1) (0 : Fin 1) v q)
    = (a3 m c) (ix4 (smp (row t p)) (str (row t p)) v q) := by
  refine Eq.trans ?_ (congrFun (in3 m c) _)
  unfold smp str
  blk_point [iblk, idx0 t]
theorem b5 (t : Fin cfg0.N) (p : Fin 256) (v : Fin 8) (q : Fin 1024) : (iblk m c 5 t : FVec Ideal S1x1x8x1024 .f32) (ix4 (0 : Fin 1) (0 : Fin 1) v q)
    = (a5 m c) (ix4 (smp (row t p)) (str (row t p)) v q) := by
  refine Eq.trans ?_ (congrFun (in5 m c) _)
  unfold smp str
  blk_point [iblk, idx0 t]

theorem at3 (t : Fin cfg0.N) (p : Fin 256) (q : Fin 1024) :
    (k0_pay3 (iblk m c 1 t) (iblk m c 0 t) (iblk m c 3 t) (iblk m c 2 t) (ix2 p q) : EReal) = mid (a0 m c) (a1 m c) (a2 m c) (a3 m c) (row t p) q := by
  rw [pay3]
  unfold mid
  rw [b0, b2, b3 m c t p]
  simp only [b1]

theorem at1 (t : Fin cfg0.N) (p : Fin 256) (q : Fin 1024) :
    (k0_pay1 (k0_pay4 (iblk m c 1 t) (iblk m c 0 t) (iblk m c 3 t) (iblk m c 2 t)) (k0_pay5 (iblk m c 5 t)) (iblk m c 4 t) (ix2 p q) : EReal)
      = modu (a0 m c) (a1 m c) (a2 m c) (a4 m c) (a3 m c) (a5 m c) (row t p) q := by
  rw [pay1, pay4, pay5, pay5, b4, b5 m c t p, b5 m c t p]
  unfold modu
  simp only [at3]

theorem final6 : (dats m 0 c).arrAt 6 cfg0.N = fun i => mid (a0 m c) (a1 m c) (a2 m c) (a3 m c) (i 0) (i 1) := by
  refine (dats m 0 c).arrAt_eq_of_covers 6 _ (by decide +kernel) fun t _ y => ?_
  blk_simp
  rw [after0_6]; frame_out
  idx_vars y
  refine (at3 m c t _ _).trans (congrArg₂ (mid (a0 m c) (a1 m c) (a2 m c) (a3 m c)) (Fin.ext ?_) (Fin.ext ?_))
  · blk_simp [idx0 t]
  · blk_simp [idx0 t]

theorem emb7 (f : Fin 4608 → Fin 1024 → EReal) (h : ∀ (t : Fin cfg0.N) (p : Fin 256) (q : Fin 1024), k0_pay1 (k0_pay4 (iblk m c 1 t) (iblk m c 0 t) (iblk m c 3 t) (iblk m c 2 t)) (k0_pay5 (iblk m c 5 t)) (iblk m c 4 t) (ix2 p q) = f (row t p) q) :
    (dats m 0 c).arrAt 7 cfg0.N = fun i => f (i 0) (i 1) := by
  refine (dats m 0 c).arrAt_eq_of_covers 7 _ (by decide +kernel) fun t _ y => ?_
  blk_simp
  rw [after0_7]; unfold_out out0_7; frame_out
  have ht := h t
  generalize k0_pay1 (k0_pay4 (iblk m c 1 t) (iblk m c 0 t) (iblk m c 3 t) (iblk m c 2 t)) (k0_pay5 (iblk m c 5 t)) (iblk m c 4 t) = A at ht ⊢
  idx_vars y
  refine (ht _ _).trans (congrArg₂ f (Fin.ext ?_) (Fin.ext ?_))
  · blk_simp [idx0 t]
  · blk_simp [idx0 t]

theorem emb8 (f : Fin 4608 → Fin 1024 → EReal) (h : ∀ (t : Fin cfg0.N) (p : Fin 256) (q : Fin 1024), k0_pay1 (k0_pay4 (iblk m c 1 t) (iblk m c 0 t) (iblk m c 3 t) (iblk m c 2 t)) (k0_pay5 (iblk m c 5 t)) (iblk m c 4 t) (ix2 p q) = f (row t p) q) :
    (dats m 0 c).arrAt 8 cfg0.N = fun i => f (i 1) (i 0) := by
  refine (dats m 0 c).arrAt_eq_of_covers 8 _ (by decide +kernel) fun t _ y => ?_
  blk_simp
  rw [after0_8]; unfold_out out0_8; frame_out
  have ht := h t
  unfold k0_pay2
  generalize k0_pay1 (k0_pay4 (iblk m c 1 t) (iblk m c 0 t) (iblk m c 3 t) (iblk m c 2 t)) (k0_pay5 (iblk m c 5 t)) (iblk m c 4 t) = A at ht ⊢
  idx_vars y
  pointwise []
  refine (ht _ _).trans (congrArg₂ f (Fin.ext ?_) (Fin.ext ?_))
  · blk_simp [idx0 t]
  · blk_simp [idx0 t]

theorem final7 : (dats m 0 c).arrAt 7 cfg0.N = fun i => modu (a0 m c) (a1 m c) (a2 m c) (a4 m c) (a3 m c) (a5 m c) (i 0) (i 1) := emb7 m c _ (at1 m c)
theorem final8 : (dats m 0 c).arrAt 8 cfg0.N = fun i => modu (a0 m c) (a1 m c) (a2 m c) (a4 m c) (a3 m c) (a5 m c) (i 1) (i 0) := emb8 m c _ (at1 m c)

end Cert.Kernel4Ideal.Value

namespace Cert.Reference4Ideal.Rows

open Cert.Reference4Ideal Cert.Reference4Ideal.Gen Cert.Reference4Ideal.Read
open Cert.Kernel4Ideal.Value (smp str unit mid modu)

/-! ## The reference, row by row -/

/-- Row `p` of sample `b`. -/
abbrev rw2 (b : Fin 2) (p : Fin 2304) : Fin 4608 := ⟨b.val * 2304 + p.val, by omega⟩

theorem rw2_of (r : Fin 4608) : rw2 ⟨r.val / 2304, by omega⟩ ⟨r.val % 2304, by omega⟩ = r := Fin.ext (by show r.val / 2304 * 2304 + r.val % 2304 = r.val; omega)

variable (x0 x1 : FVec Ideal S4608x1024 .f32) (x2 x4 : FVec Ideal S1024 .f32) (x3 x5 : FVec Ideal S2x2x8x1024 .f32)
variable (b : Fin 2) (p : Fin 2304) (j : Fin 1024)

theorem r1 : val_main_v1 (F := Ideal) x1 (ix3 b p j) = x1 (ix2 (rw2 b p) j) := by
  pointwise [val_main_v1]
/-- A choice between the two streams is a read at the row's stream. -/
theorem pick (x : FVec Ideal S2x2x8x1024 .f32) (v : Fin 8) : (if h : p.val < 256 then x (ix4 b (0 : Fin 2) v j) else x (ix4 b (1 : Fin 2) v j)) = x (ix4 (smp (rw2 b p)) (str (rw2 b p)) v j) := by
  rw [show smp (rw2 b p) = b from Fin.ext (by dsimp only [smp, rw2]; omega), show str (rw2 b p) = ⟨min (p.val / 256) 1, by omega⟩ from Fin.ext (by dsimp only [str, rw2]; omega)]
  by_cases h : p.val < 256
  · rw [dif_pos h]
    exact congrArg (fun s => x (ix4 b s v j)) (Fin.ext (by show 0 = min (p.val / 256) 1; omega))
  · rw [dif_neg h]
    exact congrArg (fun s => x (ix4 b s v j)) (Fin.ext (by show 1 = min (p.val / 256) 1; omega))
theorem r8 : val_main_v8 (F := Ideal) x3 (ix3 b p j) = x3 (ix4 (smp (rw2 b p)) (str (rw2 b p)) (2 : Fin 8) j) := by
  rw [← pick b p j x3 2]
  pointwise [val_main_v8, val_main_v7, val_main_v6, val_main_v5, val_main_v4, val_main_v3, val_main_v2]
theorem r15 : val_main_v15 (F := Ideal) x5 (ix3 b p j) = x5 (ix4 (smp (rw2 b p)) (str (rw2 b p)) (3 : Fin 8) j) := by
  rw [← pick b p j x5 3]
  pointwise [val_main_v15, val_main_v14, val_main_v13, val_main_v12, val_main_v11, val_main_v10, val_main_v9]
theorem r22 : val_main_v22 (F := Ideal) x5 (ix3 b p j) = x5 (ix4 (smp (rw2 b p)) (str (rw2 b p)) (4 : Fin 8) j) := by
  rw [← pick b p j x5 4]
  pointwise [val_main_v22, val_main_v21, val_main_v20, val_main_v19, val_main_v18, val_main_v17, val_main_v16]
theorem r34 : val_main_v34 (F := Ideal) x2 (ix3 b p j) = x2 (ix1 j) := by
  pointwise [val_main_v34, val_main_v33]
theorem r49 : val_main_v49 (F := Ideal) x4 (ix3 b p j) = x4 (ix1 j) := by
  pointwise [val_main_v49, val_main_v48]
theorem r32 : (val_main_v32 (F := Ideal) x1 (ix3 b p j) : EReal) = unit (fun k => x1 (ix2 (rw2 b p) k)) j := by
  have h := r1 x1
  unfold val_main_v32 val_main_v31 val_main_v30 val_main_v29 val_main_v27 val_main_v25 val_main_v24 val_main_v23
  generalize val_main_v1 (F := Ideal) x1 = A at h ⊢
  pointwise [val_main_v26, val_main_v28, val_main_cst, val_main_cst_0, val_main_cst_1, unit]
  simp only [h]
theorem r37 : (val_main_v37 (F := Ideal) x0 x1 x2 x3 (ix3 b p j) : EReal) = mid x0 x1 x2 x3 (rw2 b p) j :=
  congrArg₂ (fun a b : EReal => a + b) (r1 x0 b p j) (congrArg₂ (fun a b : EReal => a * b) (r8 x3 b p j)
    (congrArg₂ (fun a b : EReal => a * b) (r32 x1 b p j) (r34 x2 b p j)))
theorem r47 : (val_main_v47 (F := Ideal) x0 x1 x2 x3 (ix3 b p j) : EReal) = unit (mid x0 x1 x2 x3 (rw2 b p)) j := by
  have h := r37 x0 x1 x2 x3
  generalize mid x0 x1 x2 x3 = M at h ⊢
  unfold val_main_v47 val_main_v46 val_main_v45 val_main_v44 val_main_v42 val_main_v40 val_main_v39 val_main_v38
  generalize val_main_v37 (F := Ideal) x0 x1 x2 x3 = A at h ⊢
  pointwise [val_main_v41, val_main_v43, val_main_cst_2, val_main_cst_3, val_main_cst_4, unit]
  simp only [h]
theorem r52 : (val_main_v52 (F := Ideal) x5 (ix3 b p j) : EReal) = 1 + x5 (ix4 (smp (rw2 b p)) (str (rw2 b p)) (4 : Fin 8) j) := by
  have h := r22 x5
  unfold val_main_v52
  generalize val_main_v22 (F := Ideal) x5 = A at h ⊢
  pointwise [val_main_v51, val_main_cst_5]
  rw [h]
theorem r54 : (val_main_v54 (F := Ideal) x0 x1 x2 x3 x4 x5 (ix3 b p j) : EReal) = modu x0 x1 x2 x4 x3 x5 (rw2 b p) j :=
  congrArg₂ (fun a b : EReal => a + b) (congrArg₂ (fun a b : EReal => a * b) (congrArg₂ (fun a b : EReal => a * b) (r47 x0 x1 x2 x3 b p j) (r49 x4 b p j)) (r52 x5 b p j)) (r15 x5 b p j)

theorem res57 : val_main_v57 (F := Ideal) x0 x1 x2 x3 = fun i => mid x0 x1 x2 x3 (i 0) (i 1) := by
  funext i
  idx_vars i
  have h := r37 x0 x1 x2 x3
  unfold val_main_v57
  generalize val_main_v37 (F := Ideal) x0 x1 x2 x3 = A at h ⊢
  pointwise []
  rw [h, rw2_of]
theorem res56 : val_main_v56 (F := Ideal) x0 x1 x2 x3 x4 x5 = fun i => modu x0 x1 x2 x4 x3 x5 (i 0) (i 1) := by
  funext i
  idx_vars i
  have h := r54 x0 x1 x2 x4 x3 x5
  unfold val_main_v56 val_main_v55
  generalize val_main_v54 (F := Ideal) x0 x1 x2 x3 x4 x5 = A at h ⊢
  pointwise []
  rw [h, rw2_of]
theorem res58 : val_main_v58 (F := Ideal) x0 x1 x2 x3 x4 x5 = fun i => modu x0 x1 x2 x4 x3 x5 (i 1) (i 0) := by
  unfold val_main_v58
  rw [res56]
  funext i
  idx_vars i
  pointwise []

end Cert.Reference4Ideal.Rows

namespace Cert.Kernel4Ideal.Value

open Cert.Kernel4Ideal Cert.Kernel4Ideal.Gen
open Cert.Reference4Ideal.Rows (res56 res57 res58)

variable (m : (ℓ : Loc nD τ sig) → Buf (Elt Ideal) ℓ) (ρ : Dev nD → PrngReg)

/-- Every fair execution of the call ends with the reference's three results, its arguments unchanged. -/
theorem run : θ_run defs (onTc (τ := τ) (main (F := Ideal))) ⟨m, fun _ => 0, ρ⟩ (fun r => ∀ c : Dev nD,
      r.2.mem ((c.tc : Thread nD τ).loc main_v2_0) = Cert.Reference4Ideal.Read.val_main_v57 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_1) = Cert.Reference4Ideal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v2_2) = Cert.Reference4Ideal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ?_) (θ_run_and (run_main m ρ) (unchanged m ρ))
  exact ⟨((hr.1 c).1 6).trans ((final6 m c).trans (res57 ..).symm), ((hr.1 c).1 7).trans ((final7 m c).trans (res56 ..).symm),
    ((hr.1 c).1 8).trans ((final8 m c).trans (res58 ..).symm), hr.2 c⟩

end Cert.Kernel4Ideal.Value

end
-- ==== Proof.Opt0.lean ====
/- The optimiser's first call: one step on a weight held in two layers, from the eight parts of its gradient. -/
module

public import proofs.«01_k».proof.Proof.Gen.Kernel5Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

/-! ## The step on one entry -/

/-- The first moment, the second moment and the change, from the gradient `g`, the weight and the moments before. -/
def nm (g m : EReal) : EReal := Ideal.ofBits .f32 0x3F666666#32 * m + Ideal.ofBits .f32 0x3DCCCCCD#32 * g
def nv (g v : EReal) : EReal := Ideal.ofBits .f32 0x3F7FBE77#32 * v + Ideal.ofBits .f32 0x3A83126F#32 * (g * g)
def dl (g w m v : EReal) : EReal :=
  Ideal.ofBits .f32 0xBA83126F#32 * (Ideal.div (Ideal.div (nm g m) (Ideal.ofBits .f32 0x3F26BD02#32))
    (Ideal.sqrt (Ideal.div (nv g v) (Ideal.ofBits .f32 0x3C231ACC#32)) + Ideal.ofBits .f32 0x322BCC77#32)
    + Ideal.ofBits .f32 0x3C23D70A#32 * w)

/-- The gradient of one entry: the sum of the eight parts sent by the devices, the first layer's in `A`, the second's in `B`. -/
def tot (A B : FVec Ideal S8x1024x512 .bf16) (l : Fin 2) (r : Fin 1024) (q : Fin 512) : EReal :=
  if l.val = 0 then ∑ k : Fin 8, (A (ix3 k r q) : EReal) else ∑ k : Fin 8, (B (ix3 k r q) : EReal)

/-! ## The payloads over variables -/

section pay
variable (s0 s1 s2 s3 s4 s5 s6 s7 : FVec Ideal S1x256x512 .bf16) (w m v : FVec Ideal S1x256x512 .f32) (g x : FVec Ideal S256x512 .f32)
  (p : Fin 256) (q : Fin 512)

theorem pay5 : (k0_pay5 (F := Ideal) s0 s1 s2 s3 s4 s5 s6 s7 (ix2 p q) : EReal)
    = (s0 (ix3 (0 : Fin 1) p q) : EReal) + s1 (ix3 (0 : Fin 1) p q) + s2 (ix3 (0 : Fin 1) p q) + s3 (ix3 (0 : Fin 1) p q)
      + s4 (ix3 (0 : Fin 1) p q) + s5 (ix3 (0 : Fin 1) p q) + s6 (ix3 (0 : Fin 1) p q) + s7 (ix3 (0 : Fin 1) p q) := by
  pointwise [k0_pay5]
theorem pay6 : k0_pay6 w (ix2 p q) = w (ix3 (0 : Fin 1) p q) := by pointwise [k0_pay6]
theorem pay7 : (k0_pay7 (F := Ideal) g m (ix2 p q) : EReal) = nm (g (ix2 p q)) (m (ix3 (0 : Fin 1) p q)) := by
  pointwise [k0_pay7, nm]
theorem pay8 : (k0_pay8 (F := Ideal) g v (ix2 p q) : EReal) = nv (g (ix2 p q)) (v (ix3 (0 : Fin 1) p q)) := by
  pointwise [k0_pay8, nv]
theorem pay1 : k0_pay1 g (ix3 (0 : Fin 1) p q) = g (ix2 p q) := by pointwise [k0_pay1]
theorem pay2 : k0_pay2 g (ix3 (0 : Fin 1) p q) = g (ix2 p q) := by pointwise [k0_pay2]
theorem pay9 : k0_pay9 g (ix3 (0 : Fin 1) p q) = g (ix2 p q) := by pointwise [k0_pay9]
theorem pay10 : (k0_pay10 (F := Ideal) g x m v (ix3 (0 : Fin 1) p q) : EReal)
    = dl (g (ix2 p q)) (x (ix2 p q)) (m (ix3 (0 : Fin 1) p q)) (v (ix3 (0 : Fin 1) p q)) := by
  have h7 := pay7 m g p q
  have h8 := pay8 v g p q
  unfold k0_pay10
  generalize k0_pay7 (F := Ideal) g m = M at h7 ⊢
  generalize k0_pay8 (F := Ideal) g v = N at h8 ⊢
  unfold dl
  rw [← h7, ← h8]
  pointwise []
theorem pay11 : k0_pay11 (F := Ideal) = k0_pay5 := rfl
theorem pay12 : k0_pay12 (F := Ideal) = k0_pay6 := rfl
theorem pay13 : k0_pay13 (F := Ideal) = k0_pay7 := rfl
theorem pay14 : k0_pay14 (F := Ideal) = k0_pay8 := rfl
theorem pay15 : k0_pay15 (F := Ideal) = k0_pay9 := rfl
theorem pay16 : k0_pay16 (F := Ideal) = k0_pay10 := rfl
theorem pay3 : k0_pay3 (F := Ideal) = k0_pay1 := rfl
theorem pay4 : k0_pay4 (F := Ideal) = k0_pay2 := rfl
end pay

/-! ## The blocks read as rows of the arrays -/

variable (V : (c : Dev nD) → (r : Ref sig .tc) → Buf (Elt Ideal) ((c.tc : Thread nD τ).loc r)) (c : Dev nD)

theorem idx0 : ∀ t : Fin cfg0.N, win0_0.index t = ![t.val / 4, t.val % 4, 0] ∧ win0_1.index t = ![t.val / 4, t.val % 4, 0] ∧ win0_2.index t = ![t.val / 4, t.val % 4, 0]
    ∧ win0_3.index t = ![0, min t.val 3, 0] ∧ win0_4.index t = ![0, t.val - 4, 0]
    ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)
theorem lt (t : Fin cfg0.N) : t.val < 8 := lt_of_lt_of_eq t.isLt N_0
abbrev lay (t : Fin cfg0.N) : Fin 2 := ⟨t.val / 4, by have h := lt t; omega⟩
abbrev row (t : Fin cfg0.N) (p : Fin 256) : Fin 1024 := ⟨t.val % 4 * 256 + p.val, by omega⟩

abbrev A0 : FVec Ideal S2x1024x512 .f32 := V c main_arg0
abbrev A1 : FVec Ideal S2x1024x512 .f32 := V c main_arg1
abbrev A2 : FVec Ideal S2x1024x512 .f32 := V c main_arg2
abbrev A3 : FVec Ideal S8x1024x512 .bf16 := V c main_arg3
abbrev A4 : FVec Ideal S8x1024x512 .bf16 := V c main_arg4

theorem b0 (t : Fin cfg0.N) (p : Fin 256) (q : Fin 512) : (iblk0 V c 0 t : FVec Ideal S1x256x512 .f32) (ix3 (0 : Fin 1) p q) = A0 V c (ix3 (lay t) (row t p) q) := by
  blk_point [iblk0, idx0 t]
theorem b1 (t : Fin cfg0.N) (p : Fin 256) (q : Fin 512) : (iblk0 V c 1 t : FVec Ideal S1x256x512 .f32) (ix3 (0 : Fin 1) p q) = A1 V c (ix3 (lay t) (row t p) q) := by
  blk_point [iblk0, idx0 t]
theorem b2 (t : Fin cfg0.N) (p : Fin 256) (q : Fin 512) : (iblk0 V c 2 t : FVec Ideal S1x256x512 .f32) (ix3 (0 : Fin 1) p q) = A2 V c (ix3 (lay t) (row t p) q) := by
  blk_point [iblk0, idx0 t]
theorem b3 (t : Fin cfg0.N) (ht : t.val < 4) (k : Fin 8) (p : Fin 256) (q : Fin 512) :
    (iblk0 V c 3 t : FVec Ideal S8x256x512 .bf16) (ix3 k p q) = A3 V c (ix3 k (row t p) q) := by
  blk_point [iblk0, idx0 t]
theorem b4 (t : Fin cfg0.N) (ht : 4 ≤ t.val) (k : Fin 8) (p : Fin 256) (q : Fin 512) :
    (iblk0 V c 4 t : FVec Ideal S8x256x512 .bf16) (ix3 k p q) = A4 V c (ix3 k (row t p) q) := by
  have hN := lt t
  blk_point [iblk0, idx0 t]

/-! ## What each point leaves -/

/-- One part of the eight, loaded alone. -/
theorem part (x : FVec Ideal S8x256x512 .bf16) (k : ℕ) (hk : k < 8) (inb : ∀ a, (![k, 0, 0] : Fin 3 → ℕ) a + (![1, 256, 512] : Fin 3 → ℕ) a ≤ S8x256x512.size a)
    (p : Fin 256) (q : Fin 512) : (View.ld (Val := Elt Ideal) (e' := .bf16) (S := S8x256x512) x (Rect.unit ![k, 0, 0] ![1, 256, 512] inb) : FVec Ideal S1x256x512 .bf16) (ix3 (0 : Fin 1) p q) = x (ix3 (⟨k, hk⟩ : Fin 8) p q) :=
  congrArg x (funext fun a => Fin.ext (by fin_cases a <;> simp [Rect.unit, ix3]))

/-- The eight parts of one point, summed. -/
theorem eight (x : FVec Ideal S8x256x512 .bf16) (p : Fin 256) (q : Fin 512) :
    (k0_pay5 (F := Ideal) (View.ld (Val := Elt Ideal) (e' := .bf16) (S := S8x256x512) x (Rect.unit ![0, 0, 0] ![1, 256, 512] inb_S8x256x512_S1x256x512_0_0_0)) (View.ld (Val := Elt Ideal) (e' := .bf16) (S := S8x256x512) x (Rect.unit ![1, 0, 0] ![1, 256, 512] inb_S8x256x512_S1x256x512_1_0_0)) (View.ld (Val := Elt Ideal) (e' := .bf16) (S := S8x256x512) x (Rect.unit ![2, 0, 0] ![1, 256, 512] inb_S8x256x512_S1x256x512_2_0_0)) (View.ld (Val := Elt Ideal) (e' := .bf16) (S := S8x256x512) x (Rect.unit ![3, 0, 0] ![1, 256, 512] inb_S8x256x512_S1x256x512_3_0_0)) (View.ld (Val := Elt Ideal) (e' := .bf16) (S := S8x256x512) x (Rect.unit ![4, 0, 0] ![1, 256, 512] inb_S8x256x512_S1x256x512_4_0_0)) (View.ld (Val := Elt Ideal) (e' := .bf16) (S := S8x256x512) x (Rect.unit ![5, 0, 0] ![1, 256, 512] inb_S8x256x512_S1x256x512_5_0_0)) (View.ld (Val := Elt Ideal) (e' := .bf16) (S := S8x256x512) x (Rect.unit ![6, 0, 0] ![1, 256, 512] inb_S8x256x512_S1x256x512_6_0_0)) (View.ld (Val := Elt Ideal) (e' := .bf16) (S := S8x256x512) x (Rect.unit ![7, 0, 0] ![1, 256, 512] inb_S8x256x512_S1x256x512_7_0_0)) (ix2 p q) : EReal)
      = ∑ k : Fin 8, (x (ix3 k p q) : EReal) := by
  rw [pay5, Fin.sum_univ_eight]
  simp only [part x 0 (by decide), part x 1 (by decide), part x 2 (by decide), part x 3 (by decide), part x 4 (by decide), part x 5 (by decide), part x 6 (by decide), part x 7 (by decide)]
  rfl

theorem totA (t : Fin cfg0.N) (h : t.val < 4) (x : FVec Ideal S8x256x512 .bf16) (hx : ∀ k p q, x (ix3 k p q) = A3 V c (ix3 k (row t p) q)) (p : Fin 256) (q : Fin 512) :
    (∑ k : Fin 8, (x (ix3 k p q) : EReal)) = tot (A3 V c) (A4 V c) (lay t) (row t p) q := by
  simp only [hx]
  exact (if_pos (by show t.val / 4 = 0; omega)).symm
theorem totB (t : Fin cfg0.N) (h : 4 ≤ t.val) (x : FVec Ideal S8x256x512 .bf16) (hx : ∀ k p q, x (ix3 k p q) = A4 V c (ix3 k (row t p) q)) (p : Fin 256) (q : Fin 512) :
    (∑ k : Fin 8, (x (ix3 k p q) : EReal)) = tot (A3 V c) (A4 V c) (lay t) (row t p) q := by
  simp only [hx]
  exact (if_neg (by show ¬t.val / 4 = 0; omega)).symm

theorem left5 (t : Fin cfg0.N) (p : Fin 256) (q : Fin 512) :
    (((dat0 V c).after 5 t : FVec Ideal S1x256x512 .f32) (ix3 (0 : Fin 1) p q) : EReal) = tot (A3 V c) (A4 V c) (lay t) (row t p) q := by
  rw [after0_5]
  by_cases h : t.val < 4
  · rw [outsAt0_A V c t h (by omega)]
    frame_out
    rw [pay9, eight, totA V c t h (iblk0 V c 3 t) (b3 V c t h)]
  · rw [outsAt0_B V c t h (by omega)]
    frame_out
    rw [pay15, pay11, pay9, eight, totB V c t (by omega) (iblk0 V c 4 t) (b4 V c t (by omega))]

theorem left6 (t : Fin cfg0.N) (p : Fin 256) (q : Fin 512) :
    (((dat0 V c).after 6 t : FVec Ideal S1x256x512 .f32) (ix3 (0 : Fin 1) p q) : EReal) = dl (tot (A3 V c) (A4 V c) (lay t) (row t p) q) (A0 V c (ix3 (lay t) (row t p) q)) (A1 V c (ix3 (lay t) (row t p) q)) (A2 V c (ix3 (lay t) (row t p) q)) := by
  rw [after0_6]
  by_cases h : t.val < 4
  · rw [outsAt0_A V c t h (by omega)]
    frame_out
    rw [pay10, eight, totA V c t h (iblk0 V c 3 t) (b3 V c t h), pay6, b0, b1, b2]
  · rw [outsAt0_B V c t h (by omega)]
    frame_out
    rw [pay16, pay11, pay12, pay10, eight, totB V c t (by omega) (iblk0 V c 4 t) (b4 V c t (by omega)), pay6, b0, b1, b2]

theorem left7 (t : Fin cfg0.N) (p : Fin 256) (q : Fin 512) :
    (((dat0 V c).after 7 t : FVec Ideal S1x256x512 .f32) (ix3 (0 : Fin 1) p q) : EReal) = nm (tot (A3 V c) (A4 V c) (lay t) (row t p) q) (A1 V c (ix3 (lay t) (row t p) q)) := by
  rw [after0_7]
  by_cases h : t.val < 4
  · rw [outsAt0_A V c t h (by omega)]
    frame_out
    rw [pay1, pay7, eight, totA V c t h (iblk0 V c 3 t) (b3 V c t h), b1]
  · rw [outsAt0_B V c t h (by omega)]
    frame_out
    rw [pay3, pay13, pay11, pay1, pay7, eight, totB V c t (by omega) (iblk0 V c 4 t) (b4 V c t (by omega)), b1]

theorem left8 (t : Fin cfg0.N) (p : Fin 256) (q : Fin 512) :
    (((dat0 V c).after 8 t : FVec Ideal S1x256x512 .f32) (ix3 (0 : Fin 1) p q) : EReal) = nv (tot (A3 V c) (A4 V c) (lay t) (row t p) q) (A2 V c (ix3 (lay t) (row t p) q)) := by
  rw [after0_8]
  by_cases h : t.val < 4
  · rw [outsAt0_A V c t h (by omega)]
    frame_out
    rw [pay2, pay8, eight, totA V c t h (iblk0 V c 3 t) (b3 V c t h), b2]
  · rw [outsAt0_B V c t h (by omega)]
    frame_out
    rw [pay4, pay14, pay11, pay2, pay8, eight, totB V c t (by omega) (iblk0 V c 4 t) (b4 V c t (by omega)), b2]

/-! ## The arrays after the call -/

theorem cong3 {α β γ : Type} (f : α → β → γ → EReal) {a a' : α} {b b' : β} {d d' : γ} (h : a = a') (h' : b = b') (h'' : d = d') : f a b d = f a' b' d' := by
  subst h h' h''
  rfl

theorem emb5 (f : Fin 2 → Fin 1024 → Fin 512 → EReal) (h : ∀ (t : Fin cfg0.N) (p : Fin 256) (q : Fin 512),
      (((dat0 V c).after 5 t : FVec Ideal S1x256x512 .f32) (ix3 (0 : Fin 1) p q) : EReal) = f (lay t) (row t p) q) :
    (dat0 V c).arrAt 5 cfg0.N = fun i => f (i 0) (i 1) (i 2) := by
  refine (dat0 V c).arrAt_eq_of_covers 5 _ (by decide +kernel) fun t _ y => ?_
  blk_simp
  have ht := h t
  generalize (dat0 V c).after 5 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final5 : (dat0 V c).arrAt 5 cfg0.N = fun i => (fun l r q => tot (A3 V c) (A4 V c) l r q) (i 0) (i 1) (i 2) := emb5 V c (fun l r q => tot (A3 V c) (A4 V c) l r q) (left5 V c)

theorem emb6 (f : Fin 2 → Fin 1024 → Fin 512 → EReal) (h : ∀ (t : Fin cfg0.N) (p : Fin 256) (q : Fin 512),
      (((dat0 V c).after 6 t : FVec Ideal S1x256x512 .f32) (ix3 (0 : Fin 1) p q) : EReal) = f (lay t) (row t p) q) :
    (dat0 V c).arrAt 6 cfg0.N = fun i => f (i 0) (i 1) (i 2) := by
  refine (dat0 V c).arrAt_eq_of_covers 6 _ (by decide +kernel) fun t _ y => ?_
  blk_simp
  have ht := h t
  generalize (dat0 V c).after 6 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final6 : (dat0 V c).arrAt 6 cfg0.N = fun i => (fun l r q => dl (tot (A3 V c) (A4 V c) l r q) (A0 V c (ix3 l r q)) (A1 V c (ix3 l r q)) (A2 V c (ix3 l r q))) (i 0) (i 1) (i 2) := emb6 V c (fun l r q => dl (tot (A3 V c) (A4 V c) l r q) (A0 V c (ix3 l r q)) (A1 V c (ix3 l r q)) (A2 V c (ix3 l r q))) (left6 V c)

theorem emb7 (f : Fin 2 → Fin 1024 → Fin 512 → EReal) (h : ∀ (t : Fin cfg0.N) (p : Fin 256) (q : Fin 512),
      (((dat0 V c).after 7 t : FVec Ideal S1x256x512 .f32) (ix3 (0 : Fin 1) p q) : EReal) = f (lay t) (row t p) q) :
    (dat0 V c).arrAt 7 cfg0.N = fun i => f (i 0) (i 1) (i 2) := by
  refine (dat0 V c).arrAt_eq_of_covers 7 _ (by decide +kernel) fun t _ y => ?_
  blk_simp
  have ht := h t
  generalize (dat0 V c).after 7 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final7 : (dat0 V c).arrAt 7 cfg0.N = fun i => (fun l r q => nm (tot (A3 V c) (A4 V c) l r q) (A1 V c (ix3 l r q))) (i 0) (i 1) (i 2) := emb7 V c (fun l r q => nm (tot (A3 V c) (A4 V c) l r q) (A1 V c (ix3 l r q))) (left7 V c)

theorem emb8 (f : Fin 2 → Fin 1024 → Fin 512 → EReal) (h : ∀ (t : Fin cfg0.N) (p : Fin 256) (q : Fin 512),
      (((dat0 V c).after 8 t : FVec Ideal S1x256x512 .f32) (ix3 (0 : Fin 1) p q) : EReal) = f (lay t) (row t p) q) :
    (dat0 V c).arrAt 8 cfg0.N = fun i => f (i 0) (i 1) (i 2) := by
  refine (dat0 V c).arrAt_eq_of_covers 8 _ (by decide +kernel) fun t _ y => ?_
  blk_simp
  have ht := h t
  generalize (dat0 V c).after 8 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final8 : (dat0 V c).arrAt 8 cfg0.N = fun i => (fun l r q => nv (tot (A3 V c) (A4 V c) l r q) (A2 V c (ix3 l r q))) (i 0) (i 1) (i 2) := emb8 V c (fun l r q => nv (tot (A3 V c) (A4 V c) l r q) (A2 V c (ix3 l r q))) (left8 V c)

end Cert.Kernel5Ideal.Value

end
-- ==== Proof.Opt1.lean ====
/- The optimiser's second call: one step on a weight held in two layers, from its gradient. -/
module

public import proofs.«01_k».proof.Proof.Opt0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

section pay
variable (g w m v : FVec Ideal S1x256x768 .f32) (x : FVec Ideal S256x768 .f32) (p : Fin 256) (q : Fin 768)

theorem ada1 : k1_pay1 x (ix3 (0 : Fin 1) p q) = x (ix2 p q) := by pointwise [k1_pay1]
theorem ada2 : k1_pay2 x (ix3 (0 : Fin 1) p q) = x (ix2 p q) := by pointwise [k1_pay2]
theorem ada3 : k1_pay3 x (ix3 (0 : Fin 1) p q) = x (ix2 p q) := by pointwise [k1_pay3]
theorem ada4 : k1_pay4 x (ix3 (0 : Fin 1) p q) = x (ix2 p q) := by pointwise [k1_pay4]
theorem ada5 : k1_pay5 g (ix2 p q) = g (ix3 (0 : Fin 1) p q) := by pointwise [k1_pay5]
theorem ada6 : (k1_pay6 (F := Ideal) g m (ix2 p q) : EReal) = nm (g (ix3 (0 : Fin 1) p q)) (m (ix3 (0 : Fin 1) p q)) := by
  have h5 := ada5 g p q
  unfold k1_pay6
  generalize k1_pay5 (F := Ideal) g = G at h5 ⊢
  unfold nm
  rw [← h5]
  pointwise []
theorem ada7 : (k1_pay7 (F := Ideal) g v (ix2 p q) : EReal) = nv (g (ix3 (0 : Fin 1) p q)) (v (ix3 (0 : Fin 1) p q)) := by
  have h5 := ada5 g p q
  unfold k1_pay7
  generalize k1_pay5 (F := Ideal) g = G at h5 ⊢
  unfold nv
  rw [← h5]
  pointwise []
theorem ada8 : (k1_pay8 (F := Ideal) g w m v (ix2 p q) : EReal)
    = dl (g (ix3 (0 : Fin 1) p q)) (w (ix3 (0 : Fin 1) p q)) (m (ix3 (0 : Fin 1) p q)) (v (ix3 (0 : Fin 1) p q)) := by
  have h6 := ada6 g m p q
  have h7 := ada7 g v p q
  unfold k1_pay8
  generalize k1_pay6 (F := Ideal) g m = M at h6 ⊢
  generalize k1_pay7 (F := Ideal) g v = N at h7 ⊢
  unfold dl
  rw [← h6, ← h7]
  pointwise []
end pay

variable (V : (c : Dev nD) → (r : Ref sig .tc) → Buf (Elt Ideal) ((c.tc : Thread nD τ).loc r)) (c : Dev nD)

theorem idx1 : ∀ t : Fin cfg1.N, win1_0.index t = ![t.val / 4, t.val % 4, 0] ∧ win1_1.index t = ![t.val / 4, t.val % 4, 0] ∧ win1_2.index t = ![t.val / 4, t.val % 4, 0] ∧ win1_3.index t = ![t.val / 4, t.val % 4, 0] ∧ win1_4.index t = ![t.val / 4, t.val % 4, 0] ∧ win1_5.index t = ![t.val / 4, t.val % 4, 0] ∧ win1_6.index t = ![t.val / 4, t.val % 4, 0] ∧ win1_7.index t = ![t.val / 4, t.val % 4, 0] :=
  (by decide +kernel : ∀ t : Fin grid1.N, _)
theorem lt1 (t : Fin cfg1.N) : t.val < 8 := lt_of_lt_of_eq t.isLt N_1
abbrev lay1 (t : Fin cfg1.N) : Fin 2 := ⟨t.val / 4, by have h := lt1 t; omega⟩
abbrev row1 (t : Fin cfg1.N) (p : Fin 256) : Fin 1024 := ⟨t.val % 4 * 256 + p.val, by omega⟩

abbrev A5 : FVec Ideal S2x1024x768 .f32 := V c main_arg5
abbrev A6 : FVec Ideal S2x1024x768 .f32 := V c main_arg6
abbrev A7 : FVec Ideal S2x1024x768 .f32 := V c main_arg7
abbrev A8 : FVec Ideal S2x1024x768 .f32 := V c main_arg8

theorem d0 (t : Fin cfg1.N) (p : Fin 256) (q : Fin 768) : (iblk1 V c 0 t : FVec Ideal S1x256x768 .f32) (ix3 (0 : Fin 1) p q) = A5 V c (ix3 (lay1 t) (row1 t p) q) := by
  blk_point [iblk1, idx1 t]
theorem d1 (t : Fin cfg1.N) (p : Fin 256) (q : Fin 768) : (iblk1 V c 1 t : FVec Ideal S1x256x768 .f32) (ix3 (0 : Fin 1) p q) = A6 V c (ix3 (lay1 t) (row1 t p) q) := by
  blk_point [iblk1, idx1 t]
theorem d2 (t : Fin cfg1.N) (p : Fin 256) (q : Fin 768) : (iblk1 V c 2 t : FVec Ideal S1x256x768 .f32) (ix3 (0 : Fin 1) p q) = A7 V c (ix3 (lay1 t) (row1 t p) q) := by
  blk_point [iblk1, idx1 t]
theorem d3 (t : Fin cfg1.N) (p : Fin 256) (q : Fin 768) : (iblk1 V c 3 t : FVec Ideal S1x256x768 .f32) (ix3 (0 : Fin 1) p q) = A8 V c (ix3 (lay1 t) (row1 t p) q) := by
  blk_point [iblk1, idx1 t]

theorem left1_4 (t : Fin cfg1.N) (p : Fin 256) (q : Fin 768) :
    (((dat1 V c).after 4 t : FVec Ideal S1x256x768 .f32) (ix3 (0 : Fin 1) p q) : EReal) = A8 V c (ix3 (lay1 t) (row1 t p) q) := by
  rw [after1_4]
  frame_out
  rw [ada1, ada5, d3]
theorem emb1_4 (f : Fin 2 → Fin 1024 → Fin 768 → EReal) (h : ∀ (t : Fin cfg1.N) (p : Fin 256) (q : Fin 768),
      (((dat1 V c).after 4 t : FVec Ideal S1x256x768 .f32) (ix3 (0 : Fin 1) p q) : EReal) = f (lay1 t) (row1 t p) q) :
    (dat1 V c).arrAt 4 cfg1.N = fun i => f (i 0) (i 1) (i 2) := by
  refine (dat1 V c).arrAt_eq_of_covers 4 _ (by decide +kernel) fun t _ y => ?_
  blk_simp
  have ht := h t
  generalize (dat1 V c).after 4 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem last4 : (dat1 V c).arrAt 4 cfg1.N = fun i => (fun l r q => A8 V c (ix3 l r q)) (i 0) (i 1) (i 2) := emb1_4 V c (fun l r q => A8 V c (ix3 l r q)) (left1_4 V c)

theorem left1_5 (t : Fin cfg1.N) (p : Fin 256) (q : Fin 768) :
    (((dat1 V c).after 5 t : FVec Ideal S1x256x768 .f32) (ix3 (0 : Fin 1) p q) : EReal) = dl (A8 V c (ix3 (lay1 t) (row1 t p) q)) (A5 V c (ix3 (lay1 t) (row1 t p) q)) (A6 V c (ix3 (lay1 t) (row1 t p) q)) (A7 V c (ix3 (lay1 t) (row1 t p) q)) := by
  rw [after1_5]
  frame_out
  rw [ada2, ada8, d3, d0, d1, d2]
theorem emb1_5 (f : Fin 2 → Fin 1024 → Fin 768 → EReal) (h : ∀ (t : Fin cfg1.N) (p : Fin 256) (q : Fin 768),
      (((dat1 V c).after 5 t : FVec Ideal S1x256x768 .f32) (ix3 (0 : Fin 1) p q) : EReal) = f (lay1 t) (row1 t p) q) :
    (dat1 V c).arrAt 5 cfg1.N = fun i => f (i 0) (i 1) (i 2) := by
  refine (dat1 V c).arrAt_eq_of_covers 5 _ (by decide +kernel) fun t _ y => ?_
  blk_simp
  have ht := h t
  generalize (dat1 V c).after 5 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem last5 : (dat1 V c).arrAt 5 cfg1.N = fun i => (fun l r q => dl (A8 V c (ix3 l r q)) (A5 V c (ix3 l r q)) (A6 V c (ix3 l r q)) (A7 V c (ix3 l r q))) (i 0) (i 1) (i 2) := emb1_5 V c (fun l r q => dl (A8 V c (ix3 l r q)) (A5 V c (ix3 l r q)) (A6 V c (ix3 l r q)) (A7 V c (ix3 l r q))) (left1_5 V c)

theorem left1_6 (t : Fin cfg1.N) (p : Fin 256) (q : Fin 768) :
    (((dat1 V c).after 6 t : FVec Ideal S1x256x768 .f32) (ix3 (0 : Fin 1) p q) : EReal) = nm (A8 V c (ix3 (lay1 t) (row1 t p) q)) (A6 V c (ix3 (lay1 t) (row1 t p) q)) := by
  rw [after1_6]
  frame_out
  rw [ada3, ada6, d3, d1]
theorem emb1_6 (f : Fin 2 → Fin 1024 → Fin 768 → EReal) (h : ∀ (t : Fin cfg1.N) (p : Fin 256) (q : Fin 768),
      (((dat1 V c).after 6 t : FVec Ideal S1x256x768 .f32) (ix3 (0 : Fin 1) p q) : EReal) = f (lay1 t) (row1 t p) q) :
    (dat1 V c).arrAt 6 cfg1.N = fun i => f (i 0) (i 1) (i 2) := by
  refine (dat1 V c).arrAt_eq_of_covers 6 _ (by decide +kernel) fun t _ y => ?_
  blk_simp
  have ht := h t
  generalize (dat1 V c).after 6 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem last6 : (dat1 V c).arrAt 6 cfg1.N = fun i => (fun l r q => nm (A8 V c (ix3 l r q)) (A6 V c (ix3 l r q))) (i 0) (i 1) (i 2) := emb1_6 V c (fun l r q => nm (A8 V c (ix3 l r q)) (A6 V c (ix3 l r q))) (left1_6 V c)

theorem left1_7 (t : Fin cfg1.N) (p : Fin 256) (q : Fin 768) :
    (((dat1 V c).after 7 t : FVec Ideal S1x256x768 .f32) (ix3 (0 : Fin 1) p q) : EReal) = nv (A8 V c (ix3 (lay1 t) (row1 t p) q)) (A7 V c (ix3 (lay1 t) (row1 t p) q)) := by
  rw [after1_7]
  frame_out
  rw [ada4, ada7, d3, d2]
theorem emb1_7 (f : Fin 2 → Fin 1024 → Fin 768 → EReal) (h : ∀ (t : Fin cfg1.N) (p : Fin 256) (q : Fin 768),
      (((dat1 V c).after 7 t : FVec Ideal S1x256x768 .f32) (ix3 (0 : Fin 1) p q) : EReal) = f (lay1 t) (row1 t p) q) :
    (dat1 V c).arrAt 7 cfg1.N = fun i => f (i 0) (i 1) (i 2) := by
  refine (dat1 V c).arrAt_eq_of_covers 7 _ (by decide +kernel) fun t _ y => ?_
  blk_simp
  have ht := h t
  generalize (dat1 V c).after 7 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem last7 : (dat1 V c).arrAt 7 cfg1.N = fun i => (fun l r q => nv (A8 V c (ix3 l r q)) (A7 V c (ix3 l r q))) (i 0) (i 1) (i 2) := emb1_7 V c (fun l r q => nv (A8 V c (ix3 l r q)) (A7 V c (ix3 l r q))) (left1_7 V c)

end Cert.Kernel5Ideal.Value

end
-- ==== Proof.Opt2.lean ====
/- The optimiser step of the reference, entry by entry. -/
module

public import proofs.«01_k».proof.Proof.Opt1
public import proofs.«01_k».proof.Proof.Gen.Reference5Ideal.Read

@[expose] public section

set_option maxRecDepth 16384

noncomputable section

open Idealize.ShloMosaic Idealize.ShloMosaic.TcCoe Idealize.SL.Sem

namespace Cert.Reference5Ideal.Rows

open Cert.Reference5Ideal Cert.Reference5Ideal.Gen Cert.Reference5Ideal.Read
open Cert.Kernel5Ideal.Value (nm nv dl tot)

section up
variable (x0 x1 x2 : FVec Ideal S2x1024x512 .f32) (x3 x4 : FVec Ideal S8x1024x512 .bf16) (l : Fin 2) (r : Fin 1024) (q : Fin 512)

theorem r1 : (val_main_v1 (F := Ideal) x3 (ix2 r q) : EReal) = ∑ k : Fin 8, (x3 (ix3 k r q) : EReal) := by
  pointwise [val_main_v1, val_main_v0, val_main_cst]
theorem r3 : (val_main_v3 (F := Ideal) x4 (ix2 r q) : EReal) = ∑ k : Fin 8, (x4 (ix3 k r q) : EReal) := by
  pointwise [val_main_v3, val_main_v2, val_main_cst_0]
theorem r6 : (val_main_v6 (F := Ideal) x3 x4 (ix3 l r q) : EReal) = tot x3 x4 l r q := by
  have h1 := r1 x3
  have h3 := r3 x4
  unfold val_main_v6 val_main_v4 val_main_v5 tot
  generalize val_main_v1 (F := Ideal) x3 = A at h1 ⊢
  generalize val_main_v3 (F := Ideal) x4 = B at h3 ⊢
  simp only [← h1, ← h3]
  by_cases h : l.val = 0
  · rw [if_pos h]
    pointwise []
    exact dif_pos (by omega)
  · rw [if_neg h]
    pointwise []
    exact dif_neg (by omega)
theorem r11 : (val_main_v11 (F := Ideal) x1 x3 x4 (ix3 l r q) : EReal) = nm (tot x3 x4 l r q) (x1 (ix3 l r q)) := by
  rw [← r6]
  unfold val_main_v11 val_main_v10 val_main_v8 nm
  generalize val_main_v6 (F := Ideal) x3 x4 = A
  pointwise [val_main_v7, val_main_cst_1, val_main_v9, val_main_cst_2]
theorem r17 : (val_main_v17 (F := Ideal) x2 x3 x4 (ix3 l r q) : EReal) = nv (tot x3 x4 l r q) (x2 (ix3 l r q)) := by
  rw [← r6]
  unfold val_main_v17 val_main_v16 val_main_v14 val_main_v13 nv
  generalize val_main_v6 (F := Ideal) x3 x4 = A
  pointwise [val_main_v12, val_main_cst_3, val_main_v15, val_main_cst_4]
theorem r30 : (val_main_v30 (F := Ideal) x0 x1 x2 x3 x4 (ix3 l r q) : EReal) = dl (tot x3 x4 l r q) (x0 (ix3 l r q)) (x1 (ix3 l r q)) (x2 (ix3 l r q)) := by
  unfold dl
  rw [← r11, ← r17]
  unfold val_main_v30 val_main_v28 val_main_v27 val_main_v25 val_main_v24 val_main_v22 val_main_v21 val_main_v19
  generalize val_main_v11 (F := Ideal) x1 x3 x4 = A
  generalize val_main_v17 (F := Ideal) x2 x3 x4 = B
  pointwise [val_main_v18, val_main_cst_5, val_main_v20, val_main_cst_6, val_main_v23, val_main_cst_7, val_main_v26, val_main_cst_8, val_main_v29, val_main_cst_9]
end up

section ada
variable (x5 x6 x7 x8 : FVec Ideal S2x1024x768 .f32) (l : Fin 2) (r : Fin 1024) (q : Fin 768)

theorem r35 : (val_main_v35 (F := Ideal) x6 x8 (ix3 l r q) : EReal) = nm (x8 (ix3 l r q)) (x6 (ix3 l r q)) := by
  pointwise [val_main_v35, val_main_v34, val_main_v33, val_main_v32, val_main_v31, val_main_cst_10, val_main_cst_11, nm]
theorem r41 : (val_main_v41 (F := Ideal) x7 x8 (ix3 l r q) : EReal) = nv (x8 (ix3 l r q)) (x7 (ix3 l r q)) := by
  pointwise [val_main_v41, val_main_v40, val_main_v39, val_main_v38, val_main_v37, val_main_v36, val_main_cst_12, val_main_cst_13, nv]
theorem r54 : (val_main_v54 (F := Ideal) x5 x6 x7 x8 (ix3 l r q) : EReal) = dl (x8 (ix3 l r q)) (x5 (ix3 l r q)) (x6 (ix3 l r q)) (x7 (ix3 l r q)) := by
  unfold dl
  rw [← r35, ← r41]
  unfold val_main_v54 val_main_v52 val_main_v51 val_main_v49 val_main_v48 val_main_v46 val_main_v45 val_main_v43
  generalize val_main_v35 (F := Ideal) x6 x8 = A
  generalize val_main_v41 (F := Ideal) x7 x8 = B
  pointwise [val_main_v42, val_main_cst_14, val_main_v44, val_main_cst_15, val_main_v47, val_main_cst_16, val_main_v50, val_main_cst_17, val_main_v53, val_main_cst_18]
end ada

end Cert.Reference5Ideal.Rows

namespace Cert.Kernel5Ideal.Value

open Cert.Kernel5Ideal Cert.Kernel5Ideal.Gen
open Cert.Reference5Ideal.Read Cert.Reference5Ideal.Rows

section eqs
variable (x0 x1 x2 : FVec Ideal S2x1024x512 .f32) (x3 x4 : FVec Ideal S8x1024x512 .bf16) (x5 x6 x7 x8 : FVec Ideal S2x1024x768 .f32)

theorem res6 : (fun i => (fun l r q => tot x3 x4 l r q) (i 0) (i 1) (i 2)) = val_main_v6 (F := Ideal) x3 x4 := by
  funext i
  idx_vars i
  exact (r6 x3 x4 i0 i1 i2).symm
theorem res30 : (fun i : S2x1024x512.Idx => (fun l r q => dl (tot x3 x4 l r q) (x0 (ix3 l r q)) (x1 (ix3 l r q)) (x2 (ix3 l r q))) (i 0) (i 1) (i 2)) = val_main_v30 (F := Ideal) x0 x1 x2 x3 x4 := by
  funext i
  idx_vars i
  exact (r30 x0 x1 x2 x3 x4 i0 i1 i2).symm
theorem res11 : (fun i : S2x1024x512.Idx => (fun l r q => nm (tot x3 x4 l r q) (x1 (ix3 l r q))) (i 0) (i 1) (i 2)) = val_main_v11 (F := Ideal) x1 x3 x4 := by
  funext i
  idx_vars i
  exact (r11 x1 x3 x4 i0 i1 i2).symm
theorem res17 : (fun i : S2x1024x512.Idx => (fun l r q => nv (tot x3 x4 l r q) (x2 (ix3 l r q))) (i 0) (i 1) (i 2)) = val_main_v17 (F := Ideal) x2 x3 x4 := by
  funext i
  idx_vars i
  exact (r17 x2 x3 x4 i0 i1 i2).symm
theorem res8 : (fun i : S2x1024x768.Idx => (fun l r q => x8 (ix3 l r q)) (i 0) (i 1) (i 2)) = x8 := by
  funext i
  idx_vars i
theorem res54 : (fun i : S2x1024x768.Idx => (fun l r q => dl (x8 (ix3 l r q)) (x5 (ix3 l r q)) (x6 (ix3 l r q)) (x7 (ix3 l r q))) (i 0) (i 1) (i 2)) = val_main_v54 (F := Ideal) x5 x6 x7 x8 := by
  funext i
  idx_vars i
  exact (r54 x5 x6 x7 x8 i0 i1 i2).symm
theorem res35 : (fun i : S2x1024x768.Idx => (fun l r q => nm (x8 (ix3 l r q)) (x6 (ix3 l r q))) (i 0) (i 1) (i 2)) = val_main_v35 (F := Ideal) x6 x8 := by
  funext i
  idx_vars i
  exact (r35 x6 x8 i0 i1 i2).symm
theorem res41 : (fun i : S2x1024x768.Idx => (fun l r q => nv (x8 (ix3 l r q)) (x7 (ix3 l r q))) (i 0) (i 1) (i 2)) = val_main_v41 (F := Ideal) x7 x8 := by
  funext i
  idx_vars i
  exact (r41 x7 x8 i0 i1 i2).symm
end eqs

end Cert.Kernel5Ideal.Value

end
-- ==== Proof.Opt3.lean ====
/- The optimiser's eight results as the reference's terms, and the launch that ends at them. -/
module

public import proofs.«01_k».proof.Proof.Opt2
public import proofs.«01_k».proof.Proof.Gen.Reference5Ideal.Read
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.Value

open Cert.Kernel5Ideal Cert.Kernel5Ideal.Gen Cert.Reference5Ideal.Read

variable (m : (ℓ : Loc nD τ sig) → Buf (Elt Ideal) ℓ) (ρ : Dev nD → PrngReg)

theorem w1_arg5 (c : Dev nD) : W1 m ρ c main_arg5 = m ((c.tc : Thread nD τ).loc main_arg5) := W1_of m ρ c main_arg5 (by decide)
theorem w1_arg6 (c : Dev nD) : W1 m ρ c main_arg6 = m ((c.tc : Thread nD τ).loc main_arg6) := W1_of m ρ c main_arg6 (by decide)
theorem w1_arg7 (c : Dev nD) : W1 m ρ c main_arg7 = m ((c.tc : Thread nD τ).loc main_arg7) := W1_of m ρ c main_arg7 (by decide)
theorem w1_arg8 (c : Dev nD) : W1 m ρ c main_arg8 = m ((c.tc : Thread nD τ).loc main_arg8) := W1_of m ρ c main_arg8 (by decide)
theorem w2_v0_0 (c : Dev nD) : W2 m ρ c main_v0_0 = val_main_v6 (F := Ideal) (m ((c.tc : Thread nD τ).loc main_arg3)) (m ((c.tc : Thread nD τ).loc main_arg4)) :=
  (W2_of m ρ c main_v0_0 (by decide)).trans ((W1_arr m ρ c 5).trans ((final5 (V0 m ρ) c).trans (res6 _ _)))
theorem w2_v0_1 (c : Dev nD) : W2 m ρ c main_v0_1 = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_of m ρ c main_v0_1 (by decide)).trans ((W1_arr m ρ c 6).trans ((final6 (V0 m ρ) c).trans (res30 _ _ _ _ _)))
theorem w2_v0_2 (c : Dev nD) : W2 m ρ c main_v0_2 = val_main_v11 (F := Ideal) (m ((c.tc : Thread nD τ).loc main_arg1)) (m ((c.tc : Thread nD τ).loc main_arg3)) (m ((c.tc : Thread nD τ).loc main_arg4)) :=
  (W2_of m ρ c main_v0_2 (by decide)).trans ((W1_arr m ρ c 7).trans ((final7 (V0 m ρ) c).trans (res11 _ _ _)))
theorem w2_v0_3 (c : Dev nD) : W2 m ρ c main_v0_3 = val_main_v17 (F := Ideal) (m ((c.tc : Thread nD τ).loc main_arg2)) (m ((c.tc : Thread nD τ).loc main_arg3)) (m ((c.tc : Thread nD τ).loc main_arg4)) :=
  (W2_of m ρ c main_v0_3 (by decide)).trans ((W1_arr m ρ c 8).trans ((final8 (V0 m ρ) c).trans (res17 _ _ _)))
theorem w2_v1_0 (c : Dev nD) : W2 m ρ c main_v1_0 = m ((c.tc : Thread nD τ).loc main_arg8) :=
  (W2_arr m ρ c 4).trans ((last4 (V1 m ρ) c).trans (by
    rw [show A8 (V1 m ρ) c = _ from w1_arg8 m ρ c]
    exact res8 _))
theorem w2_v1_1 (c : Dev nD) : W2 m ρ c main_v1_1 = val_main_v54 (F := Ideal) (m ((c.tc : Thread nD τ).loc main_arg5)) (m ((c.tc : Thread nD τ).loc main_arg6)) (m ((c.tc : Thread nD τ).loc main_arg7)) (m ((c.tc : Thread nD τ).loc main_arg8)) :=
  (W2_arr m ρ c 5).trans ((last5 (V1 m ρ) c).trans (by
    rw [show A5 (V1 m ρ) c = _ from w1_arg5 m ρ c, show A6 (V1 m ρ) c = _ from w1_arg6 m ρ c, show A7 (V1 m ρ) c = _ from w1_arg7 m ρ c, show A8 (V1 m ρ) c = _ from w1_arg8 m ρ c]
    exact res54 _ _ _ _))
theorem w2_v1_2 (c : Dev nD) : W2 m ρ c main_v1_2 = val_main_v35 (F := Ideal) (m ((c.tc : Thread nD τ).loc main_arg6)) (m ((c.tc : Thread nD τ).loc main_arg8)) :=
  (W2_arr m ρ c 6).trans ((last6 (V1 m ρ) c).trans (by
    rw [show A6 (V1 m ρ) c = _ from w1_arg6 m ρ c, show A8 (V1 m ρ) c = _ from w1_arg8 m ρ c]
    exact res35 _ _))
theorem w2_v1_3 (c : Dev nD) : W2 m ρ c main_v1_3 = val_main_v41 (F := Ideal) (m ((c.tc : Thread nD τ).loc main_arg7)) (m ((c.tc : Thread nD τ).loc main_arg8)) :=
  (W2_arr m ρ c 7).trans ((last7 (V1 m ρ) c).trans (by
    rw [show A7 (V1 m ρ) c = _ from w1_arg7 m ρ c, show A8 (V1 m ρ) c = _ from w1_arg8 m ρ c]
    exact res41 _ _))

local notation "𝕄" => MT nD τ sig Unit (Elt Ideal) ℕ (UR sig nD τ) ℕ

set_option backward.isDefEq.respectTransparency.types false in
/-- Every fair execution of the two calls ends with the reference's eight results, its arguments unchanged. -/
theorem run : θ_run defs (onTc (τ := τ) (main (F := Ideal))) ⟨m, fun _ => 0, ρ⟩ (fun r => ∀ c : Dev nD,
      r.2.mem ((c.tc : Thread nD τ).loc main_v0_0) = val_main_v6 (F := Ideal) (m ((c.tc : Thread nD τ).loc main_arg3)) (m ((c.tc : Thread nD τ).loc main_arg4))
      ∧ r.2.mem ((c.tc : Thread nD τ).loc main_v0_1) = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = val_main_v11 (F := Ideal) (m ((c.tc : Thread nD τ).loc main_arg1)) (m ((c.tc : Thread nD τ).loc main_arg3)) (m ((c.tc : Thread nD τ).loc main_arg4))
      ∧ r.2.mem ((c.tc : Thread nD τ).loc main_v0_3) = val_main_v17 (F := Ideal) (m ((c.tc : Thread nD τ).loc main_arg2)) (m ((c.tc : Thread nD τ).loc main_arg3)) (m ((c.tc : Thread nD τ).loc main_arg4))
      ∧ r.2.mem ((c.tc : Thread nD τ).loc main_v1_0) = m ((c.tc : Thread nD τ).loc main_arg8)
      ∧ r.2.mem ((c.tc : Thread nD τ).loc main_v1_1) = val_main_v54 (F := Ideal) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v1_2) = val_main_v35 (F := Ideal) (m ((c.tc : Thread nD τ).loc main_arg6)) (m ((c.tc : Thread nD τ).loc main_arg8))
      ∧ r.2.mem ((c.tc : Thread nD τ).loc main_v1_3) = val_main_v41 (F := Ideal) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0_0 (by decide))).trans (w2_v0_0 m ρ c),
       (h c _ (mem_uc main_v0_1 (by decide))).trans (w2_v0_1 m ρ c),
       (h c _ (mem_uc main_v0_2 (by decide))).trans (w2_v0_2 m ρ c),
       (h c _ (mem_uc main_v0_3 (by decide))).trans (w2_v0_3 m ρ c),
       (h c _ (mem_uc main_v1_0 (by decide))).trans (w2_v1_0 m ρ c),
       (h c _ (mem_uc main_v1_1 (by decide))).trans (w2_v1_1 m ρ c),
       (h c _ (mem_uc main_v1_2 (by decide))).trans (w2_v1_2 m ρ c),
       (h c _ (mem_uc main_v1_3 (by decide))).trans (w2_v1_3 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c)⟩)

end Cert.Kernel5Ideal.Value

end
-- ==== Proof.Proj2.lean ====
/- The five projection products of layer 0 that carry no exchange: what each call leaves in its result, over the array. -/
module

public import proofs.«01_k».proof.Proof.Gen.Kernel6Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (V : (c : Dev nD) → (b : Ref sig .tc) → Buf (Elt Ideal) ((c : Thread nD τ).loc b))

/-- The in-projection, `u · w`. -/
def proj (a : FVec Ideal S4608x1024 .bf16) (b : FVec Ideal S1024x1536 .bf16) : FVec Ideal S4608x1536 .f32 := fun i =>
  ∑ k : Fin 1024, (a (ix2 (⟨(i 0).val, (i 0).isLt⟩ : Fin 4608) k) : EReal) * b (ix2 k (⟨(i 1).val, (i 1).isLt⟩ : Fin 1536))

/-- The out-projection, `o · w`. -/
def mix (a : FVec Ideal S4608x1024 .bf16) (b : FVec Ideal S1024x1024 .bf16) : FVec Ideal S4608x1024 .f32 := fun i =>
  ∑ k : Fin 1024, (a (ix2 (⟨(i 0).val, (i 0).isLt⟩ : Fin 4608) k) : EReal) * b (ix2 k (⟨(i 1).val, (i 1).isLt⟩ : Fin 1024))

/-- The gradient of the out-projection's input, `dmix · wᵀ`. -/
def ghead (a : FVec Ideal S4608x1024 .bf16) (b : FVec Ideal S1024x1024 .bf16) : FVec Ideal S4608x1024 .bf16 := fun i =>
  ∑ k : Fin 1024, (a (ix2 (⟨(i 0).val, (i 0).isLt⟩ : Fin 4608) k) : EReal) * b (ix2 (⟨(i 1).val, (i 1).isLt⟩ : Fin 1024) k)

/-- The gradient of the out-projection's weight: the transposed input times `dmix`, over the rows. -/
def gout (a : FVec Ideal S1024x4608 .bf16) (b : FVec Ideal S4608x1024 .bf16) : FVec Ideal S1024x1024 .bf16 := fun i =>
  ∑ k : Fin 4608, (a (ix2 (⟨(i 0).val, (i 0).isLt⟩ : Fin 1024) k) : EReal) * b (ix2 k (⟨(i 1).val, (i 1).isLt⟩ : Fin 1024))

/-- The gradient of the in-projection's weight: the transposed input times `dproj`, over the rows. -/
def gin (a : FVec Ideal S1024x4608 .bf16) (b : FVec Ideal S4608x1536 .bf16) : FVec Ideal S1024x1536 .bf16 := fun i =>
  ∑ k : Fin 4608, (a (ix2 (⟨(i 0).val, (i 0).isLt⟩ : Fin 1024) k) : EReal) * b (ix2 k (⟨(i 1).val, (i 1).isLt⟩ : Fin 1536))

theorem idx0 : ∀ t : Fin cfg0.N, win0_0.index t = ![t.val / 3, 0] ∧ win0_1.index t = ![0, t.val % 3] ∧ win0_2.index t = ![t.val / 3, t.val % 3] :=
  (by decide +kernel : ∀ t : Fin grid0.N, _)

theorem point0 (c : Dev nD) (t : Fin cfg0.N) (y) : k0_pay1 (iblk0 V c 0 t) (iblk0 V c 1 t) y
    = proj (V c main_v2) (V c main_v0) (((cfg0.win 2).blk t).view.emb y) := by
  pointwise [k0_pay1, proj]
  blk_point [iblk0, idx0 t]

theorem final0 (c : Dev nD) : (dat0 V c).arrAt 2 cfg0.N = proj (V c main_v2) (V c main_v0) := by
  refine (dat0 V c).arrAt_eq_of_covers 2 _ (by decide +kernel) fun t _ y => ?_
  blk_simp
  rw [after0_2]; frame_out
  exact point0 V c t y

theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)

theorem point1 (c : Dev nD) (t : Fin cfg1.N) (y) : k1_pay1 (iblk1 V c 0 t) (iblk1 V c 1 t) y
    = mix (V c main_v4) (V c main_v1) (((cfg1.win 2).blk t).view.emb y) := by
  pointwise [k1_pay1, mix]
  blk_point [iblk1, idx1 t]

theorem final1 (c : Dev nD) : (dat1 V c).arrAt 2 cfg1.N = mix (V c main_v4) (V c main_v1) := by
  refine (dat1 V c).arrAt_eq_of_covers 2 _ (by decide +kernel) fun t _ y => ?_
  blk_simp
  rw [after1_2]; frame_out
  exact point1 V c t y

theorem idx2 : ∀ t : Fin cfg2.N, win2_0.index t = ![t.val / 2, 0] ∧ win2_1.index t = ![t.val % 2, 0] ∧ win2_2.index t = ![t.val / 2, t.val % 2] :=
  (by decide +kernel : ∀ t : Fin grid2.N, _)

theorem point2 (c : Dev nD) (t : Fin cfg2.N) (y) : k2_pay1 (iblk2 V c 0 t) (iblk2 V c 1 t) y
    = ghead (V c main_v7) (V c main_v1) (((cfg2.win 2).blk t).view.emb y) := by
  pointwise [k2_pay1, ghead]
  blk_point [iblk2, idx2 t]

theorem final2 (c : Dev nD) : (dat2 V c).arrAt 2 cfg2.N = ghead (V c main_v7) (V c main_v1) := by
  refine (dat2 V c).arrAt_eq_of_covers 2 _ (by decide +kernel) fun t _ y => ?_
  blk_simp
  rw [after2_2]; frame_out
  exact point2 V c t y

theorem idx3 : ∀ t : Fin cfg3.N, win3_0.index t = ![0, 0] ∧ win3_1.index t = ![0, t.val] ∧ win3_2.index t = ![0, t.val] :=
  (by decide +kernel : ∀ t : Fin grid3.N, _)

theorem point3 (c : Dev nD) (t : Fin cfg3.N) (y) : k3_pay1 (iblk3 V c 0 t) (iblk3 V c 1 t) y
    = gout (V c main_v5) (V c main_v7) (((cfg3.win 2).blk t).view.emb y) := by
  pointwise [k3_pay1, gout]
  blk_point [iblk3, idx3 t]

theorem final3 (c : Dev nD) : (dat3 V c).arrAt 2 cfg3.N = gout (V c main_v5) (V c main_v7) := by
  refine (dat3 V c).arrAt_eq_of_covers 2 _ (by decide +kernel) fun t _ y => ?_
  blk_simp
  rw [after3_2]; frame_out
  exact point3 V c t y

theorem idx4 : ∀ t : Fin cfg4.N, win4_0.index t = ![0, 0] ∧ win4_1.index t = ![0, t.val] ∧ win4_2.index t = ![0, t.val] :=
  (by decide +kernel : ∀ t : Fin grid4.N, _)

theorem point4 (c : Dev nD) (t : Fin cfg4.N) (y) : k4_pay1 (iblk4 V c 0 t) (iblk4 V c 1 t) y
    = gin (V c main_v3) (V c main_v6) (((cfg4.win 2).blk t).view.emb y) := by
  pointwise [k4_pay1, gin]
  blk_point [iblk4, idx4 t]

theorem final4 (c : Dev nD) : (dat4 V c).arrAt 2 cfg4.N = gin (V c main_v3) (V c main_v6) := by
  refine (dat4 V c).arrAt_eq_of_covers 2 _ (by decide +kernel) fun t _ y => ?_
  blk_simp
  rw [after4_2]; frame_out
  exact point4 V c t y

end Cert.Kernel6Ideal.Value

end
-- ==== Proof.Proj3.lean ====
/- The five results as the reference's terms, and the launch that ends at them. -/
module

public import proofs.«01_k».proof.Proof.Proj2
public import proofs.«01_k».proof.Proof.Gen.Reference6Ideal.Read
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel6Ideal.Value

open Cert.Kernel6Ideal Cert.Kernel6Ideal.Gen

variable (x0 : FVec Ideal S4608x1024 .f32) (x1 : FVec Ideal S1024x1536 .f32) (x2 : FVec Ideal S4608x1536 .f32) (x3 : FVec Ideal S4608x1024 .f32) (x4 : FVec Ideal S1024x1024 .f32) (x5 : FVec Ideal S4608x1024 .f32)

/-! ## Each product of the host's casts is the reference's -/

open Cert.Reference6Ideal.Read in
theorem proj_eq : proj (truncf .bf16 x0 bitsLt_bf16_f32) (truncf .bf16 x1 bitsLt_bf16_f32) = val_main_v0 (F := Ideal) x0 x1 := by
  funext i
  rw [val_main_v0_apply]
  unfold proj
  pointwise []
  blk_point

open Cert.Reference6Ideal.Read in
theorem mix_eq : mix (truncf .bf16 x3 bitsLt_bf16_f32) (truncf .bf16 x4 bitsLt_bf16_f32) = val_main_v1 (F := Ideal) x3 x4 := by
  funext i
  rw [val_main_v1_apply]
  unfold mix
  pointwise []
  blk_point

open Cert.Reference6Ideal.Read in
theorem ghead_eq : ghead (truncf .bf16 x5 bitsLt_bf16_f32) (truncf .bf16 x4 bitsLt_bf16_f32) = val_main_v8 (F := Ideal) x4 x5 := by
  funext i
  rw [val_main_v8_apply, val_main_v7_apply]
  unfold ghead
  pointwise []
  blk_point

open Cert.Reference6Ideal.Read in
theorem gout_eq : gout (transpose S1024x4608 [1, 0] (truncf .bf16 x3 bitsLt_bf16_f32) transposes_S4608x1024_S1024x4608_1_0) (truncf .bf16 x5 bitsLt_bf16_f32) = val_main_v9 (F := Ideal) x3 x5 := by
  funext i
  rw [val_main_v9_apply, val_main_v6_apply, val_main_v5_apply]
  unfold gout
  refine (Finset.sum_congr rfl fun k _ => mul_comm _ _).trans ?_
  pointwise []
  blk_point

open Cert.Reference6Ideal.Read in
theorem gin_eq : gin (transpose S1024x4608 [1, 0] (truncf .bf16 x0 bitsLt_bf16_f32) transposes_S4608x1024_S1024x4608_1_0) (truncf .bf16 x2 bitsLt_bf16_f32) = val_main_v10 (F := Ideal) x0 x2 := by
  funext i
  rw [val_main_v10_apply, val_main_v3_apply, val_main_v2_apply]
  unfold gin
  refine (Finset.sum_congr rfl fun k _ => mul_comm _ _).trans ?_
  pointwise []
  blk_point

variable (m : (ℓ : Loc nD τ sig) → Buf (Elt Ideal) ℓ) (ρ : Dev nD → PrngReg)

/-- The six arguments as launched on a device. -/
abbrev a0 (c : Dev nD) : FVec Ideal S4608x1024 .f32 := m ((c.tc : Thread nD τ).loc main_arg0)
abbrev a1 (c : Dev nD) : FVec Ideal S1024x1536 .f32 := m ((c.tc : Thread nD τ).loc main_arg1)
abbrev a2 (c : Dev nD) : FVec Ideal S4608x1536 .f32 := m ((c.tc : Thread nD τ).loc main_arg2)
abbrev a3 (c : Dev nD) : FVec Ideal S4608x1024 .f32 := m ((c.tc : Thread nD τ).loc main_arg3)
abbrev a4 (c : Dev nD) : FVec Ideal S1024x1024 .f32 := m ((c.tc : Thread nD τ).loc main_arg4)
abbrev a5 (c : Dev nD) : FVec Ideal S4608x1024 .f32 := m ((c.tc : Thread nD τ).loc main_arg5)

/-! ## What the host leaves for the calls, and what each call leaves, at every later state -/

theorem w1_v0 (c : Dev nD) : W1 m ρ c main_v0 = truncf .bf16 (a1 m c) bitsLt_bf16_f32 := by
  show StableHlo.after hostOps0 _ _ = _
  after_results
theorem w1_v1 (c : Dev nD) : W1 m ρ c main_v1 = truncf .bf16 (a4 m c) bitsLt_bf16_f32 := by
  show StableHlo.after hostOps0 _ _ = _
  after_results
theorem w2_v1 (c : Dev nD) : W2 m ρ c main_v1 = truncf .bf16 (a4 m c) bitsLt_bf16_f32 := (W2_of m ρ c main_v1 (by decide)).trans (w1_v1 m ρ c)
theorem w3_v1 (c : Dev nD) : W3 m ρ c main_v1 = truncf .bf16 (a4 m c) bitsLt_bf16_f32 := (W3_of m ρ c main_v1 (by decide)).trans (w2_v1 m ρ c)
theorem w1_v2 (c : Dev nD) : W1 m ρ c main_v2 = truncf .bf16 (a0 m c) bitsLt_bf16_f32 := by
  show StableHlo.after hostOps0 _ _ = _
  after_results
theorem w1_v3 (c : Dev nD) : W1 m ρ c main_v3 = transpose S1024x4608 [1, 0] (truncf .bf16 (a0 m c) bitsLt_bf16_f32) transposes_S4608x1024_S1024x4608_1_0 := by
  show StableHlo.after hostOps0 _ _ = _
  after_results
theorem w2_v3 (c : Dev nD) : W2 m ρ c main_v3 = transpose S1024x4608 [1, 0] (truncf .bf16 (a0 m c) bitsLt_bf16_f32) transposes_S4608x1024_S1024x4608_1_0 := (W2_of m ρ c main_v3 (by decide)).trans (w1_v3 m ρ c)
theorem w3_v3 (c : Dev nD) : W3 m ρ c main_v3 = transpose S1024x4608 [1, 0] (truncf .bf16 (a0 m c) bitsLt_bf16_f32) transposes_S4608x1024_S1024x4608_1_0 := (W3_of m ρ c main_v3 (by decide)).trans (w2_v3 m ρ c)
theorem w4_v3 (c : Dev nD) : W4 m ρ c main_v3 = transpose S1024x4608 [1, 0] (truncf .bf16 (a0 m c) bitsLt_bf16_f32) transposes_S4608x1024_S1024x4608_1_0 := (W4_of m ρ c main_v3 (by decide)).trans (w3_v3 m ρ c)
theorem w5_v3 (c : Dev nD) : W5 m ρ c main_v3 = transpose S1024x4608 [1, 0] (truncf .bf16 (a0 m c) bitsLt_bf16_f32) transposes_S4608x1024_S1024x4608_1_0 := (W5_of m ρ c main_v3 (by decide)).trans (w4_v3 m ρ c)
theorem w1_v4 (c : Dev nD) : W1 m ρ c main_v4 = truncf .bf16 (a3 m c) bitsLt_bf16_f32 := by
  show StableHlo.after hostOps0 _ _ = _
  after_results
theorem w2_v4 (c : Dev nD) : W2 m ρ c main_v4 = truncf .bf16 (a3 m c) bitsLt_bf16_f32 := (W2_of m ρ c main_v4 (by decide)).trans (w1_v4 m ρ c)
theorem w1_v5 (c : Dev nD) : W1 m ρ c main_v5 = transpose S1024x4608 [1, 0] (truncf .bf16 (a3 m c) bitsLt_bf16_f32) transposes_S4608x1024_S1024x4608_1_0 := by
  show StableHlo.after hostOps0 _ _ = _
  after_results
theorem w2_v5 (c : Dev nD) : W2 m ρ c main_v5 = transpose S1024x4608 [1, 0] (truncf .bf16 (a3 m c) bitsLt_bf16_f32) transposes_S4608x1024_S1024x4608_1_0 := (W2_of m ρ c main_v5 (by decide)).trans (w1_v5 m ρ c)
theorem w3_v5 (c : Dev nD) : W3 m ρ c main_v5 = transpose S1024x4608 [1, 0] (truncf .bf16 (a3 m c) bitsLt_bf16_f32) transposes_S4608x1024_S1024x4608_1_0 := (W3_of m ρ c main_v5 (by decide)).trans (w2_v5 m ρ c)
theorem w4_v5 (c : Dev nD) : W4 m ρ c main_v5 = transpose S1024x4608 [1, 0] (truncf .bf16 (a3 m c) bitsLt_bf16_f32) transposes_S4608x1024_S1024x4608_1_0 := (W4_of m ρ c main_v5 (by decide)).trans (w3_v5 m ρ c)
theorem w1_v6 (c : Dev nD) : W1 m ρ c main_v6 = truncf .bf16 (a2 m c) bitsLt_bf16_f32 := by
  show StableHlo.after hostOps0 _ _ = _
  after_results
theorem w2_v6 (c : Dev nD) : W2 m ρ c main_v6 = truncf .bf16 (a2 m c) bitsLt_bf16_f32 := (W2_of m ρ c main_v6 (by decide)).trans (w1_v6 m ρ c)
theorem w3_v6 (c : Dev nD) : W3 m ρ c main_v6 = truncf .bf16 (a2 m c) bitsLt_bf16_f32 := (W3_of m ρ c main_v6 (by decide)).trans (w2_v6 m ρ c)
theorem w4_v6 (c : Dev nD) : W4 m ρ c main_v6 = truncf .bf16 (a2 m c) bitsLt_bf16_f32 := (W4_of m ρ c main_v6 (by decide)).trans (w3_v6 m ρ c)
theorem w5_v6 (c : Dev nD) : W5 m ρ c main_v6 = truncf .bf16 (a2 m c) bitsLt_bf16_f32 := (W5_of m ρ c main_v6 (by decide)).trans (w4_v6 m ρ c)
theorem w1_v7 (c : Dev nD) : W1 m ρ c main_v7 = truncf .bf16 (a5 m c) bitsLt_bf16_f32 := by
  show StableHlo.after hostOps0 _ _ = _
  after_results
theorem w2_v7 (c : Dev nD) : W2 m ρ c main_v7 = truncf .bf16 (a5 m c) bitsLt_bf16_f32 := (W2_of m ρ c main_v7 (by decide)).trans (w1_v7 m ρ c)
theorem w3_v7 (c : Dev nD) : W3 m ρ c main_v7 = truncf .bf16 (a5 m c) bitsLt_bf16_f32 := (W3_of m ρ c main_v7 (by decide)).trans (w2_v7 m ρ c)
theorem w4_v7 (c : Dev nD) : W4 m ρ c main_v7 = truncf .bf16 (a5 m c) bitsLt_bf16_f32 := (W4_of m ρ c main_v7 (by decide)).trans (w3_v7 m ρ c)

open Cert.Reference6Ideal.Read

theorem w2_v8 (c : Dev nD) : W2 m ρ c main_v8 = val_main_v0 (F := Ideal) (a0 m c) (a1 m c) :=
  (W2_arr m ρ c 2).trans ((final0 (V1 m ρ) c).trans (by
    rw [show V1 m ρ c main_v2 = _ from w1_v2 m ρ c, show V1 m ρ c main_v0 = _ from w1_v0 m ρ c]
    exact proj_eq _ _))
theorem w3_v8 (c : Dev nD) : W3 m ρ c main_v8 = val_main_v0 (F := Ideal) (a0 m c) (a1 m c) := (W3_of m ρ c main_v8 (by decide)).trans (w2_v8 m ρ c)
theorem w4_v8 (c : Dev nD) : W4 m ρ c main_v8 = val_main_v0 (F := Ideal) (a0 m c) (a1 m c) := (W4_of m ρ c main_v8 (by decide)).trans (w3_v8 m ρ c)
theorem w5_v8 (c : Dev nD) : W5 m ρ c main_v8 = val_main_v0 (F := Ideal) (a0 m c) (a1 m c) := (W5_of m ρ c main_v8 (by decide)).trans (w4_v8 m ρ c)
theorem w6_v8 (c : Dev nD) : W6 m ρ c main_v8 = val_main_v0 (F := Ideal) (a0 m c) (a1 m c) := (W6_of m ρ c main_v8 (by decide)).trans (w5_v8 m ρ c)

theorem w3_v9 (c : Dev nD) : W3 m ρ c main_v9 = val_main_v1 (F := Ideal) (a3 m c) (a4 m c) :=
  (W3_arr m ρ c 2).trans ((final1 (V2 m ρ) c).trans (by
    rw [show V2 m ρ c main_v4 = _ from w2_v4 m ρ c, show V2 m ρ c main_v1 = _ from w2_v1 m ρ c]
    exact mix_eq _ _))
theorem w4_v9 (c : Dev nD) : W4 m ρ c main_v9 = val_main_v1 (F := Ideal) (a3 m c) (a4 m c) := (W4_of m ρ c main_v9 (by decide)).trans (w3_v9 m ρ c)
theorem w5_v9 (c : Dev nD) : W5 m ρ c main_v9 = val_main_v1 (F := Ideal) (a3 m c) (a4 m c) := (W5_of m ρ c main_v9 (by decide)).trans (w4_v9 m ρ c)
theorem w6_v9 (c : Dev nD) : W6 m ρ c main_v9 = val_main_v1 (F := Ideal) (a3 m c) (a4 m c) := (W6_of m ρ c main_v9 (by decide)).trans (w5_v9 m ρ c)

theorem w4_v10 (c : Dev nD) : W4 m ρ c main_v10 = val_main_v8 (F := Ideal) (a4 m c) (a5 m c) :=
  (W4_arr m ρ c 2).trans ((final2 (V3 m ρ) c).trans (by
    rw [show V3 m ρ c main_v7 = _ from w3_v7 m ρ c, show V3 m ρ c main_v1 = _ from w3_v1 m ρ c]
    exact ghead_eq _ _))
theorem w5_v10 (c : Dev nD) : W5 m ρ c main_v10 = val_main_v8 (F := Ideal) (a4 m c) (a5 m c) := (W5_of m ρ c main_v10 (by decide)).trans (w4_v10 m ρ c)
theorem w6_v10 (c : Dev nD) : W6 m ρ c main_v10 = val_main_v8 (F := Ideal) (a4 m c) (a5 m c) := (W6_of m ρ c main_v10 (by decide)).trans (w5_v10 m ρ c)

theorem w5_v11 (c : Dev nD) : W5 m ρ c main_v11 = val_main_v9 (F := Ideal) (a3 m c) (a5 m c) :=
  (W5_arr m ρ c 2).trans ((final3 (V4 m ρ) c).trans (by
    rw [show V4 m ρ c main_v5 = _ from w4_v5 m ρ c, show V4 m ρ c main_v7 = _ from w4_v7 m ρ c]
    exact gout_eq _ _))
theorem w6_v11 (c : Dev nD) : W6 m ρ c main_v11 = val_main_v9 (F := Ideal) (a3 m c) (a5 m c) := (W6_of m ρ c main_v11 (by decide)).trans (w5_v11 m ρ c)

theorem w6_v12 (c : Dev nD) : W6 m ρ c main_v12 = val_main_v10 (F := Ideal) (a0 m c) (a2 m c) :=
  (W6_arr m ρ c 2).trans ((final4 (V5 m ρ) c).trans (by
    rw [show V5 m ρ c main_v3 = _ from w5_v3 m ρ c, show V5 m ρ c main_v6 = _ from w5_v6 m ρ c]
    exact gin_eq _ _))

/-! ## The launch -/

local notation "𝕄" => MT nD τ sig Unit (Elt Ideal) ℕ (UR sig nD τ) ℕ

set_option backward.isDefEq.respectTransparency.types false in
/-- Every fair execution of the five calls ends with the contents named above, for every buffer of the program. -/
theorem run : θ_run defs (onTc (τ := τ) (main (F := Ideal))) ⟨m, fun _ => 0, ρ⟩ (fun r => ∀ c : Dev nD,
      r.2.mem ((c.tc : Thread nD τ).loc main_v8) = val_main_v0 (F := Ideal) (a0 m c) (a1 m c)
      ∧ r.2.mem ((c.tc : Thread nD τ).loc main_v9) = val_main_v1 (F := Ideal) (a3 m c) (a4 m c)
      ∧ r.2.mem ((c.tc : Thread nD τ).loc main_v10) = val_main_v8 (F := Ideal) (a4 m c) (a5 m c)
      ∧ r.2.mem ((c.tc : Thread nD τ).loc main_v11) = val_main_v9 (F := Ideal) (a3 m c) (a5 m c)
      ∧ r.2.mem ((c.tc : Thread nD τ).loc main_v12) = val_main_v10 (F := Ideal) (a0 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v8 (by decide))).trans (w6_v8 m ρ c),
       (h c _ (mem_uc main_v9 (by decide))).trans (w6_v9 m ρ c),
       (h c _ (mem_uc main_v10 (by decide))).trans (w6_v10 m ρ c),
       (h c _ (mem_uc main_v11 (by decide))).trans (w6_v11 m ρ c),
       (h c _ (mem_uc main_v12 (by decide))).trans (w6_v12 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Kernel6Ideal.Value

end
-- ==== Proof.Pack.lean ====
/- The nine small weights laid one after another in one array, and taken out again. -/
module

public import proofs.«01_k».proof.Proof.Gen.Kernel9Ideal
public import Idealize.ShloMosaic.Lib.Pipeline.ValueKit

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

/-- The ten arrays end to end. -/
def cat (y0 : FVec Ideal S1024 .f32) (y1 : FVec Ideal S12288 .f32) (y2 : FVec Ideal S2048 .f32) (y3 : FVec Ideal S2048 .f32) (y4 : FVec Ideal S2048 .f32) (y5 : FVec Ideal S2048 .f32) (y6 : FVec Ideal S128 .f32) (y7 : FVec Ideal S128 .f32) (y8 : FVec Ideal S16 .f32) (y9 : FVec Ideal S1 .f32) : FVec Ideal S21777 .f32 :=
  concatenate S21777 0 [⟨S1024, y0⟩, ⟨S12288, y1⟩, ⟨S2048, y2⟩, ⟨S2048, y3⟩, ⟨S2048, y4⟩, ⟨S2048, y5⟩, ⟨S128, y6⟩, ⟨S128, y7⟩, ⟨S16, y8⟩, ⟨S1, y9⟩] concatenates_S1024_S12288_S2048_S2048_S2048_S2048_S128_S128_S16_S1_S21777_d0
/-- The same of the eight devices' parts. -/
def cat8 (y0 : FVec Ideal S8x1024 .f32) (y1 : FVec Ideal S8x12288 .f32) (y2 : FVec Ideal S8x2048 .f32) (y3 : FVec Ideal S8x2048 .f32) (y4 : FVec Ideal S8x2048 .f32) (y5 : FVec Ideal S8x2048 .f32) (y6 : FVec Ideal S8x128 .f32) (y7 : FVec Ideal S8x128 .f32) (y8 : FVec Ideal S8x16 .f32) (y9 : FVec Ideal S8x1 .f32) : FVec Ideal S8x21777 .f32 :=
  concatenate S8x21777 1 [⟨S8x1024, y0⟩, ⟨S8x12288, y1⟩, ⟨S8x2048, y2⟩, ⟨S8x2048, y3⟩, ⟨S8x2048, y4⟩, ⟨S8x2048, y5⟩, ⟨S8x128, y6⟩, ⟨S8x128, y7⟩, ⟨S8x16, y8⟩, ⟨S8x1, y9⟩] concatenates_S8x1024_S8x12288_S8x2048_S8x2048_S8x2048_S8x2048_S8x128_S8x128_S8x16_S8x1_S8x21777_d1
/-- The end filled, the line cut into rows of 128. -/
def rows (x : FVec Ideal S21777 .f32) (z : FVec Ideal S_ .f32) : FVec Ideal S176x128 .f32 :=
  shapeCast S176x128 (pad S22528 ![0] ![751] ![0] x z pads_S21777_S22528_07510 h_S_) shapeCasts_S22528_S176x128
def rows8 (x : FVec Ideal S8x21777 .f32) (z : FVec Ideal S_ .f32) : FVec Ideal S8x176x128 .f32 :=
  shapeCast S8x176x128 (pad S8x22528 ![0, 0] ![0, 751] ![0, 0] x z pads_S8x21777_S8x22528_000_07510 h_S_) shapeCasts_S8x22528_S8x176x128

section
variable (y0 : FVec Ideal S1024 .f32) (y1 : FVec Ideal S12288 .f32) (y2 : FVec Ideal S2048 .f32) (y3 : FVec Ideal S2048 .f32) (y4 : FVec Ideal S2048 .f32) (y5 : FVec Ideal S2048 .f32) (y6 : FVec Ideal S128 .f32) (y7 : FVec Ideal S128 .f32) (y8 : FVec Ideal S16 .f32) (y9 : FVec Ideal S1 .f32) (z : FVec Ideal S_ .f32)

theorem cat_0 (f : Fin 21777) (g : Fin 1024) (h : f.val = 0 + g.val) : cat y0 y1 y2 y3 y4 y5 y6 y7 y8 y9 (ix1 f) = y0 (ix1 g) := by
  have hg := g.isLt
  pointwise [cat]
  rw [dif_pos (by omega)]
  exact congrArg y0 (congrArg ix1 (Fin.ext (by dsimp only; omega)))
theorem cat_1 (f : Fin 21777) (g : Fin 12288) (h : f.val = 1024 + g.val) : cat y0 y1 y2 y3 y4 y5 y6 y7 y8 y9 (ix1 f) = y1 (ix1 g) := by
  have hg := g.isLt
  pointwise [cat]
  rw [dif_neg (by omega)]
  rw [dif_pos (by omega)]
  exact congrArg y1 (congrArg ix1 (Fin.ext (by dsimp only; omega)))
theorem cat_2 (f : Fin 21777) (g : Fin 2048) (h : f.val = 13312 + g.val) : cat y0 y1 y2 y3 y4 y5 y6 y7 y8 y9 (ix1 f) = y2 (ix1 g) := by
  have hg := g.isLt
  pointwise [cat]
  rw [dif_neg (by omega)]
  rw [dif_neg (by omega)]
  rw [dif_pos (by omega)]
  exact congrArg y2 (congrArg ix1 (Fin.ext (by dsimp only; omega)))
theorem cat_3 (f : Fin 21777) (g : Fin 2048) (h : f.val = 15360 + g.val) : cat y0 y1 y2 y3 y4 y5 y6 y7 y8 y9 (ix1 f) = y3 (ix1 g) := by
  have hg := g.isLt
  pointwise [cat]
  rw [dif_neg (by omega)]
  rw [dif_neg (by omega)]
  rw [dif_neg (by omega)]
  rw [dif_pos (by omega)]
  exact congrArg y3 (congrArg ix1 (Fin.ext (by dsimp only; omega)))
theorem cat_4 (f : Fin 21777) (g : Fin 2048) (h : f.val = 17408 + g.val) : cat y0 y1 y2 y3 y4 y5 y6 y7 y8 y9 (ix1 f) = y4 (ix1 g) := by
  have hg := g.isLt
  pointwise [cat]
  rw [dif_neg (by omega)]
  rw [dif_neg (by omega)]
  rw [dif_neg (by omega)]
  rw [dif_neg (by omega)]
  rw [dif_pos (by omega)]
  exact congrArg y4 (congrArg ix1 (Fin.ext (by dsimp only; omega)))
theorem cat_5 (f : Fin 21777) (g : Fin 2048) (h : f.val = 19456 + g.val) : cat y0 y1 y2 y3 y4 y5 y6 y7 y8 y9 (ix1 f) = y5 (ix1 g) := by
  have hg := g.isLt
  pointwise [cat]
  rw [dif_neg (by omega)]
  rw [dif_neg (by omega)]
  rw [dif_neg (by omega)]
  rw [dif_neg (by omega)]
  rw [dif_neg (by omega)]
  rw [dif_pos (by omega)]
  exact congrArg y5 (congrArg ix1 (Fin.ext (by dsimp only; omega)))
theorem cat_6 (f : Fin 21777) (g : Fin 128) (h : f.val = 21504 + g.val) : cat y0 y1 y2 y3 y4 y5 y6 y7 y8 y9 (ix1 f) = y6 (ix1 g) := by
  have hg := g.isLt
  pointwise [cat]
  rw [dif_neg (by omega)]
  rw [dif_neg (by omega)]
  rw [dif_neg (by omega)]
  rw [dif_neg (by omega)]
  rw [dif_neg (by omega)]
  rw [dif_neg (by omega)]
  rw [dif_pos (by omega)]
  exact congrArg y6 (congrArg ix1 (Fin.ext (by dsimp only; omega)))
theorem cat_7 (f : Fin 21777) (g : Fin 128) (h : f.val = 21632 + g.val) : cat y0 y1 y2 y3 y4 y5 y6 y7 y8 y9 (ix1 f) = y7 (ix1 g) := by
  have hg := g.isLt
  pointwise [cat]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg y7 (congrArg ix1 (Fin.ext (by dsimp only; omega)))
theorem cat_8 (f : Fin 21777) (g : Fin 16) (h : f.val = 21760 + g.val) : cat y0 y1 y2 y3 y4 y5 y6 y7 y8 y9 (ix1 f) = y8 (ix1 g) := by
  have hg := g.isLt
  pointwise [cat]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg y8 (congrArg ix1 (Fin.ext (by dsimp only; omega)))
theorem cat_9 (f : Fin 21777) (g : Fin 1) (h : f.val = 21776 + g.val) : cat y0 y1 y2 y3 y4 y5 y6 y7 y8 y9 (ix1 f) = y9 (ix1 g) := by
  have hg := g.isLt
  pointwise [cat]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  exact congrArg y9 (congrArg ix1 (Fin.ext (by dsimp only; omega)))
theorem rows_at (x : FVec Ideal S21777 .f32) (r : Fin 176) (l : Fin 128) (f : Fin 21777) (h : r.val * 128 + l.val = f.val) : rows x z (ix2 r l) = x (ix1 f) := by
  pointwise [rows]
  rw [dif_pos (by omega)]
  exact congrArg x (congrArg ix1 (Fin.ext h))
end

section
variable (y0 : FVec Ideal S8x1024 .f32) (y1 : FVec Ideal S8x12288 .f32) (y2 : FVec Ideal S8x2048 .f32) (y3 : FVec Ideal S8x2048 .f32) (y4 : FVec Ideal S8x2048 .f32) (y5 : FVec Ideal S8x2048 .f32) (y6 : FVec Ideal S8x128 .f32) (y7 : FVec Ideal S8x128 .f32) (y8 : FVec Ideal S8x16 .f32) (y9 : FVec Ideal S8x1 .f32) (z : FVec Ideal S_ .f32) (k : Fin 8)

theorem cat8_0 (f : Fin 21777) (g : Fin 1024) (h : f.val = 0 + g.val) : cat8 y0 y1 y2 y3 y4 y5 y6 y7 y8 y9 (ix2 k f) = y0 (ix2 k g) := by
  have hg := g.isLt
  pointwise [cat8]
  rw [dif_pos (by omega)]
  exact congrArg y0 (congrArg (ix2 k) (Fin.ext (by dsimp only; omega)))
theorem cat8_1 (f : Fin 21777) (g : Fin 12288) (h : f.val = 1024 + g.val) : cat8 y0 y1 y2 y3 y4 y5 y6 y7 y8 y9 (ix2 k f) = y1 (ix2 k g) := by
  have hg := g.isLt
  pointwise [cat8]
  rw [dif_neg (by omega)]
  rw [dif_pos (by omega)]
  exact congrArg y1 (congrArg (ix2 k) (Fin.ext (by dsimp only; omega)))
theorem cat8_2 (f : Fin 21777) (g : Fin 2048) (h : f.val = 13312 + g.val) : cat8 y0 y1 y2 y3 y4 y5 y6 y7 y8 y9 (ix2 k f) = y2 (ix2 k g) := by
  have hg := g.isLt
  pointwise [cat8]
  rw [dif_neg (by omega)]
  rw [dif_neg (by omega)]
  rw [dif_pos (by omega)]
  exact congrArg y2 (congrArg (ix2 k) (Fin.ext (by dsimp only; omega)))
theorem cat8_3 (f : Fin 21777) (g : Fin 2048) (h : f.val = 15360 + g.val) : cat8 y0 y1 y2 y3 y4 y5 y6 y7 y8 y9 (ix2 k f) = y3 (ix2 k g) := by
  have hg := g.isLt
  pointwise [cat8]
  rw [dif_neg (by omega)]
  rw [dif_neg (by omega)]
  rw [dif_neg (by omega)]
  rw [dif_pos (by omega)]
  exact congrArg y3 (congrArg (ix2 k) (Fin.ext (by dsimp only; omega)))
theorem cat8_4 (f : Fin 21777) (g : Fin 2048) (h : f.val = 17408 + g.val) : cat8 y0 y1 y2 y3 y4 y5 y6 y7 y8 y9 (ix2 k f) = y4 (ix2 k g) := by
  have hg := g.isLt
  pointwise [cat8]
  rw [dif_neg (by omega)]
  rw [dif_neg (by omega)]
  rw [dif_neg (by omega)]
  rw [dif_neg (by omega)]
  rw [dif_pos (by omega)]
  exact congrArg y4 (congrArg (ix2 k) (Fin.ext (by dsimp only; omega)))
theorem cat8_5 (f : Fin 21777) (g : Fin 2048) (h : f.val = 19456 + g.val) : cat8 y0 y1 y2 y3 y4 y5 y6 y7 y8 y9 (ix2 k f) = y5 (ix2 k g) := by
  have hg := g.isLt
  pointwise [cat8]
  rw [dif_neg (by omega)]
  rw [dif_neg (by omega)]
  rw [dif_neg (by omega)]
  rw [dif_neg (by omega)]
  rw [dif_neg (by omega)]
  rw [dif_pos (by omega)]
  exact congrArg y5 (congrArg (ix2 k) (Fin.ext (by dsimp only; omega)))
theorem cat8_6 (f : Fin 21777) (g : Fin 128) (h : f.val = 21504 + g.val) : cat8 y0 y1 y2 y3 y4 y5 y6 y7 y8 y9 (ix2 k f) = y6 (ix2 k g) := by
  have hg := g.isLt
  pointwise [cat8]
  rw [dif_neg (by omega)]
  rw [dif_neg (by omega)]
  rw [dif_neg (by omega)]
  rw [dif_neg (by omega)]
  rw [dif_neg (by omega)]
  rw [dif_neg (by omega)]
  rw [dif_pos (by omega)]
  exact congrArg y6 (congrArg (ix2 k) (Fin.ext (by dsimp only; omega)))
theorem cat8_7 (f : Fin 21777) (g : Fin 128) (h : f.val = 21632 + g.val) : cat8 y0 y1 y2 y3 y4 y5 y6 y7 y8 y9 (ix2 k f) = y7 (ix2 k g) := by
  have hg := g.isLt
  pointwise [cat8]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg y7 (congrArg (ix2 k) (Fin.ext (by dsimp only; omega)))
theorem cat8_8 (f : Fin 21777) (g : Fin 16) (h : f.val = 21760 + g.val) : cat8 y0 y1 y2 y3 y4 y5 y6 y7 y8 y9 (ix2 k f) = y8 (ix2 k g) := by
  have hg := g.isLt
  pointwise [cat8]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg y8 (congrArg (ix2 k) (Fin.ext (by dsimp only; omega)))
theorem cat8_9 (f : Fin 21777) (g : Fin 1) (h : f.val = 21776 + g.val) : cat8 y0 y1 y2 y3 y4 y5 y6 y7 y8 y9 (ix2 k f) = y9 (ix2 k g) := by
  have hg := g.isLt
  pointwise [cat8]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  exact congrArg y9 (congrArg (ix2 k) (Fin.ext (by dsimp only; omega)))
theorem rows8_at (x : FVec Ideal S8x21777 .f32) (r : Fin 176) (l : Fin 128) (f : Fin 21777) (h : r.val * 128 + l.val = f.val) : rows8 x z (ix3 k r l) = x (ix2 k f) := by
  pointwise [rows8]
  rw [dif_pos (by omega)]
  exact congrArg x (congrArg (ix2 k) (Fin.ext h))
end

theorem flat6144 (x : FVec Ideal S2x6144 .f32) (a : Fin 2) (b : Fin 6144) (f : Fin 12288) (h : f.val = a.val * 6144 + b.val) :
    shapeCast S12288 x shapeCasts_S2x6144_S12288 (ix1 f) = x (ix2 a b) := by
  pointwise []
  exact congrArg x (congrArg₂ ix2 (Fin.ext (by dsimp only; omega)) (Fin.ext (by dsimp only; omega)))
theorem flat8_6144 (x : FVec Ideal S8x2x6144 .f32) (k : Fin 8) (a : Fin 2) (b : Fin 6144) (f : Fin 12288) (h : f.val = a.val * 6144 + b.val) :
    shapeCast S8x12288 x shapeCasts_S8x2x6144_S8x12288 (ix2 k f) = x (ix3 k a b) := by
  pointwise []
  exact congrArg x (congrArg₂ (ix3 k) (Fin.ext (by dsimp only; omega)) (Fin.ext (by dsimp only; omega)))
theorem flat1024 (x : FVec Ideal S2x1024 .f32) (a : Fin 2) (b : Fin 1024) (f : Fin 2048) (h : f.val = a.val * 1024 + b.val) :
    shapeCast S2048 x shapeCasts_S2x1024_S2048 (ix1 f) = x (ix2 a b) := by
  pointwise []
  exact congrArg x (congrArg₂ ix2 (Fin.ext (by dsimp only; omega)) (Fin.ext (by dsimp only; omega)))
theorem flat8_1024 (x : FVec Ideal S8x2x1024 .f32) (k : Fin 8) (a : Fin 2) (b : Fin 1024) (f : Fin 2048) (h : f.val = a.val * 1024 + b.val) :
    shapeCast S8x2048 x shapeCasts_S8x2x1024_S8x2048 (ix2 k f) = x (ix3 k a b) := by
  pointwise []
  exact congrArg x (congrArg₂ (ix3 k) (Fin.ext (by dsimp only; omega)) (Fin.ext (by dsimp only; omega)))
theorem flat64 (x : FVec Ideal S2x64 .f32) (a : Fin 2) (b : Fin 64) (f : Fin 128) (h : f.val = a.val * 64 + b.val) :
    shapeCast S128 x shapeCasts_S2x64_S128 (ix1 f) = x (ix2 a b) := by
  pointwise []
  exact congrArg x (congrArg₂ ix2 (Fin.ext (by dsimp only; omega)) (Fin.ext (by dsimp only; omega)))
theorem flat8_64 (x : FVec Ideal S8x2x64 .f32) (k : Fin 8) (a : Fin 2) (b : Fin 64) (f : Fin 128) (h : f.val = a.val * 64 + b.val) :
    shapeCast S8x128 x shapeCasts_S8x2x64_S8x128 (ix2 k f) = x (ix3 k a b) := by
  pointwise []
  exact congrArg x (congrArg₂ (ix3 k) (Fin.ext (by dsimp only; omega)) (Fin.ext (by dsimp only; omega)))
theorem flat8 (x : FVec Ideal S2x8 .f32) (a : Fin 2) (b : Fin 8) (f : Fin 16) (h : f.val = a.val * 8 + b.val) :
    shapeCast S16 x shapeCasts_S2x8_S16 (ix1 f) = x (ix2 a b) := by
  pointwise []
  exact congrArg x (congrArg₂ ix2 (Fin.ext (by dsimp only; omega)) (Fin.ext (by dsimp only; omega)))
theorem flat8_8 (x : FVec Ideal S8x2x8 .f32) (k : Fin 8) (a : Fin 2) (b : Fin 8) (f : Fin 16) (h : f.val = a.val * 8 + b.val) :
    shapeCast S8x16 x shapeCasts_S8x2x8_S8x16 (ix2 k f) = x (ix3 k a b) := by
  pointwise []
  exact congrArg x (congrArg₂ (ix3 k) (Fin.ext (by dsimp only; omega)) (Fin.ext (by dsimp only; omega)))

/-- Nine weights, and one number more, as the call receives them. -/
def pk (x0 : FVec Ideal S1024 .f32) (x1 : FVec Ideal S2x6144 .f32) (x2 : FVec Ideal S2x1024 .f32) (x3 : FVec Ideal S2x1024 .f32) (x4 : FVec Ideal S2x1024 .f32) (x5 : FVec Ideal S2x1024 .f32) (x6 : FVec Ideal S2x64 .f32) (x7 : FVec Ideal S2x64 .f32) (x8 : FVec Ideal S2x8 .f32) (x9 : FVec Ideal S1 .f32) (z : FVec Ideal S_ .f32) : FVec Ideal S176x128 .f32 :=
  rows (cat x0 (shapeCast S12288 x1 shapeCasts_S2x6144_S12288) (shapeCast S2048 x2 shapeCasts_S2x1024_S2048) (shapeCast S2048 x3 shapeCasts_S2x1024_S2048) (shapeCast S2048 x4 shapeCasts_S2x1024_S2048) (shapeCast S2048 x5 shapeCasts_S2x1024_S2048) (shapeCast S128 x6 shapeCasts_S2x64_S128) (shapeCast S128 x7 shapeCasts_S2x64_S128) (shapeCast S16 x8 shapeCasts_S2x8_S16) x9) z
/-- The eight devices' parts of them. -/
def pk8 (x0 : FVec Ideal S8x1024 .f32) (x1 : FVec Ideal S8x2x6144 .f32) (x2 : FVec Ideal S8x2x1024 .f32) (x3 : FVec Ideal S8x2x1024 .f32) (x4 : FVec Ideal S8x2x1024 .f32) (x5 : FVec Ideal S8x2x1024 .f32) (x6 : FVec Ideal S8x2x64 .f32) (x7 : FVec Ideal S8x2x64 .f32) (x8 : FVec Ideal S8x2x8 .f32) (x9 : FVec Ideal S8x1 .f32) (z : FVec Ideal S_ .f32) : FVec Ideal S8x176x128 .f32 :=
  rows8 (cat8 x0 (shapeCast S8x12288 x1 shapeCasts_S8x2x6144_S8x12288) (shapeCast S8x2048 x2 shapeCasts_S8x2x1024_S8x2048) (shapeCast S8x2048 x3 shapeCasts_S8x2x1024_S8x2048) (shapeCast S8x2048 x4 shapeCasts_S8x2x1024_S8x2048) (shapeCast S8x2048 x5 shapeCasts_S8x2x1024_S8x2048) (shapeCast S8x128 x6 shapeCasts_S8x2x64_S8x128) (shapeCast S8x128 x7 shapeCasts_S8x2x64_S8x128) (shapeCast S8x16 x8 shapeCasts_S8x2x8_S8x16) x9) z

/-- The row and the lane at which the `f`th number lies. -/
abbrev rw_ (f : ℕ) (h : f < 22528) : Fin 176 := ⟨f / 128, by omega⟩
abbrev ln_ (f : ℕ) : Fin 128 := ⟨f % 128, by omega⟩

section
variable (x0 : FVec Ideal S1024 .f32) (x1 : FVec Ideal S2x6144 .f32) (x2 : FVec Ideal S2x1024 .f32) (x3 : FVec Ideal S2x1024 .f32) (x4 : FVec Ideal S2x1024 .f32) (x5 : FVec Ideal S2x1024 .f32) (x6 : FVec Ideal S2x64 .f32) (x7 : FVec Ideal S2x64 .f32) (x8 : FVec Ideal S2x8 .f32) (x9 : FVec Ideal S1 .f32) (z : FVec Ideal S_ .f32)

theorem pk_0 (b : Fin 1024) : pk x0 x1 x2 x3 x4 x5 x6 x7 x8 x9 z (ix2 (rw_ b.val (by omega)) (ln_ b.val)) = x0 (ix1 b) := by
  unfold pk
  rw [rows_at _ _ _ _ ⟨b.val, by omega⟩ (by dsimp only; omega)]
  exact cat_0 _ _ _ _ _ _ _ _ _ _ _ b (by dsimp only; omega)
theorem pk_1 (a : Fin 2) (b : Fin 6144) : pk x0 x1 x2 x3 x4 x5 x6 x7 x8 x9 z (ix2 (rw_ (1024 + (a.val * 6144 + b.val)) (by omega)) (ln_ (1024 + (a.val * 6144 + b.val)))) = x1 (ix2 a b) := by
  unfold pk
  rw [rows_at _ _ _ _ ⟨1024 + (a.val * 6144 + b.val), by omega⟩ (by dsimp only; omega)]
  exact (cat_1 _ _ _ _ _ _ _ _ _ _ _ ⟨a.val * 6144 + b.val, by omega⟩ rfl).trans (flat6144 x1 a b _ rfl)
theorem pk_2 (a : Fin 2) (b : Fin 1024) : pk x0 x1 x2 x3 x4 x5 x6 x7 x8 x9 z (ix2 (rw_ (13312 + (a.val * 1024 + b.val)) (by omega)) (ln_ (13312 + (a.val * 1024 + b.val)))) = x2 (ix2 a b) := by
  unfold pk
  rw [rows_at _ _ _ _ ⟨13312 + (a.val * 1024 + b.val), by omega⟩ (by dsimp only; omega)]
  exact (cat_2 _ _ _ _ _ _ _ _ _ _ _ ⟨a.val * 1024 + b.val, by omega⟩ rfl).trans (flat1024 x2 a b _ rfl)
theorem pk_3 (a : Fin 2) (b : Fin 1024) : pk x0 x1 x2 x3 x4 x5 x6 x7 x8 x9 z (ix2 (rw_ (15360 + (a.val * 1024 + b.val)) (by omega)) (ln_ (15360 + (a.val * 1024 + b.val)))) = x3 (ix2 a b) := by
  unfold pk
  rw [rows_at _ _ _ _ ⟨15360 + (a.val * 1024 + b.val), by omega⟩ (by dsimp only; omega)]
  exact (cat_3 _ _ _ _ _ _ _ _ _ _ _ ⟨a.val * 1024 + b.val, by omega⟩ rfl).trans (flat1024 x3 a b _ rfl)
theorem pk_4 (a : Fin 2) (b : Fin 1024) : pk x0 x1 x2 x3 x4 x5 x6 x7 x8 x9 z (ix2 (rw_ (17408 + (a.val * 1024 + b.val)) (by omega)) (ln_ (17408 + (a.val * 1024 + b.val)))) = x4 (ix2 a b) := by
  unfold pk
  rw [rows_at _ _ _ _ ⟨17408 + (a.val * 1024 + b.val), by omega⟩ (by dsimp only; omega)]
  exact (cat_4 _ _ _ _ _ _ _ _ _ _ _ ⟨a.val * 1024 + b.val, by omega⟩ rfl).trans (flat1024 x4 a b _ rfl)
theorem pk_5 (a : Fin 2) (b : Fin 1024) : pk x0 x1 x2 x3 x4 x5 x6 x7 x8 x9 z (ix2 (rw_ (19456 + (a.val * 1024 + b.val)) (by omega)) (ln_ (19456 + (a.val * 1024 + b.val)))) = x5 (ix2 a b) := by
  unfold pk
  rw [rows_at _ _ _ _ ⟨19456 + (a.val * 1024 + b.val), by omega⟩ (by dsimp only; omega)]
  exact (cat_5 _ _ _ _ _ _ _ _ _ _ _ ⟨a.val * 1024 + b.val, by omega⟩ rfl).trans (flat1024 x5 a b _ rfl)
theorem pk_6 (a : Fin 2) (b : Fin 64) : pk x0 x1 x2 x3 x4 x5 x6 x7 x8 x9 z (ix2 (rw_ (21504 + (a.val * 64 + b.val)) (by omega)) (ln_ (21504 + (a.val * 64 + b.val)))) = x6 (ix2 a b) := by
  unfold pk
  rw [rows_at _ _ _ _ ⟨21504 + (a.val * 64 + b.val), by omega⟩ (by dsimp only; omega)]
  exact (cat_6 _ _ _ _ _ _ _ _ _ _ _ ⟨a.val * 64 + b.val, by omega⟩ rfl).trans (flat64 x6 a b _ rfl)
theorem pk_7 (a : Fin 2) (b : Fin 64) : pk x0 x1 x2 x3 x4 x5 x6 x7 x8 x9 z (ix2 (rw_ (21632 + (a.val * 64 + b.val)) (by omega)) (ln_ (21632 + (a.val * 64 + b.val)))) = x7 (ix2 a b) := by
  unfold pk
  rw [rows_at _ _ _ _ ⟨21632 + (a.val * 64 + b.val), by omega⟩ (by dsimp only; omega)]
  exact (cat_7 _ _ _ _ _ _ _ _ _ _ _ ⟨a.val * 64 + b.val, by omega⟩ rfl).trans (flat64 x7 a b _ rfl)
theorem pk_8 (a : Fin 2) (b : Fin 8) : pk x0 x1 x2 x3 x4 x5 x6 x7 x8 x9 z (ix2 (rw_ (21760 + (a.val * 8 + b.val)) (by omega)) (ln_ (21760 + (a.val * 8 + b.val)))) = x8 (ix2 a b) := by
  unfold pk
  rw [rows_at _ _ _ _ ⟨21760 + (a.val * 8 + b.val), by omega⟩ (by dsimp only; omega)]
  exact (cat_8 _ _ _ _ _ _ _ _ _ _ _ ⟨a.val * 8 + b.val, by omega⟩ rfl).trans (flat8 x8 a b _ rfl)
end

section
variable (x0 : FVec Ideal S8x1024 .f32) (x1 : FVec Ideal S8x2x6144 .f32) (x2 : FVec Ideal S8x2x1024 .f32) (x3 : FVec Ideal S8x2x1024 .f32) (x4 : FVec Ideal S8x2x1024 .f32) (x5 : FVec Ideal S8x2x1024 .f32) (x6 : FVec Ideal S8x2x64 .f32) (x7 : FVec Ideal S8x2x64 .f32) (x8 : FVec Ideal S8x2x8 .f32) (x9 : FVec Ideal S8x1 .f32) (z : FVec Ideal S_ .f32) (k : Fin 8)

theorem pk8_0 (b : Fin 1024) : pk8 x0 x1 x2 x3 x4 x5 x6 x7 x8 x9 z (ix3 k (rw_ b.val (by omega)) (ln_ b.val)) = x0 (ix2 k b) := by
  unfold pk8
  rw [rows8_at _ _ _ _ _ ⟨b.val, by omega⟩ (by dsimp only; omega)]
  exact cat8_0 _ _ _ _ _ _ _ _ _ _ _ _ b (by dsimp only; omega)
theorem pk8_1 (a : Fin 2) (b : Fin 6144) : pk8 x0 x1 x2 x3 x4 x5 x6 x7 x8 x9 z (ix3 k (rw_ (1024 + (a.val * 6144 + b.val)) (by omega)) (ln_ (1024 + (a.val * 6144 + b.val)))) = x1 (ix3 k a b) := by
  unfold pk8
  rw [rows8_at _ _ _ _ _ ⟨1024 + (a.val * 6144 + b.val), by omega⟩ (by dsimp only; omega)]
  exact (cat8_1 _ _ _ _ _ _ _ _ _ _ _ _ ⟨a.val * 6144 + b.val, by omega⟩ rfl).trans (flat8_6144 x1 k a b _ rfl)
theorem pk8_2 (a : Fin 2) (b : Fin 1024) : pk8 x0 x1 x2 x3 x4 x5 x6 x7 x8 x9 z (ix3 k (rw_ (13312 + (a.val * 1024 + b.val)) (by omega)) (ln_ (13312 + (a.val * 1024 + b.val)))) = x2 (ix3 k a b) := by
  unfold pk8
  rw [rows8_at _ _ _ _ _ ⟨13312 + (a.val * 1024 + b.val), by omega⟩ (by dsimp only; omega)]
  exact (cat8_2 _ _ _ _ _ _ _ _ _ _ _ _ ⟨a.val * 1024 + b.val, by omega⟩ rfl).trans (flat8_1024 x2 k a b _ rfl)
theorem pk8_3 (a : Fin 2) (b : Fin 1024) : pk8 x0 x1 x2 x3 x4 x5 x6 x7 x8 x9 z (ix3 k (rw_ (15360 + (a.val * 1024 + b.val)) (by omega)) (ln_ (15360 + (a.val * 1024 + b.val)))) = x3 (ix3 k a b) := by
  unfold pk8
  rw [rows8_at _ _ _ _ _ ⟨15360 + (a.val * 1024 + b.val), by omega⟩ (by dsimp only; omega)]
  exact (cat8_3 _ _ _ _ _ _ _ _ _ _ _ _ ⟨a.val * 1024 + b.val, by omega⟩ rfl).trans (flat8_1024 x3 k a b _ rfl)
theorem pk8_4 (a : Fin 2) (b : Fin 1024) : pk8 x0 x1 x2 x3 x4 x5 x6 x7 x8 x9 z (ix3 k (rw_ (17408 + (a.val * 1024 + b.val)) (by omega)) (ln_ (17408 + (a.val * 1024 + b.val)))) = x4 (ix3 k a b) := by
  unfold pk8
  rw [rows8_at _ _ _ _ _ ⟨17408 + (a.val * 1024 + b.val), by omega⟩ (by dsimp only; omega)]
  exact (cat8_4 _ _ _ _ _ _ _ _ _ _ _ _ ⟨a.val * 1024 + b.val, by omega⟩ rfl).trans (flat8_1024 x4 k a b _ rfl)
theorem pk8_5 (a : Fin 2) (b : Fin 1024) : pk8 x0 x1 x2 x3 x4 x5 x6 x7 x8 x9 z (ix3 k (rw_ (19456 + (a.val * 1024 + b.val)) (by omega)) (ln_ (19456 + (a.val * 1024 + b.val)))) = x5 (ix3 k a b) := by
  unfold pk8
  rw [rows8_at _ _ _ _ _ ⟨19456 + (a.val * 1024 + b.val), by omega⟩ (by dsimp only; omega)]
  exact (cat8_5 _ _ _ _ _ _ _ _ _ _ _ _ ⟨a.val * 1024 + b.val, by omega⟩ rfl).trans (flat8_1024 x5 k a b _ rfl)
theorem pk8_6 (a : Fin 2) (b : Fin 64) : pk8 x0 x1 x2 x3 x4 x5 x6 x7 x8 x9 z (ix3 k (rw_ (21504 + (a.val * 64 + b.val)) (by omega)) (ln_ (21504 + (a.val * 64 + b.val)))) = x6 (ix3 k a b) := by
  unfold pk8
  rw [rows8_at _ _ _ _ _ ⟨21504 + (a.val * 64 + b.val), by omega⟩ (by dsimp only; omega)]
  exact (cat8_6 _ _ _ _ _ _ _ _ _ _ _ _ ⟨a.val * 64 + b.val, by omega⟩ rfl).trans (flat8_64 x6 k a b _ rfl)
theorem pk8_7 (a : Fin 2) (b : Fin 64) : pk8 x0 x1 x2 x3 x4 x5 x6 x7 x8 x9 z (ix3 k (rw_ (21632 + (a.val * 64 + b.val)) (by omega)) (ln_ (21632 + (a.val * 64 + b.val)))) = x7 (ix3 k a b) := by
  unfold pk8
  rw [rows8_at _ _ _ _ _ ⟨21632 + (a.val * 64 + b.val), by omega⟩ (by dsimp only; omega)]
  exact (cat8_7 _ _ _ _ _ _ _ _ _ _ _ _ ⟨a.val * 64 + b.val, by omega⟩ rfl).trans (flat8_64 x7 k a b _ rfl)
theorem pk8_8 (a : Fin 2) (b : Fin 8) : pk8 x0 x1 x2 x3 x4 x5 x6 x7 x8 x9 z (ix3 k (rw_ (21760 + (a.val * 8 + b.val)) (by omega)) (ln_ (21760 + (a.val * 8 + b.val)))) = x8 (ix3 k a b) := by
  unfold pk8
  rw [rows8_at _ _ _ _ _ ⟨21760 + (a.val * 8 + b.val), by omega⟩ (by dsimp only; omega)]
  exact (cat8_8 _ _ _ _ _ _ _ _ _ _ _ _ ⟨a.val * 8 + b.val, by omega⟩ rfl).trans (flat8_8 x8 k a b _ rfl)
theorem pk8_9 : pk8 x0 x1 x2 x3 x4 x5 x6 x7 x8 x9 z (ix3 k (rw_ 21776 (by omega)) (ln_ 21776)) = x9 (ix2 k (0 : Fin 1)) := by
  unfold pk8
  rw [rows8_at _ _ _ _ _ ⟨21776, by omega⟩ (by dsimp only)]
  exact cat8_9 _ _ _ _ _ _ _ _ _ _ _ _ 0 rfl
end

/-! ## Taken out again -/

section
variable (x : FVec Ideal S176x128 .f32)

def un0 : FVec Ideal S1024 .f32 := extractStridedSlice S1024 ![0] (shapeCast S22528 x shapeCasts_S176x128_S22528) slices_S22528_S1024_0
theorem un0_at (b : Fin 1024) : un0 x (ix1 b) = x (ix2 (rw_ b.val (by omega)) (ln_ b.val)) := by
  pointwise [un0]
def un1 : FVec Ideal S2x6144 .f32 := shapeCast S2x6144 (extractStridedSlice S12288 ![1024] (shapeCast S22528 x shapeCasts_S176x128_S22528) slices_S22528_S12288_1024) shapeCasts_S12288_S2x6144
theorem un1_at (a : Fin 2) (b : Fin 6144) : un1 x (ix2 a b) = x (ix2 (rw_ (1024 + (a.val * 6144 + b.val)) (by omega)) (ln_ (1024 + (a.val * 6144 + b.val)))) := by
  pointwise [un1]
def un2 : FVec Ideal S2x1024 .f32 := shapeCast S2x1024 (extractStridedSlice S2048 ![13312] (shapeCast S22528 x shapeCasts_S176x128_S22528) slices_S22528_S2048_13312) shapeCasts_S2048_S2x1024
theorem un2_at (a : Fin 2) (b : Fin 1024) : un2 x (ix2 a b) = x (ix2 (rw_ (13312 + (a.val * 1024 + b.val)) (by omega)) (ln_ (13312 + (a.val * 1024 + b.val)))) := by
  pointwise [un2]
def un3 : FVec Ideal S2x1024 .f32 := shapeCast S2x1024 (extractStridedSlice S2048 ![15360] (shapeCast S22528 x shapeCasts_S176x128_S22528) slices_S22528_S2048_15360) shapeCasts_S2048_S2x1024
theorem un3_at (a : Fin 2) (b : Fin 1024) : un3 x (ix2 a b) = x (ix2 (rw_ (15360 + (a.val * 1024 + b.val)) (by omega)) (ln_ (15360 + (a.val * 1024 + b.val)))) := by
  pointwise [un3]
def un4 : FVec Ideal S2x1024 .f32 := shapeCast S2x1024 (extractStridedSlice S2048 ![17408] (shapeCast S22528 x shapeCasts_S176x128_S22528) slices_S22528_S2048_17408) shapeCasts_S2048_S2x1024
theorem un4_at (a : Fin 2) (b : Fin 1024) : un4 x (ix2 a b) = x (ix2 (rw_ (17408 + (a.val * 1024 + b.val)) (by omega)) (ln_ (17408 + (a.val * 1024 + b.val)))) := by
  pointwise [un4]
def un5 : FVec Ideal S2x1024 .f32 := shapeCast S2x1024 (extractStridedSlice S2048 ![19456] (shapeCast S22528 x shapeCasts_S176x128_S22528) slices_S22528_S2048_19456) shapeCasts_S2048_S2x1024
theorem un5_at (a : Fin 2) (b : Fin 1024) : un5 x (ix2 a b) = x (ix2 (rw_ (19456 + (a.val * 1024 + b.val)) (by omega)) (ln_ (19456 + (a.val * 1024 + b.val)))) := by
  pointwise [un5]
def un6 : FVec Ideal S2x64 .f32 := shapeCast S2x64 (extractStridedSlice S128 ![21504] (shapeCast S22528 x shapeCasts_S176x128_S22528) slices_S22528_S128_21504) shapeCasts_S128_S2x64
theorem un6_at (a : Fin 2) (b : Fin 64) : un6 x (ix2 a b) = x (ix2 (rw_ (21504 + (a.val * 64 + b.val)) (by omega)) (ln_ (21504 + (a.val * 64 + b.val)))) := by
  pointwise [un6]
def un7 : FVec Ideal S2x64 .f32 := shapeCast S2x64 (extractStridedSlice S128 ![21632] (shapeCast S22528 x shapeCasts_S176x128_S22528) slices_S22528_S128_21632) shapeCasts_S128_S2x64
theorem un7_at (a : Fin 2) (b : Fin 64) : un7 x (ix2 a b) = x (ix2 (rw_ (21632 + (a.val * 64 + b.val)) (by omega)) (ln_ (21632 + (a.val * 64 + b.val)))) := by
  pointwise [un7]
def un8 : FVec Ideal S2x8 .f32 := shapeCast S2x8 (extractStridedSlice S16 ![21760] (shapeCast S22528 x shapeCasts_S176x128_S22528) slices_S22528_S16_21760) shapeCasts_S16_S2x8
theorem un8_at (a : Fin 2) (b : Fin 8) : un8 x (ix2 a b) = x (ix2 (rw_ (21760 + (a.val * 8 + b.val)) (by omega)) (ln_ (21760 + (a.val * 8 + b.val)))) := by
  pointwise [un8]
def un9 : FVec Ideal S_ .f32 := shapeCast S_ (extractStridedSlice S1 ![21776] (shapeCast S22528 x shapeCasts_S176x128_S22528) slices_S22528_S1_21776) shapeCasts_S1_S_
theorem un9_at (i : Shape.Idx S_) : un9 x i = x (ix2 (rw_ 21776 (by omega)) (ln_ 21776)) := by
  pointwise [un9]
  rfl
end

end Cert.Kernel9Ideal.Value
-- ==== Proof.Entry.lean ====
/- The small weights' arrays as the call receives them. -/
module

public import proofs.«01_k».proof.Proof.Gen.Kernel9Ideal.Frame
public import proofs.«01_k».proof.Proof.Pack

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ) (c : Dev nD)

/-- The number in the loss's place, and the one that fills the end. -/
def z1 : FVec Ideal S1 .f32 := broadcastInDim S1 ![] bcast_S_S1 (constant (F := Ideal) S_ .f32 0x00000000#32)
def zp : FVec Ideal S_ .f32 := sitofp .f32 (constantI S_ 32 0#32)

abbrev a0 : FVec Ideal S1024 .f32 := m ((c.tc : Thread nD τ).loc main_arg0)
abbrev a1 : FVec Ideal S2x6144 .f32 := m ((c.tc : Thread nD τ).loc main_arg1)
abbrev a2 : FVec Ideal S2x1024 .f32 := m ((c.tc : Thread nD τ).loc main_arg2)
abbrev a3 : FVec Ideal S2x1024 .f32 := m ((c.tc : Thread nD τ).loc main_arg3)
abbrev a4 : FVec Ideal S2x1024 .f32 := m ((c.tc : Thread nD τ).loc main_arg4)
abbrev a5 : FVec Ideal S2x1024 .f32 := m ((c.tc : Thread nD τ).loc main_arg5)
abbrev a6 : FVec Ideal S2x64 .f32 := m ((c.tc : Thread nD τ).loc main_arg6)
abbrev a7 : FVec Ideal S2x64 .f32 := m ((c.tc : Thread nD τ).loc main_arg7)
abbrev a8 : FVec Ideal S2x8 .f32 := m ((c.tc : Thread nD τ).loc main_arg8)
abbrev a9 : FVec Ideal S1024 .f32 := m ((c.tc : Thread nD τ).loc main_arg9)
abbrev a10 : FVec Ideal S2x6144 .f32 := m ((c.tc : Thread nD τ).loc main_arg10)
abbrev a11 : FVec Ideal S2x1024 .f32 := m ((c.tc : Thread nD τ).loc main_arg11)
abbrev a12 : FVec Ideal S2x1024 .f32 := m ((c.tc : Thread nD τ).loc main_arg12)
abbrev a13 : FVec Ideal S2x1024 .f32 := m ((c.tc : Thread nD τ).loc main_arg13)
abbrev a14 : FVec Ideal S2x1024 .f32 := m ((c.tc : Thread nD τ).loc main_arg14)
abbrev a15 : FVec Ideal S2x64 .f32 := m ((c.tc : Thread nD τ).loc main_arg15)
abbrev a16 : FVec Ideal S2x64 .f32 := m ((c.tc : Thread nD τ).loc main_arg16)
abbrev a17 : FVec Ideal S2x8 .f32 := m ((c.tc : Thread nD τ).loc main_arg17)
abbrev a18 : FVec Ideal S1024 .f32 := m ((c.tc : Thread nD τ).loc main_arg18)
abbrev a19 : FVec Ideal S2x6144 .f32 := m ((c.tc : Thread nD τ).loc main_arg19)
abbrev a20 : FVec Ideal S2x1024 .f32 := m ((c.tc : Thread nD τ).loc main_arg20)
abbrev a21 : FVec Ideal S2x1024 .f32 := m ((c.tc : Thread nD τ).loc main_arg21)
abbrev a22 : FVec Ideal S2x1024 .f32 := m ((c.tc : Thread nD τ).loc main_arg22)
abbrev a23 : FVec Ideal S2x1024 .f32 := m ((c.tc : Thread nD τ).loc main_arg23)
abbrev a24 : FVec Ideal S2x64 .f32 := m ((c.tc : Thread nD τ).loc main_arg24)
abbrev a25 : FVec Ideal S2x64 .f32 := m ((c.tc : Thread nD τ).loc main_arg25)
abbrev a26 : FVec Ideal S2x8 .f32 := m ((c.tc : Thread nD τ).loc main_arg26)
abbrev a27 : FVec Ideal S8x1024 .f32 := m ((c.tc : Thread nD τ).loc main_arg27)
abbrev a28 : FVec Ideal S8x2x6144 .f32 := m ((c.tc : Thread nD τ).loc main_arg28)
abbrev a29 : FVec Ideal S8x2x1024 .f32 := m ((c.tc : Thread nD τ).loc main_arg29)
abbrev a30 : FVec Ideal S8x2x1024 .f32 := m ((c.tc : Thread nD τ).loc main_arg30)
abbrev a31 : FVec Ideal S8x2x1024 .f32 := m ((c.tc : Thread nD τ).loc main_arg31)
abbrev a32 : FVec Ideal S8x2x1024 .f32 := m ((c.tc : Thread nD τ).loc main_arg32)
abbrev a33 : FVec Ideal S8x2x64 .f32 := m ((c.tc : Thread nD τ).loc main_arg33)
abbrev a34 : FVec Ideal S8x2x64 .f32 := m ((c.tc : Thread nD τ).loc main_arg34)
abbrev a35 : FVec Ideal S8x2x8 .f32 := m ((c.tc : Thread nD τ).loc main_arg35)
abbrev a36 : FVec Ideal S8x1 .f32 := m ((c.tc : Thread nD τ).loc main_arg36)

abbrev W : FVec Ideal S176x128 .f32 := pk (a0 m c) (a1 m c) (a2 m c) (a3 m c) (a4 m c) (a5 m c) (a6 m c) (a7 m c) (a8 m c) z1 zp
abbrev M : FVec Ideal S176x128 .f32 := pk (a9 m c) (a10 m c) (a11 m c) (a12 m c) (a13 m c) (a14 m c) (a15 m c) (a16 m c) (a17 m c) z1 zp
abbrev U : FVec Ideal S176x128 .f32 := pk (a18 m c) (a19 m c) (a20 m c) (a21 m c) (a22 m c) (a23 m c) (a24 m c) (a25 m c) (a26 m c) z1 zp
abbrev G : FVec Ideal S8x176x128 .f32 := pk8 (a27 m c) (a28 m c) (a29 m c) (a30 m c) (a31 m c) (a32 m c) (a33 m c) (a34 m c) (a35 m c) (a36 m c) zp

theorem in0 : V m c main_v22 = W m c := by
  show StableHlo.after (List.flatten [hostOps0, hostOps0_1, hostOps0_2, hostOps0_3, hostOps0_4, hostOps0_5, hostOps0_6, hostOps0_7, hostOps0_8]) (fun b => m (c, b)) (Proc.devRef .tc main_v22) = _
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl
theorem in1 : V m c main_v33 = M m c := by
  show StableHlo.after (List.flatten [hostOps0, hostOps0_1, hostOps0_2, hostOps0_3, hostOps0_4, hostOps0_5, hostOps0_6, hostOps0_7, hostOps0_8]) (fun b => m (c, b)) (Proc.devRef .tc main_v33) = _
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl
theorem in2 : V m c main_v44 = U m c := by
  show StableHlo.after (List.flatten [hostOps0, hostOps0_1, hostOps0_2, hostOps0_3, hostOps0_4, hostOps0_5, hostOps0_6, hostOps0_7, hostOps0_8]) (fun b => m (c, b)) (Proc.devRef .tc main_v44) = _
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl
theorem in3 : V m c main_v11 = G m c := by
  show StableHlo.after (List.flatten [hostOps0, hostOps0_1, hostOps0_2, hostOps0_3, hostOps0_4, hostOps0_5, hostOps0_6, hostOps0_7, hostOps0_8]) (fun b => m (c, b)) (Proc.devRef .tc main_v11) = _
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl

end Cert.Kernel9Ideal.Value

end
-- ==== Proof.Small.lean ====
/- The optimiser's last call: one step on the nine small weights together, from the eight parts of their gradients. -/
module

public import proofs.«01_k».proof.Proof.Gen.Kernel9Ideal.Frame
public import proofs.«01_k».proof.Proof.Entry
public import proofs.«01_k».proof.Proof.Opt0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

open Cert.Kernel5Ideal.Value (nm nv dl)

/-! ## The payloads over variables -/

section pay
variable (s0 s1 s2 s3 s4 s5 s6 s7 : FVec Ideal S1x176x128 .f32) (g w m v : FVec Ideal S176x128 .f32) (p : Fin 176) (q : Fin 128)

theorem pay4 : (k0_pay4 (F := Ideal) s0 s1 s2 s3 s4 s5 s6 s7 (ix2 p q) : EReal)
    = (s0 (ix3 (0 : Fin 1) p q) : EReal) + s1 (ix3 (0 : Fin 1) p q) + s2 (ix3 (0 : Fin 1) p q) + s3 (ix3 (0 : Fin 1) p q)
      + s4 (ix3 (0 : Fin 1) p q) + s5 (ix3 (0 : Fin 1) p q) + s6 (ix3 (0 : Fin 1) p q) + s7 (ix3 (0 : Fin 1) p q) := by
  pointwise [k0_pay4]
theorem pay5 : k0_pay5 w (ix2 p q) = w (ix2 p q) := by pointwise [k0_pay5]
theorem pay6 : k0_pay6 w (ix2 p q) = w (ix2 p q) := by pointwise [k0_pay6]
theorem pay7 : k0_pay7 w (ix2 p q) = w (ix2 p q) := by pointwise [k0_pay7]
theorem pay1 : (k0_pay1 (F := Ideal) g m (Scalar.ofBits .f32 0x3F666666#32) (ix2 p q) : EReal) = nm (g (ix2 p q)) (m (ix2 p q)) := by
  pointwise [k0_pay1, nm]
theorem pay2 : (k0_pay2 (F := Ideal) g v (ix2 p q) : EReal) = nv (g (ix2 p q)) (v (ix2 p q)) := by
  pointwise [k0_pay2, nv]
theorem pay3 : (k0_pay3 (F := Ideal) g w m v (Scalar.ofBits .f32 0x3F666666#32) (ix2 p q) : EReal)
    = dl (g (ix2 p q)) (w (ix2 p q)) (m (ix2 p q)) (v (ix2 p q)) := by
  have h1 := pay1 g m p q
  have h2 := pay2 g v p q
  unfold k0_pay3
  generalize k0_pay1 (F := Ideal) g m (Scalar.ofBits .f32 0x3F666666#32) = M at h1 ⊢
  generalize k0_pay2 (F := Ideal) g v = N at h2 ⊢
  unfold dl
  rw [← h1, ← h2]
  pointwise []
end pay

variable (m : (ℓ : Loc nD τ sig) → Buf (Elt Ideal) ℓ) (c : Dev nD)

/-! ## The blocks -/

theorem idx0 : ∀ t : Fin cfg0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, _)

theorem b0 (t : Fin cfg0.N) (p : Fin 176) (q : Fin 128) : (iblk m c 0 t : FVec Ideal S176x128 .f32) (ix2 p q) = W m c (ix2 p q) := by
  refine Eq.trans ?_ (congrFun (in0 m c) _)
  blk_point [iblk, idx0 t]
theorem b1 (t : Fin cfg0.N) (p : Fin 176) (q : Fin 128) : (iblk m c 1 t : FVec Ideal S176x128 .f32) (ix2 p q) = M m c (ix2 p q) := by
  refine Eq.trans ?_ (congrFun (in1 m c) _)
  blk_point [iblk, idx0 t]
theorem b2 (t : Fin cfg0.N) (p : Fin 176) (q : Fin 128) : (iblk m c 2 t : FVec Ideal S176x128 .f32) (ix2 p q) = U m c (ix2 p q) := by
  refine Eq.trans ?_ (congrFun (in2 m c) _)
  blk_point [iblk, idx0 t]
theorem b3 (t : Fin cfg0.N) (k : Fin 8) (p : Fin 176) (q : Fin 128) : (iblk m c 3 t : FVec Ideal S8x176x128 .f32) (ix3 k p q) = G m c (ix3 k p q) := by
  refine Eq.trans ?_ (congrFun (in3 m c) _)
  blk_point [iblk, idx0 t]

/-- One part of the eight, loaded alone. -/
theorem part (x : FVec Ideal S8x176x128 .f32) (k : ℕ) (hk : k < 8) (inb : ∀ a, (![k, 0, 0] : Fin 3 → ℕ) a + (![1, 176, 128] : Fin 3 → ℕ) a ≤ S8x176x128.size a)
    (p : Fin 176) (q : Fin 128) : (View.ld (Val := Elt Ideal) (e' := .f32) (S := S8x176x128) x (Rect.unit ![k, 0, 0] ![1, 176, 128] inb) : FVec Ideal S1x176x128 .f32) (ix3 (0 : Fin 1) p q) = x (ix3 (⟨k, hk⟩ : Fin 8) p q) :=
  congrArg x (funext fun a => Fin.ext (by fin_cases a <;> simp [Rect.unit, ix3]))

/-- The eight parts summed. -/
theorem eight (x : FVec Ideal S8x176x128 .f32) (p : Fin 176) (q : Fin 128) :
    (k0_pay4 (F := Ideal) (View.ld (Val := Elt Ideal) (e' := .f32) (S := S8x176x128) x (Rect.unit ![0, 0, 0] ![1, 176, 128] inb_S8x176x128_S1x176x128_0_0_0)) (View.ld (Val := Elt Ideal) (e' := .f32) (S := S8x176x128) x (Rect.unit ![1, 0, 0] ![1, 176, 128] inb_S8x176x128_S1x176x128_1_0_0)) (View.ld (Val := Elt Ideal) (e' := .f32) (S := S8x176x128) x (Rect.unit ![2, 0, 0] ![1, 176, 128] inb_S8x176x128_S1x176x128_2_0_0)) (View.ld (Val := Elt Ideal) (e' := .f32) (S := S8x176x128) x (Rect.unit ![3, 0, 0] ![1, 176, 128] inb_S8x176x128_S1x176x128_3_0_0)) (View.ld (Val := Elt Ideal) (e' := .f32) (S := S8x176x128) x (Rect.unit ![4, 0, 0] ![1, 176, 128] inb_S8x176x128_S1x176x128_4_0_0)) (View.ld (Val := Elt Ideal) (e' := .f32) (S := S8x176x128) x (Rect.unit ![5, 0, 0] ![1, 176, 128] inb_S8x176x128_S1x176x128_5_0_0)) (View.ld (Val := Elt Ideal) (e' := .f32) (S := S8x176x128) x (Rect.unit ![6, 0, 0] ![1, 176, 128] inb_S8x176x128_S1x176x128_6_0_0)) (View.ld (Val := Elt Ideal) (e' := .f32) (S := S8x176x128) x (Rect.unit ![7, 0, 0] ![1, 176, 128] inb_S8x176x128_S1x176x128_7_0_0)) (ix2 p q) : EReal) = ∑ k : Fin 8, (x (ix3 k p q) : EReal) := by
  rw [pay4, Fin.sum_univ_eight]
  simp only [part x 0 (by decide), part x 1 (by decide), part x 2 (by decide), part x 3 (by decide), part x 4 (by decide), part x 5 (by decide), part x 6 (by decide), part x 7 (by decide)]
  rfl

/-- The total at one place. -/
def tt (p : Fin 176) (q : Fin 128) : EReal := ∑ k : Fin 8, (G m c (ix3 k p q) : EReal)

theorem tot8 (t : Fin cfg0.N) (p : Fin 176) (q : Fin 128) : (k0_pay8 (F := Ideal) (iblk m c 0 t) (iblk m c 1 t) (iblk m c 2 t) (iblk m c 3 t) (ix2 p q) : EReal) = tt m c p q := by
  refine (eight (iblk m c 3 t) p q).trans ?_
  unfold tt
  simp only [b3 m c t]

theorem final4 : (dats m 0 c).arrAt 4 cfg0.N = fun i : S176x128.Idx => (fun p q => tt m c p q) (i 0) (i 1) := by
  refine (dats m 0 c).arrAt_eq_of_covers 4 _ (by decide +kernel) fun t _ y => ?_
  blk_simp
  rw [after0_4]; unfold out0_4; frame_out
  idx_vars y
  refine Eq.trans (b := (fun p q => tt m c p q) y0 y1) ?_ (congrArg₂ (fun p q => tt m c p q) (Fin.ext ?_) (Fin.ext ?_))
  · exact tot8 m c t _ _
  · blk_simp [idx0 t]
  · blk_simp [idx0 t]
theorem final5 : (dats m 0 c).arrAt 5 cfg0.N = fun i : S176x128.Idx => (fun p q => dl (tt m c p q) (W m c (ix2 p q)) (M m c (ix2 p q)) (U m c (ix2 p q))) (i 0) (i 1) := by
  refine (dats m 0 c).arrAt_eq_of_covers 5 _ (by decide +kernel) fun t _ y => ?_
  blk_simp
  rw [after0_5]; unfold out0_5 k0_pay9 k0_pay10; frame_out
  idx_vars y
  refine Eq.trans (b := (fun p q => dl (tt m c p q) (W m c (ix2 p q)) (M m c (ix2 p q)) (U m c (ix2 p q))) y0 y1) ?_ (congrArg₂ (fun p q => dl (tt m c p q) (W m c (ix2 p q)) (M m c (ix2 p q)) (U m c (ix2 p q))) (Fin.ext ?_) (Fin.ext ?_))
  · rw [pay3, pay5, pay6, pay7, tot8, b0, b1, b2]
  · blk_simp [idx0 t]
  · blk_simp [idx0 t]
theorem final6 : (dats m 0 c).arrAt 6 cfg0.N = fun i : S176x128.Idx => (fun p q => nm (tt m c p q) (M m c (ix2 p q))) (i 0) (i 1) := by
  refine (dats m 0 c).arrAt_eq_of_covers 6 _ (by decide +kernel) fun t _ y => ?_
  blk_simp
  rw [after0_6]; unfold out0_6 k0_pay9; frame_out
  idx_vars y
  refine Eq.trans (b := (fun p q => nm (tt m c p q) (M m c (ix2 p q))) y0 y1) ?_ (congrArg₂ (fun p q => nm (tt m c p q) (M m c (ix2 p q))) (Fin.ext ?_) (Fin.ext ?_))
  · rw [pay1, pay6, tot8, b1]
  · blk_simp [idx0 t]
  · blk_simp [idx0 t]
theorem final7 : (dats m 0 c).arrAt 7 cfg0.N = fun i : S176x128.Idx => (fun p q => nv (tt m c p q) (U m c (ix2 p q))) (i 0) (i 1) := by
  refine (dats m 0 c).arrAt_eq_of_covers 7 _ (by decide +kernel) fun t _ y => ?_
  blk_simp
  rw [after0_7]; unfold out0_7 k0_pay10; frame_out
  idx_vars y
  refine Eq.trans (b := (fun p q => nv (tt m c p q) (U m c (ix2 p q))) y0 y1) ?_ (congrArg₂ (fun p q => nv (tt m c p q) (U m c (ix2 p q))) (Fin.ext ?_) (Fin.ext ?_))
  · rw [pay2, pay7, tot8, b2]
  · blk_simp [idx0 t]
  · blk_simp [idx0 t]

end Cert.Kernel9Ideal.Value

end
-- ==== Proof.Tail.lean ====
/- The small weights' results taken out of the call's four arrays. -/
module

public import proofs.«01_k».proof.Proof.Gen.Kernel9Ideal.Frame
public import proofs.«01_k».proof.Proof.Pack

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

section
variable (A : Valuation τ sig (Elt Ideal))

/-- The loss from the number at the loss's place. -/
def half (x : FVec Ideal S_ .f32) : FVec Ideal S_ .f32 :=
  Host.divf (mulf (constant S_ .f32 0x3F000000#32) x) (constant S_ .f32 0x44800000#32)

theorem u0_0 : StableHlo.after hostOps1 A (Proc.devRef .tc main_v47) = un0 (A (Proc.devRef .tc main_v45_0)) := by
  after_results
  rfl
theorem u0_1 : StableHlo.after hostOps1 A (Proc.devRef .tc main_v49) = un1 (A (Proc.devRef .tc main_v45_0)) := by
  after_results
  rfl
theorem u0_2 : StableHlo.after hostOps1 A (Proc.devRef .tc main_v51) = un2 (A (Proc.devRef .tc main_v45_0)) := by
  after_results
  rfl
theorem u0_3 : StableHlo.after hostOps1 A (Proc.devRef .tc main_v53) = un3 (A (Proc.devRef .tc main_v45_0)) := by
  after_results
  rfl
theorem u0_4 : StableHlo.after hostOps1 A (Proc.devRef .tc main_v55) = un4 (A (Proc.devRef .tc main_v45_0)) := by
  after_results
  rfl
theorem u0_5 : StableHlo.after hostOps1 A (Proc.devRef .tc main_v57) = un5 (A (Proc.devRef .tc main_v45_0)) := by
  after_results
  rfl
theorem u0_6 : StableHlo.after hostOps1 A (Proc.devRef .tc main_v59) = un6 (A (Proc.devRef .tc main_v45_0)) := by
  after_results
  rfl
theorem u0_7 : StableHlo.after hostOps1 A (Proc.devRef .tc main_v61) = un7 (A (Proc.devRef .tc main_v45_0)) := by
  after_results
  rfl
theorem u0_8 : StableHlo.after hostOps1 A (Proc.devRef .tc main_v63) = un8 (A (Proc.devRef .tc main_v45_0)) := by
  after_results
  rfl
theorem u1_0 : StableHlo.after hostOps1 A (Proc.devRef .tc main_v66) = un0 (A (Proc.devRef .tc main_v45_1)) := by
  after_results
  rfl
theorem u1_1 : StableHlo.after hostOps1 A (Proc.devRef .tc main_v68) = un1 (A (Proc.devRef .tc main_v45_1)) := by
  after_results
  rfl
theorem u1_2 : StableHlo.after hostOps1 A (Proc.devRef .tc main_v70) = un2 (A (Proc.devRef .tc main_v45_1)) := by
  after_results
  rfl
theorem u1_3 : StableHlo.after hostOps1 A (Proc.devRef .tc main_v72) = un3 (A (Proc.devRef .tc main_v45_1)) := by
  after_results
  rfl
theorem u1_4 : StableHlo.after hostOps1 A (Proc.devRef .tc main_v74) = un4 (A (Proc.devRef .tc main_v45_1)) := by
  after_results
  rfl
theorem u1_5 : StableHlo.after hostOps1 A (Proc.devRef .tc main_v76) = un5 (A (Proc.devRef .tc main_v45_1)) := by
  after_results
  rfl
theorem u1_6 : StableHlo.after hostOps1 A (Proc.devRef .tc main_v78) = un6 (A (Proc.devRef .tc main_v45_1)) := by
  after_results
  rfl
theorem u1_7 : StableHlo.after hostOps1 A (Proc.devRef .tc main_v80) = un7 (A (Proc.devRef .tc main_v45_1)) := by
  after_results
  rfl
theorem u1_8 : StableHlo.after hostOps1 A (Proc.devRef .tc main_v82) = un8 (A (Proc.devRef .tc main_v45_1)) := by
  after_results
  rfl
theorem u2_0 : StableHlo.after hostOps1 A (Proc.devRef .tc main_v85) = un0 (A (Proc.devRef .tc main_v45_2)) := by
  after_results
  rfl
theorem u2_1 : StableHlo.after hostOps1 A (Proc.devRef .tc main_v87) = un1 (A (Proc.devRef .tc main_v45_2)) := by
  after_results
  rfl
theorem u2_2 : StableHlo.after hostOps1 A (Proc.devRef .tc main_v89) = un2 (A (Proc.devRef .tc main_v45_2)) := by
  after_results
  rfl
theorem u2_3 : StableHlo.after hostOps1 A (Proc.devRef .tc main_v91) = un3 (A (Proc.devRef .tc main_v45_2)) := by
  after_results
  rfl
theorem u2_4 : StableHlo.after hostOps1 A (Proc.devRef .tc main_v93) = un4 (A (Proc.devRef .tc main_v45_2)) := by
  after_results
  rfl
theorem u2_5 : StableHlo.after hostOps1 A (Proc.devRef .tc main_v95) = un5 (A (Proc.devRef .tc main_v45_2)) := by
  after_results
  rfl
theorem u2_6 : StableHlo.after hostOps1 A (Proc.devRef .tc main_v97) = un6 (A (Proc.devRef .tc main_v45_2)) := by
  after_results
  rfl
theorem u2_7 : StableHlo.after hostOps1 A (Proc.devRef .tc main_v99) = un7 (A (Proc.devRef .tc main_v45_2)) := by
  after_results
  rfl
theorem u2_8 : StableHlo.after hostOps1 A (Proc.devRef .tc main_v101) = un8 (A (Proc.devRef .tc main_v45_2)) := by
  after_results
  rfl
theorem u3_0 : StableHlo.after hostOps1 A (Proc.devRef .tc main_v104) = un0 (A (Proc.devRef .tc main_v45_3)) := by
  after_results
  rfl
theorem u3_1 : StableHlo.after hostOps1 A (Proc.devRef .tc main_v106) = un1 (A (Proc.devRef .tc main_v45_3)) := by
  after_results
  rfl
theorem u3_2 : StableHlo.after hostOps1 A (Proc.devRef .tc main_v108) = un2 (A (Proc.devRef .tc main_v45_3)) := by
  after_results
  rfl
theorem u3_3 : StableHlo.after hostOps1 A (Proc.devRef .tc main_v110) = un3 (A (Proc.devRef .tc main_v45_3)) := by
  after_results
  rfl
theorem u3_4 : StableHlo.after hostOps1 A (Proc.devRef .tc main_v112) = un4 (A (Proc.devRef .tc main_v45_3)) := by
  after_results
  rfl
theorem u3_5 : StableHlo.after hostOps1 A (Proc.devRef .tc main_v114) = un5 (A (Proc.devRef .tc main_v45_3)) := by
  after_results
  rfl
theorem u3_6 : StableHlo.after hostOps1 A (Proc.devRef .tc main_v116) = un6 (A (Proc.devRef .tc main_v45_3)) := by
  after_results
  rfl
theorem u3_7 : StableHlo.after hostOps1 A (Proc.devRef .tc main_v118) = un7 (A (Proc.devRef .tc main_v45_3)) := by
  after_results
  rfl
theorem u3_8 : StableHlo.after hostOps1 A (Proc.devRef .tc main_v120) = un8 (A (Proc.devRef .tc main_v45_3)) := by
  after_results
  rfl
theorem u_loss : StableHlo.after hostOps1 A (Proc.devRef .tc main_v124) = half (un9 (A (Proc.devRef .tc main_v45_0))) := by
  after_results
  rfl
end

end Cert.Kernel9Ideal.Value

end
-- ==== Proof.Ref9.lean ====
/- The reference's step on the small weights, read at one entry. -/
module

public import proofs.«01_k».proof.Proof.Gen.Reference9Ideal.Read
public import proofs.«01_k».proof.Proof.Opt0
public import Idealize.ShloMosaic.Lib.Pipeline.ValueKit

@[expose] public section

set_option maxRecDepth 16384

noncomputable section

open Idealize.ShloMosaic Idealize.ShloMosaic.TcCoe Idealize.SL.Sem

namespace Cert.Reference9Ideal.Rows

open Cert.Reference9Ideal Cert.Reference9Ideal.Read
open Cert.Kernel5Ideal.Value (nm nv dl)

section
variable (x0 x9 x18 : FVec Ideal S1024 .f32) (x27 : FVec Ideal S8x1024 .f32) (b : Fin 1024)

theorem g0 : (val_main_v0 (F := Ideal) x27 (ix1 b) : EReal) = ∑ k : Fin 8, (x27 (ix2 k b) : EReal) := by
  pointwise [val_main_v0, val_main_cst]
theorem m0 : (val_main_v5 (F := Ideal) x9 x27 (ix1 b) : EReal) = nm (∑ k : Fin 8, (x27 (ix2 k b) : EReal)) (x9 (ix1 b)) := by
  have h := g0 x27 b
  unfold val_main_v5 val_main_v4
  generalize val_main_v0 (F := Ideal) x27 = T at h ⊢
  rw [← h]
  pointwise [val_main_v1, val_main_v2, val_main_v3, val_main_cst_0, val_main_cst_1, nm]
theorem v0 : (val_main_v11 (F := Ideal) x18 x27 (ix1 b) : EReal) = nv (∑ k : Fin 8, (x27 (ix2 k b) : EReal)) (x18 (ix1 b)) := by
  have h := g0 x27 b
  unfold val_main_v11 val_main_v10 val_main_v8
  generalize val_main_v0 (F := Ideal) x27 = T at h ⊢
  rw [← h]
  pointwise [val_main_v6, val_main_v7, val_main_v9, val_main_cst_2, val_main_cst_3, nv]
theorem d0 : (val_main_v24 (F := Ideal) x0 x9 x18 x27 (ix1 b) : EReal)
    = dl (∑ k : Fin 8, (x27 (ix2 k b) : EReal)) (x0 (ix1 b)) (x9 (ix1 b)) (x18 (ix1 b)) := by
  unfold dl
  rw [← m0, ← v0]
  unfold val_main_v24 val_main_v22 val_main_v19 val_main_v18 val_main_v16 val_main_v15 val_main_v13
  generalize val_main_v5 (F := Ideal) x9 x27 = A
  generalize val_main_v11 (F := Ideal) x18 x27 = B
  pointwise [val_main_v12, val_main_cst_4, val_main_v14, val_main_cst_5, val_main_v17, val_main_cst_6, val_main_v21, val_main_v20, val_main_cst_7, val_main_v23, val_main_cst_8]
end

section
variable (x1 x10 x19 : FVec Ideal S2x6144 .f32) (x28 : FVec Ideal S8x2x6144 .f32) (a : Fin 2) (b : Fin 6144)

theorem g1 : (val_main_v25 (F := Ideal) x28 (ix2 a b) : EReal) = ∑ k : Fin 8, (x28 (ix3 k a b) : EReal) := by
  pointwise [val_main_v25, val_main_cst_9]
theorem m1 : (val_main_v30 (F := Ideal) x10 x28 (ix2 a b) : EReal) = nm (∑ k : Fin 8, (x28 (ix3 k a b) : EReal)) (x10 (ix2 a b)) := by
  have h := g1 x28 a b
  unfold val_main_v30 val_main_v29
  generalize val_main_v25 (F := Ideal) x28 = T at h ⊢
  rw [← h]
  pointwise [val_main_v26, val_main_v27, val_main_v28, val_main_cst_10, val_main_cst_11, nm]
theorem v1 : (val_main_v36 (F := Ideal) x19 x28 (ix2 a b) : EReal) = nv (∑ k : Fin 8, (x28 (ix3 k a b) : EReal)) (x19 (ix2 a b)) := by
  have h := g1 x28 a b
  unfold val_main_v36 val_main_v35 val_main_v33
  generalize val_main_v25 (F := Ideal) x28 = T at h ⊢
  rw [← h]
  pointwise [val_main_v31, val_main_v32, val_main_v34, val_main_cst_12, val_main_cst_13, nv]
theorem d1 : (val_main_v49 (F := Ideal) x1 x10 x19 x28 (ix2 a b) : EReal)
    = dl (∑ k : Fin 8, (x28 (ix3 k a b) : EReal)) (x1 (ix2 a b)) (x10 (ix2 a b)) (x19 (ix2 a b)) := by
  unfold dl
  rw [← m1, ← v1]
  unfold val_main_v49 val_main_v47 val_main_v44 val_main_v43 val_main_v41 val_main_v40 val_main_v38
  generalize val_main_v30 (F := Ideal) x10 x28 = A
  generalize val_main_v36 (F := Ideal) x19 x28 = B
  pointwise [val_main_v37, val_main_cst_14, val_main_v39, val_main_cst_15, val_main_v42, val_main_cst_16, val_main_v46, val_main_v45, val_main_cst_17, val_main_v48, val_main_cst_18]
end

section
variable (x2 x11 x20 : FVec Ideal S2x1024 .f32) (x29 : FVec Ideal S8x2x1024 .f32) (a : Fin 2) (b : Fin 1024)

theorem g2 : (val_main_v50 (F := Ideal) x29 (ix2 a b) : EReal) = ∑ k : Fin 8, (x29 (ix3 k a b) : EReal) := by
  pointwise [val_main_v50, val_main_cst_19]
theorem m2 : (val_main_v55 (F := Ideal) x11 x29 (ix2 a b) : EReal) = nm (∑ k : Fin 8, (x29 (ix3 k a b) : EReal)) (x11 (ix2 a b)) := by
  have h := g2 x29 a b
  unfold val_main_v55 val_main_v54
  generalize val_main_v50 (F := Ideal) x29 = T at h ⊢
  rw [← h]
  pointwise [val_main_v51, val_main_v52, val_main_v53, val_main_cst_20, val_main_cst_21, nm]
theorem v2 : (val_main_v61 (F := Ideal) x20 x29 (ix2 a b) : EReal) = nv (∑ k : Fin 8, (x29 (ix3 k a b) : EReal)) (x20 (ix2 a b)) := by
  have h := g2 x29 a b
  unfold val_main_v61 val_main_v60 val_main_v58
  generalize val_main_v50 (F := Ideal) x29 = T at h ⊢
  rw [← h]
  pointwise [val_main_v56, val_main_v57, val_main_v59, val_main_cst_22, val_main_cst_23, nv]
theorem d2 : (val_main_v74 (F := Ideal) x2 x11 x20 x29 (ix2 a b) : EReal)
    = dl (∑ k : Fin 8, (x29 (ix3 k a b) : EReal)) (x2 (ix2 a b)) (x11 (ix2 a b)) (x20 (ix2 a b)) := by
  unfold dl
  rw [← m2, ← v2]
  unfold val_main_v74 val_main_v72 val_main_v69 val_main_v68 val_main_v66 val_main_v65 val_main_v63
  generalize val_main_v55 (F := Ideal) x11 x29 = A
  generalize val_main_v61 (F := Ideal) x20 x29 = B
  pointwise [val_main_v62, val_main_cst_24, val_main_v64, val_main_cst_25, val_main_v67, val_main_cst_26, val_main_v71, val_main_v70, val_main_cst_27, val_main_v73, val_main_cst_28]
end

section
variable (x3 x12 x21 : FVec Ideal S2x1024 .f32) (x30 : FVec Ideal S8x2x1024 .f32) (a : Fin 2) (b : Fin 1024)

theorem g3 : (val_main_v75 (F := Ideal) x30 (ix2 a b) : EReal) = ∑ k : Fin 8, (x30 (ix3 k a b) : EReal) := by
  pointwise [val_main_v75, val_main_cst_29]
theorem m3 : (val_main_v80 (F := Ideal) x12 x30 (ix2 a b) : EReal) = nm (∑ k : Fin 8, (x30 (ix3 k a b) : EReal)) (x12 (ix2 a b)) := by
  have h := g3 x30 a b
  unfold val_main_v80 val_main_v79
  generalize val_main_v75 (F := Ideal) x30 = T at h ⊢
  rw [← h]
  pointwise [val_main_v76, val_main_v77, val_main_v78, val_main_cst_30, val_main_cst_31, nm]
theorem v3 : (val_main_v86 (F := Ideal) x21 x30 (ix2 a b) : EReal) = nv (∑ k : Fin 8, (x30 (ix3 k a b) : EReal)) (x21 (ix2 a b)) := by
  have h := g3 x30 a b
  unfold val_main_v86 val_main_v85 val_main_v83
  generalize val_main_v75 (F := Ideal) x30 = T at h ⊢
  rw [← h]
  pointwise [val_main_v81, val_main_v82, val_main_v84, val_main_cst_32, val_main_cst_33, nv]
theorem d3 : (val_main_v99 (F := Ideal) x3 x12 x21 x30 (ix2 a b) : EReal)
    = dl (∑ k : Fin 8, (x30 (ix3 k a b) : EReal)) (x3 (ix2 a b)) (x12 (ix2 a b)) (x21 (ix2 a b)) := by
  unfold dl
  rw [← m3, ← v3]
  unfold val_main_v99 val_main_v97 val_main_v94 val_main_v93 val_main_v91 val_main_v90 val_main_v88
  generalize val_main_v80 (F := Ideal) x12 x30 = A
  generalize val_main_v86 (F := Ideal) x21 x30 = B
  pointwise [val_main_v87, val_main_cst_34, val_main_v89, val_main_cst_35, val_main_v92, val_main_cst_36, val_main_v96, val_main_v95, val_main_cst_37, val_main_v98, val_main_cst_38]
end

section
variable (x4 x13 x22 : FVec Ideal S2x1024 .f32) (x31 : FVec Ideal S8x2x1024 .f32) (a : Fin 2) (b : Fin 1024)

theorem g4 : (val_main_v100 (F := Ideal) x31 (ix2 a b) : EReal) = ∑ k : Fin 8, (x31 (ix3 k a b) : EReal) := by
  pointwise [val_main_v100, val_main_cst_39]
theorem m4 : (val_main_v105 (F := Ideal) x13 x31 (ix2 a b) : EReal) = nm (∑ k : Fin 8, (x31 (ix3 k a b) : EReal)) (x13 (ix2 a b)) := by
  have h := g4 x31 a b
  unfold val_main_v105 val_main_v104
  generalize val_main_v100 (F := Ideal) x31 = T at h ⊢
  rw [← h]
  pointwise [val_main_v101, val_main_v102, val_main_v103, val_main_cst_40, val_main_cst_41, nm]
theorem v4 : (val_main_v111 (F := Ideal) x22 x31 (ix2 a b) : EReal) = nv (∑ k : Fin 8, (x31 (ix3 k a b) : EReal)) (x22 (ix2 a b)) := by
  have h := g4 x31 a b
  unfold val_main_v111 val_main_v110 val_main_v108
  generalize val_main_v100 (F := Ideal) x31 = T at h ⊢
  rw [← h]
  pointwise [val_main_v106, val_main_v107, val_main_v109, val_main_cst_42, val_main_cst_43, nv]
theorem d4 : (val_main_v124 (F := Ideal) x4 x13 x22 x31 (ix2 a b) : EReal)
    = dl (∑ k : Fin 8, (x31 (ix3 k a b) : EReal)) (x4 (ix2 a b)) (x13 (ix2 a b)) (x22 (ix2 a b)) := by
  unfold dl
  rw [← m4, ← v4]
  unfold val_main_v124 val_main_v122 val_main_v119 val_main_v118 val_main_v116 val_main_v115 val_main_v113
  generalize val_main_v105 (F := Ideal) x13 x31 = A
  generalize val_main_v111 (F := Ideal) x22 x31 = B
  pointwise [val_main_v112, val_main_cst_44, val_main_v114, val_main_cst_45, val_main_v117, val_main_cst_46, val_main_v121, val_main_v120, val_main_cst_47, val_main_v123, val_main_cst_48]
end

section
variable (x5 x14 x23 : FVec Ideal S2x1024 .f32) (x32 : FVec Ideal S8x2x1024 .f32) (a : Fin 2) (b : Fin 1024)

theorem g5 : (val_main_v125 (F := Ideal) x32 (ix2 a b) : EReal) = ∑ k : Fin 8, (x32 (ix3 k a b) : EReal) := by
  pointwise [val_main_v125, val_main_cst_49]
theorem m5 : (val_main_v130 (F := Ideal) x14 x32 (ix2 a b) : EReal) = nm (∑ k : Fin 8, (x32 (ix3 k a b) : EReal)) (x14 (ix2 a b)) := by
  have h := g5 x32 a b
  unfold val_main_v130 val_main_v129
  generalize val_main_v125 (F := Ideal) x32 = T at h ⊢
  rw [← h]
  pointwise [val_main_v126, val_main_v127, val_main_v128, val_main_cst_50, val_main_cst_51, nm]
theorem v5 : (val_main_v136 (F := Ideal) x23 x32 (ix2 a b) : EReal) = nv (∑ k : Fin 8, (x32 (ix3 k a b) : EReal)) (x23 (ix2 a b)) := by
  have h := g5 x32 a b
  unfold val_main_v136 val_main_v135 val_main_v133
  generalize val_main_v125 (F := Ideal) x32 = T at h ⊢
  rw [← h]
  pointwise [val_main_v131, val_main_v132, val_main_v134, val_main_cst_52, val_main_cst_53, nv]
theorem d5 : (val_main_v149 (F := Ideal) x5 x14 x23 x32 (ix2 a b) : EReal)
    = dl (∑ k : Fin 8, (x32 (ix3 k a b) : EReal)) (x5 (ix2 a b)) (x14 (ix2 a b)) (x23 (ix2 a b)) := by
  unfold dl
  rw [← m5, ← v5]
  unfold val_main_v149 val_main_v147 val_main_v144 val_main_v143 val_main_v141 val_main_v140 val_main_v138
  generalize val_main_v130 (F := Ideal) x14 x32 = A
  generalize val_main_v136 (F := Ideal) x23 x32 = B
  pointwise [val_main_v137, val_main_cst_54, val_main_v139, val_main_cst_55, val_main_v142, val_main_cst_56, val_main_v146, val_main_v145, val_main_cst_57, val_main_v148, val_main_cst_58]
end

section
variable (x6 x15 x24 : FVec Ideal S2x64 .f32) (x33 : FVec Ideal S8x2x64 .f32) (a : Fin 2) (b : Fin 64)

theorem g6 : (val_main_v150 (F := Ideal) x33 (ix2 a b) : EReal) = ∑ k : Fin 8, (x33 (ix3 k a b) : EReal) := by
  pointwise [val_main_v150, val_main_cst_59]
theorem m6 : (val_main_v155 (F := Ideal) x15 x33 (ix2 a b) : EReal) = nm (∑ k : Fin 8, (x33 (ix3 k a b) : EReal)) (x15 (ix2 a b)) := by
  have h := g6 x33 a b
  unfold val_main_v155 val_main_v154
  generalize val_main_v150 (F := Ideal) x33 = T at h ⊢
  rw [← h]
  pointwise [val_main_v151, val_main_v152, val_main_v153, val_main_cst_60, val_main_cst_61, nm]
theorem v6 : (val_main_v161 (F := Ideal) x24 x33 (ix2 a b) : EReal) = nv (∑ k : Fin 8, (x33 (ix3 k a b) : EReal)) (x24 (ix2 a b)) := by
  have h := g6 x33 a b
  unfold val_main_v161 val_main_v160 val_main_v158
  generalize val_main_v150 (F := Ideal) x33 = T at h ⊢
  rw [← h]
  pointwise [val_main_v156, val_main_v157, val_main_v159, val_main_cst_62, val_main_cst_63, nv]
theorem d6 : (val_main_v174 (F := Ideal) x6 x15 x24 x33 (ix2 a b) : EReal)
    = dl (∑ k : Fin 8, (x33 (ix3 k a b) : EReal)) (x6 (ix2 a b)) (x15 (ix2 a b)) (x24 (ix2 a b)) := by
  unfold dl
  rw [← m6, ← v6]
  unfold val_main_v174 val_main_v172 val_main_v169 val_main_v168 val_main_v166 val_main_v165 val_main_v163
  generalize val_main_v155 (F := Ideal) x15 x33 = A
  generalize val_main_v161 (F := Ideal) x24 x33 = B
  pointwise [val_main_v162, val_main_cst_64, val_main_v164, val_main_cst_65, val_main_v167, val_main_cst_66, val_main_v171, val_main_v170, val_main_cst_67, val_main_v173, val_main_cst_68]
end

section
variable (x7 x16 x25 : FVec Ideal S2x64 .f32) (x34 : FVec Ideal S8x2x64 .f32) (a : Fin 2) (b : Fin 64)

theorem g7 : (val_main_v175 (F := Ideal) x34 (ix2 a b) : EReal) = ∑ k : Fin 8, (x34 (ix3 k a b) : EReal) := by
  pointwise [val_main_v175, val_main_cst_69]
theorem m7 : (val_main_v180 (F := Ideal) x16 x34 (ix2 a b) : EReal) = nm (∑ k : Fin 8, (x34 (ix3 k a b) : EReal)) (x16 (ix2 a b)) := by
  have h := g7 x34 a b
  unfold val_main_v180 val_main_v179
  generalize val_main_v175 (F := Ideal) x34 = T at h ⊢
  rw [← h]
  pointwise [val_main_v176, val_main_v177, val_main_v178, val_main_cst_70, val_main_cst_71, nm]
theorem v7 : (val_main_v186 (F := Ideal) x25 x34 (ix2 a b) : EReal) = nv (∑ k : Fin 8, (x34 (ix3 k a b) : EReal)) (x25 (ix2 a b)) := by
  have h := g7 x34 a b
  unfold val_main_v186 val_main_v185 val_main_v183
  generalize val_main_v175 (F := Ideal) x34 = T at h ⊢
  rw [← h]
  pointwise [val_main_v181, val_main_v182, val_main_v184, val_main_cst_72, val_main_cst_73, nv]
theorem d7 : (val_main_v199 (F := Ideal) x7 x16 x25 x34 (ix2 a b) : EReal)
    = dl (∑ k : Fin 8, (x34 (ix3 k a b) : EReal)) (x7 (ix2 a b)) (x16 (ix2 a b)) (x25 (ix2 a b)) := by
  unfold dl
  rw [← m7, ← v7]
  unfold val_main_v199 val_main_v197 val_main_v194 val_main_v193 val_main_v191 val_main_v190 val_main_v188
  generalize val_main_v180 (F := Ideal) x16 x34 = A
  generalize val_main_v186 (F := Ideal) x25 x34 = B
  pointwise [val_main_v187, val_main_cst_74, val_main_v189, val_main_cst_75, val_main_v192, val_main_cst_76, val_main_v196, val_main_v195, val_main_cst_77, val_main_v198, val_main_cst_78]
end

section
variable (x8 x17 x26 : FVec Ideal S2x8 .f32) (x35 : FVec Ideal S8x2x8 .f32) (a : Fin 2) (b : Fin 8)

theorem g8 : (val_main_v200 (F := Ideal) x35 (ix2 a b) : EReal) = ∑ k : Fin 8, (x35 (ix3 k a b) : EReal) := by
  pointwise [val_main_v200, val_main_cst_79]
theorem m8 : (val_main_v205 (F := Ideal) x17 x35 (ix2 a b) : EReal) = nm (∑ k : Fin 8, (x35 (ix3 k a b) : EReal)) (x17 (ix2 a b)) := by
  have h := g8 x35 a b
  unfold val_main_v205 val_main_v204
  generalize val_main_v200 (F := Ideal) x35 = T at h ⊢
  rw [← h]
  pointwise [val_main_v201, val_main_v202, val_main_v203, val_main_cst_80, val_main_cst_81, nm]
theorem v8 : (val_main_v211 (F := Ideal) x26 x35 (ix2 a b) : EReal) = nv (∑ k : Fin 8, (x35 (ix3 k a b) : EReal)) (x26 (ix2 a b)) := by
  have h := g8 x35 a b
  unfold val_main_v211 val_main_v210 val_main_v208
  generalize val_main_v200 (F := Ideal) x35 = T at h ⊢
  rw [← h]
  pointwise [val_main_v206, val_main_v207, val_main_v209, val_main_cst_82, val_main_cst_83, nv]
theorem d8 : (val_main_v224 (F := Ideal) x8 x17 x26 x35 (ix2 a b) : EReal)
    = dl (∑ k : Fin 8, (x35 (ix3 k a b) : EReal)) (x8 (ix2 a b)) (x17 (ix2 a b)) (x26 (ix2 a b)) := by
  unfold dl
  rw [← m8, ← v8]
  unfold val_main_v224 val_main_v222 val_main_v219 val_main_v218 val_main_v216 val_main_v215 val_main_v213
  generalize val_main_v205 (F := Ideal) x17 x35 = A
  generalize val_main_v211 (F := Ideal) x26 x35 = B
  pointwise [val_main_v212, val_main_cst_84, val_main_v214, val_main_cst_85, val_main_v217, val_main_cst_86, val_main_v221, val_main_v220, val_main_cst_87, val_main_v223, val_main_cst_88]
end

theorem loss (x36 : FVec Ideal S8x1 .f32) (i : Shape.Idx S_) : (val_main_v227 (F := Ideal) x36 i : EReal)
    = Ideal.div (Ideal.ofBits .f32 0x3F000000#32 * ∑ k : Fin 8, (x36 (ix2 k (0 : Fin 1)) : EReal)) (Ideal.ofBits .f32 0x44800000#32) := by
  pointwise [val_main_v227, val_main_v226, val_main_v225, val_main_cst_89, val_main_cst_90, val_main_cst_91]
  simp only [Fin.sum_univ_one]

end Cert.Reference9Ideal.Rows

end
-- ==== Proof.Small2.lean ====
/- The optimiser's last call and its reference: the same values, every result. -/
module

public import proofs.«01_k».proof.Proof.Small
public import proofs.«01_k».proof.Proof.Tail
public import proofs.«01_k».proof.Proof.Ref9

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen
open Cert.Kernel5Ideal.Value (nm nv dl)
open Cert.Reference9Ideal.Read

variable (m : (ℓ : Loc nD τ sig) → Buf (Elt Ideal) ℓ) (ρ : Dev nD → PrngReg) (c : Dev nD)

theorem cong4 {x x' y y' z z' t t' : EReal} (f : EReal → EReal → EReal → EReal → EReal) (h0 : x = x') (h1 : y = y') (h2 : z = z') (h3 : t = t') : f x y z t = f x' y' z' t' := by
  subst h0 h1 h2 h3
  rfl

/-! ## The arrays behind the host operations -/

theorem w4 : Pipeline.withArrays spec0 c (V0 m c) (fun w => (dats m 0 c).arrAt w cfg0.N) (Proc.devRef .tc main_v45_0) = (dats m 0 c).arrAt 4 cfg0.N :=
  Pipeline.withArrays_arr spec0 (by decide) c (V0 m c) (fun w => (dats m 0 c).arrAt w cfg0.N) 4
theorem w5 : Pipeline.withArrays spec0 c (V0 m c) (fun w => (dats m 0 c).arrAt w cfg0.N) (Proc.devRef .tc main_v45_1) = (dats m 0 c).arrAt 5 cfg0.N :=
  Pipeline.withArrays_arr spec0 (by decide) c (V0 m c) (fun w => (dats m 0 c).arrAt w cfg0.N) 5
theorem w6 : Pipeline.withArrays spec0 c (V0 m c) (fun w => (dats m 0 c).arrAt w cfg0.N) (Proc.devRef .tc main_v45_2) = (dats m 0 c).arrAt 6 cfg0.N :=
  Pipeline.withArrays_arr spec0 (by decide) c (V0 m c) (fun w => (dats m 0 c).arrAt w cfg0.N) 6
theorem w7 : Pipeline.withArrays spec0 c (V0 m c) (fun w => (dats m 0 c).arrAt w cfg0.N) (Proc.devRef .tc main_v45_3) = (dats m 0 c).arrAt 7 cfg0.N :=
  Pipeline.withArrays_arr spec0 (by decide) c (V0 m c) (fun w => (dats m 0 c).arrAt w cfg0.N) 7

/-! ## Every result -/

theorem tt0 (i0 : Fin 1024) : tt m c (rw_ i0.val (by omega)) (ln_ i0.val) = ∑ k : Fin 8, ((a27 m c) (ix2 k i0) : EReal) := by
  unfold tt
  exact Finset.sum_congr rfl fun k _ => pk8_0 _ _ _ _ _ _ _ _ _ _ zp k i0
theorem q0_0 : un0 ((dats m 0 c).arrAt 4 cfg0.N) = val_main_v0 (F := Ideal) (a27 m c) := by
  rw [final4]
  funext i
  idx_vars i
  rw [un0_at]
  exact (tt0 m c i0).trans (Cert.Reference9Ideal.Rows.g0 _ i0).symm
theorem t0_0 : Pipeline.afterTail₀ cfgs (dats m) 0 (V0 m) [hostOps1] c main_v47 = val_main_v0 (F := Ideal) (a27 m c) := by
  unfold Pipeline.afterTail₀
  rw [List.flatten_cons, List.flatten_nil, List.append_nil]
  exact (u0_0 _).trans ((congrArg un0 (w4 m c)).trans (q0_0 m c))
theorem q1_0 : un0 ((dats m 0 c).arrAt 5 cfg0.N) = val_main_v24 (F := Ideal) (a0 m c) (a9 m c) (a18 m c) (a27 m c) := by
  rw [final5]
  funext i
  idx_vars i
  rw [un0_at]
  exact (cong4 dl (tt0 m c i0) (pk_0 _ _ _ _ _ _ _ _ _ _ zp i0) (pk_0 _ _ _ _ _ _ _ _ _ _ zp i0) (pk_0 _ _ _ _ _ _ _ _ _ _ zp i0)).trans (Cert.Reference9Ideal.Rows.d0 _ _ _ _ i0).symm
theorem t1_0 : Pipeline.afterTail₀ cfgs (dats m) 0 (V0 m) [hostOps1] c main_v66 = val_main_v24 (F := Ideal) (a0 m c) (a9 m c) (a18 m c) (a27 m c) := by
  unfold Pipeline.afterTail₀
  rw [List.flatten_cons, List.flatten_nil, List.append_nil]
  exact (u1_0 _).trans ((congrArg un0 (w5 m c)).trans (q1_0 m c))
theorem q2_0 : un0 ((dats m 0 c).arrAt 6 cfg0.N) = val_main_v5 (F := Ideal) (a9 m c) (a27 m c) := by
  rw [final6]
  funext i
  idx_vars i
  rw [un0_at]
  exact (congrArg₂ nm (tt0 m c i0) (pk_0 _ _ _ _ _ _ _ _ _ _ zp i0)).trans (Cert.Reference9Ideal.Rows.m0 _ _ i0).symm
theorem t2_0 : Pipeline.afterTail₀ cfgs (dats m) 0 (V0 m) [hostOps1] c main_v85 = val_main_v5 (F := Ideal) (a9 m c) (a27 m c) := by
  unfold Pipeline.afterTail₀
  rw [List.flatten_cons, List.flatten_nil, List.append_nil]
  exact (u2_0 _).trans ((congrArg un0 (w6 m c)).trans (q2_0 m c))
theorem q3_0 : un0 ((dats m 0 c).arrAt 7 cfg0.N) = val_main_v11 (F := Ideal) (a18 m c) (a27 m c) := by
  rw [final7]
  funext i
  idx_vars i
  rw [un0_at]
  exact (congrArg₂ nv (tt0 m c i0) (pk_0 _ _ _ _ _ _ _ _ _ _ zp i0)).trans (Cert.Reference9Ideal.Rows.v0 _ _ i0).symm
theorem t3_0 : Pipeline.afterTail₀ cfgs (dats m) 0 (V0 m) [hostOps1] c main_v104 = val_main_v11 (F := Ideal) (a18 m c) (a27 m c) := by
  unfold Pipeline.afterTail₀
  rw [List.flatten_cons, List.flatten_nil, List.append_nil]
  exact (u3_0 _).trans ((congrArg un0 (w7 m c)).trans (q3_0 m c))
theorem tt1 (i0 : Fin 2) (i1 : Fin 6144) : tt m c (rw_ (1024 + (i0.val * 6144 + i1.val)) (by omega)) (ln_ (1024 + (i0.val * 6144 + i1.val))) = ∑ k : Fin 8, ((a28 m c) (ix3 k i0 i1) : EReal) := by
  unfold tt
  exact Finset.sum_congr rfl fun k _ => pk8_1 _ _ _ _ _ _ _ _ _ _ zp k i0 i1
theorem q0_1 : un1 ((dats m 0 c).arrAt 4 cfg0.N) = val_main_v25 (F := Ideal) (a28 m c) := by
  rw [final4]
  funext i
  idx_vars i
  rw [un1_at]
  exact (tt1 m c i0 i1).trans (Cert.Reference9Ideal.Rows.g1 _ i0 i1).symm
theorem t0_1 : Pipeline.afterTail₀ cfgs (dats m) 0 (V0 m) [hostOps1] c main_v49 = val_main_v25 (F := Ideal) (a28 m c) := by
  unfold Pipeline.afterTail₀
  rw [List.flatten_cons, List.flatten_nil, List.append_nil]
  exact (u0_1 _).trans ((congrArg un1 (w4 m c)).trans (q0_1 m c))
theorem q1_1 : un1 ((dats m 0 c).arrAt 5 cfg0.N) = val_main_v49 (F := Ideal) (a1 m c) (a10 m c) (a19 m c) (a28 m c) := by
  rw [final5]
  funext i
  idx_vars i
  rw [un1_at]
  exact (cong4 dl (tt1 m c i0 i1) (pk_1 _ _ _ _ _ _ _ _ _ _ zp i0 i1) (pk_1 _ _ _ _ _ _ _ _ _ _ zp i0 i1) (pk_1 _ _ _ _ _ _ _ _ _ _ zp i0 i1)).trans (Cert.Reference9Ideal.Rows.d1 _ _ _ _ i0 i1).symm
theorem t1_1 : Pipeline.afterTail₀ cfgs (dats m) 0 (V0 m) [hostOps1] c main_v68 = val_main_v49 (F := Ideal) (a1 m c) (a10 m c) (a19 m c) (a28 m c) := by
  unfold Pipeline.afterTail₀
  rw [List.flatten_cons, List.flatten_nil, List.append_nil]
  exact (u1_1 _).trans ((congrArg un1 (w5 m c)).trans (q1_1 m c))
theorem q2_1 : un1 ((dats m 0 c).arrAt 6 cfg0.N) = val_main_v30 (F := Ideal) (a10 m c) (a28 m c) := by
  rw [final6]
  funext i
  idx_vars i
  rw [un1_at]
  exact (congrArg₂ nm (tt1 m c i0 i1) (pk_1 _ _ _ _ _ _ _ _ _ _ zp i0 i1)).trans (Cert.Reference9Ideal.Rows.m1 _ _ i0 i1).symm
theorem t2_1 : Pipeline.afterTail₀ cfgs (dats m) 0 (V0 m) [hostOps1] c main_v87 = val_main_v30 (F := Ideal) (a10 m c) (a28 m c) := by
  unfold Pipeline.afterTail₀
  rw [List.flatten_cons, List.flatten_nil, List.append_nil]
  exact (u2_1 _).trans ((congrArg un1 (w6 m c)).trans (q2_1 m c))
theorem q3_1 : un1 ((dats m 0 c).arrAt 7 cfg0.N) = val_main_v36 (F := Ideal) (a19 m c) (a28 m c) := by
  rw [final7]
  funext i
  idx_vars i
  rw [un1_at]
  exact (congrArg₂ nv (tt1 m c i0 i1) (pk_1 _ _ _ _ _ _ _ _ _ _ zp i0 i1)).trans (Cert.Reference9Ideal.Rows.v1 _ _ i0 i1).symm
theorem t3_1 : Pipeline.afterTail₀ cfgs (dats m) 0 (V0 m) [hostOps1] c main_v106 = val_main_v36 (F := Ideal) (a19 m c) (a28 m c) := by
  unfold Pipeline.afterTail₀
  rw [List.flatten_cons, List.flatten_nil, List.append_nil]
  exact (u3_1 _).trans ((congrArg un1 (w7 m c)).trans (q3_1 m c))
theorem tt2 (i0 : Fin 2) (i1 : Fin 1024) : tt m c (rw_ (13312 + (i0.val * 1024 + i1.val)) (by omega)) (ln_ (13312 + (i0.val * 1024 + i1.val))) = ∑ k : Fin 8, ((a29 m c) (ix3 k i0 i1) : EReal) := by
  unfold tt
  exact Finset.sum_congr rfl fun k _ => pk8_2 _ _ _ _ _ _ _ _ _ _ zp k i0 i1
theorem q0_2 : un2 ((dats m 0 c).arrAt 4 cfg0.N) = val_main_v50 (F := Ideal) (a29 m c) := by
  rw [final4]
  funext i
  idx_vars i
  rw [un2_at]
  exact (tt2 m c i0 i1).trans (Cert.Reference9Ideal.Rows.g2 _ i0 i1).symm
theorem t0_2 : Pipeline.afterTail₀ cfgs (dats m) 0 (V0 m) [hostOps1] c main_v51 = val_main_v50 (F := Ideal) (a29 m c) := by
  unfold Pipeline.afterTail₀
  rw [List.flatten_cons, List.flatten_nil, List.append_nil]
  exact (u0_2 _).trans ((congrArg un2 (w4 m c)).trans (q0_2 m c))
theorem q1_2 : un2 ((dats m 0 c).arrAt 5 cfg0.N) = val_main_v74 (F := Ideal) (a2 m c) (a11 m c) (a20 m c) (a29 m c) := by
  rw [final5]
  funext i
  idx_vars i
  rw [un2_at]
  exact (cong4 dl (tt2 m c i0 i1) (pk_2 _ _ _ _ _ _ _ _ _ _ zp i0 i1) (pk_2 _ _ _ _ _ _ _ _ _ _ zp i0 i1) (pk_2 _ _ _ _ _ _ _ _ _ _ zp i0 i1)).trans (Cert.Reference9Ideal.Rows.d2 _ _ _ _ i0 i1).symm
theorem t1_2 : Pipeline.afterTail₀ cfgs (dats m) 0 (V0 m) [hostOps1] c main_v70 = val_main_v74 (F := Ideal) (a2 m c) (a11 m c) (a20 m c) (a29 m c) := by
  unfold Pipeline.afterTail₀
  rw [List.flatten_cons, List.flatten_nil, List.append_nil]
  exact (u1_2 _).trans ((congrArg un2 (w5 m c)).trans (q1_2 m c))
theorem q2_2 : un2 ((dats m 0 c).arrAt 6 cfg0.N) = val_main_v55 (F := Ideal) (a11 m c) (a29 m c) := by
  rw [final6]
  funext i
  idx_vars i
  rw [un2_at]
  exact (congrArg₂ nm (tt2 m c i0 i1) (pk_2 _ _ _ _ _ _ _ _ _ _ zp i0 i1)).trans (Cert.Reference9Ideal.Rows.m2 _ _ i0 i1).symm
theorem t2_2 : Pipeline.afterTail₀ cfgs (dats m) 0 (V0 m) [hostOps1] c main_v89 = val_main_v55 (F := Ideal) (a11 m c) (a29 m c) := by
  unfold Pipeline.afterTail₀
  rw [List.flatten_cons, List.flatten_nil, List.append_nil]
  exact (u2_2 _).trans ((congrArg un2 (w6 m c)).trans (q2_2 m c))
theorem q3_2 : un2 ((dats m 0 c).arrAt 7 cfg0.N) = val_main_v61 (F := Ideal) (a20 m c) (a29 m c) := by
  rw [final7]
  funext i
  idx_vars i
  rw [un2_at]
  exact (congrArg₂ nv (tt2 m c i0 i1) (pk_2 _ _ _ _ _ _ _ _ _ _ zp i0 i1)).trans (Cert.Reference9Ideal.Rows.v2 _ _ i0 i1).symm
theorem t3_2 : Pipeline.afterTail₀ cfgs (dats m) 0 (V0 m) [hostOps1] c main_v108 = val_main_v61 (F := Ideal) (a20 m c) (a29 m c) := by
  unfold Pipeline.afterTail₀
  rw [List.flatten_cons, List.flatten_nil, List.append_nil]
  exact (u3_2 _).trans ((congrArg un2 (w7 m c)).trans (q3_2 m c))
theorem tt3 (i0 : Fin 2) (i1 : Fin 1024) : tt m c (rw_ (15360 + (i0.val * 1024 + i1.val)) (by omega)) (ln_ (15360 + (i0.val * 1024 + i1.val))) = ∑ k : Fin 8, ((a30 m c) (ix3 k i0 i1) : EReal) := by
  unfold tt
  exact Finset.sum_congr rfl fun k _ => pk8_3 _ _ _ _ _ _ _ _ _ _ zp k i0 i1
theorem q0_3 : un3 ((dats m 0 c).arrAt 4 cfg0.N) = val_main_v75 (F := Ideal) (a30 m c) := by
  rw [final4]
  funext i
  idx_vars i
  rw [un3_at]
  exact (tt3 m c i0 i1).trans (Cert.Reference9Ideal.Rows.g3 _ i0 i1).symm
theorem t0_3 : Pipeline.afterTail₀ cfgs (dats m) 0 (V0 m) [hostOps1] c main_v53 = val_main_v75 (F := Ideal) (a30 m c) := by
  unfold Pipeline.afterTail₀
  rw [List.flatten_cons, List.flatten_nil, List.append_nil]
  exact (u0_3 _).trans ((congrArg un3 (w4 m c)).trans (q0_3 m c))
theorem q1_3 : un3 ((dats m 0 c).arrAt 5 cfg0.N) = val_main_v99 (F := Ideal) (a3 m c) (a12 m c) (a21 m c) (a30 m c) := by
  rw [final5]
  funext i
  idx_vars i
  rw [un3_at]
  exact (cong4 dl (tt3 m c i0 i1) (pk_3 _ _ _ _ _ _ _ _ _ _ zp i0 i1) (pk_3 _ _ _ _ _ _ _ _ _ _ zp i0 i1) (pk_3 _ _ _ _ _ _ _ _ _ _ zp i0 i1)).trans (Cert.Reference9Ideal.Rows.d3 _ _ _ _ i0 i1).symm
theorem t1_3 : Pipeline.afterTail₀ cfgs (dats m) 0 (V0 m) [hostOps1] c main_v72 = val_main_v99 (F := Ideal) (a3 m c) (a12 m c) (a21 m c) (a30 m c) := by
  unfold Pipeline.afterTail₀
  rw [List.flatten_cons, List.flatten_nil, List.append_nil]
  exact (u1_3 _).trans ((congrArg un3 (w5 m c)).trans (q1_3 m c))
theorem q2_3 : un3 ((dats m 0 c).arrAt 6 cfg0.N) = val_main_v80 (F := Ideal) (a12 m c) (a30 m c) := by
  rw [final6]
  funext i
  idx_vars i
  rw [un3_at]
  exact (congrArg₂ nm (tt3 m c i0 i1) (pk_3 _ _ _ _ _ _ _ _ _ _ zp i0 i1)).trans (Cert.Reference9Ideal.Rows.m3 _ _ i0 i1).symm
theorem t2_3 : Pipeline.afterTail₀ cfgs (dats m) 0 (V0 m) [hostOps1] c main_v91 = val_main_v80 (F := Ideal) (a12 m c) (a30 m c) := by
  unfold Pipeline.afterTail₀
  rw [List.flatten_cons, List.flatten_nil, List.append_nil]
  exact (u2_3 _).trans ((congrArg un3 (w6 m c)).trans (q2_3 m c))
theorem q3_3 : un3 ((dats m 0 c).arrAt 7 cfg0.N) = val_main_v86 (F := Ideal) (a21 m c) (a30 m c) := by
  rw [final7]
  funext i
  idx_vars i
  rw [un3_at]
  exact (congrArg₂ nv (tt3 m c i0 i1) (pk_3 _ _ _ _ _ _ _ _ _ _ zp i0 i1)).trans (Cert.Reference9Ideal.Rows.v3 _ _ i0 i1).symm
theorem t3_3 : Pipeline.afterTail₀ cfgs (dats m) 0 (V0 m) [hostOps1] c main_v110 = val_main_v86 (F := Ideal) (a21 m c) (a30 m c) := by
  unfold Pipeline.afterTail₀
  rw [List.flatten_cons, List.flatten_nil, List.append_nil]
  exact (u3_3 _).trans ((congrArg un3 (w7 m c)).trans (q3_3 m c))
theorem tt4 (i0 : Fin 2) (i1 : Fin 1024) : tt m c (rw_ (17408 + (i0.val * 1024 + i1.val)) (by omega)) (ln_ (17408 + (i0.val * 1024 + i1.val))) = ∑ k : Fin 8, ((a31 m c) (ix3 k i0 i1) : EReal) := by
  unfold tt
  exact Finset.sum_congr rfl fun k _ => pk8_4 _ _ _ _ _ _ _ _ _ _ zp k i0 i1
theorem q0_4 : un4 ((dats m 0 c).arrAt 4 cfg0.N) = val_main_v100 (F := Ideal) (a31 m c) := by
  rw [final4]
  funext i
  idx_vars i
  rw [un4_at]
  exact (tt4 m c i0 i1).trans (Cert.Reference9Ideal.Rows.g4 _ i0 i1).symm
theorem t0_4 : Pipeline.afterTail₀ cfgs (dats m) 0 (V0 m) [hostOps1] c main_v55 = val_main_v100 (F := Ideal) (a31 m c) := by
  unfold Pipeline.afterTail₀
  rw [List.flatten_cons, List.flatten_nil, List.append_nil]
  exact (u0_4 _).trans ((congrArg un4 (w4 m c)).trans (q0_4 m c))
theorem q1_4 : un4 ((dats m 0 c).arrAt 5 cfg0.N) = val_main_v124 (F := Ideal) (a4 m c) (a13 m c) (a22 m c) (a31 m c) := by
  rw [final5]
  funext i
  idx_vars i
  rw [un4_at]
  exact (cong4 dl (tt4 m c i0 i1) (pk_4 _ _ _ _ _ _ _ _ _ _ zp i0 i1) (pk_4 _ _ _ _ _ _ _ _ _ _ zp i0 i1) (pk_4 _ _ _ _ _ _ _ _ _ _ zp i0 i1)).trans (Cert.Reference9Ideal.Rows.d4 _ _ _ _ i0 i1).symm
theorem t1_4 : Pipeline.afterTail₀ cfgs (dats m) 0 (V0 m) [hostOps1] c main_v74 = val_main_v124 (F := Ideal) (a4 m c) (a13 m c) (a22 m c) (a31 m c) := by
  unfold Pipeline.afterTail₀
  rw [List.flatten_cons, List.flatten_nil, List.append_nil]
  exact (u1_4 _).trans ((congrArg un4 (w5 m c)).trans (q1_4 m c))
theorem q2_4 : un4 ((dats m 0 c).arrAt 6 cfg0.N) = val_main_v105 (F := Ideal) (a13 m c) (a31 m c) := by
  rw [final6]
  funext i
  idx_vars i
  rw [un4_at]
  exact (congrArg₂ nm (tt4 m c i0 i1) (pk_4 _ _ _ _ _ _ _ _ _ _ zp i0 i1)).trans (Cert.Reference9Ideal.Rows.m4 _ _ i0 i1).symm
theorem t2_4 : Pipeline.afterTail₀ cfgs (dats m) 0 (V0 m) [hostOps1] c main_v93 = val_main_v105 (F := Ideal) (a13 m c) (a31 m c) := by
  unfold Pipeline.afterTail₀
  rw [List.flatten_cons, List.flatten_nil, List.append_nil]
  exact (u2_4 _).trans ((congrArg un4 (w6 m c)).trans (q2_4 m c))
theorem q3_4 : un4 ((dats m 0 c).arrAt 7 cfg0.N) = val_main_v111 (F := Ideal) (a22 m c) (a31 m c) := by
  rw [final7]
  funext i
  idx_vars i
  rw [un4_at]
  exact (congrArg₂ nv (tt4 m c i0 i1) (pk_4 _ _ _ _ _ _ _ _ _ _ zp i0 i1)).trans (Cert.Reference9Ideal.Rows.v4 _ _ i0 i1).symm
theorem t3_4 : Pipeline.afterTail₀ cfgs (dats m) 0 (V0 m) [hostOps1] c main_v112 = val_main_v111 (F := Ideal) (a22 m c) (a31 m c) := by
  unfold Pipeline.afterTail₀
  rw [List.flatten_cons, List.flatten_nil, List.append_nil]
  exact (u3_4 _).trans ((congrArg un4 (w7 m c)).trans (q3_4 m c))
theorem tt5 (i0 : Fin 2) (i1 : Fin 1024) : tt m c (rw_ (19456 + (i0.val * 1024 + i1.val)) (by omega)) (ln_ (19456 + (i0.val * 1024 + i1.val))) = ∑ k : Fin 8, ((a32 m c) (ix3 k i0 i1) : EReal) := by
  unfold tt
  exact Finset.sum_congr rfl fun k _ => pk8_5 _ _ _ _ _ _ _ _ _ _ zp k i0 i1
theorem q0_5 : un5 ((dats m 0 c).arrAt 4 cfg0.N) = val_main_v125 (F := Ideal) (a32 m c) := by
  rw [final4]
  funext i
  idx_vars i
  rw [un5_at]
  exact (tt5 m c i0 i1).trans (Cert.Reference9Ideal.Rows.g5 _ i0 i1).symm
theorem t0_5 : Pipeline.afterTail₀ cfgs (dats m) 0 (V0 m) [hostOps1] c main_v57 = val_main_v125 (F := Ideal) (a32 m c) := by
  unfold Pipeline.afterTail₀
  rw [List.flatten_cons, List.flatten_nil, List.append_nil]
  exact (u0_5 _).trans ((congrArg un5 (w4 m c)).trans (q0_5 m c))
theorem q1_5 : un5 ((dats m 0 c).arrAt 5 cfg0.N) = val_main_v149 (F := Ideal) (a5 m c) (a14 m c) (a23 m c) (a32 m c) := by
  rw [final5]
  funext i
  idx_vars i
  rw [un5_at]
  exact (cong4 dl (tt5 m c i0 i1) (pk_5 _ _ _ _ _ _ _ _ _ _ zp i0 i1) (pk_5 _ _ _ _ _ _ _ _ _ _ zp i0 i1) (pk_5 _ _ _ _ _ _ _ _ _ _ zp i0 i1)).trans (Cert.Reference9Ideal.Rows.d5 _ _ _ _ i0 i1).symm
theorem t1_5 : Pipeline.afterTail₀ cfgs (dats m) 0 (V0 m) [hostOps1] c main_v76 = val_main_v149 (F := Ideal) (a5 m c) (a14 m c) (a23 m c) (a32 m c) := by
  unfold Pipeline.afterTail₀
  rw [List.flatten_cons, List.flatten_nil, List.append_nil]
  exact (u1_5 _).trans ((congrArg un5 (w5 m c)).trans (q1_5 m c))
theorem q2_5 : un5 ((dats m 0 c).arrAt 6 cfg0.N) = val_main_v130 (F := Ideal) (a14 m c) (a32 m c) := by
  rw [final6]
  funext i
  idx_vars i
  rw [un5_at]
  exact (congrArg₂ nm (tt5 m c i0 i1) (pk_5 _ _ _ _ _ _ _ _ _ _ zp i0 i1)).trans (Cert.Reference9Ideal.Rows.m5 _ _ i0 i1).symm
theorem t2_5 : Pipeline.afterTail₀ cfgs (dats m) 0 (V0 m) [hostOps1] c main_v95 = val_main_v130 (F := Ideal) (a14 m c) (a32 m c) := by
  unfold Pipeline.afterTail₀
  rw [List.flatten_cons, List.flatten_nil, List.append_nil]
  exact (u2_5 _).trans ((congrArg un5 (w6 m c)).trans (q2_5 m c))
theorem q3_5 : un5 ((dats m 0 c).arrAt 7 cfg0.N) = val_main_v136 (F := Ideal) (a23 m c) (a32 m c) := by
  rw [final7]
  funext i
  idx_vars i
  rw [un5_at]
  exact (congrArg₂ nv (tt5 m c i0 i1) (pk_5 _ _ _ _ _ _ _ _ _ _ zp i0 i1)).trans (Cert.Reference9Ideal.Rows.v5 _ _ i0 i1).symm
theorem t3_5 : Pipeline.afterTail₀ cfgs (dats m) 0 (V0 m) [hostOps1] c main_v114 = val_main_v136 (F := Ideal) (a23 m c) (a32 m c) := by
  unfold Pipeline.afterTail₀
  rw [List.flatten_cons, List.flatten_nil, List.append_nil]
  exact (u3_5 _).trans ((congrArg un5 (w7 m c)).trans (q3_5 m c))
theorem tt6 (i0 : Fin 2) (i1 : Fin 64) : tt m c (rw_ (21504 + (i0.val * 64 + i1.val)) (by omega)) (ln_ (21504 + (i0.val * 64 + i1.val))) = ∑ k : Fin 8, ((a33 m c) (ix3 k i0 i1) : EReal) := by
  unfold tt
  exact Finset.sum_congr rfl fun k _ => pk8_6 _ _ _ _ _ _ _ _ _ _ zp k i0 i1
theorem q0_6 : un6 ((dats m 0 c).arrAt 4 cfg0.N) = val_main_v150 (F := Ideal) (a33 m c) := by
  rw [final4]
  funext i
  idx_vars i
  rw [un6_at]
  exact (tt6 m c i0 i1).trans (Cert.Reference9Ideal.Rows.g6 _ i0 i1).symm
theorem t0_6 : Pipeline.afterTail₀ cfgs (dats m) 0 (V0 m) [hostOps1] c main_v59 = val_main_v150 (F := Ideal) (a33 m c) := by
  unfold Pipeline.afterTail₀
  rw [List.flatten_cons, List.flatten_nil, List.append_nil]
  exact (u0_6 _).trans ((congrArg un6 (w4 m c)).trans (q0_6 m c))
theorem q1_6 : un6 ((dats m 0 c).arrAt 5 cfg0.N) = val_main_v174 (F := Ideal) (a6 m c) (a15 m c) (a24 m c) (a33 m c) := by
  rw [final5]
  funext i
  idx_vars i
  rw [un6_at]
  exact (cong4 dl (tt6 m c i0 i1) (pk_6 _ _ _ _ _ _ _ _ _ _ zp i0 i1) (pk_6 _ _ _ _ _ _ _ _ _ _ zp i0 i1) (pk_6 _ _ _ _ _ _ _ _ _ _ zp i0 i1)).trans (Cert.Reference9Ideal.Rows.d6 _ _ _ _ i0 i1).symm
theorem t1_6 : Pipeline.afterTail₀ cfgs (dats m) 0 (V0 m) [hostOps1] c main_v78 = val_main_v174 (F := Ideal) (a6 m c) (a15 m c) (a24 m c) (a33 m c) := by
  unfold Pipeline.afterTail₀
  rw [List.flatten_cons, List.flatten_nil, List.append_nil]
  exact (u1_6 _).trans ((congrArg un6 (w5 m c)).trans (q1_6 m c))
theorem q2_6 : un6 ((dats m 0 c).arrAt 6 cfg0.N) = val_main_v155 (F := Ideal) (a15 m c) (a33 m c) := by
  rw [final6]
  funext i
  idx_vars i
  rw [un6_at]
  exact (congrArg₂ nm (tt6 m c i0 i1) (pk_6 _ _ _ _ _ _ _ _ _ _ zp i0 i1)).trans (Cert.Reference9Ideal.Rows.m6 _ _ i0 i1).symm
theorem t2_6 : Pipeline.afterTail₀ cfgs (dats m) 0 (V0 m) [hostOps1] c main_v97 = val_main_v155 (F := Ideal) (a15 m c) (a33 m c) := by
  unfold Pipeline.afterTail₀
  rw [List.flatten_cons, List.flatten_nil, List.append_nil]
  exact (u2_6 _).trans ((congrArg un6 (w6 m c)).trans (q2_6 m c))
theorem q3_6 : un6 ((dats m 0 c).arrAt 7 cfg0.N) = val_main_v161 (F := Ideal) (a24 m c) (a33 m c) := by
  rw [final7]
  funext i
  idx_vars i
  rw [un6_at]
  exact (congrArg₂ nv (tt6 m c i0 i1) (pk_6 _ _ _ _ _ _ _ _ _ _ zp i0 i1)).trans (Cert.Reference9Ideal.Rows.v6 _ _ i0 i1).symm
theorem t3_6 : Pipeline.afterTail₀ cfgs (dats m) 0 (V0 m) [hostOps1] c main_v116 = val_main_v161 (F := Ideal) (a24 m c) (a33 m c) := by
  unfold Pipeline.afterTail₀
  rw [List.flatten_cons, List.flatten_nil, List.append_nil]
  exact (u3_6 _).trans ((congrArg un6 (w7 m c)).trans (q3_6 m c))
theorem tt7 (i0 : Fin 2) (i1 : Fin 64) : tt m c (rw_ (21632 + (i0.val * 64 + i1.val)) (by omega)) (ln_ (21632 + (i0.val * 64 + i1.val))) = ∑ k : Fin 8, ((a34 m c) (ix3 k i0 i1) : EReal) := by
  unfold tt
  exact Finset.sum_congr rfl fun k _ => pk8_7 _ _ _ _ _ _ _ _ _ _ zp k i0 i1
theorem q0_7 : un7 ((dats m 0 c).arrAt 4 cfg0.N) = val_main_v175 (F := Ideal) (a34 m c) := by
  rw [final4]
  funext i
  idx_vars i
  rw [un7_at]
  exact (tt7 m c i0 i1).trans (Cert.Reference9Ideal.Rows.g7 _ i0 i1).symm
theorem t0_7 : Pipeline.afterTail₀ cfgs (dats m) 0 (V0 m) [hostOps1] c main_v61 = val_main_v175 (F := Ideal) (a34 m c) := by
  unfold Pipeline.afterTail₀
  rw [List.flatten_cons, List.flatten_nil, List.append_nil]
  exact (u0_7 _).trans ((congrArg un7 (w4 m c)).trans (q0_7 m c))
theorem q1_7 : un7 ((dats m 0 c).arrAt 5 cfg0.N) = val_main_v199 (F := Ideal) (a7 m c) (a16 m c) (a25 m c) (a34 m c) := by
  rw [final5]
  funext i
  idx_vars i
  rw [un7_at]
  exact (cong4 dl (tt7 m c i0 i1) (pk_7 _ _ _ _ _ _ _ _ _ _ zp i0 i1) (pk_7 _ _ _ _ _ _ _ _ _ _ zp i0 i1) (pk_7 _ _ _ _ _ _ _ _ _ _ zp i0 i1)).trans (Cert.Reference9Ideal.Rows.d7 _ _ _ _ i0 i1).symm
theorem t1_7 : Pipeline.afterTail₀ cfgs (dats m) 0 (V0 m) [hostOps1] c main_v80 = val_main_v199 (F := Ideal) (a7 m c) (a16 m c) (a25 m c) (a34 m c) := by
  unfold Pipeline.afterTail₀
  rw [List.flatten_cons, List.flatten_nil, List.append_nil]
  exact (u1_7 _).trans ((congrArg un7 (w5 m c)).trans (q1_7 m c))
theorem q2_7 : un7 ((dats m 0 c).arrAt 6 cfg0.N) = val_main_v180 (F := Ideal) (a16 m c) (a34 m c) := by
  rw [final6]
  funext i
  idx_vars i
  rw [un7_at]
  exact (congrArg₂ nm (tt7 m c i0 i1) (pk_7 _ _ _ _ _ _ _ _ _ _ zp i0 i1)).trans (Cert.Reference9Ideal.Rows.m7 _ _ i0 i1).symm
theorem t2_7 : Pipeline.afterTail₀ cfgs (dats m) 0 (V0 m) [hostOps1] c main_v99 = val_main_v180 (F := Ideal) (a16 m c) (a34 m c) := by
  unfold Pipeline.afterTail₀
  rw [List.flatten_cons, List.flatten_nil, List.append_nil]
  exact (u2_7 _).trans ((congrArg un7 (w6 m c)).trans (q2_7 m c))
theorem q3_7 : un7 ((dats m 0 c).arrAt 7 cfg0.N) = val_main_v186 (F := Ideal) (a25 m c) (a34 m c) := by
  rw [final7]
  funext i
  idx_vars i
  rw [un7_at]
  exact (congrArg₂ nv (tt7 m c i0 i1) (pk_7 _ _ _ _ _ _ _ _ _ _ zp i0 i1)).trans (Cert.Reference9Ideal.Rows.v7 _ _ i0 i1).symm
theorem t3_7 : Pipeline.afterTail₀ cfgs (dats m) 0 (V0 m) [hostOps1] c main_v118 = val_main_v186 (F := Ideal) (a25 m c) (a34 m c) := by
  unfold Pipeline.afterTail₀
  rw [List.flatten_cons, List.flatten_nil, List.append_nil]
  exact (u3_7 _).trans ((congrArg un7 (w7 m c)).trans (q3_7 m c))
theorem tt8 (i0 : Fin 2) (i1 : Fin 8) : tt m c (rw_ (21760 + (i0.val * 8 + i1.val)) (by omega)) (ln_ (21760 + (i0.val * 8 + i1.val))) = ∑ k : Fin 8, ((a35 m c) (ix3 k i0 i1) : EReal) := by
  unfold tt
  exact Finset.sum_congr rfl fun k _ => pk8_8 _ _ _ _ _ _ _ _ _ _ zp k i0 i1
theorem q0_8 : un8 ((dats m 0 c).arrAt 4 cfg0.N) = val_main_v200 (F := Ideal) (a35 m c) := by
  rw [final4]
  funext i
  idx_vars i
  rw [un8_at]
  exact (tt8 m c i0 i1).trans (Cert.Reference9Ideal.Rows.g8 _ i0 i1).symm
theorem t0_8 : Pipeline.afterTail₀ cfgs (dats m) 0 (V0 m) [hostOps1] c main_v63 = val_main_v200 (F := Ideal) (a35 m c) := by
  unfold Pipeline.afterTail₀
  rw [List.flatten_cons, List.flatten_nil, List.append_nil]
  exact (u0_8 _).trans ((congrArg un8 (w4 m c)).trans (q0_8 m c))
theorem q1_8 : un8 ((dats m 0 c).arrAt 5 cfg0.N) = val_main_v224 (F := Ideal) (a8 m c) (a17 m c) (a26 m c) (a35 m c) := by
  rw [final5]
  funext i
  idx_vars i
  rw [un8_at]
  exact (cong4 dl (tt8 m c i0 i1) (pk_8 _ _ _ _ _ _ _ _ _ _ zp i0 i1) (pk_8 _ _ _ _ _ _ _ _ _ _ zp i0 i1) (pk_8 _ _ _ _ _ _ _ _ _ _ zp i0 i1)).trans (Cert.Reference9Ideal.Rows.d8 _ _ _ _ i0 i1).symm
theorem t1_8 : Pipeline.afterTail₀ cfgs (dats m) 0 (V0 m) [hostOps1] c main_v82 = val_main_v224 (F := Ideal) (a8 m c) (a17 m c) (a26 m c) (a35 m c) := by
  unfold Pipeline.afterTail₀
  rw [List.flatten_cons, List.flatten_nil, List.append_nil]
  exact (u1_8 _).trans ((congrArg un8 (w5 m c)).trans (q1_8 m c))
theorem q2_8 : un8 ((dats m 0 c).arrAt 6 cfg0.N) = val_main_v205 (F := Ideal) (a17 m c) (a35 m c) := by
  rw [final6]
  funext i
  idx_vars i
  rw [un8_at]
  exact (congrArg₂ nm (tt8 m c i0 i1) (pk_8 _ _ _ _ _ _ _ _ _ _ zp i0 i1)).trans (Cert.Reference9Ideal.Rows.m8 _ _ i0 i1).symm
theorem t2_8 : Pipeline.afterTail₀ cfgs (dats m) 0 (V0 m) [hostOps1] c main_v101 = val_main_v205 (F := Ideal) (a17 m c) (a35 m c) := by
  unfold Pipeline.afterTail₀
  rw [List.flatten_cons, List.flatten_nil, List.append_nil]
  exact (u2_8 _).trans ((congrArg un8 (w6 m c)).trans (q2_8 m c))
theorem q3_8 : un8 ((dats m 0 c).arrAt 7 cfg0.N) = val_main_v211 (F := Ideal) (a26 m c) (a35 m c) := by
  rw [final7]
  funext i
  idx_vars i
  rw [un8_at]
  exact (congrArg₂ nv (tt8 m c i0 i1) (pk_8 _ _ _ _ _ _ _ _ _ _ zp i0 i1)).trans (Cert.Reference9Ideal.Rows.v8 _ _ i0 i1).symm
theorem t3_8 : Pipeline.afterTail₀ cfgs (dats m) 0 (V0 m) [hostOps1] c main_v120 = val_main_v211 (F := Ideal) (a26 m c) (a35 m c) := by
  unfold Pipeline.afterTail₀
  rw [List.flatten_cons, List.flatten_nil, List.append_nil]
  exact (u3_8 _).trans ((congrArg un8 (w7 m c)).trans (q3_8 m c))
theorem half_at (x : FVec Ideal S_ .f32) (i : Shape.Idx S_) : (half x i : EReal) = Ideal.div (Ideal.ofBits .f32 0x3F000000#32 * x i) (Ideal.ofBits .f32 0x44800000#32) := by
  pointwise [half]
theorem q_loss : half (un9 ((dats m 0 c).arrAt 4 cfg0.N)) = val_main_v227 (F := Ideal) (a36 m c) := by
  rw [final4]
  funext i
  rw [half_at, Cert.Reference9Ideal.Rows.loss, un9_at]
  refine congrArg (fun s : EReal => Ideal.div (Ideal.ofBits .f32 0x3F000000#32 * s) (Ideal.ofBits .f32 0x44800000#32)) ?_
  show tt m c _ _ = _
  unfold tt
  exact Finset.sum_congr rfl fun k _ => pk8_9 _ _ _ _ _ _ _ _ _ _ zp k
theorem t_loss : Pipeline.afterTail₀ cfgs (dats m) 0 (V0 m) [hostOps1] c main_v124 = val_main_v227 (F := Ideal) (a36 m c) := by
  unfold Pipeline.afterTail₀
  rw [List.flatten_cons, List.flatten_nil, List.append_nil]
  exact (u_loss _).trans ((congrArg (fun x => half (un9 x)) (w4 m c)).trans (q_loss m c))

/-- Every run of the program leaves the reference's results, and its arguments unchanged. -/
theorem run : θ_run defs (onTc (τ := τ) (main (F := Ideal))) ⟨m, fun _ => 0, ρ⟩ (fun r => ∀ c : Dev nD,
      r.2.mem ((c.tc : Thread nD τ).loc main_v124) = Cert.Reference9Ideal.Read.val_main_v227 (F := Ideal) (m ((c.tc : Thread nD τ).loc main_arg36))
      ∧ r.2.mem ((c.tc : Thread nD τ).loc main_v47) = Cert.Reference9Ideal.Read.val_main_v0 (F := Ideal) (m ((c.tc : Thread nD τ).loc main_arg27))
      ∧ r.2.mem ((c.tc : Thread nD τ).loc main_v49) = Cert.Reference9Ideal.Read.val_main_v25 (F := Ideal) (m ((c.tc : Thread nD τ).loc main_arg28))
      ∧ r.2.mem ((c.tc : Thread nD τ).loc main_v51) = Cert.Reference9Ideal.Read.val_main_v50 (F := Ideal) (m ((c.tc : Thread nD τ).loc main_arg29))
      ∧ r.2.mem ((c.tc : Thread nD τ).loc main_v53) = Cert.Reference9Ideal.Read.val_main_v75 (F := Ideal) (m ((c.tc : Thread nD τ).loc main_arg30))
      ∧ r.2.mem ((c.tc : Thread nD τ).loc main_v55) = Cert.Reference9Ideal.Read.val_main_v100 (F := Ideal) (m ((c.tc : Thread nD τ).loc main_arg31))
      ∧ r.2.mem ((c.tc : Thread nD τ).loc main_v57) = Cert.Reference9Ideal.Read.val_main_v125 (F := Ideal) (m ((c.tc : Thread nD τ).loc main_arg32))
      ∧ r.2.mem ((c.tc : Thread nD τ).loc main_v59) = Cert.Reference9Ideal.Read.val_main_v150 (F := Ideal) (m ((c.tc : Thread nD τ).loc main_arg33))
      ∧ r.2.mem ((c.tc : Thread nD τ).loc main_v61) = Cert.Reference9Ideal.Read.val_main_v175 (F := Ideal) (m ((c.tc : Thread nD τ).loc main_arg34))
      ∧ r.2.mem ((c.tc : Thread nD τ).loc main_v63) = Cert.Reference9Ideal.Read.val_main_v200 (F := Ideal) (m ((c.tc : Thread nD τ).loc main_arg35))
      ∧ r.2.mem ((c.tc : Thread nD τ).loc main_v66) = Cert.Reference9Ideal.Read.val_main_v24 (F := Ideal) (m ((c.tc : Thread nD τ).loc main_arg0)) (m ((c.tc : Thread nD τ).loc main_arg9)) (m ((c.tc : Thread nD τ).loc main_arg18)) (m ((c.tc : Thread nD τ).loc main_arg27))
      ∧ r.2.mem ((c.tc : Thread nD τ).loc main_v68) = Cert.Reference9Ideal.Read.val_main_v49 (F := Ideal) (m ((c.tc : Thread nD τ).loc main_arg1)) (m ((c.tc : Thread nD τ).loc main_arg10)) (m ((c.tc : Thread nD τ).loc main_arg19)) (m ((c.tc : Thread nD τ).loc main_arg28))
      ∧ r.2.mem ((c.tc : Thread nD τ).loc main_v70) = Cert.Reference9Ideal.Read.val_main_v74 (F := Ideal) (m ((c.tc : Thread nD τ).loc main_arg2)) (m ((c.tc : Thread nD τ).loc main_arg11)) (m ((c.tc : Thread nD τ).loc main_arg20)) (m ((c.tc : Thread nD τ).loc main_arg29))
      ∧ r.2.mem ((c.tc : Thread nD τ).loc main_v72) = Cert.Reference9Ideal.Read.val_main_v99 (F := Ideal) (m ((c.tc : Thread nD τ).loc main_arg3)) (m ((c.tc : Thread nD τ).loc main_arg12)) (m ((c.tc : Thread nD τ).loc main_arg21)) (m ((c.tc : Thread nD τ).loc main_arg30))
      ∧ r.2.mem ((c.tc : Thread nD τ).loc main_v74) = Cert.Reference9Ideal.Read.val_main_v124 (F := Ideal) (m ((c.tc : Thread nD τ).loc main_arg4)) (m ((c.tc : Thread nD τ).loc main_arg13)) (m ((c.tc : Thread nD τ).loc main_arg22)) (m ((c.tc : Thread nD τ).loc main_arg31))
      ∧ r.2.mem ((c.tc : Thread nD τ).loc main_v76) = Cert.Reference9Ideal.Read.val_main_v149 (F := Ideal) (m ((c.tc : Thread nD τ).loc main_arg5)) (m ((c.tc : Thread nD τ).loc main_arg14)) (m ((c.tc : Thread nD τ).loc main_arg23)) (m ((c.tc : Thread nD τ).loc main_arg32))
      ∧ r.2.mem ((c.tc : Thread nD τ).loc main_v78) = Cert.Reference9Ideal.Read.val_main_v174 (F := Ideal) (m ((c.tc : Thread nD τ).loc main_arg6)) (m ((c.tc : Thread nD τ).loc main_arg15)) (m ((c.tc : Thread nD τ).loc main_arg24)) (m ((c.tc : Thread nD τ).loc main_arg33))
      ∧ r.2.mem ((c.tc : Thread nD τ).loc main_v80) = Cert.Reference9Ideal.Read.val_main_v199 (F := Ideal) (m ((c.tc : Thread nD τ).loc main_arg7)) (m ((c.tc : Thread nD τ).loc main_arg16)) (m ((c.tc : Thread nD τ).loc main_arg25)) (m ((c.tc : Thread nD τ).loc main_arg34))
      ∧ r.2.mem ((c.tc : Thread nD τ).loc main_v82) = Cert.Reference9Ideal.Read.val_main_v224 (F := Ideal) (m ((c.tc : Thread nD τ).loc main_arg8)) (m ((c.tc : Thread nD τ).loc main_arg17)) (m ((c.tc : Thread nD τ).loc main_arg26)) (m ((c.tc : Thread nD τ).loc main_arg35))
      ∧ r.2.mem ((c.tc : Thread nD τ).loc main_v85) = Cert.Reference9Ideal.Read.val_main_v5 (F := Ideal) (m ((c.tc : Thread nD τ).loc main_arg9)) (m ((c.tc : Thread nD τ).loc main_arg27))
      ∧ r.2.mem ((c.tc : Thread nD τ).loc main_v87) = Cert.Reference9Ideal.Read.val_main_v30 (F := Ideal) (m ((c.tc : Thread nD τ).loc main_arg10)) (m ((c.tc : Thread nD τ).loc main_arg28))
      ∧ r.2.mem ((c.tc : Thread nD τ).loc main_v89) = Cert.Reference9Ideal.Read.val_main_v55 (F := Ideal) (m ((c.tc : Thread nD τ).loc main_arg11)) (m ((c.tc : Thread nD τ).loc main_arg29))
      ∧ r.2.mem ((c.tc : Thread nD τ).loc main_v91) = Cert.Reference9Ideal.Read.val_main_v80 (F := Ideal) (m ((c.tc : Thread nD τ).loc main_arg12)) (m ((c.tc : Thread nD τ).loc main_arg30))
      ∧ r.2.mem ((c.tc : Thread nD τ).loc main_v93) = Cert.Reference9Ideal.Read.val_main_v105 (F := Ideal) (m ((c.tc : Thread nD τ).loc main_arg13)) (m ((c.tc : Thread nD τ).loc main_arg31))
      ∧ r.2.mem ((c.tc : Thread nD τ).loc main_v95) = Cert.Reference9Ideal.Read.val_main_v130 (F := Ideal) (m ((c.tc : Thread nD τ).loc main_arg14)) (m ((c.tc : Thread nD τ).loc main_arg32))
      ∧ r.2.mem ((c.tc : Thread nD τ).loc main_v97) = Cert.Reference9Ideal.Read.val_main_v155 (F := Ideal) (m ((c.tc : Thread nD τ).loc main_arg15)) (m ((c.tc : Thread nD τ).loc main_arg33))
      ∧ r.2.mem ((c.tc : Thread nD τ).loc main_v99) = Cert.Reference9Ideal.Read.val_main_v180 (F := Ideal) (m ((c.tc : Thread nD τ).loc main_arg16)) (m ((c.tc : Thread nD τ).loc main_arg34))
      ∧ r.2.mem ((c.tc : Thread nD τ).loc main_v101) = Cert.Reference9Ideal.Read.val_main_v205 (F := Ideal) (m ((c.tc : Thread nD τ).loc main_arg17)) (m ((c.tc : Thread nD τ).loc main_arg35))
      ∧ r.2.mem ((c.tc : Thread nD τ).loc main_v104) = Cert.Reference9Ideal.Read.val_main_v11 (F := Ideal) (m ((c.tc : Thread nD τ).loc main_arg18)) (m ((c.tc : Thread nD τ).loc main_arg27))
      ∧ r.2.mem ((c.tc : Thread nD τ).loc main_v106) = Cert.Reference9Ideal.Read.val_main_v36 (F := Ideal) (m ((c.tc : Thread nD τ).loc main_arg19)) (m ((c.tc : Thread nD τ).loc main_arg28))
      ∧ r.2.mem ((c.tc : Thread nD τ).loc main_v108) = Cert.Reference9Ideal.Read.val_main_v61 (F := Ideal) (m ((c.tc : Thread nD τ).loc main_arg20)) (m ((c.tc : Thread nD τ).loc main_arg29))
      ∧ r.2.mem ((c.tc : Thread nD τ).loc main_v110) = Cert.Reference9Ideal.Read.val_main_v86 (F := Ideal) (m ((c.tc : Thread nD τ).loc main_arg21)) (m ((c.tc : Thread nD τ).loc main_arg30))
      ∧ r.2.mem ((c.tc : Thread nD τ).loc main_v112) = Cert.Reference9Ideal.Read.val_main_v111 (F := Ideal) (m ((c.tc : Thread nD τ).loc main_arg22)) (m ((c.tc : Thread nD τ).loc main_arg31))
      ∧ r.2.mem ((c.tc : Thread nD τ).loc main_v114) = Cert.Reference9Ideal.Read.val_main_v136 (F := Ideal) (m ((c.tc : Thread nD τ).loc main_arg23)) (m ((c.tc : Thread nD τ).loc main_arg32))
      ∧ r.2.mem ((c.tc : Thread nD τ).loc main_v116) = Cert.Reference9Ideal.Read.val_main_v161 (F := Ideal) (m ((c.tc : Thread nD τ).loc main_arg24)) (m ((c.tc : Thread nD τ).loc main_arg33))
      ∧ r.2.mem ((c.tc : Thread nD τ).loc main_v118) = Cert.Reference9Ideal.Read.val_main_v186 (F := Ideal) (m ((c.tc : Thread nD τ).loc main_arg25)) (m ((c.tc : Thread nD τ).loc main_arg34))
      ∧ r.2.mem ((c.tc : Thread nD τ).loc main_v120) = Cert.Reference9Ideal.Read.val_main_v211 (F := Ideal) (m ((c.tc : Thread nD τ).loc main_arg26)) (m ((c.tc : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  refine (θ_run defs _ _).mono (fun r hr c => ?_) (θ_run_and (run_main m ρ) (unchanged m ρ))
  exact ⟨((hr.1 c).2 main_v124 (by decide)).trans (t_loss m c), ((hr.1 c).2 main_v47 (by decide)).trans (t0_0 m c), ((hr.1 c).2 main_v49 (by decide)).trans (t0_1 m c), ((hr.1 c).2 main_v51 (by decide)).trans (t0_2 m c), ((hr.1 c).2 main_v53 (by decide)).trans (t0_3 m c), ((hr.1 c).2 main_v55 (by decide)).trans (t0_4 m c), ((hr.1 c).2 main_v57 (by decide)).trans (t0_5 m c), ((hr.1 c).2 main_v59 (by decide)).trans (t0_6 m c), ((hr.1 c).2 main_v61 (by decide)).trans (t0_7 m c), ((hr.1 c).2 main_v63 (by decide)).trans (t0_8 m c), ((hr.1 c).2 main_v66 (by decide)).trans (t1_0 m c), ((hr.1 c).2 main_v68 (by decide)).trans (t1_1 m c), ((hr.1 c).2 main_v70 (by decide)).trans (t1_2 m c), ((hr.1 c).2 main_v72 (by decide)).trans (t1_3 m c), ((hr.1 c).2 main_v74 (by decide)).trans (t1_4 m c), ((hr.1 c).2 main_v76 (by decide)).trans (t1_5 m c), ((hr.1 c).2 main_v78 (by decide)).trans (t1_6 m c), ((hr.1 c).2 main_v80 (by decide)).trans (t1_7 m c), ((hr.1 c).2 main_v82 (by decide)).trans (t1_8 m c), ((hr.1 c).2 main_v85 (by decide)).trans (t2_0 m c), ((hr.1 c).2 main_v87 (by decide)).trans (t2_1 m c), ((hr.1 c).2 main_v89 (by decide)).trans (t2_2 m c), ((hr.1 c).2 main_v91 (by decide)).trans (t2_3 m c), ((hr.1 c).2 main_v93 (by decide)).trans (t2_4 m c), ((hr.1 c).2 main_v95 (by decide)).trans (t2_5 m c), ((hr.1 c).2 main_v97 (by decide)).trans (t2_6 m c), ((hr.1 c).2 main_v99 (by decide)).trans (t2_7 m c), ((hr.1 c).2 main_v101 (by decide)).trans (t2_8 m c), ((hr.1 c).2 main_v104 (by decide)).trans (t3_0 m c), ((hr.1 c).2 main_v106 (by decide)).trans (t3_1 m c), ((hr.1 c).2 main_v108 (by decide)).trans (t3_2 m c), ((hr.1 c).2 main_v110 (by decide)).trans (t3_3 m c), ((hr.1 c).2 main_v112 (by decide)).trans (t3_4 m c), ((hr.1 c).2 main_v114 (by decide)).trans (t3_5 m c), ((hr.1 c).2 main_v116 (by decide)).trans (t3_6 m c), ((hr.1 c).2 main_v118 (by decide)).trans (t3_7 m c), ((hr.1 c).2 main_v120 (by decide)).trans (t3_8 m c), hr.2 c⟩

end Cert.Kernel9Ideal.Value

end
-- ==== Proof.Small3.lean ====
/- The claims about the optimiser's last call. -/
module

public import proofs.«01_k».proof.Defs
public import proofs.«01_k».proof.Proof.Small2
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem

namespace Cert.Proof

/-- The ninth reference runs, keeps its arguments and ends with every counter at zero. -/
theorem frame_ri9 : Cert.quiescent_Reference9Ideal := fun m ρ _ =>
  (θ_run Cert.Reference9Ideal.defs _ _).mono (fun r h => ⟨fun c => (h c).2.2.2.2.2.2.2.2.2.2.2.2.2.2.2.2.2.2.2.2.2.2.2.2.2.2.2.2.2.2.2.2.2.2.2.2.2,
      Idealize.ShloMosaic.sem_eq_zero_of_no_sems (by decide) r.2⟩)
    (Cert.Reference9Ideal.Value.run (F := Ideal) m ρ)

/-- The optimiser's step on the small weights, and the loss, are the ninth reference's, from arguments that agree. -/
theorem algebraic9 : Cert.algebraic_Kernel9Ideal_Reference9Ideal := by
  pair_intro
  · run_from Cert.Kernel9Ideal.Value.run m g
  · refine (θ_run Cert.Reference9Ideal.defs _ _).mono (fun r h c => ?_) (Cert.Reference9Ideal.Value.run (F := Ideal) m' g')
    obtain ⟨h0, h1, h2, h3, h4, h5, h6, h7, h8, h9, h10, h11, h12, h13, h14, h15, h16, h17, h18, h19, h20, h21, h22, h23, h24, h25, h26, h27, h28, h29, h30, h31, h32, h33, h34, h35, h36⟩ := hagree c
    obtain ⟨r0, r1, r2, r3, r4, r5, r6, r7, r8, r9, r10, r11, r12, r13, r14, r15, r16, r17, r18, r19, r20, r21, r22, r23, r24, r25, r26, r27, r28, r29, r30, r31, r32, r33, r34, r35, r36, rest⟩ := h c
    replace r0 := r0.trans (Cert.Reference9Ideal.Read.val_main_v227_eq (F := Ideal) (StableHlo.launchContents m' c))
    rw [StableHlo.launchContents_devRef, h36] at r0
    replace r1 := r1.trans (Cert.Reference9Ideal.Read.val_main_v0_eq (F := Ideal) (StableHlo.launchContents m' c))
    rw [StableHlo.launchContents_devRef, h27] at r1
    replace r2 := r2.trans (Cert.Reference9Ideal.Read.val_main_v25_eq (F := Ideal) (StableHlo.launchContents m' c))
    rw [StableHlo.launchContents_devRef, h28] at r2
    replace r3 := r3.trans (Cert.Reference9Ideal.Read.val_main_v50_eq (F := Ideal) (StableHlo.launchContents m' c))
    rw [StableHlo.launchContents_devRef, h29] at r3
    replace r4 := r4.trans (Cert.Reference9Ideal.Read.val_main_v75_eq (F := Ideal) (StableHlo.launchContents m' c))
    rw [StableHlo.launchContents_devRef, h30] at r4
    replace r5 := r5.trans (Cert.Reference9Ideal.Read.val_main_v100_eq (F := Ideal) (StableHlo.launchContents m' c))
    rw [StableHlo.launchContents_devRef, h31] at r5
    replace r6 := r6.trans (Cert.Reference9Ideal.Read.val_main_v125_eq (F := Ideal) (StableHlo.launchContents m' c))
    rw [StableHlo.launchContents_devRef, h32] at r6
    replace r7 := r7.trans (Cert.Reference9Ideal.Read.val_main_v150_eq (F := Ideal) (StableHlo.launchContents m' c))
    rw [StableHlo.launchContents_devRef, h33] at r7
    replace r8 := r8.trans (Cert.Reference9Ideal.Read.val_main_v175_eq (F := Ideal) (StableHlo.launchContents m' c))
    rw [StableHlo.launchContents_devRef, h34] at r8
    replace r9 := r9.trans (Cert.Reference9Ideal.Read.val_main_v200_eq (F := Ideal) (StableHlo.launchContents m' c))
    rw [StableHlo.launchContents_devRef, h35] at r9
    replace r10 := r10.trans (Cert.Reference9Ideal.Read.val_main_v24_eq (F := Ideal) (StableHlo.launchContents m' c))
    rw [StableHlo.launchContents_devRef, StableHlo.launchContents_devRef, StableHlo.launchContents_devRef, StableHlo.launchContents_devRef, h0, h9, h18, h27] at r10
    replace r11 := r11.trans (Cert.Reference9Ideal.Read.val_main_v49_eq (F := Ideal) (StableHlo.launchContents m' c))
    rw [StableHlo.launchContents_devRef, StableHlo.launchContents_devRef, StableHlo.launchContents_devRef, StableHlo.launchContents_devRef, h1, h10, h19, h28] at r11
    replace r12 := r12.trans (Cert.Reference9Ideal.Read.val_main_v74_eq (F := Ideal) (StableHlo.launchContents m' c))
    rw [StableHlo.launchContents_devRef, StableHlo.launchContents_devRef, StableHlo.launchContents_devRef, StableHlo.launchContents_devRef, h2, h11, h20, h29] at r12
    replace r13 := r13.trans (Cert.Reference9Ideal.Read.val_main_v99_eq (F := Ideal) (StableHlo.launchContents m' c))
    rw [StableHlo.launchContents_devRef, StableHlo.launchContents_devRef, StableHlo.launchContents_devRef, StableHlo.launchContents_devRef, h3, h12, h21, h30] at r13
    replace r14 := r14.trans (Cert.Reference9Ideal.Read.val_main_v124_eq (F := Ideal) (StableHlo.launchContents m' c))
    rw [StableHlo.launchContents_devRef, StableHlo.launchContents_devRef, StableHlo.launchContents_devRef, StableHlo.launchContents_devRef, h4, h13, h22, h31] at r14
    replace r15 := r15.trans (Cert.Reference9Ideal.Read.val_main_v149_eq (F := Ideal) (StableHlo.launchContents m' c))
    rw [StableHlo.launchContents_devRef, StableHlo.launchContents_devRef, StableHlo.launchContents_devRef, StableHlo.launchContents_devRef, h5, h14, h23, h32] at r15
    replace r16 := r16.trans (Cert.Reference9Ideal.Read.val_main_v174_eq (F := Ideal) (StableHlo.launchContents m' c))
    rw [StableHlo.launchContents_devRef, StableHlo.launchContents_devRef, StableHlo.launchContents_devRef, StableHlo.launchContents_devRef, h6, h15, h24, h33] at r16
    replace r17 := r17.trans (Cert.Reference9Ideal.Read.val_main_v199_eq (F := Ideal) (StableHlo.launchContents m' c))
    rw [StableHlo.launchContents_devRef, StableHlo.launchContents_devRef, StableHlo.launchContents_devRef, StableHlo.launchContents_devRef, h7, h16, h25, h34] at r17
    replace r18 := r18.trans (Cert.Reference9Ideal.Read.val_main_v224_eq (F := Ideal) (StableHlo.launchContents m' c))
    rw [StableHlo.launchContents_devRef, StableHlo.launchContents_devRef, StableHlo.launchContents_devRef, StableHlo.launchContents_devRef, h8, h17, h26, h35] at r18
    replace r19 := r19.trans (Cert.Reference9Ideal.Read.val_main_v5_eq (F := Ideal) (StableHlo.launchContents m' c))
    rw [StableHlo.launchContents_devRef, StableHlo.launchContents_devRef, h9, h27] at r19
    replace r20 := r20.trans (Cert.Reference9Ideal.Read.val_main_v30_eq (F := Ideal) (StableHlo.launchContents m' c))
    rw [StableHlo.launchContents_devRef, StableHlo.launchContents_devRef, h10, h28] at r20
    replace r21 := r21.trans (Cert.Reference9Ideal.Read.val_main_v55_eq (F := Ideal) (StableHlo.launchContents m' c))
    rw [StableHlo.launchContents_devRef, StableHlo.launchContents_devRef, h11, h29] at r21
    replace r22 := r22.trans (Cert.Reference9Ideal.Read.val_main_v80_eq (F := Ideal) (StableHlo.launchContents m' c))
    rw [StableHlo.launchContents_devRef, StableHlo.launchContents_devRef, h12, h30] at r22
    replace r23 := r23.trans (Cert.Reference9Ideal.Read.val_main_v105_eq (F := Ideal) (StableHlo.launchContents m' c))
    rw [StableHlo.launchContents_devRef, StableHlo.launchContents_devRef, h13, h31] at r23
    replace r24 := r24.trans (Cert.Reference9Ideal.Read.val_main_v130_eq (F := Ideal) (StableHlo.launchContents m' c))
    rw [StableHlo.launchContents_devRef, StableHlo.launchContents_devRef, h14, h32] at r24
    replace r25 := r25.trans (Cert.Reference9Ideal.Read.val_main_v155_eq (F := Ideal) (StableHlo.launchContents m' c))
    rw [StableHlo.launchContents_devRef, StableHlo.launchContents_devRef, h15, h33] at r25
    replace r26 := r26.trans (Cert.Reference9Ideal.Read.val_main_v180_eq (F := Ideal) (StableHlo.launchContents m' c))
    rw [StableHlo.launchContents_devRef, StableHlo.launchContents_devRef, h16, h34] at r26
    replace r27 := r27.trans (Cert.Reference9Ideal.Read.val_main_v205_eq (F := Ideal) (StableHlo.launchContents m' c))
    rw [StableHlo.launchContents_devRef, StableHlo.launchContents_devRef, h17, h35] at r27
    replace r28 := r28.trans (Cert.Reference9Ideal.Read.val_main_v11_eq (F := Ideal) (StableHlo.launchContents m' c))
    rw [StableHlo.launchContents_devRef, StableHlo.launchContents_devRef, h18, h27] at r28
    replace r29 := r29.trans (Cert.Reference9Ideal.Read.val_main_v36_eq (F := Ideal) (StableHlo.launchContents m' c))
    rw [StableHlo.launchContents_devRef, StableHlo.launchContents_devRef, h19, h28] at r29
    replace r30 := r30.trans (Cert.Reference9Ideal.Read.val_main_v61_eq (F := Ideal) (StableHlo.launchContents m' c))
    rw [StableHlo.launchContents_devRef, StableHlo.launchContents_devRef, h20, h29] at r30
    replace r31 := r31.trans (Cert.Reference9Ideal.Read.val_main_v86_eq (F := Ideal) (StableHlo.launchContents m' c))
    rw [StableHlo.launchContents_devRef, StableHlo.launchContents_devRef, h21, h30] at r31
    replace r32 := r32.trans (Cert.Reference9Ideal.Read.val_main_v111_eq (F := Ideal) (StableHlo.launchContents m' c))
    rw [StableHlo.launchContents_devRef, StableHlo.launchContents_devRef, h22, h31] at r32
    replace r33 := r33.trans (Cert.Reference9Ideal.Read.val_main_v136_eq (F := Ideal) (StableHlo.launchContents m' c))
    rw [StableHlo.launchContents_devRef, StableHlo.launchContents_devRef, h23, h32] at r33
    replace r34 := r34.trans (Cert.Reference9Ideal.Read.val_main_v161_eq (F := Ideal) (StableHlo.launchContents m' c))
    rw [StableHlo.launchContents_devRef, StableHlo.launchContents_devRef, h24, h33] at r34
    replace r35 := r35.trans (Cert.Reference9Ideal.Read.val_main_v186_eq (F := Ideal) (StableHlo.launchContents m' c))
    rw [StableHlo.launchContents_devRef, StableHlo.launchContents_devRef, h25, h34] at r35
    replace r36 := r36.trans (Cert.Reference9Ideal.Read.val_main_v211_eq (F := Ideal) (StableHlo.launchContents m' c))
    rw [StableHlo.launchContents_devRef, StableHlo.launchContents_devRef, h26, h35] at r36
    exact ⟨r0, r1, r2, r3, r4, r5, r6, r7, r8, r9, r10, r11, r12, r13, r14, r15, r16, r17, r18, r19, r20, r21, r22, r23, r24, r25, r26, r27, r28, r29, r30, r31, r32, r33, r34, r35, r36, rest⟩

end Cert.Proof

end
-- ==== Proof.Ada.lean ====
/- The conditioning rows: the product of `silu c` with each layer's matrix, and its bias. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

/-- `silu c` times a layer's matrix, plus its bias. -/
def cond (C : FVec Ideal S64x1024 .f32) (W : FVec Ideal S2x1024x768 .f32) (B : FVec Ideal S2x1x768 .f32) : FVec Ideal S2x64x768 .f32 := fun i =>
  ((∑ k : Fin 1024, ((C (ix2 (⟨(i 1).val, (i 1).isLt⟩ : Fin 64) k) : EReal) * Ideal.logistic (C (ix2 (⟨(i 1).val, (i 1).isLt⟩ : Fin 64) k)))
    * W (ix3 (⟨(i 0).val, (i 0).isLt⟩ : Fin 2) k (⟨(i 2).val, (i 2).isLt⟩ : Fin 768)))
    + B (ix3 (⟨(i 0).val, (i 0).isLt⟩ : Fin 2) (0 : Fin 1) (⟨(i 2).val, (i 2).isLt⟩ : Fin 768)) : EReal)

/-- The block a point computes, over variables. -/
theorem pay (c : FVec Ideal S64x1024 .f32) (w : FVec Ideal S1x1024x768 .f32) (b : FVec Ideal S1x1x768 .f32) (z : Fin 1) (p : Fin 64) (q : Fin 768) :
    (k0_pay1 (F := Ideal) c w b (ix3 z p q) : EReal)
      = (∑ k : Fin 1024, ((c (ix2 p k) : EReal) * Ideal.logistic (c (ix2 p k))) * w (ix3 (0 : Fin 1) k q)) + b (ix3 (0 : Fin 1) (0 : Fin 1) q) := by
  pointwise [k0_pay1]

theorem idx0 : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

variable (m : (ℓ : Loc nD τ sig) → Buf (Elt Ideal) ℓ) (ρ : Dev nD → PrngReg)

theorem point0 (c : Dev nD) (t : Fin cfg0.N) (y) : k0_pay1 (iblk m c 0 t) (iblk m c 1 t) (iblk m c 2 t) y
    = cond (V m c main_arg0) (V m c main_arg1) (V m c main_v0) (((cfg0.win 3).blk t).view.emb y) := by
  idx_vars y
  refine (pay _ _ _ _ _ _).trans ?_
  pointwise [cond]
  blk_point [iblk, idx0 t]

theorem final3 (c : Dev nD) : (dats m 0 c).arrAt 3 cfg0.N = cond (V m c main_arg0) (V m c main_arg1) (V m c main_v0) := by
  refine (dats m 0 c).arrAt_eq_of_covers 3 _ (by decide +kernel) fun t _ y => ?_
  blk_simp
  rw [after0_3]; frame_out
  exact point0 m c t y

theorem v_v0 (c : Dev nD) : V m c main_v0 = broadcastInDim S2x1x768 ![0, 2] bcast_S2x768_S2x1x768_0_2 (m ((c.tc : Thread nD τ).loc main_arg2)) := by
  show StableHlo.after hostOps0 _ _ = _
  after_results
theorem v_a0 (c : Dev nD) : V m c main_arg0 = m ((c.tc : Thread nD τ).loc main_arg0) := by
  show StableHlo.after hostOps0 _ _ = _
  after_results
theorem v_a1 (c : Dev nD) : V m c main_arg1 = m ((c.tc : Thread nD τ).loc main_arg1) := by
  show StableHlo.after hostOps0 _ _ = _
  after_results

open Cert.Reference10Ideal.Read in
/-- The call's rows are the reference's. -/
theorem cond_eq (x0 : FVec Ideal S64x1024 .f32) (x1 : FVec Ideal S2x1024x768 .f32) (x2 : FVec Ideal S2x768 .f32) :
    cond x0 x1 (broadcastInDim S2x1x768 ![0, 2] bcast_S2x768_S2x1x768_0_2 x2) = val_main_v5 (F := Ideal) x0 x1 x2 := by
  funext i
  idx_vars i
  rw [val_main_v5_apply, val_main_v3_apply, val_main_v1_apply]
  simp only [val_main_v0_apply]
  pointwise [cond, val_main_v4, val_main_v2, val_main_call0_v5, val_main_call0_v4, val_main_call0_v3, val_main_call0_v2, val_main_call0_v1,
    val_main_call0_v0, val_main_call0_cst, val_main_call0_cst_0]
  simp only [Ideal.logistic]
  blk_point

/-- Every fair execution of the call ends with the reference's rows, its arguments unchanged. -/
theorem run : θ_run defs (onTc (τ := τ) (main (F := Ideal))) ⟨m, fun _ => 0, ρ⟩ (fun r => ∀ c : Dev nD,
      r.2.mem ((c.tc : Thread nD τ).loc main_v1) = Cert.Reference10Ideal.Read.val_main_v5 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ?_) (θ_run_and (run_main m ρ) (unchanged m ρ))
  refine ⟨((hr.1 c).1 3).trans ((final3 m c).trans ?_), hr.2 c⟩
  rw [v_a0, v_a1, v_v0]
  exact cond_eq ..

end Cert.Kernel10Ideal.Value

end
-- ==== Proof.AdaB.lean ====
/- The gradient of the conditioning matrices: `silu c` transposed times the conditioning rows' cotangent, layer by layer. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

/-- `silu c` transposed times a layer's cotangent, over the rows. -/
def gada (C : FVec Ideal S64x1024 .f32) (G : FVec Ideal S2x64x768 .f32) : FVec Ideal S2x1024x768 .f32 := fun i =>
  (∑ k : Fin 64, ((C (ix2 k (⟨(i 1).val, (i 1).isLt⟩ : Fin 1024)) : EReal) * Ideal.logistic (C (ix2 k (⟨(i 1).val, (i 1).isLt⟩ : Fin 1024))))
    * G (ix3 (⟨(i 0).val, (i 0).isLt⟩ : Fin 2) k (⟨(i 2).val, (i 2).isLt⟩ : Fin 768)) : EReal)

/-- The block a point computes, over variables. -/
theorem pay (c : FVec Ideal S64x1024 .f32) (g : FVec Ideal S1x64x768 .f32) (z : Fin 1) (p : Fin 1024) (q : Fin 768) :
    (k0_pay4 (F := Ideal) c g (ix3 z p q) : EReal)
      = ∑ k : Fin 64, ((c (ix2 k p) : EReal) * Ideal.logistic (c (ix2 k p))) * g (ix3 (0 : Fin 1) k q) := by
  pointwise [k0_pay4, k0_pay3]

theorem idx0 : ∀ t : Fin cfg0.N, win0_0.index t = ![0, 0] ∧ win0_2.index t = ![t.val, 0, 0] ∧ win0_4.index t = ![t.val, 0, 0] :=
  (by decide +kernel : ∀ t : Fin grid0.N, _)

variable (m : (ℓ : Loc nD τ sig) → Buf (Elt Ideal) ℓ) (ρ : Dev nD → PrngReg)

theorem point0 (c : Dev nD) (t : Fin cfg0.N) (y) : k0_pay4 (iblk m c 0 t) (iblk m c 2 t) y
    = gada (V m c main_arg0) (V m c main_arg2) (((cfg0.win 4).blk t).view.emb y) := by
  idx_vars y
  refine (pay _ _ _ _ _).trans ?_
  pointwise [gada]
  blk_point [iblk, idx0 t]

/-- Both cases of the body store the same block of the gradient. -/
theorem outs4 (c : Dev nD) (t : Fin cfg0.N) (y) : (outsAt0 m c t.val t.isLt).1 y = k0_pay4 (iblk m c 0 t) (iblk m c 2 t) y := by
  by_cases hA : t.val % 2 = 0
  · rw [outsAt0_A m c t hA (by omega)]
    frame_out
  · rw [outsAt0_B m c t hA (by omega)]
    frame_out

theorem final4 (c : Dev nD) : (dats m 0 c).arrAt 4 cfg0.N = gada (V m c main_arg0) (V m c main_arg2) := by
  refine (dats m 0 c).arrAt_eq_of_covers 4 _ (by decide +kernel) fun t _ y => ?_
  blk_simp
  rw [after0_4]
  exact (outs4 m c t _).trans (point0 m c t y)

theorem v_a0 (c : Dev nD) : V m c main_arg0 = m ((c.tc : Thread nD τ).loc main_arg0) := by
  show StableHlo.after hostOps0 _ _ = _
  after_results
theorem v_a2 (c : Dev nD) : V m c main_arg2 = m ((c.tc : Thread nD τ).loc main_arg2) := by
  show StableHlo.after hostOps0 _ _ = _
  after_results

open Cert.Reference11Ideal.Read in
/-- The call's gradient is the reference's. -/
theorem gada_eq (x0 : FVec Ideal S64x1024 .f32) (x2 : FVec Ideal S2x64x768 .f32) :
    gada x0 x2 = val_main_v5 (F := Ideal) x0 x2 := by
  funext i
  idx_vars i
  rw [val_main_v5_apply, val_main_v4_apply]
  simp only [val_main_v0_apply, val_main_v3_apply]
  unfold gada
  refine (Finset.sum_congr rfl fun k _ => mul_comm _ _).trans ?_
  pointwise [val_main_call0_v5, val_main_call0_v4, val_main_call0_v3, val_main_call0_v2, val_main_call0_v1,
    val_main_call0_v0, val_main_call0_cst, val_main_call0_cst_0]
  simp only [Ideal.logistic]
  blk_point

/-- Every fair execution of the call ends with the reference's gradient, its arguments unchanged. -/
theorem run : θ_run defs (onTc (τ := τ) (main (F := Ideal))) ⟨m, fun _ => 0, ρ⟩ (fun r => ∀ c : Dev nD,
      r.2.mem ((c.tc : Thread nD τ).loc main_v1_0) = Cert.Reference11Ideal.Read.val_main_v5 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ?_) (θ_run_and (run_main m ρ) (unchanged m ρ))
  refine ⟨((hr.1 c).1 4).trans ((final4 m c).trans ?_), hr.2 c⟩
  rw [v_a0, v_a2]
  exact gada_eq ..

end Cert.Kernel11Ideal.Value

end
-- ==== Proof.Mlp3.lean ====
module

public import proofs.«01_k».proof.Proof.Gen.Kernel7Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

variable (V : (c : Dev nD) → (b : Ref sig .tc) → Buf (Elt Ideal) ((c : Thread nD τ).loc b))

/-- The gradient of the MLP's input: a product over the 4096 hidden columns. -/
def deep (a : FVec Ideal S4608x4096 .bf16) (w : FVec Ideal S4096x1024 .bf16) : FVec Ideal S4608x1024 .f32 := fun i =>
  ∑ k : Fin 4096, (a (ix2 (⟨(i 0).val, (i 0).isLt⟩ : Fin 4608) k) : EReal) * w (ix2 k (⟨(i 1).val, (i 1).isLt⟩ : Fin 1024))

/-- The gradient at the hidden columns, from the saved activation: `dy · wᵀ` times twice the activation's root. -/
def hid (dy : FVec Ideal S4608x1024 .bf16) (w : FVec Ideal S4096x1024 .bf16) (a : FVec Ideal S4608x4096 .bf16) : FVec Ideal S4608x4096 .bf16 := fun i =>
  (∑ k : Fin 1024, (dy (ix2 (⟨(i 0).val, (i 0).isLt⟩ : Fin 4608) k) : EReal) * w (ix2 (⟨(i 1).val, (i 1).isLt⟩ : Fin 4096) k)) * (FloatOps.ofBits (F := Ideal) .f32 0x40000000#32 * FloatOps.sqrt (F := Ideal) (φ := .bf16) (a i))

/-- The gradient of the second weight: the transposed activation times `dy`, over the rows. -/
def gdown (at' : FVec Ideal S4096x4608 .bf16) (dy : FVec Ideal S4608x1024 .bf16) : FVec Ideal S4096x1024 .bf16 := fun i =>
  ∑ k : Fin 4608, (at' (ix2 (⟨(i 0).val, (i 0).isLt⟩ : Fin 4096) k) : EReal) * dy (ix2 k (⟨(i 1).val, (i 1).isLt⟩ : Fin 1024))

/-- The gradient of the first weight, as eight column slots: the transposed input times the hidden gradient. -/
def gup (xt : FVec Ideal S1024x4608 .bf16) (da : FVec Ideal S4608x4096 .bf16) : FVec Ideal S8x1024x512 .bf16 := fun i =>
  ∑ k : Fin 4608, (xt (ix2 (⟨(i 1).val, (i 1).isLt⟩ : Fin 1024) k) : EReal) * da (ix2 k (⟨(i 0).val * 512 + (i 2).val, by have h := (i 0).isLt; have h' := (i 2).isLt; change (i 0).val < 8 at h; change (i 2).val < 512 at h'; omega⟩ : Fin 4096))

theorem idx0 : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

theorem point0_3 (c : Dev nD) (t : Fin cfg0.N) (y) : k0_pay1 (iblk0 V c 0 t) (iblk0 V c 1 t) (iblk0 V c 2 t) y
    = hid (V c main_v7) (V c main_v4) (V c main_v11) (((cfg0.win 3).blk t).view.emb y) := by
  pointwise [k0_pay1, hid]
  blk_point [iblk0, idx0 t]

theorem final0_3 (c : Dev nD) : (dat0 V c).arrAt 3 cfg0.N = hid (V c main_v7) (V c main_v4) (V c main_v11) := by
  refine (dat0 V c).arrAt_eq_of_covers 3 _ (by decide +kernel) fun t _ y => ?_
  blk_simp
  rw [after0_3]; frame_out
  exact point0_3 V c t y

theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)

theorem point1_2 (c : Dev nD) (t : Fin cfg1.N) (y) : k1_pay1 (iblk1 V c 0 t) (iblk1 V c 1 t) y
    = gdown (V c main_v12) (V c main_v7) (((cfg1.win 2).blk t).view.emb y) := by
  pointwise [k1_pay1, gdown]
  blk_point [iblk1, idx1 t]

theorem final1_2 (c : Dev nD) : (dat1 V c).arrAt 2 cfg1.N = gdown (V c main_v12) (V c main_v7) := by
  refine (dat1 V c).arrAt_eq_of_covers 2 _ (by decide +kernel) fun t _ y => ?_
  blk_simp
  rw [after1_2]; frame_out
  exact point1_2 V c t y

theorem idx2 : ∀ t : Fin cfg2.N, win2_0.index t = ![0, 0] ∧ win2_1.index t = ![0, t.val] ∧ win2_2.index t = ![t.val, 0, 0] :=
  (by decide +kernel : ∀ t : Fin grid2.N, _)

theorem point2_2 (c : Dev nD) (t : Fin cfg2.N) (y) : k2_pay1 (iblk2 V c 0 t) (iblk2 V c 1 t) y
    = gup (V c main_v6) (V c main_v13) (((cfg2.win 2).blk t).view.emb y) := by
  pointwise [k2_pay1, gup]
  blk_point [iblk2, idx2 t]

theorem final2_2 (c : Dev nD) : (dat2 V c).arrAt 2 cfg2.N = gup (V c main_v6) (V c main_v13) := by
  refine (dat2 V c).arrAt_eq_of_covers 2 _ (by decide +kernel) fun t _ y => ?_
  blk_simp
  rw [after2_2]; frame_out
  exact point2_2 V c t y

theorem idx3 : ∀ t : Fin cfg3.N, win3_0.index t = ![t.val / 2, 0] ∧ win3_1.index t = ![0, t.val % 2] ∧ win3_2.index t = ![t.val / 2, t.val % 2] :=
  (by decide +kernel : ∀ t : Fin grid3.N, _)

theorem point3_2 (c : Dev nD) (t : Fin cfg3.N) (y) : k3_pay1 (iblk3 V c 0 t) (iblk3 V c 1 t) y
    = deep (V c main_v13) (V c main_v3) (((cfg3.win 2).blk t).view.emb y) := by
  pointwise [k3_pay1, deep]
  blk_point [iblk3, idx3 t]

theorem final3_2 (c : Dev nD) : (dat3 V c).arrAt 2 cfg3.N = deep (V c main_v13) (V c main_v3) := by
  refine (dat3 V c).arrAt_eq_of_covers 2 _ (by decide +kernel) fun t _ y => ?_
  blk_simp
  rw [after3_2]; frame_out
  exact point3_2 V c t y

end Cert.Kernel7Ideal.Value

end
-- ==== Proof.Mlp4.lean ====
module

public import proofs.«01_k».proof.Proof.Mlp3
public import proofs.«01_k».proof.Proof.Mlp1
public import proofs.«01_k».proof.Proof.Gen.Reference7Ideal.Read

@[expose] public section

set_option maxRecDepth 16384

noncomputable section

open Idealize.ShloMosaic Idealize.ShloMosaic.TcCoe Idealize.SL.Sem

namespace Cert.Kernel7Ideal.Value

open Cert.Kernel7Ideal Cert.Kernel7Ideal.Gen

variable (X : FVec Ideal S4608x1024 .f32) (U : FVec Ideal S1024x4096 .f32) (W : FVec Ideal S4096x1024 .f32)
  (Y : FVec Ideal S4608x1024 .f32)

/-- What the host leaves for the calls: the column slots of the first weight transposed, the second weight, the transposed input,
    and the saved activation with its transpose. -/
abbrev slotsT (U : FVec Ideal S1024x4096 .f32) : FVec Ideal S4096x1024 .bf16 :=
  shapeCast S4096x1024 (transpose S8x512x1024 [1, 2, 0] (shapeCast S1024x8x512 (truncf .bf16 U bitsLt_bf16_f32) shapeCasts_S1024x4096_S1024x8x512) transposes_S1024x8x512_S8x512x1024_1_2_0) shapeCasts_S8x512x1024_S4096x1024
abbrev xin (X : FVec Ideal S4608x1024 .f32) : FVec Ideal S4608x1024 .bf16 := truncf .bf16 X bitsLt_bf16_f32
abbrev win (W : FVec Ideal S4096x1024 .f32) : FVec Ideal S4096x1024 .bf16 := truncf .bf16 W bitsLt_bf16_f32
abbrev xinT (X : FVec Ideal S4608x1024 .f32) : FVec Ideal S1024x4608 .bf16 := transpose S1024x4608 [1, 0] (xin X) transposes_S4608x1024_S1024x4608_1_0
abbrev act (X : FVec Ideal S4608x1024 .f32) (U : FVec Ideal S1024x4096 .f32) : FVec Ideal S4608x4096 .bf16 :=
  fun i => (Cert.Reference7Ideal.Read.val_main_v5 (F := Ideal) X U i : EReal)
abbrev actT (X : FVec Ideal S4608x1024 .f32) (U : FVec Ideal S1024x4096 .f32) : FVec Ideal S4096x4608 .bf16 :=
  transpose S4096x4608 [1, 0] (act X U) transposes_S4608x4096_S4096x4608_1_0

open Cert.Reference7Ideal.Read in
theorem hid_eq : hid (xin Y) (win W) (act X U) = val_main_v14 (F := Ideal) X U W Y := by
  funext i
  rw [val_main_v14_apply, val_main_v3_apply, val_main_v2_apply, val_main_v12_apply, val_main_v7_apply, val_main_v6_apply,
    val_main_v13_apply, val_main_v1_apply, val_main_call0_v0_apply, val_main_call0_cst_apply, val_main_cst_apply, val_main_cst_1_apply, val_main_cst_2_apply, val_main_v11_apply]
  unfold hid act
  rw [val_main_v5_apply, val_main_v1_apply, val_main_call0_v0_apply, val_main_call0_cst_apply]
  generalize val_main_v0 (F := Ideal) X U i = s
  have e : (∑ k : Fin 1024, (xin Y (ix2 (⟨(i 0).val, (i 0).isLt⟩ : Fin 4608) k) : EReal) * win W (ix2 (⟨(i 1).val, (i 1).isLt⟩ : Fin 4096) k))
      = ∑ k, (Y (lidx_main_v11 i k) : EReal) * W (ridx_main_v11 i k) := by
    pointwise []
    blk_point
  rw [e]
  generalize (∑ k, (Y (lidx_main_v11 i k) : EReal) * W (ridx_main_v11 i k)) = d
  have z : (FloatOps.ofBits (F := Ideal) .f32 0x00000000#32 : EReal) = 0 := Ideal.ofBits_zero_f32
  rw [z]
  change d * (_ * Ideal.sqrt (max s 0 * max s 0)) = _
  refine (Cert.KernelIdeal.Value.gate_eq d _ s).trans ?_
  have c : FloatOps.cmpf (F := Ideal) (φ := .f32) .ogt s (0 : EReal) = Ideal.cmp .ogt s 0 := rfl
  rw [c]
  simp only [Scalar.select, Ideal.cmp]
  by_cases h : 0 < s <;> simp [h]

open Cert.Reference7Ideal.Read in
theorem dv_eq : deep (val_main_v14 (F := Ideal) X U W Y) (slotsT U) = val_main_v17 (F := Ideal) X U W Y := by
  funext i
  rw [val_main_v17_apply]
  generalize val_main_v14 (F := Ideal) X U W Y = A
  pointwise [deep]
  blk_point

open Cert.Reference7Ideal.Read in
theorem gup_eq : gup (xinT X) (val_main_v14 (F := Ideal) X U W Y) = val_main_v20 (F := Ideal) X U W Y := by
  funext i
  rw [val_main_v20_apply, val_main_v19_apply, val_main_v18_apply, val_main_v16_apply]
  rw [val_main_v15_apply]
  generalize val_main_v14 (F := Ideal) X U W Y = A
  unfold gup
  refine (Finset.sum_congr rfl fun k _ => mul_comm _ _).trans ?_
  pointwise []
  blk_point

open Cert.Reference7Ideal.Read in
theorem gdown_eq : gdown (actT X U) (xin Y) = val_main_v21 (F := Ideal) X U Y := by
  funext i
  rw [val_main_v21_apply, val_main_v10_apply]
  rw [val_main_v9_apply]
  unfold gdown actT act
  generalize val_main_v5 (F := Ideal) X U = A
  refine (Finset.sum_congr rfl fun k _ => mul_comm _ _).trans ?_
  pointwise []
  blk_point

end Cert.Kernel7Ideal.Value

end
-- ==== Proof.Mlp5.lean ====
/- The run of the four calls with the contents of every result: the host's casts and transposes at the first call's entry,
   each call's result carried to the end of the program, and the launch that ends at those contents. -/
module

public import proofs.«01_k».proof.Proof.Mlp4
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.Value

open Cert.Kernel7Ideal Cert.Kernel7Ideal.Gen

variable (m : (ℓ : Loc nD τ sig) → Buf (Elt Ideal) ℓ) (ρ : Dev nD → PrngReg)

/-- The four arguments as launched on a device. -/
abbrev a0 (c : Dev nD) : FVec Ideal S4608x1024 .f32 := m ((c.tc : Thread nD τ).loc main_arg0)
abbrev a1 (c : Dev nD) : FVec Ideal S1024x4096 .f32 := m ((c.tc : Thread nD τ).loc main_arg1)
abbrev a2 (c : Dev nD) : FVec Ideal S4096x1024 .f32 := m ((c.tc : Thread nD τ).loc main_arg2)
abbrev a3 (c : Dev nD) : FVec Ideal S4608x1024 .f32 := m ((c.tc : Thread nD τ).loc main_arg3)

/-! ## What the host leaves for the calls, at every later state -/

theorem w1_v3 (c : Dev nD) : W1 m ρ c main_v3 = slotsT (a1 m c) := by
  show StableHlo.after hostOps0 _ _ = _
  after_results
  rfl
theorem w2_v3 (c : Dev nD) : W2 m ρ c main_v3 = slotsT (a1 m c) := (W2_of m ρ c main_v3 (by decide)).trans (w1_v3 m ρ c)
theorem w3_v3 (c : Dev nD) : W3 m ρ c main_v3 = slotsT (a1 m c) := (W3_of m ρ c main_v3 (by decide)).trans (w2_v3 m ρ c)
theorem w4_v3 (c : Dev nD) : W4 m ρ c main_v3 = slotsT (a1 m c) := (W4_of m ρ c main_v3 (by decide)).trans (w3_v3 m ρ c)
theorem w5_v3 (c : Dev nD) : W5 m ρ c main_v3 = slotsT (a1 m c) := (W5_of m ρ c main_v3 (by decide)).trans (w4_v3 m ρ c)
theorem w6_v3 (c : Dev nD) : W6 m ρ c main_v3 = slotsT (a1 m c) := (W6_of m ρ c main_v3 (by decide)).trans (w5_v3 m ρ c)
theorem w1_v4 (c : Dev nD) : W1 m ρ c main_v4 = win (a2 m c) := by
  show StableHlo.after hostOps0 _ _ = _
  after_results
theorem w2_v4 (c : Dev nD) : W2 m ρ c main_v4 = win (a2 m c) := (W2_of m ρ c main_v4 (by decide)).trans (w1_v4 m ρ c)
theorem w3_v4 (c : Dev nD) : W3 m ρ c main_v4 = win (a2 m c) := (W3_of m ρ c main_v4 (by decide)).trans (w2_v4 m ρ c)
theorem w1_v6 (c : Dev nD) : W1 m ρ c main_v6 = xinT (a0 m c) := by
  show StableHlo.after hostOps0 _ _ = _
  after_results
theorem w2_v6 (c : Dev nD) : W2 m ρ c main_v6 = xinT (a0 m c) := (W2_of m ρ c main_v6 (by decide)).trans (w1_v6 m ρ c)
theorem w3_v6 (c : Dev nD) : W3 m ρ c main_v6 = xinT (a0 m c) := (W3_of m ρ c main_v6 (by decide)).trans (w2_v6 m ρ c)
theorem w4_v6 (c : Dev nD) : W4 m ρ c main_v6 = xinT (a0 m c) := (W4_of m ρ c main_v6 (by decide)).trans (w3_v6 m ρ c)
theorem w5_v6 (c : Dev nD) : W5 m ρ c main_v6 = xinT (a0 m c) := (W5_of m ρ c main_v6 (by decide)).trans (w4_v6 m ρ c)
theorem w1_v7 (c : Dev nD) : W1 m ρ c main_v7 = xin (a3 m c) := by
  show StableHlo.after hostOps0 _ _ = _
  after_results
theorem w2_v7 (c : Dev nD) : W2 m ρ c main_v7 = xin (a3 m c) := (W2_of m ρ c main_v7 (by decide)).trans (w1_v7 m ρ c)
theorem w3_v7 (c : Dev nD) : W3 m ρ c main_v7 = xin (a3 m c) := (W3_of m ρ c main_v7 (by decide)).trans (w2_v7 m ρ c)
theorem w4_v7 (c : Dev nD) : W4 m ρ c main_v7 = xin (a3 m c) := (W4_of m ρ c main_v7 (by decide)).trans (w3_v7 m ρ c)
theorem w3_v11 (c : Dev nD) : W3 m ρ c main_v11 = act (a0 m c) (a1 m c) := by
  show StableHlo.after hostOps0_2 (StableHlo.after hostOps0_1 (StableHlo.after hostOps0 _)) _ = _
  after_results
  rfl
theorem w3_v12 (c : Dev nD) : W3 m ρ c main_v12 = actT (a0 m c) (a1 m c) := by
  show StableHlo.after hostOps0_2 (StableHlo.after hostOps0_1 (StableHlo.after hostOps0 _)) _ = _
  after_results
  rfl
theorem w4_v12 (c : Dev nD) : W4 m ρ c main_v12 = actT (a0 m c) (a1 m c) := (W4_of m ρ c main_v12 (by decide)).trans (w3_v12 m ρ c)

/-! ## Each call's result, as the reference's term, to the end of the program -/

open Cert.Reference7Ideal.Read

theorem w4_v13 (c : Dev nD) : W4 m ρ c main_v13 = val_main_v14 (F := Ideal) (a0 m c) (a1 m c) (a2 m c) (a3 m c) :=
  (W4_arr m ρ c 3).trans ((final0_3 (V3 m ρ) c).trans (by
    rw [show V3 m ρ c main_v7 = _ from w3_v7 m ρ c, show V3 m ρ c main_v4 = _ from w3_v4 m ρ c, show V3 m ρ c main_v11 = _ from w3_v11 m ρ c]
    exact hid_eq _ _ _ _))
theorem w5_v13 (c : Dev nD) : W5 m ρ c main_v13 = val_main_v14 (F := Ideal) (a0 m c) (a1 m c) (a2 m c) (a3 m c) := (W5_of m ρ c main_v13 (by decide)).trans (w4_v13 m ρ c)
theorem w6_v13 (c : Dev nD) : W6 m ρ c main_v13 = val_main_v14 (F := Ideal) (a0 m c) (a1 m c) (a2 m c) (a3 m c) := (W6_of m ρ c main_v13 (by decide)).trans (w5_v13 m ρ c)
theorem w7_v13 (c : Dev nD) : W7 m ρ c main_v13 = val_main_v14 (F := Ideal) (a0 m c) (a1 m c) (a2 m c) (a3 m c) := (W7_of m ρ c main_v13 (by decide)).trans (w6_v13 m ρ c)

theorem w5_v14 (c : Dev nD) : W5 m ρ c main_v14 = val_main_v21 (F := Ideal) (a0 m c) (a1 m c) (a3 m c) :=
  (W5_arr m ρ c 2).trans ((final1_2 (V4 m ρ) c).trans (by
    rw [show V4 m ρ c main_v12 = _ from w4_v12 m ρ c, show V4 m ρ c main_v7 = _ from w4_v7 m ρ c]
    exact gdown_eq _ _ _))
theorem w6_v14 (c : Dev nD) : W6 m ρ c main_v14 = val_main_v21 (F := Ideal) (a0 m c) (a1 m c) (a3 m c) := (W6_of m ρ c main_v14 (by decide)).trans (w5_v14 m ρ c)
theorem w7_v14 (c : Dev nD) : W7 m ρ c main_v14 = val_main_v21 (F := Ideal) (a0 m c) (a1 m c) (a3 m c) := (W7_of m ρ c main_v14 (by decide)).trans (w6_v14 m ρ c)

theorem w6_v15 (c : Dev nD) : W6 m ρ c main_v15 = val_main_v20 (F := Ideal) (a0 m c) (a1 m c) (a2 m c) (a3 m c) :=
  (W6_arr m ρ c 2).trans ((final2_2 (V5 m ρ) c).trans (by
    rw [show V5 m ρ c main_v6 = _ from w5_v6 m ρ c, show V5 m ρ c main_v13 = _ from w5_v13 m ρ c]
    exact gup_eq _ _ _ _))
theorem w7_v15 (c : Dev nD) : W7 m ρ c main_v15 = val_main_v20 (F := Ideal) (a0 m c) (a1 m c) (a2 m c) (a3 m c) := (W7_of m ρ c main_v15 (by decide)).trans (w6_v15 m ρ c)

theorem w7_v16 (c : Dev nD) : W7 m ρ c main_v16 = val_main_v17 (F := Ideal) (a0 m c) (a1 m c) (a2 m c) (a3 m c) :=
  (W7_arr m ρ c 2).trans ((final3_2 (V6 m ρ) c).trans (by
    rw [show V6 m ρ c main_v13 = _ from w6_v13 m ρ c, show V6 m ρ c main_v3 = _ from w6_v3 m ρ c]
    exact dv_eq _ _ _ _))

/-! ## The launch -/

local notation "𝕄" => MT nD τ sig Unit (Elt Ideal) ℕ (UR sig nD τ) ℕ

set_option backward.isDefEq.respectTransparency.types false in
/-- Every fair execution of the four calls ends with the contents named above, for every buffer of the program. -/
theorem run : θ_run defs (onTc (τ := τ) (main (F := Ideal))) ⟨m, fun _ => 0, ρ⟩ (fun r => ∀ c : Dev nD,
      r.2.mem ((c.tc : Thread nD τ).loc main_v16) = val_main_v17 (F := Ideal) (a0 m c) (a1 m c) (a2 m c) (a3 m c)
      ∧ r.2.mem ((c.tc : Thread nD τ).loc main_v15) = val_main_v20 (F := Ideal) (a0 m c) (a1 m c) (a2 m c) (a3 m c)
      ∧ r.2.mem ((c.tc : Thread nD τ).loc main_v14) = val_main_v21 (F := Ideal) (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v16 (by decide))).trans (w7_v16 m ρ c),
       (h c _ (mem_uc main_v15 (by decide))).trans (w7_v15 m ρ c),
       (h c _ (mem_uc main_v14 (by decide))).trans (w7_v14 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.Kernel7Ideal.Value

end
-- ==== Proof.OptA0.lean ====
/- The optimiser's step on the in-projection weight, held in two layers, from the eight parts of its gradient. -/
module

public import proofs.«01_k».proof.Proof.Opt0
public import proofs.«01_k».proof.Proof.Gen.Kernel8Ideal.Frame

@[expose] public section

set_option maxRecDepth 16384

noncomputable section

open Idealize.ShloMosaic Idealize.ShloMosaic.TcCoe Idealize.SL.Sem
open Idealize.ShloMosaic.Pipeline (Dat)

namespace Cert.Kernel8Ideal.Value.w_in

open Cert.Kernel8Ideal Cert.Kernel8Ideal.Gen
open Cert.Kernel5Ideal.Value (nm nv dl cong3)

/-- The gradient of one entry: the sum of the eight parts sent by the devices, the first layer's in `A`, the second's in `B`. -/
def tot (A B : FVec Ideal S8x1024x192 .bf16) (l : Fin 2) (r : Fin 1024) (q : Fin 192) : EReal :=
  if l.val = 0 then ∑ k : Fin 8, (A (ix3 k r q) : EReal) else ∑ k : Fin 8, (B (ix3 k r q) : EReal)

/-! ## The payloads over variables -/

section pay
variable (s0 s1 s2 s3 s4 s5 s6 s7 : FVec Ideal S1x256x192 .bf16) (w m v : FVec Ideal S1x256x192 .f32) (g x : FVec Ideal S256x192 .f32)
  (p : Fin 256) (q : Fin 192)

theorem pay5 : (k0_pay5 (F := Ideal) s0 s1 s2 s3 s4 s5 s6 s7 (ix2 p q) : EReal)
    = (s0 (ix3 (0 : Fin 1) p q) : EReal) + s1 (ix3 (0 : Fin 1) p q) + s2 (ix3 (0 : Fin 1) p q) + s3 (ix3 (0 : Fin 1) p q)
      + s4 (ix3 (0 : Fin 1) p q) + s5 (ix3 (0 : Fin 1) p q) + s6 (ix3 (0 : Fin 1) p q) + s7 (ix3 (0 : Fin 1) p q) := by
  pointwise [k0_pay5]
theorem pay6 : k0_pay6 w (ix2 p q) = w (ix3 (0 : Fin 1) p q) := by pointwise [k0_pay6]
theorem pay7 : (k0_pay7 (F := Ideal) g m (ix2 p q) : EReal) = nm (g (ix2 p q)) (m (ix3 (0 : Fin 1) p q)) := by
  pointwise [k0_pay7, nm]
theorem pay8 : (k0_pay8 (F := Ideal) g v (ix2 p q) : EReal) = nv (g (ix2 p q)) (v (ix3 (0 : Fin 1) p q)) := by
  pointwise [k0_pay8, nv]
theorem pay1 : k0_pay1 g (ix3 (0 : Fin 1) p q) = g (ix2 p q) := by pointwise [k0_pay1]
theorem pay2 : k0_pay2 g (ix3 (0 : Fin 1) p q) = g (ix2 p q) := by pointwise [k0_pay2]
theorem pay9 : k0_pay9 g (ix3 (0 : Fin 1) p q) = g (ix2 p q) := by pointwise [k0_pay9]
theorem pay10 : (k0_pay10 (F := Ideal) g x m v (ix3 (0 : Fin 1) p q) : EReal)
    = dl (g (ix2 p q)) (x (ix2 p q)) (m (ix3 (0 : Fin 1) p q)) (v (ix3 (0 : Fin 1) p q)) := by
  have h7 := pay7 m g p q
  have h8 := pay8 v g p q
  unfold k0_pay10
  generalize k0_pay7 (F := Ideal) g m = M at h7 ⊢
  generalize k0_pay8 (F := Ideal) g v = N at h8 ⊢
  unfold dl
  rw [← h7, ← h8]
  pointwise []
theorem pay11 : k0_pay11 (F := Ideal) = k0_pay5 := rfl
theorem pay12 : k0_pay12 (F := Ideal) = k0_pay6 := rfl
theorem pay13 : k0_pay13 (F := Ideal) = k0_pay7 := rfl
theorem pay14 : k0_pay14 (F := Ideal) = k0_pay8 := rfl
theorem pay15 : k0_pay15 (F := Ideal) = k0_pay9 := rfl
theorem pay16 : k0_pay16 (F := Ideal) = k0_pay10 := rfl
theorem pay3 : k0_pay3 (F := Ideal) = k0_pay1 := rfl
theorem pay4 : k0_pay4 (F := Ideal) = k0_pay2 := rfl
end pay

/-! ## The blocks read as rows of the arrays -/

variable (V : (c : Dev nD) → (r : Ref sig .tc) → Buf (Elt Ideal) ((c.tc : Thread nD τ).loc r)) (c : Dev nD)

theorem idx0 : ∀ t : Fin cfg0.N, win0_0.index t = ![t.val / 4, t.val % 4, 0] ∧ win0_1.index t = ![t.val / 4, t.val % 4, 0] ∧ win0_2.index t = ![t.val / 4, t.val % 4, 0]
    ∧ win0_3.index t = ![0, min t.val 3, 0] ∧ win0_4.index t = ![0, t.val - 4, 0]
    ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)
theorem lt (t : Fin cfg0.N) : t.val < 8 := lt_of_lt_of_eq t.isLt N_0
abbrev lay (t : Fin cfg0.N) : Fin 2 := ⟨t.val / 4, by have h := lt t; omega⟩
abbrev row (t : Fin cfg0.N) (p : Fin 256) : Fin 1024 := ⟨t.val % 4 * 256 + p.val, by omega⟩

abbrev A0 : FVec Ideal S2x1024x192 .f32 := V c main_arg0
abbrev A1 : FVec Ideal S2x1024x192 .f32 := V c main_arg1
abbrev A2 : FVec Ideal S2x1024x192 .f32 := V c main_arg2
abbrev A3 : FVec Ideal S8x1024x192 .bf16 := V c main_arg3
abbrev A4 : FVec Ideal S8x1024x192 .bf16 := V c main_arg4

theorem b0 (t : Fin cfg0.N) (p : Fin 256) (q : Fin 192) : (iblk0 V c 0 t : FVec Ideal S1x256x192 .f32) (ix3 (0 : Fin 1) p q) = A0 V c (ix3 (lay t) (row t p) q) := by
  blk_point [iblk0, idx0 t]
theorem b1 (t : Fin cfg0.N) (p : Fin 256) (q : Fin 192) : (iblk0 V c 1 t : FVec Ideal S1x256x192 .f32) (ix3 (0 : Fin 1) p q) = A1 V c (ix3 (lay t) (row t p) q) := by
  blk_point [iblk0, idx0 t]
theorem b2 (t : Fin cfg0.N) (p : Fin 256) (q : Fin 192) : (iblk0 V c 2 t : FVec Ideal S1x256x192 .f32) (ix3 (0 : Fin 1) p q) = A2 V c (ix3 (lay t) (row t p) q) := by
  blk_point [iblk0, idx0 t]
theorem b3 (t : Fin cfg0.N) (ht : t.val < 4) (k : Fin 8) (p : Fin 256) (q : Fin 192) :
    (iblk0 V c 3 t : FVec Ideal S8x256x192 .bf16) (ix3 k p q) = A3 V c (ix3 k (row t p) q) := by
  blk_point [iblk0, idx0 t]
theorem b4 (t : Fin cfg0.N) (ht : 4 ≤ t.val) (k : Fin 8) (p : Fin 256) (q : Fin 192) :
    (iblk0 V c 4 t : FVec Ideal S8x256x192 .bf16) (ix3 k p q) = A4 V c (ix3 k (row t p) q) := by
  have hN := lt t
  blk_point [iblk0, idx0 t]

/-! ## What each point leaves -/

/-- One part of the eight, loaded alone. -/
theorem part (x : FVec Ideal S8x256x192 .bf16) (k : ℕ) (hk : k < 8) (inb : ∀ a, (![k, 0, 0] : Fin 3 → ℕ) a + (![1, 256, 192] : Fin 3 → ℕ) a ≤ S8x256x192.size a)
    (p : Fin 256) (q : Fin 192) : (View.ld (Val := Elt Ideal) (e' := .bf16) (S := S8x256x192) x (Rect.unit ![k, 0, 0] ![1, 256, 192] inb) : FVec Ideal S1x256x192 .bf16) (ix3 (0 : Fin 1) p q) = x (ix3 (⟨k, hk⟩ : Fin 8) p q) :=
  congrArg x (funext fun a => Fin.ext (by fin_cases a <;> simp [Rect.unit, ix3]))

/-- The eight parts of one point, summed. -/
theorem eight (x : FVec Ideal S8x256x192 .bf16) (p : Fin 256) (q : Fin 192) :
    (k0_pay5 (F := Ideal) (View.ld (Val := Elt Ideal) (e' := .bf16) (S := S8x256x192) x (Rect.unit ![0, 0, 0] ![1, 256, 192] inb_S8x256x192_S1x256x192_0_0_0)) (View.ld (Val := Elt Ideal) (e' := .bf16) (S := S8x256x192) x (Rect.unit ![1, 0, 0] ![1, 256, 192] inb_S8x256x192_S1x256x192_1_0_0)) (View.ld (Val := Elt Ideal) (e' := .bf16) (S := S8x256x192) x (Rect.unit ![2, 0, 0] ![1, 256, 192] inb_S8x256x192_S1x256x192_2_0_0)) (View.ld (Val := Elt Ideal) (e' := .bf16) (S := S8x256x192) x (Rect.unit ![3, 0, 0] ![1, 256, 192] inb_S8x256x192_S1x256x192_3_0_0)) (View.ld (Val := Elt Ideal) (e' := .bf16) (S := S8x256x192) x (Rect.unit ![4, 0, 0] ![1, 256, 192] inb_S8x256x192_S1x256x192_4_0_0)) (View.ld (Val := Elt Ideal) (e' := .bf16) (S := S8x256x192) x (Rect.unit ![5, 0, 0] ![1, 256, 192] inb_S8x256x192_S1x256x192_5_0_0)) (View.ld (Val := Elt Ideal) (e' := .bf16) (S := S8x256x192) x (Rect.unit ![6, 0, 0] ![1, 256, 192] inb_S8x256x192_S1x256x192_6_0_0)) (View.ld (Val := Elt Ideal) (e' := .bf16) (S := S8x256x192) x (Rect.unit ![7, 0, 0] ![1, 256, 192] inb_S8x256x192_S1x256x192_7_0_0)) (ix2 p q) : EReal)
      = ∑ k : Fin 8, (x (ix3 k p q) : EReal) := by
  rw [pay5, Fin.sum_univ_eight]
  simp only [part x 0 (by decide), part x 1 (by decide), part x 2 (by decide), part x 3 (by decide), part x 4 (by decide), part x 5 (by decide), part x 6 (by decide), part x 7 (by decide)]
  rfl

theorem totA (t : Fin cfg0.N) (h : t.val < 4) (x : FVec Ideal S8x256x192 .bf16) (hx : ∀ k p q, x (ix3 k p q) = A3 V c (ix3 k (row t p) q)) (p : Fin 256) (q : Fin 192) :
    (∑ k : Fin 8, (x (ix3 k p q) : EReal)) = tot (A3 V c) (A4 V c) (lay t) (row t p) q := by
  simp only [hx]
  exact (if_pos (by show t.val / 4 = 0; omega)).symm
theorem totB (t : Fin cfg0.N) (h : 4 ≤ t.val) (x : FVec Ideal S8x256x192 .bf16) (hx : ∀ k p q, x (ix3 k p q) = A4 V c (ix3 k (row t p) q)) (p : Fin 256) (q : Fin 192) :
    (∑ k : Fin 8, (x (ix3 k p q) : EReal)) = tot (A3 V c) (A4 V c) (lay t) (row t p) q := by
  simp only [hx]
  exact (if_neg (by show ¬t.val / 4 = 0; omega)).symm

theorem left5 (t : Fin cfg0.N) (p : Fin 256) (q : Fin 192) :
    (((dat0 V c).after 5 t : FVec Ideal S1x256x192 .f32) (ix3 (0 : Fin 1) p q) : EReal) = tot (A3 V c) (A4 V c) (lay t) (row t p) q := by
  rw [after0_5]
  have hN := lt t
  by_cases h : t.val < 4
  · rw [outsAt0_A V c t (by omega) (by omega)]
    frame_out
    rw [pay9, eight, totA V c t h (iblk0 V c 3 t) (b3 V c t h)]
  · rw [outsAt0_B V c t (by omega) (by omega)]
    frame_out
    rw [pay15, pay11, pay9, eight, totB V c t (by omega) (iblk0 V c 4 t) (b4 V c t (by omega))]

theorem left6 (t : Fin cfg0.N) (p : Fin 256) (q : Fin 192) :
    (((dat0 V c).after 6 t : FVec Ideal S1x256x192 .f32) (ix3 (0 : Fin 1) p q) : EReal) = dl (tot (A3 V c) (A4 V c) (lay t) (row t p) q) (A0 V c (ix3 (lay t) (row t p) q)) (A1 V c (ix3 (lay t) (row t p) q)) (A2 V c (ix3 (lay t) (row t p) q)) := by
  rw [after0_6]
  have hN := lt t
  by_cases h : t.val < 4
  · rw [outsAt0_A V c t (by omega) (by omega)]
    frame_out
    rw [pay10, eight, totA V c t h (iblk0 V c 3 t) (b3 V c t h), pay6, b0, b1, b2]
  · rw [outsAt0_B V c t (by omega) (by omega)]
    frame_out
    rw [pay16, pay11, pay12, pay10, eight, totB V c t (by omega) (iblk0 V c 4 t) (b4 V c t (by omega)), pay6, b0, b1, b2]

theorem left7 (t : Fin cfg0.N) (p : Fin 256) (q : Fin 192) :
    (((dat0 V c).after 7 t : FVec Ideal S1x256x192 .f32) (ix3 (0 : Fin 1) p q) : EReal) = nm (tot (A3 V c) (A4 V c) (lay t) (row t p) q) (A1 V c (ix3 (lay t) (row t p) q)) := by
  rw [after0_7]
  have hN := lt t
  by_cases h : t.val < 4
  · rw [outsAt0_A V c t (by omega) (by omega)]
    frame_out
    rw [pay1, pay7, eight, totA V c t h (iblk0 V c 3 t) (b3 V c t h), b1]
  · rw [outsAt0_B V c t (by omega) (by omega)]
    frame_out
    rw [pay3, pay13, pay11, pay1, pay7, eight, totB V c t (by omega) (iblk0 V c 4 t) (b4 V c t (by omega)), b1]

theorem left8 (t : Fin cfg0.N) (p : Fin 256) (q : Fin 192) :
    (((dat0 V c).after 8 t : FVec Ideal S1x256x192 .f32) (ix3 (0 : Fin 1) p q) : EReal) = nv (tot (A3 V c) (A4 V c) (lay t) (row t p) q) (A2 V c (ix3 (lay t) (row t p) q)) := by
  rw [after0_8]
  have hN := lt t
  by_cases h : t.val < 4
  · rw [outsAt0_A V c t (by omega) (by omega)]
    frame_out
    rw [pay2, pay8, eight, totA V c t h (iblk0 V c 3 t) (b3 V c t h), b2]
  · rw [outsAt0_B V c t (by omega) (by omega)]
    frame_out
    rw [pay4, pay14, pay11, pay2, pay8, eight, totB V c t (by omega) (iblk0 V c 4 t) (b4 V c t (by omega)), b2]

/-! ## The arrays after the call -/

theorem emb5 (f : Fin 2 → Fin 1024 → Fin 192 → EReal) (h : ∀ (t : Fin cfg0.N) (p : Fin 256) (q : Fin 192),
      (((dat0 V c).after 5 t : FVec Ideal S1x256x192 .f32) (ix3 (0 : Fin 1) p q) : EReal) = f (lay t) (row t p) q) :
    (dat0 V c).arrAt 5 cfg0.N = fun i => f (i 0) (i 1) (i 2) := by
  refine (dat0 V c).arrAt_eq_of_covers 5 _ (by decide +kernel) fun t _ y => ?_
  blk_simp
  have ht := h t
  generalize (dat0 V c).after 5 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final5 : (dat0 V c).arrAt 5 cfg0.N = fun i => (fun l r q => tot (A3 V c) (A4 V c) l r q) (i 0) (i 1) (i 2) := emb5 V c (fun l r q => tot (A3 V c) (A4 V c) l r q) (left5 V c)

theorem emb6 (f : Fin 2 → Fin 1024 → Fin 192 → EReal) (h : ∀ (t : Fin cfg0.N) (p : Fin 256) (q : Fin 192),
      (((dat0 V c).after 6 t : FVec Ideal S1x256x192 .f32) (ix3 (0 : Fin 1) p q) : EReal) = f (lay t) (row t p) q) :
    (dat0 V c).arrAt 6 cfg0.N = fun i => f (i 0) (i 1) (i 2) := by
  refine (dat0 V c).arrAt_eq_of_covers 6 _ (by decide +kernel) fun t _ y => ?_
  blk_simp
  have ht := h t
  generalize (dat0 V c).after 6 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final6 : (dat0 V c).arrAt 6 cfg0.N = fun i => (fun l r q => dl (tot (A3 V c) (A4 V c) l r q) (A0 V c (ix3 l r q)) (A1 V c (ix3 l r q)) (A2 V c (ix3 l r q))) (i 0) (i 1) (i 2) := emb6 V c (fun l r q => dl (tot (A3 V c) (A4 V c) l r q) (A0 V c (ix3 l r q)) (A1 V c (ix3 l r q)) (A2 V c (ix3 l r q))) (left6 V c)

theorem emb7 (f : Fin 2 → Fin 1024 → Fin 192 → EReal) (h : ∀ (t : Fin cfg0.N) (p : Fin 256) (q : Fin 192),
      (((dat0 V c).after 7 t : FVec Ideal S1x256x192 .f32) (ix3 (0 : Fin 1) p q) : EReal) = f (lay t) (row t p) q) :
    (dat0 V c).arrAt 7 cfg0.N = fun i => f (i 0) (i 1) (i 2) := by
  refine (dat0 V c).arrAt_eq_of_covers 7 _ (by decide +kernel) fun t _ y => ?_
  blk_simp
  have ht := h t
  generalize (dat0 V c).after 7 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final7 : (dat0 V c).arrAt 7 cfg0.N = fun i => (fun l r q => nm (tot (A3 V c) (A4 V c) l r q) (A1 V c (ix3 l r q))) (i 0) (i 1) (i 2) := emb7 V c (fun l r q => nm (tot (A3 V c) (A4 V c) l r q) (A1 V c (ix3 l r q))) (left7 V c)

theorem emb8 (f : Fin 2 → Fin 1024 → Fin 192 → EReal) (h : ∀ (t : Fin cfg0.N) (p : Fin 256) (q : Fin 192),
      (((dat0 V c).after 8 t : FVec Ideal S1x256x192 .f32) (ix3 (0 : Fin 1) p q) : EReal) = f (lay t) (row t p) q) :
    (dat0 V c).arrAt 8 cfg0.N = fun i => f (i 0) (i 1) (i 2) := by
  refine (dat0 V c).arrAt_eq_of_covers 8 _ (by decide +kernel) fun t _ y => ?_
  blk_simp
  have ht := h t
  generalize (dat0 V c).after 8 t = A at ht ⊢
  idx_vars y
  obtain rfl : y0 = 0 := Subsingleton.elim _ _
  refine (ht _ _).trans (cong3 f (Fin.ext ?_) (Fin.ext ?_) (Fin.ext ?_))
  · blk_simp [idx0 t]
    rfl
  · blk_simp [idx0 t]
  · blk_simp [idx0 t]
theorem final8 : (dat0 V c).arrAt 8 cfg0.N = fun i => (fun l r q => nv (tot (A3 V c) (A4 V c) l r q) (A2 V c (ix3 l r q))) (i 0) (i 1) (i 2) := emb8 V c (fun l r q => nv (tot (A3 V c) (A4 V c) l r q) (A2 V c (ix3 l r q))) (left8 V c)

end Cert.Kernel8Ideal.Value.w_in

end
-- ==== Proof.OptA1.lean ====
/- The optimiser's step on the out-projection weight, held in two layers, from the eight parts of its gradient. -/
module

public import proofs.«01_k».proof.Proof.Opt0
public import proofs.«01_k».proof.Proof.Gen.Kernel8Ideal.Frame

@[expose] public section

set_option maxRecDepth 16384

noncomputable section

open Idealize.ShloMosaic Idealize.ShloMosaic.TcCoe Idealize.SL.Sem
open Idealize.ShloMosaic.Pipeline (Dat)

namespace Cert.Kernel8Ideal.Value.w_out

open Cert.Kernel8Ideal Cert.Kernel8Ideal.Gen
open Cert.Kernel5Ideal.Value (nm nv dl cong3)

/-- The gradient of one entry: the sum of the eight parts sent by the devices, the first layer's in `A`, the second's in `B`. -/
def tot (A B : FVec Ideal S8x128x1024 .bf16) (l : Fin 2) (r : Fin 128) (q : Fin 1024) : EReal :=
  if l.val = 0 then ∑ k : Fin 8, (A (ix3 k r q) : EReal) else ∑ k : Fin 8, (B (ix3 k r q) : EReal)

/-! ## The payloads over variables -/

section pay
variable (s0 s1 s2 s3 s4 s5 s6 s7 : FVec Ideal S1x128x1024 .bf16) (w m v : FVec Ideal S1x128x1024 .f32) (g x : FVec Ideal S128x1024 .f32)
  (p : Fin 128) (q : Fin 1024)

theorem pay5 : (k1_pay5 (F := Ideal) s0 s1 s2 s3 s4 s5 s6 s7 (ix2 p q) : EReal)
    = (s0 (ix3 (0 : Fin 1) p q) : EReal) + s1 (ix3 (0 : Fin 1) p q) + s2 (ix3 (0 : Fin 1) p q) + s3 (ix3 (0 : Fin 1) p q)
      + s4 (ix3 (0 : Fin 1) p q) + s5 (ix3 (0 : Fin 1) p q) + s6 (ix3 (0 : Fin 1) p q) + s7 (ix3 (0 : Fin 1) p q) := by
  pointwise [k1_pay5]
theorem pay6 : k1_pay6 w (ix2 p q) = w (ix3 (0 : Fin 1) p q) := by pointwise [k1_pay6]
theorem pay7 : (k1_pay7 (F := Ideal) g m (ix2 p q) : EReal) = nm (g (ix2 p q)) (m (ix3 (0 : Fin 1) p q)) := by
  pointwise [k1_pay7, nm]
theorem pay8 : (k1_pay8 (F := Ideal) g v (ix2 p q) : EReal) = nv (g (ix2 p q)) (v (ix3 (0 : Fin 1) p q)) := by
  pointwise [k1_pay8, nv]
theorem pay1 : k1_pay1 g (ix3 (0 : Fin 1) p q) = g (ix2 p q) := by pointwise [k1_pay1]
theorem pay2 : k1_pay2 g (ix3 (0 : Fin 1) p q) = g (ix2 p q) := by pointwise [k1_pay2]
theorem pay9 : k1_pay9 g (ix3 (0 : Fin 1) p q) = g (ix2 p q) := by pointwise [k1_pay9]
theorem pay10 : (k1_pay10 (F := Ideal) g x m v (ix3 (0 : Fin 1) p q) : EReal)
    = dl (g (ix2 p q)) (x (ix2 p q)) (m (ix3 (0 : Fin 1) p q)) (v (ix3 (0 : Fin 1) p q)) := by
  have h7 := pay7 m g p q
  have h8 := pay8 v g p q
  unfold k1_pay10
  generalize k1_pay7 (F := Ideal) g m = M at h7 ⊢
  generalize k1_pay8 (F := Ideal) g v = N at h8 ⊢
  unfold dl
  rw [← h7, ← h8]
  pointwise []
theorem pay11 : k1_pay11 (F := Ideal) = k1_pay5 := rfl
theorem pay12 : k1_pay12 (F := Ideal) = k1_pay6 := rfl
theorem pay13 : k1_pay13 (F := Ideal) = k1_pay7 := rfl
theorem pay14 : k1_pay14 (F := Ideal) = k1_pay8 := rfl
theorem pay15 : k1_pay15 (F := Ideal) = k1_pay9 := rfl
theorem pay16 : k1_pay16 (F := Ideal) = k1_pay10 := rfl
theorem pay3 : k1_pay3 (F := Ideal) = k1_pay1 := rfl
theorem pay4 : k1_pay4 (F := Ideal) = k1_pay2 := rfl
end pay

/-! ## The blocks read as rows of the arrays -/

variable (V : (c : Dev nD) → (r : Ref sig .tc) → Buf (Elt Ideal) ((c.tc : Thread nD τ).loc r)) (c : Dev nD)

theorem idx1 : ∀ t : Fin cfg1.N, win1_0.index t = ![t.val / 1, t.val % 1, 0] ∧ win1_1.index t = ![t.val / 1, t.val % 1, 0] ∧ win1_2.index t = ![t.val / 1, t.val % 1, 0]
    ∧ win1_3.index t = ![0, min t.val 0, 0] ∧ win1_4.index t = ![0, t.val - 1, 0]
    ∧ win1_5.index t = ![t.val / 1, t.val % 1, 0] ∧ win1_6.index t = ![t.val / 1, t.val % 1, 0] ∧ win1_7.index t = ![t.val / 1, t.val % 1, 0] ∧ win1_8.index t = ![t.val / 1, t.val % 1, 0] :=
  (by decide +kernel : ∀ t : Fin grid1.N, _)
theorem lt (t : Fin cfg1.N) : t.val < 2 := lt_of_lt_of_eq t.isLt N_1
abbrev lay (t : Fin cfg1.N) : Fin 2 := ⟨t.val / 1, by have h := lt t; omega⟩
abbrev row (t : Fin cfg1.N) (p : Fin 128) : Fin 128 := ⟨t.val % 1 * 128 + p.val, by omega⟩

abbrev A0 : FVec Ideal S2x128x1024 .f32 := V c main_arg5
abbrev A1 : FVec Ideal S2x128x1024 .f32 := V c main_arg6
abbrev A2 : FVec Ideal S2x128x1024 .f32 := V c main_arg7
abbrev A3 : FVec Ideal S8x128x1024 .bf16 := V c main_arg8
abbrev A4 : FVec Ideal S8x128x1024 .bf16 := V c main_arg9

theorem b0 (t : Fin cfg1.N) (p : Fin 128) (q : Fin 1024) : (iblk1 V c 0 t : FVec Ideal S1x128x1024 .f32) (ix3 (0 : Fin 1) p q) = A0 V c (ix3 (lay t) (row t p) q) := by
  blk_point [iblk1, idx1 t]
theorem b1 (t : Fin cfg1.N) (p : Fin 128) (q : Fin 1024) : (iblk1 V c 1 t : FVec Ideal S1x128x1024 .f32) (ix3 (0 : Fin 1) p q) = A1 V c (ix3 (lay t) (row t p) q) := by
  blk_point [iblk1, idx1 t]
theorem b2 (t : Fin cfg1.N) (p : Fin 128) (q : Fin 1024) : (iblk1 V c 2 t : FVec Ideal S1x128x1024 .f32) (ix3 (0 : Fin 1) p q) = A2 V c (ix3 (lay t) (row t p) q) := by
  blk_point [iblk1, idx1 t]
theorem b3 (t : Fin cfg1.N) (ht : t.val < 1) (k : Fin 8) (p : Fin 128) (q : Fin 1024) :
    (iblk1 V c 3 t : FVec Ideal S8x128x1024 .bf16) (ix3 k p q) = A3 V c (ix3 k (row t p) q) := by
  blk_point [iblk1, idx1 t]
theorem b4 (t : Fin cfg1.N) (ht : 1 ≤ t.val) (k : Fin 8) (p : Fin 128) (q : Fin 1024) :
    (iblk1 V c 4 t : FVec Ideal S8x128x1024 .bf16) (ix3 k p q) = A4 V c (ix3 k (row t p) q) := by
  have hN := lt t
  blk_point [iblk1, idx1 t]

/-! ## What each point leaves -/

/-- One part of the eight, loaded alone. -/
theorem part (x : FVec Ideal S8x128x1024 .bf16) (k : ℕ) (hk : k < 8) (inb : ∀ a, (![k, 0, 0] : Fin 3 → ℕ) a + (![1, 128, 1024] : Fin 3 → ℕ) a ≤ S8x128x1024.size a)
    (p : Fin 128) (q : Fin 1024) : (View.ld (Val := Elt Ideal) (e' := .bf16) (S := S8x128x1024) x (Rect.unit ![k, 0, 0] ![1, 128, 1024] inb) : FVec Ideal S1x128x1024 .bf16) (ix3 (0 : Fin 1) p q) = x (ix3 (⟨k, hk⟩ : Fin 8) p q) :=
  congrArg x (funext fun a => Fin.ext (by fin_cases a <;> simp [Rect.unit, ix3]))

/-- The eight parts of one point, summed. -/
theorem eight (x : FVec Ideal S8x128x1024 .bf16) (p : Fin 128) (q : Fin 1024) :
    (k1_pay5 (F := Ideal) (View.ld (Val := Elt Ideal) (e' := .bf16) (S := S8x128x1024) x (Rect.unit ![0, 0, 0] ![1, 128, 1024] inb_S8x128x1024_S1x128x1024_0_0_0)) (View.ld (Val := Elt Ideal) (e' := .bf16) (S := S8x128x1024) x (Rect.unit ![1, 0, 0] ![1, 128, 1024] inb_S8x128x1024_S1x128x1024_1_0_0)) (View.ld (Val := Elt Ideal) (e' := .bf16) (S := S8x128x1024) x (Rect.unit ![2, 0, 0] ![1, 128, 1024] inb_S8x128x1024_S1x128x1024_2_0_0)) (View.ld (Val := Elt Ideal) (e' := .bf16) (S := S8x128x1024) x (Rect.unit ![3, 0, 0] ![1, 128, 1024] inb_S8x128x1024_S1x128x1024_3_0_0)) (View.ld (Val := Elt Ideal) (e' := .bf16) (S := S8x128x1024) x (Rect.unit ![4, 0, 0] ![1, 128, 1024] inb_S8x128x1024_S1x128x1024_4_0_0)) (View.ld (Val := Elt Ideal) (e' := .bf16) (S := S8x128x1024) x (Rect.unit ![5, 0, 0] ![1, 128, 1024] inb_S8x128x1024_S1x128x1024_5_0_0)) (View.ld (Val := Elt Ideal) (e' := .bf16) (S := S8x128x1024) x (Rect.unit ![6, 0, 0] ![1, 128, 1024] inb_S8x128x1024_S1x128x1024_6_0_0)) (View.ld (Val := Elt Ideal) (e' := .bf16) (S := S8x128x1024) x (Rect.unit ![7, 0, 0] ![1, 128, 1024] inb_S8x128x1024_S1x128x1024_7_0_0)) (ix2 p q) : EReal)
      = ∑ k : Fin 8, (x (ix3 k p q) : EReal) := by
  rw [pay5, Fin.sum_univ_eight]
  simp only [part x 0 (by decide), part x 1 (by decide), part x 2 (by decide), part x 3 (by decide), part x 4 (by decide), part x 5 (by decide), part x 6 (by decide), part x 7 (by decide)]
  rfl

theorem totA (t : Fin cfg1.N) (h : t.val < 1) (x : FVec Ideal S8x128x1024 .bf16) (hx : ∀ k p q, x (ix3 k p q) = A3 V c (ix3 k (row t p) q)) (p : Fin 128) (q : Fin 1024) :
    (∑ k : Fin 8, (x (ix3 k p q) : EReal)) = tot (A3 V c) (A4 V c) (lay t) (row t p) q := by
  simp only [hx]
  exact (if_pos (by show t.val / 1 = 0; omega)).symm
theorem totB (t : Fin cfg1.N) (h : 1 ≤ t.val) (x : FVec Ideal S8x128x1024 .bf16) (hx : ∀ k p q, x (ix3 k p q) = A4 V c (ix3 k (row t p) q)) (p : Fin 128) (q : Fin 1024) :
    (∑ k : Fin 8, (x (ix3 k p q) : EReal)) = tot (A3 V c) (A4 V c) (lay t) (row t p) q := by
  simp only [hx]
  exact (if_neg (by show ¬t.val / 1 = 0; omega)).symm

theorem left5 (t : Fin cfg1.N) (p : Fin 128) (q : Fin 1024) :
    (((dat1 V c).after 5 t : FVec Ideal S1x128x1024 .f32) (ix3 (0 : Fin 1) p q) : EReal) = tot (A3 V c) (A4 V c) (lay t) (row t p) q := by
  rw [after1_5]
  have hN := lt t
  by_cases h : t.val < 1
  · rw [outsAt1_A V c t (by omega) (by omega)]
    frame_out
    rw [pay9, eight, totA V c t h (iblk1 V c 3 t) (b3 V c t h)]
  · rw [outsAt1_B V c t (by omega) (by omega)]
    frame_out
    rw [pay15, pay11, pay9, eight, totB V c t (by omega) (iblk1 V c 4 t) (b4 V c t (by omega))]

theorem left6 (t : Fin cfg1.N) (p : Fin 128) (q : Fin 1024) :
    (((dat1 V c).after 6 t : FVec Ideal S1x128x1024 .f32) (ix3 (0 : Fin 1) p q) : EReal) = dl (tot (A3 V c) (A4 V c) (lay t) (row t p) q) (A0 V c (ix3 (lay t) (row t p) q)) (A1 V c (ix3 (lay t) (row t p) q)) (A2 V c (ix3 (lay t) (row t p) q)) := by
  rw [after1_6]
  have hN := lt t
  by_cases h : t.val < 1
  · rw [outsAt1_A V c t (by omega) (by omega)]
    frame_out
    rw [pay10, eight, totA V c t h (iblk1 V c 3 t) (b3 V c t h), pay6, b0, b1, b2]
  · rw [outsAt1_B V c t (by omega) (by omega)]
    frame_out
    rw [pay16, pay11, pay12, pay10, eight, totB V c t (by omega) (iblk1 V c 4 t) (b4 V c t (by omega)), pay6, b0, b1, b2]

theorem left7 (t : Fin cfg1.N) (p : Fin 128) (q : Fin 1024) :
    (((dat1 V c).after 7 t : FVec Ideal S1x128x1024 .f32) (ix3 (0 : Fin 1) p q) : EReal) = nm (tot (A3 V c) (A4 V c) (lay t) (row t p) q) (A1 V c (ix3 (lay t) (row t p) q)) := by
  rw [after1_7]
  have hN := lt t
  by_cases h : t.val < 1
  · rw [outsAt1_A V c t (by omega) (by omega)]
    frame_out
    rw [pay1, pay7, eight, totA V c t h (iblk1 V c 3 t) (b3 V c t h), b1]
  · rw [outsAt1_B V c t (by omega) (by omega)]
    frame_out
    rw [pay3, pay13, pay11, pay1, pay7, eight, totB V c t (by omega) (iblk1 V c 4 t) (b4 V c t (by omega)), b1]

theorem left8 (t : Fin cfg1.N) (p : Fin 128) (q : Fin 1024) :
    (((dat1 V c).after 8 t : FVec Ideal S1x128x1024 .f32) (ix3 (0 : Fin 1) p q) : EReal) = nv (tot (A3 V c) (A4 V c) (lay t) (row t p) q) (A2 V c (ix3 (lay t) (row t p) q)) := by
  rw [after1_8]
  have hN := lt t
  by_cases h : t.val < 1
  · rw [outsAt1_A V c t (by omega) (by omega)]
    frame_out
    rw [pay2, pay8, eight, totA V c t h (iblk1 V c 3 t) (b3 V c t h), b2]
  · rw [outsAt1_B V c t (by omega) (by omega)]
    frame_out
    rw [pay4, pay14, pay11, pay2, pay8, eight, totB V c t (by omega) (iblk1 V c 4 t) (b4 V c t (by omega)), b2]

/-! ## The arrays after the call -/

theorem emb5 (f : Fin 2 → Fin 128 → Fin 1024 → EReal) (h : ∀ (t : Fin cfg1.N) (p : Fin 128) (q : Fin 1024),
      (((dat1 V c).after 5 t : FVec Ideal S1x128x1024 .f32) (ix3 (0 : Fin 1) p q) : EReal) = f (lay t) (row t p) q) :
    (dat1 V c).arrAt 5 cfg1.N = fun i => f (i 0) (i 1) (i 2) := by
  refine (dat1 V c).arrAt_eq_of_covers 5 _ (by decide +kernel) fun t _ y => ?_
  blk_simp
  have ht := h t
  generalize (dat1 V c).after 5 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem final5 : (dat1 V c).arrAt 5 cfg1.N = fun i => (fun l r q => tot (A3 V c) (A4 V c) l r q) (i 0) (i 1) (i 2) := emb5 V c (fun l r q => tot (A3 V c) (A4 V c) l r q) (left5 V c)

theorem emb6 (f : Fin 2 → Fin 128 → Fin 1024 → EReal) (h : ∀ (t : Fin cfg1.N) (p : Fin 128) (q : Fin 1024),
      (((dat1 V c).after 6 t : FVec Ideal S1x128x1024 .f32) (ix3 (0 : Fin 1) p q) : EReal) = f (lay t) (row t p) q) :
    (dat1 V c).arrAt 6 cfg1.N = fun i => f (i 0) (i 1) (i 2) := by
  refine (dat1 V c).arrAt_eq_of_covers 6 _ (by decide +kernel) fun t _ y => ?_
  blk_simp
  have ht := h t
  generalize (dat1 V c).after 6 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem final6 : (dat1 V c).arrAt 6 cfg1.N = fun i => (fun l r q => dl (tot (A3 V c) (A4 V c) l r q) (A0 V c (ix3 l r q)) (A1 V c (ix3 l r q)) (A2 V c (ix3 l r q))) (i 0) (i 1) (i 2) := emb6 V c (fun l r q => dl (tot (A3 V c) (A4 V c) l r q) (A0 V c (ix3 l r q)) (A1 V c (ix3 l r q)) (A2 V c (ix3 l r q))) (left6 V c)

theorem emb7 (f : Fin 2 → Fin 128 → Fin 1024 → EReal) (h : ∀ (t : Fin cfg1.N) (p : Fin 128) (q : Fin 1024),
      (((dat1 V c).after 7 t : FVec Ideal S1x128x1024 .f32) (ix3 (0 : Fin 1) p q) : EReal) = f (lay t) (row t p) q) :
    (dat1 V c).arrAt 7 cfg1.N = fun i => f (i 0) (i 1) (i 2) := by
  refine (dat1 V c).arrAt_eq_of_covers 7 _ (by decide +kernel) fun t _ y => ?_
  blk_simp
  have ht := h t
  generalize (dat1 V c).after 7 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem final7 : (dat1 V c).arrAt 7 cfg1.N = fun i => (fun l r q => nm (tot (A3 V c) (A4 V c) l r q) (A1 V c (ix3 l r q))) (i 0) (i 1) (i 2) := emb7 V c (fun l r q => nm (tot (A3 V c) (A4 V c) l r q) (A1 V c (ix3 l r q))) (left7 V c)

theorem emb8 (f : Fin 2 → Fin 128 → Fin 1024 → EReal) (h : ∀ (t : Fin cfg1.N) (p : Fin 128) (q : Fin 1024),
      (((dat1 V c).after 8 t : FVec Ideal S1x128x1024 .f32) (ix3 (0 : Fin 1) p q) : EReal) = f (lay t) (row t p) q) :
    (dat1 V c).arrAt 8 cfg1.N = fun i => f (i 0) (i 1) (i 2) := by
  refine (dat1 V c).arrAt_eq_of_covers 8 _ (by decide +kernel) fun t _ y => ?_
  blk_simp
  have ht := h t
  generalize (dat1 V c).after 8 t = A at ht ⊢
  idx_vars y
  obtain rfl : y0 = 0 := Subsingleton.elim _ _
  refine (ht _ _).trans (cong3 f (Fin.ext ?_) (Fin.ext ?_) (Fin.ext ?_))
  · blk_simp [idx1 t]
    rfl
  · blk_simp [idx1 t]
  · blk_simp [idx1 t]
theorem final8 : (dat1 V c).arrAt 8 cfg1.N = fun i => (fun l r q => nv (tot (A3 V c) (A4 V c) l r q) (A2 V c (ix3 l r q))) (i 0) (i 1) (i 2) := emb8 V c (fun l r q => nv (tot (A3 V c) (A4 V c) l r q) (A2 V c (ix3 l r q))) (left8 V c)

end Cert.Kernel8Ideal.Value.w_out

end
-- ==== Proof.OptA2.lean ====
/- The optimiser's step on the second MLP weight, held in two layers, from the eight parts of its gradient. -/
module

public import proofs.«01_k».proof.Proof.Opt0
public import proofs.«01_k».proof.Proof.Gen.Kernel8Ideal.Frame

@[expose] public section

set_option maxRecDepth 16384

noncomputable section

open Idealize.ShloMosaic Idealize.ShloMosaic.TcCoe Idealize.SL.Sem
open Idealize.ShloMosaic.Pipeline (Dat)

namespace Cert.Kernel8Ideal.Value.w_down

open Cert.Kernel8Ideal Cert.Kernel8Ideal.Gen
open Cert.Kernel5Ideal.Value (nm nv dl cong3)

/-- The gradient of one entry: the sum of the eight parts sent by the devices, the first layer's in `A`, the second's in `B`. -/
def tot (A B : FVec Ideal S8x512x1024 .bf16) (l : Fin 2) (r : Fin 512) (q : Fin 1024) : EReal :=
  if l.val = 0 then ∑ k : Fin 8, (A (ix3 k r q) : EReal) else ∑ k : Fin 8, (B (ix3 k r q) : EReal)

/-! ## The payloads over variables -/

section pay
variable (s0 s1 s2 s3 s4 s5 s6 s7 : FVec Ideal S1x256x1024 .bf16) (w m v : FVec Ideal S1x256x1024 .f32) (g x : FVec Ideal S256x1024 .f32)
  (p : Fin 256) (q : Fin 1024)

theorem pay5 : (k2_pay5 (F := Ideal) s0 s1 s2 s3 s4 s5 s6 s7 (ix2 p q) : EReal)
    = (s0 (ix3 (0 : Fin 1) p q) : EReal) + s1 (ix3 (0 : Fin 1) p q) + s2 (ix3 (0 : Fin 1) p q) + s3 (ix3 (0 : Fin 1) p q)
      + s4 (ix3 (0 : Fin 1) p q) + s5 (ix3 (0 : Fin 1) p q) + s6 (ix3 (0 : Fin 1) p q) + s7 (ix3 (0 : Fin 1) p q) := by
  pointwise [k2_pay5]
theorem pay6 : k2_pay6 w (ix2 p q) = w (ix3 (0 : Fin 1) p q) := by pointwise [k2_pay6]
theorem pay7 : (k2_pay7 (F := Ideal) g m (ix2 p q) : EReal) = nm (g (ix2 p q)) (m (ix3 (0 : Fin 1) p q)) := by
  pointwise [k2_pay7, nm]
theorem pay8 : (k2_pay8 (F := Ideal) g v (ix2 p q) : EReal) = nv (g (ix2 p q)) (v (ix3 (0 : Fin 1) p q)) := by
  pointwise [k2_pay8, nv]
theorem pay1 : k2_pay1 g (ix3 (0 : Fin 1) p q) = g (ix2 p q) := by pointwise [k2_pay1]
theorem pay2 : k2_pay2 g (ix3 (0 : Fin 1) p q) = g (ix2 p q) := by pointwise [k2_pay2]
theorem pay9 : k2_pay9 g (ix3 (0 : Fin 1) p q) = g (ix2 p q) := by pointwise [k2_pay9]
theorem pay10 : (k2_pay10 (F := Ideal) g x m v (ix3 (0 : Fin 1) p q) : EReal)
    = dl (g (ix2 p q)) (x (ix2 p q)) (m (ix3 (0 : Fin 1) p q)) (v (ix3 (0 : Fin 1) p q)) := by
  have h7 := pay7 m g p q
  have h8 := pay8 v g p q
  unfold k2_pay10
  generalize k2_pay7 (F := Ideal) g m = M at h7 ⊢
  generalize k2_pay8 (F := Ideal) g v = N at h8 ⊢
  unfold dl
  rw [← h7, ← h8]
  pointwise []
theorem pay11 : k2_pay11 (F := Ideal) = k2_pay5 := rfl
theorem pay12 : k2_pay12 (F := Ideal) = k2_pay6 := rfl
theorem pay13 : k2_pay13 (F := Ideal) = k2_pay7 := rfl
theorem pay14 : k2_pay14 (F := Ideal) = k2_pay8 := rfl
theorem pay15 : k2_pay15 (F := Ideal) = k2_pay9 := rfl
theorem pay16 : k2_pay16 (F := Ideal) = k2_pay10 := rfl
theorem pay3 : k2_pay3 (F := Ideal) = k2_pay1 := rfl
theorem pay4 : k2_pay4 (F := Ideal) = k2_pay2 := rfl
end pay

/-! ## The blocks read as rows of the arrays -/

variable (V : (c : Dev nD) → (r : Ref sig .tc) → Buf (Elt Ideal) ((c.tc : Thread nD τ).loc r)) (c : Dev nD)

theorem idx2 : ∀ t : Fin cfg2.N, win2_0.index t = ![t.val / 2, t.val % 2, 0] ∧ win2_1.index t = ![t.val / 2, t.val % 2, 0] ∧ win2_2.index t = ![t.val / 2, t.val % 2, 0]
    ∧ win2_3.index t = ![0, min t.val 1, 0] ∧ win2_4.index t = ![0, t.val - 2, 0]
    ∧ win2_5.index t = ![t.val / 2, t.val % 2, 0] ∧ win2_6.index t = ![t.val / 2, t.val % 2, 0] ∧ win2_7.index t = ![t.val / 2, t.val % 2, 0] ∧ win2_8.index t = ![t.val / 2, t.val % 2, 0] :=
  (by decide +kernel : ∀ t : Fin grid2.N, _)
theorem lt (t : Fin cfg2.N) : t.val < 4 := lt_of_lt_of_eq t.isLt N_2
abbrev lay (t : Fin cfg2.N) : Fin 2 := ⟨t.val / 2, by have h := lt t; omega⟩
abbrev row (t : Fin cfg2.N) (p : Fin 256) : Fin 512 := ⟨t.val % 2 * 256 + p.val, by omega⟩

abbrev A0 : FVec Ideal S2x512x1024 .f32 := V c main_arg10
abbrev A1 : FVec Ideal S2x512x1024 .f32 := V c main_arg11
abbrev A2 : FVec Ideal S2x512x1024 .f32 := V c main_arg12
abbrev A3 : FVec Ideal S8x512x1024 .bf16 := V c main_arg13
abbrev A4 : FVec Ideal S8x512x1024 .bf16 := V c main_arg14

theorem b0 (t : Fin cfg2.N) (p : Fin 256) (q : Fin 1024) : (iblk2 V c 0 t : FVec Ideal S1x256x1024 .f32) (ix3 (0 : Fin 1) p q) = A0 V c (ix3 (lay t) (row t p) q) := by
  blk_point [iblk2, idx2 t]
theorem b1 (t : Fin cfg2.N) (p : Fin 256) (q : Fin 1024) : (iblk2 V c 1 t : FVec Ideal S1x256x1024 .f32) (ix3 (0 : Fin 1) p q) = A1 V c (ix3 (lay t) (row t p) q) := by
  blk_point [iblk2, idx2 t]
theorem b2 (t : Fin cfg2.N) (p : Fin 256) (q : Fin 1024) : (iblk2 V c 2 t : FVec Ideal S1x256x1024 .f32) (ix3 (0 : Fin 1) p q) = A2 V c (ix3 (lay t) (row t p) q) := by
  blk_point [iblk2, idx2 t]
theorem b3 (t : Fin cfg2.N) (ht : t.val < 2) (k : Fin 8) (p : Fin 256) (q : Fin 1024) :
    (iblk2 V c 3 t : FVec Ideal S8x256x1024 .bf16) (ix3 k p q) = A3 V c (ix3 k (row t p) q) := by
  blk_point [iblk2, idx2 t]
theorem b4 (t : Fin cfg2.N) (ht : 2 ≤ t.val) (k : Fin 8) (p : Fin 256) (q : Fin 1024) :
    (iblk2 V c 4 t : FVec Ideal S8x256x1024 .bf16) (ix3 k p q) = A4 V c (ix3 k (row t p) q) := by
  have hN := lt t
  blk_point [iblk2, idx2 t]

/-! ## What each point leaves -/

/-- One part of the eight, loaded alone. -/
theorem part (x : FVec Ideal S8x256x1024 .bf16) (k : ℕ) (hk : k < 8) (inb : ∀ a, (![k, 0, 0] : Fin 3 → ℕ) a + (![1, 256, 1024] : Fin 3 → ℕ) a ≤ S8x256x1024.size a)
    (p : Fin 256) (q : Fin 1024) : (View.ld (Val := Elt Ideal) (e' := .bf16) (S := S8x256x1024) x (Rect.unit ![k, 0, 0] ![1, 256, 1024] inb) : FVec Ideal S1x256x1024 .bf16) (ix3 (0 : Fin 1) p q) = x (ix3 (⟨k, hk⟩ : Fin 8) p q) :=
  congrArg x (funext fun a => Fin.ext (by fin_cases a <;> simp [Rect.unit, ix3]))

/-- The eight parts of one point, summed. -/
theorem eight (x : FVec Ideal S8x256x1024 .bf16) (p : Fin 256) (q : Fin 1024) :
    (k2_pay5 (F := Ideal) (View.ld (Val := Elt Ideal) (e' := .bf16) (S := S8x256x1024) x (Rect.unit ![0, 0, 0] ![1, 256, 1024] inb_S8x256x1024_S1x256x1024_0_0_0)) (View.ld (Val := Elt Ideal) (e' := .bf16) (S := S8x256x1024) x (Rect.unit ![1, 0, 0] ![1, 256, 1024] inb_S8x256x1024_S1x256x1024_1_0_0)) (View.ld (Val := Elt Ideal) (e' := .bf16) (S := S8x256x1024) x (Rect.unit ![2, 0, 0] ![1, 256, 1024] inb_S8x256x1024_S1x256x1024_2_0_0)) (View.ld (Val := Elt Ideal) (e' := .bf16) (S := S8x256x1024) x (Rect.unit ![3, 0, 0] ![1, 256, 1024] inb_S8x256x1024_S1x256x1024_3_0_0)) (View.ld (Val := Elt Ideal) (e' := .bf16) (S := S8x256x1024) x (Rect.unit ![4, 0, 0] ![1, 256, 1024] inb_S8x256x1024_S1x256x1024_4_0_0)) (View.ld (Val := Elt Ideal) (e' := .bf16) (S := S8x256x1024) x (Rect.unit ![5, 0, 0] ![1, 256, 1024] inb_S8x256x1024_S1x256x1024_5_0_0)) (View.ld (Val := Elt Ideal) (e' := .bf16) (S := S8x256x1024) x (Rect.unit ![6, 0, 0] ![1, 256, 1024] inb_S8x256x1024_S1x256x1024_6_0_0)) (View.ld (Val := Elt Ideal) (e' := .bf16) (S := S8x256x1024) x (Rect.unit ![7, 0, 0] ![1, 256, 1024] inb_S8x256x1024_S1x256x1024_7_0_0)) (ix2 p q) : EReal)
      = ∑ k : Fin 8, (x (ix3 k p q) : EReal) := by
  rw [pay5, Fin.sum_univ_eight]
  simp only [part x 0 (by decide), part x 1 (by decide), part x 2 (by decide), part x 3 (by decide), part x 4 (by decide), part x 5 (by decide), part x 6 (by decide), part x 7 (by decide)]
  rfl

theorem totA (t : Fin cfg2.N) (h : t.val < 2) (x : FVec Ideal S8x256x1024 .bf16) (hx : ∀ k p q, x (ix3 k p q) = A3 V c (ix3 k (row t p) q)) (p : Fin 256) (q : Fin 1024) :
    (∑ k : Fin 8, (x (ix3 k p q) : EReal)) = tot (A3 V c) (A4 V c) (lay t) (row t p) q := by
  simp only [hx]
  exact (if_pos (by show t.val / 2 = 0; omega)).symm
theorem totB (t : Fin cfg2.N) (h : 2 ≤ t.val) (x : FVec Ideal S8x256x1024 .bf16) (hx : ∀ k p q, x (ix3 k p q) = A4 V c (ix3 k (row t p) q)) (p : Fin 256) (q : Fin 1024) :
    (∑ k : Fin 8, (x (ix3 k p q) : EReal)) = tot (A3 V c) (A4 V c) (lay t) (row t p) q := by
  simp only [hx]
  exact (if_neg (by show ¬t.val / 2 = 0; omega)).symm

theorem left5 (t : Fin cfg2.N) (p : Fin 256) (q : Fin 1024) :
    (((dat2 V c).after 5 t : FVec Ideal S1x256x1024 .f32) (ix3 (0 : Fin 1) p q) : EReal) = tot (A3 V c) (A4 V c) (lay t) (row t p) q := by
  rw [after2_5]
  have hN := lt t
  by_cases h : t.val < 2
  · rw [outsAt2_A V c t (by omega) (by omega)]
    frame_out
    rw [pay9, eight, totA V c t h (iblk2 V c 3 t) (b3 V c t h)]
  · rw [outsAt2_B V c t (by omega) (by omega)]
    frame_out
    rw [pay15, pay11, pay9, eight, totB V c t (by omega) (iblk2 V c 4 t) (b4 V c t (by omega))]

theorem left6 (t : Fin cfg2.N) (p : Fin 256) (q : Fin 1024) :
    (((dat2 V c).after 6 t : FVec Ideal S1x256x1024 .f32) (ix3 (0 : Fin 1) p q) : EReal) = dl (tot (A3 V c) (A4 V c) (lay t) (row t p) q) (A0 V c (ix3 (lay t) (row t p) q)) (A1 V c (ix3 (lay t) (row t p) q)) (A2 V c (ix3 (lay t) (row t p) q)) := by
  rw [after2_6]
  have hN := lt t
  by_cases h : t.val < 2
  · rw [outsAt2_A V c t (by omega) (by omega)]
    frame_out
    rw [pay10, eight, totA V c t h (iblk2 V c 3 t) (b3 V c t h), pay6, b0, b1, b2]
  · rw [outsAt2_B V c t (by omega) (by omega)]
    frame_out
    rw [pay16, pay11, pay12, pay10, eight, totB V c t (by omega) (iblk2 V c 4 t) (b4 V c t (by omega)), pay6, b0, b1, b2]

theorem left7 (t : Fin cfg2.N) (p : Fin 256) (q : Fin 1024) :
    (((dat2 V c).after 7 t : FVec Ideal S1x256x1024 .f32) (ix3 (0 : Fin 1) p q) : EReal) = nm (tot (A3 V c) (A4 V c) (lay t) (row t p) q) (A1 V c (ix3 (lay t) (row t p) q)) := by
  rw [after2_7]
  have hN := lt t
  by_cases h : t.val < 2
  · rw [outsAt2_A V c t (by omega) (by omega)]
    frame_out
    rw [pay1, pay7, eight, totA V c t h (iblk2 V c 3 t) (b3 V c t h), b1]
  · rw [outsAt2_B V c t (by omega) (by omega)]
    frame_out
    rw [pay3, pay13, pay11, pay1, pay7, eight, totB V c t (by omega) (iblk2 V c 4 t) (b4 V c t (by omega)), b1]

theorem left8 (t : Fin cfg2.N) (p : Fin 256) (q : Fin 1024) :
    (((dat2 V c).after 8 t : FVec Ideal S1x256x1024 .f32) (ix3 (0 : Fin 1) p q) : EReal) = nv (tot (A3 V c) (A4 V c) (lay t) (row t p) q) (A2 V c (ix3 (lay t) (row t p) q)) := by
  rw [after2_8]
  have hN := lt t
  by_cases h : t.val < 2
  · rw [outsAt2_A V c t (by omega) (by omega)]
    frame_out
    rw [pay2, pay8, eight, totA V c t h (iblk2 V c 3 t) (b3 V c t h), b2]
  · rw [outsAt2_B V c t (by omega) (by omega)]
    frame_out
    rw [pay4, pay14, pay11, pay2, pay8, eight, totB V c t (by omega) (iblk2 V c 4 t) (b4 V c t (by omega)), b2]

/-! ## The arrays after the call -/

theorem emb5 (f : Fin 2 → Fin 512 → Fin 1024 → EReal) (h : ∀ (t : Fin cfg2.N) (p : Fin 256) (q : Fin 1024),
      (((dat2 V c).after 5 t : FVec Ideal S1x256x1024 .f32) (ix3 (0 : Fin 1) p q) : EReal) = f (lay t) (row t p) q) :
    (dat2 V c).arrAt 5 cfg2.N = fun i => f (i 0) (i 1) (i 2) := by
  refine (dat2 V c).arrAt_eq_of_covers 5 _ (by decide +kernel) fun t _ y => ?_
  blk_simp
  have ht := h t
  generalize (dat2 V c).after 5 t = A at ht ⊢
  idx_vars y
  obtain rfl : y0 = 0 := Subsingleton.elim _ _
  refine (ht _ _).trans (cong3 f (Fin.ext ?_) (Fin.ext ?_) (Fin.ext ?_))
  · blk_simp [idx2 t]
    rfl
  · blk_simp [idx2 t]
  · blk_simp [idx2 t]
theorem final5 : (dat2 V c).arrAt 5 cfg2.N = fun i => (fun l r q => tot (A3 V c) (A4 V c) l r q) (i 0) (i 1) (i 2) := emb5 V c (fun l r q => tot (A3 V c) (A4 V c) l r q) (left5 V c)

theorem emb6 (f : Fin 2 → Fin 512 → Fin 1024 → EReal) (h : ∀ (t : Fin cfg2.N) (p : Fin 256) (q : Fin 1024),
      (((dat2 V c).after 6 t : FVec Ideal S1x256x1024 .f32) (ix3 (0 : Fin 1) p q) : EReal) = f (lay t) (row t p) q) :
    (dat2 V c).arrAt 6 cfg2.N = fun i => f (i 0) (i 1) (i 2) := by
  refine (dat2 V c).arrAt_eq_of_covers 6 _ (by decide +kernel) fun t _ y => ?_
  blk_simp
  have ht := h t
  generalize (dat2 V c).after 6 t = A at ht ⊢
  idx_vars y
  obtain rfl : y0 = 0 := Subsingleton.elim _ _
  refine (ht _ _).trans (cong3 f (Fin.ext ?_) (Fin.ext ?_) (Fin.ext ?_))
  · blk_simp [idx2 t]
    rfl
  · blk_simp [idx2 t]
  · blk_simp [idx2 t]
theorem final6 : (dat2 V c).arrAt 6 cfg2.N = fun i => (fun l r q => dl (tot (A3 V c) (A4 V c) l r q) (A0 V c (ix3 l r q)) (A1 V c (ix3 l r q)) (A2 V c (ix3 l r q))) (i 0) (i 1) (i 2) := emb6 V c (fun l r q => dl (tot (A3 V c) (A4 V c) l r q) (A0 V c (ix3 l r q)) (A1 V c (ix3 l r q)) (A2 V c (ix3 l r q))) (left6 V c)

theorem emb7 (f : Fin 2 → Fin 512 → Fin 1024 → EReal) (h : ∀ (t : Fin cfg2.N) (p : Fin 256) (q : Fin 1024),
      (((dat2 V c).after 7 t : FVec Ideal S1x256x1024 .f32) (ix3 (0 : Fin 1) p q) : EReal) = f (lay t) (row t p) q) :
    (dat2 V c).arrAt 7 cfg2.N = fun i => f (i 0) (i 1) (i 2) := by
  refine (dat2 V c).arrAt_eq_of_covers 7 _ (by decide +kernel) fun t _ y => ?_
  blk_simp
  have ht := h t
  generalize (dat2 V c).after 7 t = A at ht ⊢
  idx_vars y
  obtain rfl : y0 = 0 := Subsingleton.elim _ _
  refine (ht _ _).trans (cong3 f (Fin.ext ?_) (Fin.ext ?_) (Fin.ext ?_))
  · blk_simp [idx2 t]
    rfl
  · blk_simp [idx2 t]
  · blk_simp [idx2 t]
theorem final7 : (dat2 V c).arrAt 7 cfg2.N = fun i => (fun l r q => nm (tot (A3 V c) (A4 V c) l r q) (A1 V c (ix3 l r q))) (i 0) (i 1) (i 2) := emb7 V c (fun l r q => nm (tot (A3 V c) (A4 V c) l r q) (A1 V c (ix3 l r q))) (left7 V c)

theorem emb8 (f : Fin 2 → Fin 512 → Fin 1024 → EReal) (h : ∀ (t : Fin cfg2.N) (p : Fin 256) (q : Fin 1024),
      (((dat2 V c).after 8 t : FVec Ideal S1x256x1024 .f32) (ix3 (0 : Fin 1) p q) : EReal) = f (lay t) (row t p) q) :
    (dat2 V c).arrAt 8 cfg2.N = fun i => f (i 0) (i 1) (i 2) := by
  refine (dat2 V c).arrAt_eq_of_covers 8 _ (by decide +kernel) fun t _ y => ?_
  blk_simp
  have ht := h t
  generalize (dat2 V c).after 8 t = A at ht ⊢
  idx_vars y
  obtain rfl : y0 = 0 := Subsingleton.elim _ _
  refine (ht _ _).trans (cong3 f (Fin.ext ?_) (Fin.ext ?_) (Fin.ext ?_))
  · blk_simp [idx2 t]
    rfl
  · blk_simp [idx2 t]
  · blk_simp [idx2 t]
theorem final8 : (dat2 V c).arrAt 8 cfg2.N = fun i => (fun l r q => nv (tot (A3 V c) (A4 V c) l r q) (A2 V c (ix3 l r q))) (i 0) (i 1) (i 2) := emb8 V c (fun l r q => nv (tot (A3 V c) (A4 V c) l r q) (A2 V c (ix3 l r q))) (left8 V c)

end Cert.Kernel8Ideal.Value.w_down

end
-- ==== Proof.OptB.lean ====
/- The optimiser step of the reference on the three weights, entry by entry. -/
module

public import proofs.«01_k».proof.Proof.OptA0
public import proofs.«01_k».proof.Proof.OptA1
public import proofs.«01_k».proof.Proof.OptA2
public import proofs.«01_k».proof.Proof.Gen.Reference8Ideal.Read

@[expose] public section

set_option maxRecDepth 16384

noncomputable section

open Idealize.ShloMosaic Idealize.ShloMosaic.TcCoe Idealize.SL.Sem

namespace Cert.Reference8Ideal.Rows.w_in

open Cert.Reference8Ideal Cert.Reference8Ideal.Gen Cert.Reference8Ideal.Read
open Cert.Kernel5Ideal.Value (nm nv dl)
open Cert.Kernel8Ideal.Value.w_in (tot)

variable (x0 x1 x2 : FVec Ideal S2x1024x192 .f32) (x3 x4 : FVec Ideal S8x1024x192 .bf16) (l : Fin 2) (r : Fin 1024) (q : Fin 192)

theorem r1 : (val_main_v1 (F := Ideal) x3 (ix2 r q) : EReal) = ∑ k : Fin 8, (x3 (ix3 k r q) : EReal) := by
  pointwise [val_main_v1, val_main_v0, val_main_cst]
theorem r3 : (val_main_v3 (F := Ideal) x4 (ix2 r q) : EReal) = ∑ k : Fin 8, (x4 (ix3 k r q) : EReal) := by
  pointwise [val_main_v3, val_main_v2, val_main_cst_0]
theorem r6 : (val_main_v6 (F := Ideal) x3 x4 (ix3 l r q) : EReal) = tot x3 x4 l r q := by
  have h1 := r1 x3
  have h3 := r3 x4
  unfold val_main_v6 val_main_v4 val_main_v5 tot
  generalize val_main_v1 (F := Ideal) x3 = A at h1 ⊢
  generalize val_main_v3 (F := Ideal) x4 = B at h3 ⊢
  simp only [← h1, ← h3]
  by_cases h : l.val = 0
  · rw [if_pos h]
    pointwise []
    exact dif_pos (by omega)
  · rw [if_neg h]
    pointwise []
    exact dif_neg (by omega)
theorem r11 : (val_main_v11 (F := Ideal) x1 x3 x4 (ix3 l r q) : EReal) = nm (tot x3 x4 l r q) (x1 (ix3 l r q)) := by
  rw [← r6]
  unfold val_main_v11 val_main_v10 val_main_v8 nm
  generalize val_main_v6 (F := Ideal) x3 x4 = A
  pointwise [val_main_v7, val_main_cst_1, val_main_v9, val_main_cst_2]
theorem r17 : (val_main_v17 (F := Ideal) x2 x3 x4 (ix3 l r q) : EReal) = nv (tot x3 x4 l r q) (x2 (ix3 l r q)) := by
  rw [← r6]
  unfold val_main_v17 val_main_v16 val_main_v14 val_main_v13 nv
  generalize val_main_v6 (F := Ideal) x3 x4 = A
  pointwise [val_main_v12, val_main_cst_3, val_main_v15, val_main_cst_4]
theorem r30 : (val_main_v30 (F := Ideal) x0 x1 x2 x3 x4 (ix3 l r q) : EReal) = dl (tot x3 x4 l r q) (x0 (ix3 l r q)) (x1 (ix3 l r q)) (x2 (ix3 l r q)) := by
  unfold dl
  rw [← r11, ← r17]
  unfold val_main_v30 val_main_v28 val_main_v27 val_main_v25 val_main_v24 val_main_v22 val_main_v21 val_main_v19
  generalize val_main_v11 (F := Ideal) x1 x3 x4 = A
  generalize val_main_v17 (F := Ideal) x2 x3 x4 = B
  pointwise [val_main_v18, val_main_cst_5, val_main_v20, val_main_cst_6, val_main_v23, val_main_cst_7, val_main_v26, val_main_cst_8, val_main_v29, val_main_cst_9]

end Cert.Reference8Ideal.Rows.w_in

namespace Cert.Kernel8Ideal.Value.w_in

open Cert.Kernel8Ideal Cert.Kernel8Ideal.Gen
open Cert.Kernel5Ideal.Value (nm nv dl)
open Cert.Reference8Ideal.Read Cert.Reference8Ideal.Rows.w_in

variable (x0 x1 x2 : FVec Ideal S2x1024x192 .f32) (x3 x4 : FVec Ideal S8x1024x192 .bf16)

theorem res6 : (fun i => (fun l r q => tot x3 x4 l r q) (i 0) (i 1) (i 2)) = val_main_v6 (F := Ideal) x3 x4 := by
  funext i
  idx_vars i
  exact (r6 x3 x4 i0 i1 i2).symm
theorem res30 : (fun i : S2x1024x192.Idx => (fun l r q => dl (tot x3 x4 l r q) (x0 (ix3 l r q)) (x1 (ix3 l r q)) (x2 (ix3 l r q))) (i 0) (i 1) (i 2)) = val_main_v30 (F := Ideal) x0 x1 x2 x3 x4 := by
  funext i
  idx_vars i
  exact (r30 x0 x1 x2 x3 x4 i0 i1 i2).symm
theorem res11 : (fun i : S2x1024x192.Idx => (fun l r q => nm (tot x3 x4 l r q) (x1 (ix3 l r q))) (i 0) (i 1) (i 2)) = val_main_v11 (F := Ideal) x1 x3 x4 := by
  funext i
  idx_vars i
  exact (r11 x1 x3 x4 i0 i1 i2).symm
theorem res17 : (fun i : S2x1024x192.Idx => (fun l r q => nv (tot x3 x4 l r q) (x2 (ix3 l r q))) (i 0) (i 1) (i 2)) = val_main_v17 (F := Ideal) x2 x3 x4 := by
  funext i
  idx_vars i
  exact (r17 x2 x3 x4 i0 i1 i2).symm

end Cert.Kernel8Ideal.Value.w_in

namespace Cert.Reference8Ideal.Rows.w_out

open Cert.Reference8Ideal Cert.Reference8Ideal.Gen Cert.Reference8Ideal.Read
open Cert.Kernel5Ideal.Value (nm nv dl)
open Cert.Kernel8Ideal.Value.w_out (tot)

variable (x0 x1 x2 : FVec Ideal S2x128x1024 .f32) (x3 x4 : FVec Ideal S8x128x1024 .bf16) (l : Fin 2) (r : Fin 128) (q : Fin 1024)

theorem r1 : (val_main_v32 (F := Ideal) x3 (ix2 r q) : EReal) = ∑ k : Fin 8, (x3 (ix3 k r q) : EReal) := by
  pointwise [val_main_v32, val_main_v31, val_main_cst_10]
theorem r3 : (val_main_v34 (F := Ideal) x4 (ix2 r q) : EReal) = ∑ k : Fin 8, (x4 (ix3 k r q) : EReal) := by
  pointwise [val_main_v34, val_main_v33, val_main_cst_11]
theorem r6 : (val_main_v37 (F := Ideal) x3 x4 (ix3 l r q) : EReal) = tot x3 x4 l r q := by
  have h1 := r1 x3
  have h3 := r3 x4
  unfold val_main_v37 val_main_v35 val_main_v36 tot
  generalize val_main_v32 (F := Ideal) x3 = A at h1 ⊢
  generalize val_main_v34 (F := Ideal) x4 = B at h3 ⊢
  simp only [← h1, ← h3]
  by_cases h : l.val = 0
  · rw [if_pos h]
    pointwise []
    exact dif_pos (by omega)
  · rw [if_neg h]
    pointwise []
    exact dif_neg (by omega)
theorem r11 : (val_main_v42 (F := Ideal) x1 x3 x4 (ix3 l r q) : EReal) = nm (tot x3 x4 l r q) (x1 (ix3 l r q)) := by
  rw [← r6]
  unfold val_main_v42 val_main_v41 val_main_v39 nm
  generalize val_main_v37 (F := Ideal) x3 x4 = A
  pointwise [val_main_v38, val_main_cst_12, val_main_v40, val_main_cst_13]
theorem r17 : (val_main_v48 (F := Ideal) x2 x3 x4 (ix3 l r q) : EReal) = nv (tot x3 x4 l r q) (x2 (ix3 l r q)) := by
  rw [← r6]
  unfold val_main_v48 val_main_v47 val_main_v45 val_main_v44 nv
  generalize val_main_v37 (F := Ideal) x3 x4 = A
  pointwise [val_main_v43, val_main_cst_14, val_main_v46, val_main_cst_15]
theorem r30 : (val_main_v61 (F := Ideal) x0 x1 x2 x3 x4 (ix3 l r q) : EReal) = dl (tot x3 x4 l r q) (x0 (ix3 l r q)) (x1 (ix3 l r q)) (x2 (ix3 l r q)) := by
  unfold dl
  rw [← r11, ← r17]
  unfold val_main_v61 val_main_v59 val_main_v58 val_main_v56 val_main_v55 val_main_v53 val_main_v52 val_main_v50
  generalize val_main_v42 (F := Ideal) x1 x3 x4 = A
  generalize val_main_v48 (F := Ideal) x2 x3 x4 = B
  pointwise [val_main_v49, val_main_cst_16, val_main_v51, val_main_cst_17, val_main_v54, val_main_cst_18, val_main_v57, val_main_cst_19, val_main_v60, val_main_cst_20]

end Cert.Reference8Ideal.Rows.w_out

namespace Cert.Kernel8Ideal.Value.w_out

open Cert.Kernel8Ideal Cert.Kernel8Ideal.Gen
open Cert.Kernel5Ideal.Value (nm nv dl)
open Cert.Reference8Ideal.Read Cert.Reference8Ideal.Rows.w_out

variable (x0 x1 x2 : FVec Ideal S2x128x1024 .f32) (x3 x4 : FVec Ideal S8x128x1024 .bf16)

theorem res6 : (fun i => (fun l r q => tot x3 x4 l r q) (i 0) (i 1) (i 2)) = val_main_v37 (F := Ideal) x3 x4 := by
  funext i
  idx_vars i
  exact (r6 x3 x4 i0 i1 i2).symm
theorem res30 : (fun i : S2x128x1024.Idx => (fun l r q => dl (tot x3 x4 l r q) (x0 (ix3 l r q)) (x1 (ix3 l r q)) (x2 (ix3 l r q))) (i 0) (i 1) (i 2)) = val_main_v61 (F := Ideal) x0 x1 x2 x3 x4 := by
  funext i
  idx_vars i
  exact (r30 x0 x1 x2 x3 x4 i0 i1 i2).symm
theorem res11 : (fun i : S2x128x1024.Idx => (fun l r q => nm (tot x3 x4 l r q) (x1 (ix3 l r q))) (i 0) (i 1) (i 2)) = val_main_v42 (F := Ideal) x1 x3 x4 := by
  funext i
  idx_vars i
  exact (r11 x1 x3 x4 i0 i1 i2).symm
theorem res17 : (fun i : S2x128x1024.Idx => (fun l r q => nv (tot x3 x4 l r q) (x2 (ix3 l r q))) (i 0) (i 1) (i 2)) = val_main_v48 (F := Ideal) x2 x3 x4 := by
  funext i
  idx_vars i
  exact (r17 x2 x3 x4 i0 i1 i2).symm

end Cert.Kernel8Ideal.Value.w_out

namespace Cert.Reference8Ideal.Rows.w_down

open Cert.Reference8Ideal Cert.Reference8Ideal.Gen Cert.Reference8Ideal.Read
open Cert.Kernel5Ideal.Value (nm nv dl)
open Cert.Kernel8Ideal.Value.w_down (tot)

variable (x0 x1 x2 : FVec Ideal S2x512x1024 .f32) (x3 x4 : FVec Ideal S8x512x1024 .bf16) (l : Fin 2) (r : Fin 512) (q : Fin 1024)

theorem r1 : (val_main_v63 (F := Ideal) x3 (ix2 r q) : EReal) = ∑ k : Fin 8, (x3 (ix3 k r q) : EReal) := by
  pointwise [val_main_v63, val_main_v62, val_main_cst_21]
theorem r3 : (val_main_v65 (F := Ideal) x4 (ix2 r q) : EReal) = ∑ k : Fin 8, (x4 (ix3 k r q) : EReal) := by
  pointwise [val_main_v65, val_main_v64, val_main_cst_22]
theorem r6 : (val_main_v68 (F := Ideal) x3 x4 (ix3 l r q) : EReal) = tot x3 x4 l r q := by
  have h1 := r1 x3
  have h3 := r3 x4
  unfold val_main_v68 val_main_v66 val_main_v67 tot
  generalize val_main_v63 (F := Ideal) x3 = A at h1 ⊢
  generalize val_main_v65 (F := Ideal) x4 = B at h3 ⊢
  simp only [← h1, ← h3]
  by_cases h : l.val = 0
  · rw [if_pos h]
    pointwise []
    exact dif_pos (by omega)
  · rw [if_neg h]
    pointwise []
    exact dif_neg (by omega)
theorem r11 : (val_main_v73 (F := Ideal) x1 x3 x4 (ix3 l r q) : EReal) = nm (tot x3 x4 l r q) (x1 (ix3 l r q)) := by
  rw [← r6]
  unfold val_main_v73 val_main_v72 val_main_v70 nm
  generalize val_main_v68 (F := Ideal) x3 x4 = A
  pointwise [val_main_v69, val_main_cst_23, val_main_v71, val_main_cst_24]
theorem r17 : (val_main_v79 (F := Ideal) x2 x3 x4 (ix3 l r q) : EReal) = nv (tot x3 x4 l r q) (x2 (ix3 l r q)) := by
  rw [← r6]
  unfold val_main_v79 val_main_v78 val_main_v76 val_main_v75 nv
  generalize val_main_v68 (F := Ideal) x3 x4 = A
  pointwise [val_main_v74, val_main_cst_25, val_main_v77, val_main_cst_26]
theorem r30 : (val_main_v92 (F := Ideal) x0 x1 x2 x3 x4 (ix3 l r q) : EReal) = dl (tot x3 x4 l r q) (x0 (ix3 l r q)) (x1 (ix3 l r q)) (x2 (ix3 l r q)) := by
  unfold dl
  rw [← r11, ← r17]
  unfold val_main_v92 val_main_v90 val_main_v89 val_main_v87 val_main_v86 val_main_v84 val_main_v83 val_main_v81
  generalize val_main_v73 (F := Ideal) x1 x3 x4 = A
  generalize val_main_v79 (F := Ideal) x2 x3 x4 = B
  pointwise [val_main_v80, val_main_cst_27, val_main_v82, val_main_cst_28, val_main_v85, val_main_cst_29, val_main_v88, val_main_cst_30, val_main_v91, val_main_cst_31]

end Cert.Reference8Ideal.Rows.w_down

namespace Cert.Kernel8Ideal.Value.w_down

open Cert.Kernel8Ideal Cert.Kernel8Ideal.Gen
open Cert.Kernel5Ideal.Value (nm nv dl)
open Cert.Reference8Ideal.Read Cert.Reference8Ideal.Rows.w_down

variable (x0 x1 x2 : FVec Ideal S2x512x1024 .f32) (x3 x4 : FVec Ideal S8x512x1024 .bf16)

theorem res6 : (fun i => (fun l r q => tot x3 x4 l r q) (i 0) (i 1) (i 2)) = val_main_v68 (F := Ideal) x3 x4 := by
  funext i
  idx_vars i
  exact (r6 x3 x4 i0 i1 i2).symm
theorem res30 : (fun i : S2x512x1024.Idx => (fun l r q => dl (tot x3 x4 l r q) (x0 (ix3 l r q)) (x1 (ix3 l r q)) (x2 (ix3 l r q))) (i 0) (i 1) (i 2)) = val_main_v92 (F := Ideal) x0 x1 x2 x3 x4 := by
  funext i
  idx_vars i
  exact (r30 x0 x1 x2 x3 x4 i0 i1 i2).symm
theorem res11 : (fun i : S2x512x1024.Idx => (fun l r q => nm (tot x3 x4 l r q) (x1 (ix3 l r q))) (i 0) (i 1) (i 2)) = val_main_v73 (F := Ideal) x1 x3 x4 := by
  funext i
  idx_vars i
  exact (r11 x1 x3 x4 i0 i1 i2).symm
theorem res17 : (fun i : S2x512x1024.Idx => (fun l r q => nv (tot x3 x4 l r q) (x2 (ix3 l r q))) (i 0) (i 1) (i 2)) = val_main_v79 (F := Ideal) x2 x3 x4 := by
  funext i
  idx_vars i
  exact (r17 x2 x3 x4 i0 i1 i2).symm

end Cert.Kernel8Ideal.Value.w_down

end
-- ==== Proof.OptC.lean ====
/- The optimiser's twelve results on the three weights as the reference's terms, and the launch that ends at them. -/
module

public import proofs.«01_k».proof.Proof.OptB
public import proofs.«01_k».proof.Proof.Gen.Reference8Ideal.Read
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel8Ideal.Value

open Cert.Kernel8Ideal Cert.Kernel8Ideal.Gen Cert.Reference8Ideal.Read

variable (m : (ℓ : Loc nD τ sig) → Buf (Elt Ideal) ℓ) (ρ : Dev nD → PrngReg)

theorem w1_v0_0 (c : Dev nD) : W1 m ρ c main_v0_0 = val_main_v6 (F := Ideal) (m ((c.tc : Thread nD τ).loc main_arg3)) (m ((c.tc : Thread nD τ).loc main_arg4)) :=
  (W1_arr m ρ c 5).trans ((w_in.final5 (V0 m ρ) c).trans (w_in.res6 _ _))
theorem w2_v0_0 (c : Dev nD) : W2 m ρ c main_v0_0 = val_main_v6 (F := Ideal) (m ((c.tc : Thread nD τ).loc main_arg3)) (m ((c.tc : Thread nD τ).loc main_arg4)) := (W2_of m ρ c main_v0_0 (by decide)).trans (w1_v0_0 m ρ c)
theorem w3_v0_0 (c : Dev nD) : W3 m ρ c main_v0_0 = val_main_v6 (F := Ideal) (m ((c.tc : Thread nD τ).loc main_arg3)) (m ((c.tc : Thread nD τ).loc main_arg4)) := (W3_of m ρ c main_v0_0 (by decide)).trans (w2_v0_0 m ρ c)
theorem w1_v0_1 (c : Dev nD) : W1 m ρ c main_v0_1 = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W1_arr m ρ c 6).trans ((w_in.final6 (V0 m ρ) c).trans (w_in.res30 _ _ _ _ _))
theorem w2_v0_1 (c : Dev nD) : W2 m ρ c main_v0_1 = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (W2_of m ρ c main_v0_1 (by decide)).trans (w1_v0_1 m ρ c)
theorem w3_v0_1 (c : Dev nD) : W3 m ρ c main_v0_1 = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (W3_of m ρ c main_v0_1 (by decide)).trans (w2_v0_1 m ρ c)
theorem w1_v0_2 (c : Dev nD) : W1 m ρ c main_v0_2 = val_main_v11 (F := Ideal) (m ((c.tc : Thread nD τ).loc main_arg1)) (m ((c.tc : Thread nD τ).loc main_arg3)) (m ((c.tc : Thread nD τ).loc main_arg4)) :=
  (W1_arr m ρ c 7).trans ((w_in.final7 (V0 m ρ) c).trans (w_in.res11 _ _ _))
theorem w2_v0_2 (c : Dev nD) : W2 m ρ c main_v0_2 = val_main_v11 (F := Ideal) (m ((c.tc : Thread nD τ).loc main_arg1)) (m ((c.tc : Thread nD τ).loc main_arg3)) (m ((c.tc : Thread nD τ).loc main_arg4)) := (W2_of m ρ c main_v0_2 (by decide)).trans (w1_v0_2 m ρ c)
theorem w3_v0_2 (c : Dev nD) : W3 m ρ c main_v0_2 = val_main_v11 (F := Ideal) (m ((c.tc : Thread nD τ).loc main_arg1)) (m ((c.tc : Thread nD τ).loc main_arg3)) (m ((c.tc : Thread nD τ).loc main_arg4)) := (W3_of m ρ c main_v0_2 (by decide)).trans (w2_v0_2 m ρ c)
theorem w1_v0_3 (c : Dev nD) : W1 m ρ c main_v0_3 = val_main_v17 (F := Ideal) (m ((c.tc : Thread nD τ).loc main_arg2)) (m ((c.tc : Thread nD τ).loc main_arg3)) (m ((c.tc : Thread nD τ).loc main_arg4)) :=
  (W1_arr m ρ c 8).trans ((w_in.final8 (V0 m ρ) c).trans (w_in.res17 _ _ _))
theorem w2_v0_3 (c : Dev nD) : W2 m ρ c main_v0_3 = val_main_v17 (F := Ideal) (m ((c.tc : Thread nD τ).loc main_arg2)) (m ((c.tc : Thread nD τ).loc main_arg3)) (m ((c.tc : Thread nD τ).loc main_arg4)) := (W2_of m ρ c main_v0_3 (by decide)).trans (w1_v0_3 m ρ c)
theorem w3_v0_3 (c : Dev nD) : W3 m ρ c main_v0_3 = val_main_v17 (F := Ideal) (m ((c.tc : Thread nD τ).loc main_arg2)) (m ((c.tc : Thread nD τ).loc main_arg3)) (m ((c.tc : Thread nD τ).loc main_arg4)) := (W3_of m ρ c main_v0_3 (by decide)).trans (w2_v0_3 m ρ c)
theorem w1_arg5 (c : Dev nD) : W1 m ρ c main_arg5 = m ((c.tc : Thread nD τ).loc main_arg5) := W1_of m ρ c main_arg5 (by decide)
theorem w1_arg6 (c : Dev nD) : W1 m ρ c main_arg6 = m ((c.tc : Thread nD τ).loc main_arg6) := W1_of m ρ c main_arg6 (by decide)
theorem w1_arg7 (c : Dev nD) : W1 m ρ c main_arg7 = m ((c.tc : Thread nD τ).loc main_arg7) := W1_of m ρ c main_arg7 (by decide)
theorem w1_arg8 (c : Dev nD) : W1 m ρ c main_arg8 = m ((c.tc : Thread nD τ).loc main_arg8) := W1_of m ρ c main_arg8 (by decide)
theorem w1_arg9 (c : Dev nD) : W1 m ρ c main_arg9 = m ((c.tc : Thread nD τ).loc main_arg9) := W1_of m ρ c main_arg9 (by decide)
theorem w2_v1_0 (c : Dev nD) : W2 m ρ c main_v1_0 = val_main_v37 (F := Ideal) (m ((c.tc : Thread nD τ).loc main_arg8)) (m ((c.tc : Thread nD τ).loc main_arg9)) :=
  (W2_arr m ρ c 5).trans ((w_out.final5 (V1 m ρ) c).trans (by
    rw [show w_out.A3 (V1 m ρ) c = _ from w1_arg8 m ρ c, show w_out.A4 (V1 m ρ) c = _ from w1_arg9 m ρ c]
    exact w_out.res6 _ _))
theorem w3_v1_0 (c : Dev nD) : W3 m ρ c main_v1_0 = val_main_v37 (F := Ideal) (m ((c.tc : Thread nD τ).loc main_arg8)) (m ((c.tc : Thread nD τ).loc main_arg9)) := (W3_of m ρ c main_v1_0 (by decide)).trans (w2_v1_0 m ρ c)
theorem w2_v1_1 (c : Dev nD) : W2 m ρ c main_v1_1 = val_main_v61 (F := Ideal) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W2_arr m ρ c 6).trans ((w_out.final6 (V1 m ρ) c).trans (by
    rw [show w_out.A0 (V1 m ρ) c = _ from w1_arg5 m ρ c, show w_out.A1 (V1 m ρ) c = _ from w1_arg6 m ρ c, show w_out.A2 (V1 m ρ) c = _ from w1_arg7 m ρ c, show w_out.A3 (V1 m ρ) c = _ from w1_arg8 m ρ c, show w_out.A4 (V1 m ρ) c = _ from w1_arg9 m ρ c]
    exact w_out.res30 _ _ _ _ _))
theorem w3_v1_1 (c : Dev nD) : W3 m ρ c main_v1_1 = val_main_v61 (F := Ideal) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := (W3_of m ρ c main_v1_1 (by decide)).trans (w2_v1_1 m ρ c)
theorem w2_v1_2 (c : Dev nD) : W2 m ρ c main_v1_2 = val_main_v42 (F := Ideal) (m ((c.tc : Thread nD τ).loc main_arg6)) (m ((c.tc : Thread nD τ).loc main_arg8)) (m ((c.tc : Thread nD τ).loc main_arg9)) :=
  (W2_arr m ρ c 7).trans ((w_out.final7 (V1 m ρ) c).trans (by
    rw [show w_out.A1 (V1 m ρ) c = _ from w1_arg6 m ρ c, show w_out.A3 (V1 m ρ) c = _ from w1_arg8 m ρ c, show w_out.A4 (V1 m ρ) c = _ from w1_arg9 m ρ c]
    exact w_out.res11 _ _ _))
theorem w3_v1_2 (c : Dev nD) : W3 m ρ c main_v1_2 = val_main_v42 (F := Ideal) (m ((c.tc : Thread nD τ).loc main_arg6)) (m ((c.tc : Thread nD τ).loc main_arg8)) (m ((c.tc : Thread nD τ).loc main_arg9)) := (W3_of m ρ c main_v1_2 (by decide)).trans (w2_v1_2 m ρ c)
theorem w2_v1_3 (c : Dev nD) : W2 m ρ c main_v1_3 = val_main_v48 (F := Ideal) (m ((c.tc : Thread nD τ).loc main_arg7)) (m ((c.tc : Thread nD τ).loc main_arg8)) (m ((c.tc : Thread nD τ).loc main_arg9)) :=
  (W2_arr m ρ c 8).trans ((w_out.final8 (V1 m ρ) c).trans (by
    rw [show w_out.A2 (V1 m ρ) c = _ from w1_arg7 m ρ c, show w_out.A3 (V1 m ρ) c = _ from w1_arg8 m ρ c, show w_out.A4 (V1 m ρ) c = _ from w1_arg9 m ρ c]
    exact w_out.res17 _ _ _))
theorem w3_v1_3 (c : Dev nD) : W3 m ρ c main_v1_3 = val_main_v48 (F := Ideal) (m ((c.tc : Thread nD τ).loc main_arg7)) (m ((c.tc : Thread nD τ).loc main_arg8)) (m ((c.tc : Thread nD τ).loc main_arg9)) := (W3_of m ρ c main_v1_3 (by decide)).trans (w2_v1_3 m ρ c)
theorem w1_arg10 (c : Dev nD) : W1 m ρ c main_arg10 = m ((c.tc : Thread nD τ).loc main_arg10) := W1_of m ρ c main_arg10 (by decide)
theorem w2_arg10 (c : Dev nD) : W2 m ρ c main_arg10 = m ((c.tc : Thread nD τ).loc main_arg10) := (W2_of m ρ c main_arg10 (by decide)).trans (w1_arg10 m ρ c)
theorem w1_arg11 (c : Dev nD) : W1 m ρ c main_arg11 = m ((c.tc : Thread nD τ).loc main_arg11) := W1_of m ρ c main_arg11 (by decide)
theorem w2_arg11 (c : Dev nD) : W2 m ρ c main_arg11 = m ((c.tc : Thread nD τ).loc main_arg11) := (W2_of m ρ c main_arg11 (by decide)).trans (w1_arg11 m ρ c)
theorem w1_arg12 (c : Dev nD) : W1 m ρ c main_arg12 = m ((c.tc : Thread nD τ).loc main_arg12) := W1_of m ρ c main_arg12 (by decide)
theorem w2_arg12 (c : Dev nD) : W2 m ρ c main_arg12 = m ((c.tc : Thread nD τ).loc main_arg12) := (W2_of m ρ c main_arg12 (by decide)).trans (w1_arg12 m ρ c)
theorem w1_arg13 (c : Dev nD) : W1 m ρ c main_arg13 = m ((c.tc : Thread nD τ).loc main_arg13) := W1_of m ρ c main_arg13 (by decide)
theorem w2_arg13 (c : Dev nD) : W2 m ρ c main_arg13 = m ((c.tc : Thread nD τ).loc main_arg13) := (W2_of m ρ c main_arg13 (by decide)).trans (w1_arg13 m ρ c)
theorem w1_arg14 (c : Dev nD) : W1 m ρ c main_arg14 = m ((c.tc : Thread nD τ).loc main_arg14) := W1_of m ρ c main_arg14 (by decide)
theorem w2_arg14 (c : Dev nD) : W2 m ρ c main_arg14 = m ((c.tc : Thread nD τ).loc main_arg14) := (W2_of m ρ c main_arg14 (by decide)).trans (w1_arg14 m ρ c)
theorem w3_v2_0 (c : Dev nD) : W3 m ρ c main_v2_0 = val_main_v68 (F := Ideal) (m ((c.tc : Thread nD τ).loc main_arg13)) (m ((c.tc : Thread nD τ).loc main_arg14)) :=
  (W3_arr m ρ c 5).trans ((w_down.final5 (V2 m ρ) c).trans (by
    rw [show w_down.A3 (V2 m ρ) c = _ from w2_arg13 m ρ c, show w_down.A4 (V2 m ρ) c = _ from w2_arg14 m ρ c]
    exact w_down.res6 _ _))
theorem w3_v2_1 (c : Dev nD) : W3 m ρ c main_v2_1 = val_main_v92 (F := Ideal) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (W3_arr m ρ c 6).trans ((w_down.final6 (V2 m ρ) c).trans (by
    rw [show w_down.A0 (V2 m ρ) c = _ from w2_arg10 m ρ c, show w_down.A1 (V2 m ρ) c = _ from w2_arg11 m ρ c, show w_down.A2 (V2 m ρ) c = _ from w2_arg12 m ρ c, show w_down.A3 (V2 m ρ) c = _ from w2_arg13 m ρ c, show w_down.A4 (V2 m ρ) c = _ from w2_arg14 m ρ c]
    exact w_down.res30 _ _ _ _ _))
theorem w3_v2_2 (c : Dev nD) : W3 m ρ c main_v2_2 = val_main_v73 (F := Ideal) (m ((c.tc : Thread nD τ).loc main_arg11)) (m ((c.tc : Thread nD τ).loc main_arg13)) (m ((c.tc : Thread nD τ).loc main_arg14)) :=
  (W3_arr m ρ c 7).trans ((w_down.final7 (V2 m ρ) c).trans (by
    rw [show w_down.A1 (V2 m ρ) c = _ from w2_arg11 m ρ c, show w_down.A3 (V2 m ρ) c = _ from w2_arg13 m ρ c, show w_down.A4 (V2 m ρ) c = _ from w2_arg14 m ρ c]
    exact w_down.res11 _ _ _))
theorem w3_v2_3 (c : Dev nD) : W3 m ρ c main_v2_3 = val_main_v79 (F := Ideal) (m ((c.tc : Thread nD τ).loc main_arg12)) (m ((c.tc : Thread nD τ).loc main_arg13)) (m ((c.tc : Thread nD τ).loc main_arg14)) :=
  (W3_arr m ρ c 8).trans ((w_down.final8 (V2 m ρ) c).trans (by
    rw [show w_down.A2 (V2 m ρ) c = _ from w2_arg12 m ρ c, show w_down.A3 (V2 m ρ) c = _ from w2_arg13 m ρ c, show w_down.A4 (V2 m ρ) c = _ from w2_arg14 m ρ c]
    exact w_down.res17 _ _ _))

local notation "𝕄" => MT nD τ sig Unit (Elt Ideal) ℕ (UR sig nD τ) ℕ

set_option backward.isDefEq.respectTransparency.types false in
/-- Every fair execution of the three calls ends with the reference's twelve results, its arguments unchanged. -/
theorem run : θ_run defs (onTc (τ := τ) (main (F := Ideal))) ⟨m, fun _ => 0, ρ⟩ (fun r => ∀ c : Dev nD,
      r.2.mem ((c.tc : Thread nD τ).loc main_v0_0) = val_main_v6 (F := Ideal) (m ((c.tc : Thread nD τ).loc main_arg3)) (m ((c.tc : Thread nD τ).loc main_arg4))
      ∧ r.2.mem ((c.tc : Thread nD τ).loc main_v0_1) = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = val_main_v11 (F := Ideal) (m ((c.tc : Thread nD τ).loc main_arg1)) (m ((c.tc : Thread nD τ).loc main_arg3)) (m ((c.tc : Thread nD τ).loc main_arg4))
      ∧ r.2.mem ((c.tc : Thread nD τ).loc main_v0_3) = val_main_v17 (F := Ideal) (m ((c.tc : Thread nD τ).loc main_arg2)) (m ((c.tc : Thread nD τ).loc main_arg3)) (m ((c.tc : Thread nD τ).loc main_arg4))
      ∧ r.2.mem ((c.tc : Thread nD τ).loc main_v1_0) = val_main_v37 (F := Ideal) (m ((c.tc : Thread nD τ).loc main_arg8)) (m ((c.tc : Thread nD τ).loc main_arg9))
      ∧ r.2.mem ((c.tc : Thread nD τ).loc main_v1_1) = val_main_v61 (F := Ideal) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v1_2) = val_main_v42 (F := Ideal) (m ((c.tc : Thread nD τ).loc main_arg6)) (m ((c.tc : Thread nD τ).loc main_arg8)) (m ((c.tc : Thread nD τ).loc main_arg9))
      ∧ r.2.mem ((c.tc : Thread nD τ).loc main_v1_3) = val_main_v48 (F := Ideal) (m ((c.tc : Thread nD τ).loc main_arg7)) (m ((c.tc : Thread nD τ).loc main_arg8)) (m ((c.tc : Thread nD τ).loc main_arg9))
      ∧ r.2.mem ((c.tc : Thread nD τ).loc main_v2_0) = val_main_v68 (F := Ideal) (m ((c.tc : Thread nD τ).loc main_arg13)) (m ((c.tc : Thread nD τ).loc main_arg14))
      ∧ r.2.mem ((c.tc : Thread nD τ).loc main_v2_1) = val_main_v92 (F := Ideal) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v2_2) = val_main_v73 (F := Ideal) (m ((c.tc : Thread nD τ).loc main_arg11)) (m ((c.tc : Thread nD τ).loc main_arg13)) (m ((c.tc : Thread nD τ).loc main_arg14))
      ∧ r.2.mem ((c.tc : Thread nD τ).loc main_v2_3) = val_main_v79 (F := Ideal) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0_0 (by decide))).trans (w3_v0_0 m ρ c),
       (h c _ (mem_uc main_v0_1 (by decide))).trans (w3_v0_1 m ρ c),
       (h c _ (mem_uc main_v0_2 (by decide))).trans (w3_v0_2 m ρ c),
       (h c _ (mem_uc main_v0_3 (by decide))).trans (w3_v0_3 m ρ c),
       (h c _ (mem_uc main_v1_0 (by decide))).trans (w3_v1_0 m ρ c),
       (h c _ (mem_uc main_v1_1 (by decide))).trans (w3_v1_1 m ρ c),
       (h c _ (mem_uc main_v1_2 (by decide))).trans (w3_v1_2 m ρ c),
       (h c _ (mem_uc main_v1_3 (by decide))).trans (w3_v1_3 m ρ c),
       (h c _ (mem_uc main_v2_0 (by decide))).trans (w3_v2_0 m ρ c),
       (h c _ (mem_uc main_v2_1 (by decide))).trans (w3_v2_1 m ρ c),
       (h c _ (mem_uc main_v2_2 (by decide))).trans (w3_v2_2 m ρ c),
       (h c _ (mem_uc main_v2_3 (by decide))).trans (w3_v2_3 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c)⟩)

end Cert.Kernel8Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Mlp2
public import proofs.«01_k».proof.Proof.NormT
public import proofs.«01_k».proof.Proof.NormS
public import proofs.«01_k».proof.Proof.Proj1
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Fwd
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Opt3
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Proj3
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Small3
public import proofs.«01_k».proof.Proof.Ada
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.AdaB
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Mlp5
public import proofs.«01_k».proof.Proof.OptC
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_arguments
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run: its arguments unchanged, and it declares no semaphore. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The kernel's four results are the reference's, from arguments that agree. -/
theorem algebraic : Cert.algebraic_KernelIdeal_ReferenceIdeal := by
  pair_intro
  · run_from Cert.KernelIdeal.Value.run m g
  · refine (θ_run Cert.ReferenceIdeal.defs _ _).mono (fun r h c => ?_) (Cert.ReferenceIdeal.Value.run (F := Ideal) m' g')
    obtain ⟨h0, h1, h2, h3⟩ := hagree c
    obtain ⟨r0, r1, r2, r3, rest⟩ := h c
    rw [h0, h1, h2] at r0
    rw [h0, h1, h2, h3] at r1 r2
    rw [h0, h1, h3] at r3
    exact ⟨r0.trans (Cert.ReferenceIdeal.Read.val_main_v8_eq _ _ _), r1.trans (Cert.ReferenceIdeal.Read.val_main_v17_eq _ _ _ _),
      r2.trans (Cert.ReferenceIdeal.Read.val_main_v20_eq _ _ _ _), r3.trans (Cert.ReferenceIdeal.Read.val_main_v21_eq _ _ _), rest⟩

/-- The second reference's run: its arguments unchanged, and it declares no semaphore. -/
theorem frame_ri2 : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- From real arguments that agree, the second kernel's four results are the second reference's. -/
theorem algebraic2 : Cert.algebraic_Kernel2Ideal_Reference2Ideal_pre_finite_arguments := by
  intro m g m' g' hpre hagree
  refine ⟨_, _, _, _, Cert.Kernel2Ideal.Value.run m g fun c => Cert.Kernel2Ideal.Value.reals m c hpre, ?_⟩
  refine (θ_run Cert.Reference2Ideal.defs _ _).mono (fun r h c => ?_) (Cert.Reference2Ideal.Value.run (F := Ideal) m' g')
  obtain ⟨h0, h1, h2, h3, h4, h5, h6, h7⟩ := hagree c
  obtain ⟨r0, r1, r2, r3, rest⟩ := h c
  replace r0 := r0.trans (Cert.Reference2Ideal.Read.val_main_v153_eq (F := Ideal) _)
  replace r1 := r1.trans (Cert.Reference2Ideal.Read.val_main_v155_eq (F := Ideal) _)
  replace r2 := r2.trans (Cert.Reference2Ideal.Read.val_main_v160_eq (F := Ideal) _)
  replace r3 := r3.trans (Cert.Reference2Ideal.Read.val_main_v164_eq (F := Ideal) _)
  simp only [StableHlo.launchContents_devRef, h0, h1, h2, h3, h4, h5, h6, h7] at r0 r1 r3
  simp only [StableHlo.launchContents_devRef, h0, h1, h2, h3, h4, h5, h6] at r2
  exact ⟨r0, r1, r2, r3, rest⟩

/-- The third reference's run: its arguments unchanged, and it declares no semaphore. -/
theorem frame_ri3 : Cert.quiescent_Reference3Ideal := fun m ρ _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m ρ)

/-- The six projection products are the third reference's, from arguments that agree. -/
theorem algebraic3 : Cert.algebraic_Kernel3Ideal_Reference3Ideal := by
  pair_intro
  · run_from Cert.Kernel3Ideal.Value.run m g
  · refine (θ_run Cert.Reference3Ideal.defs _ _).mono (fun r h c => ?_) (Cert.Reference3Ideal.Value.run (F := Ideal) m' g')
    obtain ⟨h0, h1, h2, h3, h4, h5⟩ := hagree c
    obtain ⟨r0, r1, r2, r3, r4, r5, rest⟩ := h c
    rw [h0, h1] at r0
    rw [h3, h4] at r1
    rw [h4, h5] at r2
    rw [h3, h5] at r3
    rw [h0, h2] at r4
    rw [h1, h2] at r5
    exact ⟨r0.trans (Cert.Reference3Ideal.Read.val_main_v0_eq _ _), r1.trans (Cert.Reference3Ideal.Read.val_main_v1_eq _ _),
      r2.trans (Cert.Reference3Ideal.Read.val_main_v8_eq _ _), r3.trans (Cert.Reference3Ideal.Read.val_main_v9_eq _ _),
      r4.trans (Cert.Reference3Ideal.Read.val_main_v10_eq _ _), r5.trans (Cert.Reference3Ideal.Read.val_main_v4_eq _ _), rest⟩

/-- The fourth reference's run: its arguments unchanged, and it declares no semaphore. -/
theorem frame_ri4 : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- The fourth kernel's three results are the fourth reference's, from arguments that agree. -/
theorem algebraic4 : Cert.algebraic_Kernel4Ideal_Reference4Ideal := by
  pair_intro
  · run_from Cert.Kernel4Ideal.Value.run m g
  · refine (θ_run Cert.Reference4Ideal.defs _ _).mono (fun r h c => ?_) (Cert.Reference4Ideal.Value.run (F := Ideal) m' g')
    obtain ⟨h0, h1, h2, h3, h4, h5⟩ := hagree c
    obtain ⟨r0, r1, r2, rest⟩ := h c
    replace r0 := r0.trans (Cert.Reference4Ideal.Read.val_main_v57_eq (F := Ideal) _ _ _ _)
    replace r1 := r1.trans (Cert.Reference4Ideal.Read.val_main_v56_eq (F := Ideal) m' c)
    replace r2 := r2.trans (Cert.Reference4Ideal.Read.val_main_v58_eq (F := Ideal) m' c)
    rw [h0, h1, h2, h3] at r0
    rw [h0, h1, h2, h3, h4, h5] at r1 r2
    exact ⟨r0, r1, r2, rest⟩

/-- The fifth reference's run: its arguments unchanged, and it declares no semaphore. -/
theorem frame_ri5 : Cert.quiescent_Reference5Ideal := fun m ρ _ =>
  (θ_run Cert.Reference5Ideal.defs _ _).mono (fun r h => ⟨fun c => (h c).2.2.2.2.2.2.2.2,
      Idealize.ShloMosaic.sem_eq_zero_of_no_sems (by decide) r.2⟩)
    (Cert.Reference5Ideal.Value.run (F := Ideal) m ρ)

/-- The fifth kernel's eight results are the fifth reference's, from arguments that agree. -/
theorem algebraic5 : Cert.algebraic_Kernel5Ideal_Reference5Ideal := by
  pair_intro
  · run_from Cert.Kernel5Ideal.Value.run m g
  · refine (θ_run Cert.Reference5Ideal.defs _ _).mono (fun r h c => ?_) (Cert.Reference5Ideal.Value.run (F := Ideal) m' g')
    obtain ⟨h0, h1, h2, h3, h4, h5, h6, h7, h8⟩ := hagree c
    obtain ⟨r0, r1, r2, r3, r4, r5, r6, r7, rest⟩ := h c
    replace r0 := r0.trans (Cert.Reference5Ideal.Read.val_main_v6_eq (F := Ideal) _ _)
    replace r1 := r1.trans (Cert.Reference5Ideal.Read.val_main_v30_eq (F := Ideal) _ _ _ _ _)
    replace r2 := r2.trans (Cert.Reference5Ideal.Read.val_main_v11_eq (F := Ideal) _ _ _)
    replace r3 := r3.trans (Cert.Reference5Ideal.Read.val_main_v17_eq (F := Ideal) _ _ _)
    replace r5 := r5.trans (Cert.Reference5Ideal.Read.val_main_v54_eq (F := Ideal) _ _ _ _)
    replace r6 := r6.trans (Cert.Reference5Ideal.Read.val_main_v35_eq (F := Ideal) _ _)
    replace r7 := r7.trans (Cert.Reference5Ideal.Read.val_main_v41_eq (F := Ideal) _ _)
    rw [h3, h4] at r0
    rw [h0, h1, h2, h3, h4] at r1
    rw [h1, h3, h4] at r2
    rw [h2, h3, h4] at r3
    rw [h8] at r4
    rw [h5, h6, h7, h8] at r5
    rw [h6, h8] at r6
    rw [h7, h8] at r7
    exact ⟨r0, r1, r2, r3, r4, r5, r6, r7, rest⟩

/-- The sixth reference's run: its arguments unchanged, and it declares no semaphore. -/
theorem frame_ri6 : Cert.quiescent_Reference6Ideal := fun m ρ _ =>
  (θ_run Cert.Reference6Ideal.defs _ _).mono (fun r h => ⟨fun c => (h c).2.2.2.2.2,
      Idealize.ShloMosaic.sem_eq_zero_of_no_sems (by decide) r.2⟩)
    (Cert.Reference6Ideal.Value.run (F := Ideal) m ρ)

/-- The five projection products of layer 0 are the sixth reference's, from arguments that agree. -/
theorem algebraic6 : Cert.algebraic_Kernel6Ideal_Reference6Ideal := by
  pair_intro
  · run_from Cert.Kernel6Ideal.Value.run m g
  · refine (θ_run Cert.Reference6Ideal.defs _ _).mono (fun r h c => ?_) (Cert.Reference6Ideal.Value.run (F := Ideal) m' g')
    obtain ⟨h0, h1, h2, h3, h4, h5⟩ := hagree c
    obtain ⟨r0, r1, r2, r3, r4, rest⟩ := h c
    rw [h0, h1] at r0
    rw [h3, h4] at r1
    rw [h4, h5] at r2
    rw [h3, h5] at r3
    rw [h0, h2] at r4
    exact ⟨r0.trans (Cert.Reference6Ideal.Read.val_main_v0_eq _ _), r1.trans (Cert.Reference6Ideal.Read.val_main_v1_eq _ _),
      r2.trans (Cert.Reference6Ideal.Read.val_main_v8_eq _ _), r3.trans (Cert.Reference6Ideal.Read.val_main_v9_eq _ _),
      r4.trans (Cert.Reference6Ideal.Read.val_main_v10_eq _ _), rest⟩

/-- The seventh reference's run: its arguments unchanged, and it declares no semaphore. -/
theorem frame_ri7 : Cert.quiescent_Reference7Ideal := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run (F := Ideal) m ρ)

/-- The gradients of layer 0's MLP are the seventh reference's, from arguments that agree. -/
theorem algebraic7 : Cert.algebraic_Kernel7Ideal_Reference7Ideal := by
  pair_intro
  · run_from Cert.Kernel7Ideal.Value.run m g
  · refine (θ_run Cert.Reference7Ideal.defs _ _).mono (fun r h c => ?_) (Cert.Reference7Ideal.Value.run (F := Ideal) m' g')
    obtain ⟨h0, h1, h2, h3⟩ := hagree c
    obtain ⟨r1, r2, r3, rest⟩ := h c
    rw [h0, h1, h2, h3] at r1 r2
    rw [h0, h1, h3] at r3
    exact ⟨r1.trans (Cert.Reference7Ideal.Read.val_main_v17_eq _ _ _ _),
      r2.trans (Cert.Reference7Ideal.Read.val_main_v20_eq _ _ _ _), r3.trans (Cert.Reference7Ideal.Read.val_main_v21_eq _ _ _), rest⟩

/-- The eighth reference's run: its arguments unchanged, and it declares no semaphore. -/
theorem frame_ri8 : Cert.quiescent_Reference8Ideal := fun m ρ _ =>
  (θ_run Cert.Reference8Ideal.defs _ _).mono (fun r h => ⟨fun c => (h c).2.2.2.2.2.2.2.2.2.2.2.2,
      Idealize.ShloMosaic.sem_eq_zero_of_no_sems (by decide) r.2⟩)
    (Cert.Reference8Ideal.Value.run (F := Ideal) m ρ)

/-- The optimiser's step on the other three weights is the eighth reference's, from arguments that agree. -/
theorem algebraic8 : Cert.algebraic_Kernel8Ideal_Reference8Ideal := by
  pair_intro
  · run_from Cert.Kernel8Ideal.Value.run m g
  · refine (θ_run Cert.Reference8Ideal.defs _ _).mono (fun r h c => ?_) (Cert.Reference8Ideal.Value.run (F := Ideal) m' g')
    obtain ⟨h0, h1, h2, h3, h4, h5, h6, h7, h8, h9, h10, h11, h12, h13, h14⟩ := hagree c
    obtain ⟨r0, r1, r2, r3, r4, r5, r6, r7, r8, r9, r10, r11, rest⟩ := h c
    replace r0 := r0.trans (Cert.Reference8Ideal.Read.val_main_v6_eq (F := Ideal) _ _)
    replace r1 := r1.trans (Cert.Reference8Ideal.Read.val_main_v30_eq (F := Ideal) _ _ _ _ _)
    replace r2 := r2.trans (Cert.Reference8Ideal.Read.val_main_v11_eq (F := Ideal) _ _ _)
    replace r3 := r3.trans (Cert.Reference8Ideal.Read.val_main_v17_eq (F := Ideal) _ _ _)
    rw [h3, h4] at r0
    rw [h0, h1, h2, h3, h4] at r1
    rw [h1, h3, h4] at r2
    rw [h2, h3, h4] at r3
    replace r4 := r4.trans (Cert.Reference8Ideal.Read.val_main_v37_eq (F := Ideal) _ _)
    replace r5 := r5.trans (Cert.Reference8Ideal.Read.val_main_v61_eq (F := Ideal) _ _ _ _ _)
    replace r6 := r6.trans (Cert.Reference8Ideal.Read.val_main_v42_eq (F := Ideal) _ _ _)
    replace r7 := r7.trans (Cert.Reference8Ideal.Read.val_main_v48_eq (F := Ideal) _ _ _)
    rw [h8, h9] at r4
    rw [h5, h6, h7, h8, h9] at r5
    rw [h6, h8, h9] at r6
    rw [h7, h8, h9] at r7
    replace r8 := r8.trans (Cert.Reference8Ideal.Read.val_main_v68_eq (F := Ideal) _ _)
    replace r9 := r9.trans (Cert.Reference8Ideal.Read.val_main_v92_eq (F := Ideal) _ _ _ _ _)
    replace r10 := r10.trans (Cert.Reference8Ideal.Read.val_main_v73_eq (F := Ideal) _ _ _)
    replace r11 := r11.trans (Cert.Reference8Ideal.Read.val_main_v79_eq (F := Ideal) _ _ _)
    rw [h13, h14] at r8
    rw [h10, h11, h12, h13, h14] at r9
    rw [h11, h13, h14] at r10
    rw [h12, h13, h14] at r11
    exact ⟨r0, r1, r2, r3, r4, r5, r6, r7, r8, r9, r10, r11, rest⟩

/-- The tenth reference's run: its arguments unchanged, and it declares no semaphore. -/
theorem frame_ri10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The conditioning rows are the tenth reference's, from arguments that agree. -/
theorem algebraic10 : Cert.algebraic_Kernel10Ideal_Reference10Ideal := by
  pair_intro
  · run_from Cert.Kernel10Ideal.Value.run m g
  · refine (θ_run Cert.Reference10Ideal.defs _ _).mono (fun r h c => ?_) (Cert.Reference10Ideal.Value.run (F := Ideal) m' g')
    obtain ⟨h0, h1, h2⟩ := hagree c
    obtain ⟨r0, rest⟩ := h c
    replace r0 := r0.trans (Cert.Reference10Ideal.Read.val_main_v5_eq (F := Ideal) _ _ _)
    rw [h0, h1, h2] at r0
    exact ⟨r0, rest⟩

/-- The eleventh reference's run: its arguments unchanged, and it declares no semaphore. -/
theorem frame_ri11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The gradient of the conditioning matrices is the eleventh reference's, from arguments that agree. -/
theorem algebraic11 : Cert.algebraic_Kernel11Ideal_Reference11Ideal := by
  pair_intro
  · run_from Cert.Kernel11Ideal.Value.run m g
  · refine (θ_run Cert.Reference11Ideal.defs _ _).mono (fun r h c => ?_) (Cert.Reference11Ideal.Value.run (F := Ideal) m' g')
    obtain ⟨h0, h1, h2⟩ := hagree c
    obtain ⟨r0, rest⟩ := h c
    replace r0 := r0.trans (Cert.Reference11Ideal.Read.val_main_v5_eq (F := Ideal) _ _)
    rw [h0, h2] at r0
    exact ⟨r0, rest⟩

/-- The claims together: the second program's frames are one run, the others' are the generated ones, and no operation was rewritten. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Pre_finite_arguments.Gen.facts,
  fun m ρ _ => Cert.Kernel.Gen.frame m ρ, fun m ρ _ => Cert.KernelIdeal.Gen.frame m ρ, frame_ri,
  Cert.Kernel2.Same.frame, fun m ρ _ => Cert.Kernel2Ideal.Gen.frame m ρ, fun m ρ _ => Cert.Kernel2Ideal.Gen.frame m ρ,
  frame_ri2, fun m ρ _ => frame_ri2 m ρ trivial,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, frame_ri8,
  fun m ρ _ => Cert.Kernel9.Gen.frame m ρ, fun m ρ _ => Cert.Kernel9Ideal.Gen.frame m ρ, frame_ri9,
  fun m ρ _ => Cert.Kernel10.Gen.frame m ρ, fun m ρ _ => Cert.Kernel10Ideal.Gen.frame m ρ, frame_ri10,
  fun m ρ _ => Cert.Kernel11.Gen.frame m ρ, fun m ρ _ => Cert.Kernel11Ideal.Gen.frame m ρ, frame_ri11,
  trivial, algebraic, trivial, algebraic2, trivial, algebraic3, trivial, algebraic4, trivial, algebraic5, trivial, algebraic6, trivial, algebraic7,
  trivial, algebraic8, trivial, algebraic9, trivial, algebraic10, trivial, algebraic11⟩

end Cert.Proof

end
